-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Reference2 (m : (ℓ : Loc Cert.Reference2.nD Cert.Reference2.τ Cert.Reference2.sig) → Buf (Elt Bits) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Reference3 (m : (ℓ : Loc Cert.Reference3.nD Cert.Reference3.τ Cert.Reference3.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Reference2 [hReference2 : Cert.Reference2.Facts] : Prop :=
  ∀ (m : (ℓ : Loc Cert.Reference2.nD Cert.Reference2.τ Cert.Reference2.sig) → Buf (Elt Bits) ℓ) (g : Dev Cert.Reference2.nD → PrngReg), Pre_Reference2 m →
    θ_run (Cert.Reference2.defs (F := Bits)) (onTc (τ := Cert.Reference2.τ) (Cert.Reference2.main (F := Bits))) ⟨m, fun _ => 0, g⟩ (fun r => (∀ c : Dev Cert.Reference2.nD,
      r.2.mem ((c.tc : Thread Cert.Reference2.nD Cert.Reference2.τ).loc Cert.Reference2.main_arg0) = m ((c.tc : Thread Cert.Reference2.nD Cert.Reference2.τ).loc Cert.Reference2.main_arg0)
      ∧ r.2.mem ((c.tc : Thread Cert.Reference2.nD Cert.Reference2.τ).loc Cert.Reference2.main_arg1) = m ((c.tc : Thread Cert.Reference2.nD Cert.Reference2.τ).loc Cert.Reference2.main_arg1)
      ∧ r.2.mem ((c.tc : Thread Cert.Reference2.nD Cert.Reference2.τ).loc Cert.Reference2.main_arg2) = m ((c.tc : Thread Cert.Reference2.nD Cert.Reference2.τ).loc Cert.Reference2.main_arg2)
      ∧ r.2.mem ((c.tc : Thread Cert.Reference2.nD Cert.Reference2.τ).loc Cert.Reference2.main_arg3) = m ((c.tc : Thread Cert.Reference2.nD Cert.Reference2.τ).loc Cert.Reference2.main_arg3)
      ∧ r.2.mem ((c.tc : Thread Cert.Reference2.nD Cert.Reference2.τ).loc Cert.Reference2.main_arg4) = m ((c.tc : Thread Cert.Reference2.nD Cert.Reference2.τ).loc Cert.Reference2.main_arg4)
      ∧ r.2.mem ((c.tc : Thread Cert.Reference2.nD Cert.Reference2.τ).loc Cert.Reference2.main_arg5) = m ((c.tc : Thread Cert.Reference2.nD Cert.Reference2.τ).loc Cert.Reference2.main_arg5)
      ∧ r.2.mem ((c.tc : Thread Cert.Reference2.nD Cert.Reference2.τ).loc Cert.Reference2.main_arg6) = m ((c.tc : Thread Cert.Reference2.nD Cert.Reference2.τ).loc Cert.Reference2.main_arg6)
      ∧ r.2.mem ((c.tc : Thread Cert.Reference2.nD Cert.Reference2.τ).loc Cert.Reference2.main_arg7) = m ((c.tc : Thread Cert.Reference2.nD Cert.Reference2.τ).loc Cert.Reference2.main_arg7)
      ∧ r.2.mem ((c.tc : Thread Cert.Reference2.nD Cert.Reference2.τ).loc Cert.Reference2.main_arg8) = m ((c.tc : Thread Cert.Reference2.nD Cert.Reference2.τ).loc Cert.Reference2.main_arg8)
      ∧ r.2.mem ((c.tc : Thread Cert.Reference2.nD Cert.Reference2.τ).loc Cert.Reference2.main_arg9) = m ((c.tc : Thread Cert.Reference2.nD Cert.Reference2.τ).loc Cert.Reference2.main_arg9)
      ∧ r.2.mem ((c.tc : Thread Cert.Reference2.nD Cert.Reference2.τ).loc Cert.Reference2.main_arg10) = m ((c.tc : Thread Cert.Reference2.nD Cert.Reference2.τ).loc Cert.Reference2.main_arg10)
      ∧ r.2.mem ((c.tc : Thread Cert.Reference2.nD Cert.Reference2.τ).loc Cert.Reference2.main_arg11) = m ((c.tc : Thread Cert.Reference2.nD Cert.Reference2.τ).loc Cert.Reference2.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16)
      ∧ r.2.mem ((c.tc : Thread Cert.Kernel3.nD Cert.Kernel3.τ).loc Cert.Kernel3.main_arg17) = m ((c.tc : Thread Cert.Kernel3.nD Cert.Kernel3.τ).loc Cert.Kernel3.main_arg17)
      ∧ r.2.mem ((c.tc : Thread Cert.Kernel3.nD Cert.Kernel3.τ).loc Cert.Kernel3.main_arg18) = m ((c.tc : Thread Cert.Kernel3.nD Cert.Kernel3.τ).loc Cert.Kernel3.main_arg18))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
      ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17)
      ∧ r.2.mem ((c.tc : Thread Cert.Reference3Ideal.nD Cert.Reference3Ideal.τ).loc Cert.Reference3Ideal.main_arg18) = m ((c.tc : Thread Cert.Reference3Ideal.nD Cert.Reference3Ideal.τ).loc Cert.Reference3Ideal.main_arg18))
      ∧ r.2.sem = fun _ => 0)

def quiescent_Reference3 [hReference3 : Cert.Reference3.Facts] : Prop :=
  ∀ (m : (ℓ : Loc Cert.Reference3.nD Cert.Reference3.τ Cert.Reference3.sig) → Buf (Elt Bits) ℓ) (g : Dev Cert.Reference3.nD → PrngReg), Pre_Reference3 m →
    θ_run (Cert.Reference3.defs (F := Bits)) (onTc (τ := Cert.Reference3.τ) (Cert.Reference3.main (F := Bits))) ⟨m, fun _ => 0, g⟩ (fun r => (∀ c : Dev Cert.Reference3.nD,
      r.2.mem ((c.tc : Thread Cert.Reference3.nD Cert.Reference3.τ).loc Cert.Reference3.main_arg0) = m ((c.tc : Thread Cert.Reference3.nD Cert.Reference3.τ).loc Cert.Reference3.main_arg0)
      ∧ r.2.mem ((c.tc : Thread Cert.Reference3.nD Cert.Reference3.τ).loc Cert.Reference3.main_arg1) = m ((c.tc : Thread Cert.Reference3.nD Cert.Reference3.τ).loc Cert.Reference3.main_arg1)
      ∧ r.2.mem ((c.tc : Thread Cert.Reference3.nD Cert.Reference3.τ).loc Cert.Reference3.main_arg2) = m ((c.tc : Thread Cert.Reference3.nD Cert.Reference3.τ).loc Cert.Reference3.main_arg2)
      ∧ r.2.mem ((c.tc : Thread Cert.Reference3.nD Cert.Reference3.τ).loc Cert.Reference3.main_arg3) = m ((c.tc : Thread Cert.Reference3.nD Cert.Reference3.τ).loc Cert.Reference3.main_arg3)
      ∧ r.2.mem ((c.tc : Thread Cert.Reference3.nD Cert.Reference3.τ).loc Cert.Reference3.main_arg4) = m ((c.tc : Thread Cert.Reference3.nD Cert.Reference3.τ).loc Cert.Reference3.main_arg4)
      ∧ r.2.mem ((c.tc : Thread Cert.Reference3.nD Cert.Reference3.τ).loc Cert.Reference3.main_arg5) = m ((c.tc : Thread Cert.Reference3.nD Cert.Reference3.τ).loc Cert.Reference3.main_arg5)
      ∧ r.2.mem ((c.tc : Thread Cert.Reference3.nD Cert.Reference3.τ).loc Cert.Reference3.main_arg6) = m ((c.tc : Thread Cert.Reference3.nD Cert.Reference3.τ).loc Cert.Reference3.main_arg6)
      ∧ r.2.mem ((c.tc : Thread Cert.Reference3.nD Cert.Reference3.τ).loc Cert.Reference3.main_arg7) = m ((c.tc : Thread Cert.Reference3.nD Cert.Reference3.τ).loc Cert.Reference3.main_arg7)
      ∧ r.2.mem ((c.tc : Thread Cert.Reference3.nD Cert.Reference3.τ).loc Cert.Reference3.main_arg8) = m ((c.tc : Thread Cert.Reference3.nD Cert.Reference3.τ).loc Cert.Reference3.main_arg8)
      ∧ r.2.mem ((c.tc : Thread Cert.Reference3.nD Cert.Reference3.τ).loc Cert.Reference3.main_arg9) = m ((c.tc : Thread Cert.Reference3.nD Cert.Reference3.τ).loc Cert.Reference3.main_arg9)
      ∧ r.2.mem ((c.tc : Thread Cert.Reference3.nD Cert.Reference3.τ).loc Cert.Reference3.main_arg10) = m ((c.tc : Thread Cert.Reference3.nD Cert.Reference3.τ).loc Cert.Reference3.main_arg10)
      ∧ r.2.mem ((c.tc : Thread Cert.Reference3.nD Cert.Reference3.τ).loc Cert.Reference3.main_arg11) = m ((c.tc : Thread Cert.Reference3.nD Cert.Reference3.τ).loc Cert.Reference3.main_arg11)
      ∧ r.2.mem ((c.tc : Thread Cert.Reference3.nD Cert.Reference3.τ).loc Cert.Reference3.main_arg12) = m ((c.tc : Thread Cert.Reference3.nD Cert.Reference3.τ).loc Cert.Reference3.main_arg12)
      ∧ r.2.mem ((c.tc : Thread Cert.Reference3.nD Cert.Reference3.τ).loc Cert.Reference3.main_arg13) = m ((c.tc : Thread Cert.Reference3.nD Cert.Reference3.τ).loc Cert.Reference3.main_arg13)
      ∧ r.2.mem ((c.tc : Thread Cert.Reference3.nD Cert.Reference3.τ).loc Cert.Reference3.main_arg14) = m ((c.tc : Thread Cert.Reference3.nD Cert.Reference3.τ).loc Cert.Reference3.main_arg14)
      ∧ r.2.mem ((c.tc : Thread Cert.Reference3.nD Cert.Reference3.τ).loc Cert.Reference3.main_arg15) = m ((c.tc : Thread Cert.Reference3.nD Cert.Reference3.τ).loc Cert.Reference3.main_arg15)
      ∧ r.2.mem ((c.tc : Thread Cert.Reference3.nD Cert.Reference3.τ).loc Cert.Reference3.main_arg16) = m ((c.tc : Thread Cert.Reference3.nD Cert.Reference3.τ).loc Cert.Reference3.main_arg16)
      ∧ r.2.mem ((c.tc : Thread Cert.Reference3.nD Cert.Reference3.τ).loc Cert.Reference3.main_arg17) = m ((c.tc : Thread Cert.Reference3.nD Cert.Reference3.τ).loc Cert.Reference3.main_arg17)
      ∧ r.2.mem ((c.tc : Thread Cert.Reference3.nD Cert.Reference3.τ).loc Cert.Reference3.main_arg18) = m ((c.tc : Thread Cert.Reference3.nD Cert.Reference3.τ).loc Cert.Reference3.main_arg18))
      ∧ r.2.sem = fun _ => 0)

def preserves_Kernel_KernelIdeal : Prop :=
  True

def preserves_Reference_ReferenceIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "q_scale" .f32 0x3E0293EE#32 (((Real.sqrt 128)⁻¹ * (Real.log 2)⁻¹ : ℝ) : EReal)

def preserves_Reference2_Reference2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)) (v3 : (c : Dev Cert.Kernel2Ideal.nD) → Buf (Elt Ideal) ((c.tc : Thread Cert.Kernel2Ideal.nD Cert.Kernel2Ideal.τ).loc Cert.Kernel2Ideal.main_v3_3)) (v4 : (c : Dev Cert.Kernel2Ideal.nD) → Buf (Elt Ideal) ((c.tc : Thread Cert.Kernel2Ideal.nD Cert.Kernel2Ideal.τ).loc Cert.Kernel2Ideal.main_v3_4)) (v5 : (c : Dev Cert.Kernel2Ideal.nD) → Buf (Elt Ideal) ((c.tc : Thread Cert.Kernel2Ideal.nD Cert.Kernel2Ideal.τ).loc Cert.Kernel2Ideal.main_v3_5)) (v6 : (c : Dev Cert.Kernel2Ideal.nD) → Buf (Elt Ideal) ((c.tc : Thread Cert.Kernel2Ideal.nD Cert.Kernel2Ideal.τ).loc Cert.Kernel2Ideal.main_v3_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_v3_3) = v3 c
          ∧ r.2.mem ((c.tc : Thread Cert.Kernel2Ideal.nD Cert.Kernel2Ideal.τ).loc Cert.Kernel2Ideal.main_v3_4) = v4 c
          ∧ r.2.mem ((c.tc : Thread Cert.Kernel2Ideal.nD Cert.Kernel2Ideal.τ).loc Cert.Kernel2Ideal.main_v3_5) = v5 c
          ∧ r.2.mem ((c.tc : Thread Cert.Kernel2Ideal.nD Cert.Kernel2Ideal.τ).loc Cert.Kernel2Ideal.main_v3_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v168) = v0 c
          ∧ r.2.mem ((c.tc : Thread Cert.Reference2Ideal.nD Cert.Reference2Ideal.τ).loc Cert.Reference2Ideal.main_v169) = v1 c
          ∧ r.2.mem ((c.tc : Thread Cert.Reference2Ideal.nD Cert.Reference2Ideal.τ).loc Cert.Reference2Ideal.main_v170) = v2 c
          ∧ r.2.mem ((c.tc : Thread Cert.Reference2Ideal.nD Cert.Reference2Ideal.τ).loc Cert.Reference2Ideal.main_v171) = v3 c
          ∧ r.2.mem ((c.tc : Thread Cert.Reference2Ideal.nD Cert.Reference2Ideal.τ).loc Cert.Reference2Ideal.main_v172) = v4 c
          ∧ r.2.mem ((c.tc : Thread Cert.Reference2Ideal.nD Cert.Reference2Ideal.τ).loc Cert.Reference2Ideal.main_v173) = v5 c
          ∧ r.2.mem ((c.tc : Thread Cert.Reference2Ideal.nD Cert.Reference2Ideal.τ).loc Cert.Reference2Ideal.main_v174) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def preserves_Reference3_Reference3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)
      ∧ m' ((c.tc : Thread Cert.Reference3Ideal.nD Cert.Reference3Ideal.τ).loc Cert.Reference3Ideal.main_arg18) = m ((c.tc : Thread Cert.Kernel3Ideal.nD Cert.Kernel3Ideal.τ).loc Cert.Kernel3Ideal.main_arg18)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
          ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
          ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v316) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16)
          ∧ r.2.mem ((c.tc : Thread Cert.Reference3Ideal.nD Cert.Reference3Ideal.τ).loc Cert.Reference3Ideal.main_arg17) = m' ((c.tc : Thread Cert.Reference3Ideal.nD Cert.Reference3Ideal.τ).loc Cert.Reference3Ideal.main_arg17)
          ∧ r.2.mem ((c.tc : Thread Cert.Reference3Ideal.nD Cert.Reference3Ideal.τ).loc Cert.Reference3Ideal.main_arg18) = m' ((c.tc : Thread Cert.Reference3Ideal.nD Cert.Reference3Ideal.τ).loc Cert.Reference3Ideal.main_arg18))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hReference2 : Cert.Reference2.Facts) (hKernel3 : Cert.Kernel3.Facts) (hKernel3Ideal : Cert.Kernel3Ideal.Facts) (hReference3Ideal : Cert.Reference3Ideal.Facts) (hReference3 : Cert.Reference3.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ quiescent_Reference2 (hReference2 := hReference2)
    ∧ quiescent_Kernel3 (hKernel3 := hKernel3)
    ∧ quiescent_Kernel3Ideal (hKernel3Ideal := hKernel3Ideal)
    ∧ quiescent_Reference3Ideal (hReference3Ideal := hReference3Ideal)
    ∧ quiescent_Reference3 (hReference3 := hReference3)
    ∧ preserves_Kernel_KernelIdeal
    ∧ preserves_Reference_ReferenceIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ preserves_Reference2_Reference2Ideal
    ∧ algebraic_Kernel2Ideal_Reference2Ideal (hKernel2Ideal := hKernel2Ideal) (hReference2Ideal := hReference2Ideal)
    ∧ preserves_Kernel3_Kernel3Ideal
    ∧ preserves_Reference3_Reference3Ideal
    ∧ algebraic_Kernel3Ideal_Reference3Ideal (hKernel3Ideal := hKernel3Ideal) (hReference3Ideal := hReference3Ideal)
-- ==== Pre_finite_scores.lean ====
abbrev S8x128x16384 : Shape := ⟨3, ![8, 128, 16384]⟩
abbrev S2x256x128 : Shape := ⟨3, ![2, 256, 128]⟩
abbrev S2x144x256 : Shape := ⟨3, ![2, 144, 256]⟩
abbrev S2x16384x128 : Shape := ⟨3, ![2, 16384, 128]⟩
abbrev S2x144x16384 : Shape := ⟨3, ![2, 144, 16384]⟩
abbrev S_ : Shape := ⟨0, ![]⟩
abbrev S2x1x256 : Shape := ⟨3, ![2, 1, 256]⟩
abbrev S2x256 : Shape := ⟨2, ![2, 256]⟩
abbrev S2x1x16384 : Shape := ⟨3, ![2, 1, 16384]⟩
abbrev S2x16384 : Shape := ⟨2, ![2, 16384]⟩

class Facts : Prop where
  bitsLt_bf16_f32 : FTy.bits .bf16 < FTy.bits .f32
  bcast_S_S8x128x16384 : S_.BroadcastsInDim S8x128x16384 (![] : Fin 0 → Fin S8x128x16384.rank)
  bcast_S_S2x256x128 : S_.BroadcastsInDim S2x256x128 (![] : Fin 0 → Fin S2x256x128.rank)
  slices_S2x144x256_S2x1x256_0_128_0 : S2x144x256.Slices ![0, 128, 0] S2x1x256
  shapeCasts_S2x1x256_S2x256 : S2x1x256.ShapeCasts S2x256
  bcast_S_S2x256 : S_.BroadcastsInDim S2x256 (![] : Fin 0 → Fin S2x256.rank)
  bcast_S_S2x16384x128 : S_.BroadcastsInDim S2x16384x128 (![] : Fin 0 → Fin S2x16384x128.rank)
  slices_S2x144x16384_S2x1x16384_0_128_0 : S2x144x16384.Slices ![0, 128, 0] S2x1x16384
  shapeCasts_S2x1x16384_S2x16384 : S2x1x16384.ShapeCasts S2x16384
  bcast_S_S2x16384 : S_.BroadcastsInDim S2x16384 (![] : Fin 0 → Fin S2x16384.rank)

variable [Facts]

def fn_part1 {F : FTy → Type} [FloatOps F] (main_v3 : IVec S8x128x16384 1) (main_v7 : IVec S2x256x128 1) (main_v12 : IVec S2x256 1) (main_v16 : IVec S2x16384x128 1) (main_v19 : FVec F S2x16384 .f32) : IVec S8x128x16384 1 × IVec S2x256x128 1 × IVec S2x256 1 × IVec S2x16384x128 1 × IVec S2x16384 1 :=
  let main_cst_3 : FVec F S_ .f32 := constant S_ .f32 0x3F800000#32
  let main_v20 : FVec F S2x16384 .f32 := broadcastInDim S2x16384 ![] bcast_S_S2x16384 main_cst_3
  let main_v21 : IVec S2x16384 1 := cmpf .oeq main_v19 main_v20
  (main_v3, main_v7, main_v12, main_v16, main_v21)

def fn {F : FTy → Type} [FloatOps F] (main_arg0 : FVec F S8x128x16384 .bf16) (main_arg1 : FVec F S2x256x128 .bf16) (main_arg2 : FVec F S2x144x256 .bf16) (main_arg3 : FVec F S2x16384x128 .bf16) (main_arg4 : FVec F S2x144x16384 .bf16) : IVec S8x128x16384 1 × IVec S2x256x128 1 × IVec S2x256 1 × IVec S2x16384x128 1 × IVec S2x16384 1 :=
  let main_v0 : FVec F S8x128x16384 .f32 := (extf .f32 · bitsLt_bf16_f32) main_arg0
  let main_v1 : FVec F S8x128x16384 .f32 := Host.absf main_v0
  let main_cst : FVec F S_ .f32 := constant S_ .f32 0x7F800000#32
  let main_v2 : FVec F S8x128x16384 .f32 := broadcastInDim S8x128x16384 ![] bcast_S_S8x128x16384 main_cst
  let main_v3 : IVec S8x128x16384 1 := cmpf .olt main_v1 main_v2
  let main_v4 : FVec F S2x256x128 .f32 := (extf .f32 · bitsLt_bf16_f32) main_arg1
  let main_v5 : FVec F S2x256x128 .f32 := Host.absf main_v4
  let main_cst_0 : FVec F S_ .f32 := constant S_ .f32 0x7F800000#32
  let main_v6 : FVec F S2x256x128 .f32 := broadcastInDim S2x256x128 ![] bcast_S_S2x256x128 main_cst_0
  let main_v7 : IVec S2x256x128 1 := cmpf .olt main_v5 main_v6
  let main_v8 : FVec F S2x1x256 .bf16 := (extractStridedSlice S2x1x256 ![0, 128, 0] · slices_S2x144x256_S2x1x256_0_128_0) main_arg2
  let main_v9 : FVec F S2x256 .bf16 := shapeCast S2x256 main_v8 shapeCasts_S2x1x256_S2x256
  let main_v10 : FVec F S2x256 .f32 := (extf .f32 · bitsLt_bf16_f32) main_v9
  let main_cst_1 : FVec F S_ .f32 := constant S_ .f32 0x3F800000#32
  let main_v11 : FVec F S2x256 .f32 := broadcastInDim S2x256 ![] bcast_S_S2x256 main_cst_1
  let main_v12 : IVec S2x256 1 := cmpf .oeq main_v10 main_v11
  let main_v13 : FVec F S2x16384x128 .f32 := (extf .f32 · bitsLt_bf16_f32) main_arg3
  let main_v14 : FVec F S2x16384x128 .f32 := Host.absf main_v13
  let main_cst_2 : FVec F S_ .f32 := constant S_ .f32 0x7F800000#32
  let main_v15 : FVec F S2x16384x128 .f32 := broadcastInDim S2x16384x128 ![] bcast_S_S2x16384x128 main_cst_2
  let main_v16 : IVec S2x16384x128 1 := cmpf .olt main_v14 main_v15
  let main_v17 : FVec F S2x1x16384 .bf16 := (extractStridedSlice S2x1x16384 ![0, 128, 0] · slices_S2x144x16384_S2x1x16384_0_128_0) main_arg4
  let main_v18 : FVec F S2x16384 .bf16 := shapeCast S2x16384 main_v17 shapeCasts_S2x1x16384_S2x16384
  let main_v19 : FVec F S2x16384 .f32 := (extf .f32 · bitsLt_bf16_f32) main_v18
  fn_part1 (F := F) main_v3 main_v7 main_v12 main_v16 main_v19
-- ==== Kernel.lean ====
abbrev S8x128x16384 : Shape := ⟨3, ![8, 128, 16384]⟩
abbrev S2x256x128 : Shape := ⟨3, ![2, 256, 128]⟩
abbrev S2x144x256 : Shape := ⟨3, ![2, 144, 256]⟩
abbrev S2x16384x128 : Shape := ⟨3, ![2, 16384, 128]⟩
abbrev S2x144x16384 : Shape := ⟨3, ![2, 144, 16384]⟩
abbrev S16384x1024 : Shape := ⟨2, ![16384, 1024]⟩
abbrev S4x128x512 : Shape := ⟨3, ![4, 128, 512]⟩
abbrev S1x256x128 : Shape := ⟨3, ![1, 256, 128]⟩
abbrev S1x144x256 : Shape := ⟨3, ![1, 144, 256]⟩
abbrev S1x16384x128 : Shape := ⟨3, ![1, 16384, 128]⟩
abbrev S1x144x16384 : Shape := ⟨3, ![1, 144, 16384]⟩
abbrev S512x512 : Shape := ⟨2, ![512, 512]⟩
abbrev S4x1x512 : Shape := ⟨3, ![4, 1, 512]⟩
abbrev S4x144x512 : Shape := ⟨3, ![4, 144, 512]⟩
abbrev S2x4x512x512 : Shape := ⟨4, ![2, 4, 512, 512]⟩
abbrev S1x512x128 : Shape := ⟨3, ![1, 512, 128]⟩
abbrev S512x128 : Shape := ⟨2, ![512, 128]⟩
abbrev S1x128x512 : Shape := ⟨3, ![1, 128, 512]⟩
abbrev S128x512 : Shape := ⟨2, ![128, 512]⟩
abbrev S1x1x512x512 : Shape := ⟨4, ![1, 1, 512, 512]⟩
abbrev S256x128 : Shape := ⟨2, ![256, 128]⟩
abbrev S144x256 : Shape := ⟨2, ![144, 256]⟩
abbrev S256x512 : Shape := ⟨2, ![256, 512]⟩
abbrev S512 : Shape := ⟨1, ![512]⟩
abbrev S1x512 : Shape := ⟨2, ![1, 512]⟩
abbrev S144x512 : Shape := ⟨2, ![144, 512]⟩
abbrev S1x144x512 : Shape := ⟨3, ![1, 144, 512]⟩
abbrev S1x1x512 : Shape := ⟨3, ![1, 1, 512]⟩

abbrev nBuf : Space → Nat
  | .hbm => 6
  | .vmem => 15
  | .smem => 0
  | _ => 0

abbrev bufTy : (tb : Table) → Fin (tcTables nBuf tb) → BufTy
  | .hbm, ⟨0, _⟩ => ⟨S8x128x16384, .bf16⟩
  | .hbm, ⟨1, _⟩ => ⟨S2x256x128, .bf16⟩
  | .hbm, ⟨2, _⟩ => ⟨S2x144x256, .bf16⟩
  | .hbm, ⟨3, _⟩ => ⟨S2x16384x128, .bf16⟩
  | .hbm, ⟨4, _⟩ => ⟨S2x144x16384, .bf16⟩
  | .hbm, ⟨5, _⟩ => ⟨S16384x1024, .bf16⟩
  | .local _ .vmem, ⟨0, _⟩ => ⟨S4x128x512, .bf16⟩
  | .local _ .vmem, ⟨1, _⟩ => ⟨S4x128x512, .bf16⟩
  | .local _ .vmem, ⟨2, _⟩ => ⟨S1x256x128, .bf16⟩
  | .local _ .vmem, ⟨3, _⟩ => ⟨S1x256x128, .bf16⟩
  | .local _ .vmem, ⟨4, _⟩ => ⟨S1x144x256, .bf16⟩
  | .local _ .vmem, ⟨5, _⟩ => ⟨S1x144x256, .bf16⟩
  | .local _ .vmem, ⟨6, _⟩ => ⟨S1x16384x128, .bf16⟩
  | .local _ .vmem, ⟨7, _⟩ => ⟨S1x16384x128, .bf16⟩
  | .local _ .vmem, ⟨8, _⟩ => ⟨S1x144x16384, .bf16⟩
  | .local _ .vmem, ⟨9, _⟩ => ⟨S1x144x16384, .bf16⟩
  | .local _ .vmem, ⟨10, _⟩ => ⟨S512x512, .bf16⟩
  | .local _ .vmem, ⟨11, _⟩ => ⟨S512x512, .bf16⟩
  | .local _ .vmem, ⟨12, _⟩ => ⟨S4x1x512, .f32⟩
  | .local _ .vmem, ⟨13, _⟩ => ⟨S4x144x512, .f32⟩
  | .local _ .vmem, ⟨14, _⟩ => ⟨S2x4x512x512, .f32⟩
  | _, _ => ⟨S8x128x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32 : BitVec 32 := 0#32
  let c4_i32 : BitVec 32 := 4#32
  let v112 : BitVec 32 := Scalar.addi c0_i32 c4_i32
  let c1_i32 : BitVec 32 := 1#32
  ⟨c0_i32, v112, c1_i32⟩
def k0_mult1 (k0_t1 : Fin k0_t1_loop.trips) : BitVec 32 :=
  let c8_i32 : BitVec 32 := 8#32
  let c0_i32 : BitVec 32 := 0#32
  let c1_i32 : BitVec 32 := 1#32
  let arg11 : BitVec 32 := Scf.iv c0_i32 c1_i32 k0_t1
  let v149 : BitVec 32 := Scalar.muli c8_i32 arg11
  let c0_i32_141 : BitVec 32 := 0#32
  let v150 : BitVec 32 := Scalar.addi v149 c0_i32_141
  let c512_i32 : BitVec 32 := 512#32
  let v151 : BitVec 32 := Scalar.muli v150 c512_i32
  v151
def k0_mult2 (k0_t1 : Fin k0_t1_loop.trips) : BitVec 32 :=
  let c8_i32 : BitVec 32 := 8#32
  let c0_i32 : BitVec 32 := 0#32
  let c1_i32 : BitVec 32 := 1#32
  let arg11 : BitVec 32 := Scf.iv c0_i32 c1_i32 k0_t1
  let v149 : BitVec 32 := Scalar.muli c8_i32 arg11
  let c0_i32_141 : BitVec 32 := 0#32
  let v150 : BitVec 32 := Scalar.addi v149 c0_i32_141
  let c1_i32_142 : BitVec 32 := 1#32
  let v153 : BitVec 32 := Scalar.addi v150 c1_i32_142
  let c31_i32 : BitVec 32 := 31#32
  let v154 : BitVec 32 := Scalar.minsi v153 c31_i32
  let c512_i32_143 : BitVec 32 := 512#32
  let v155 : BitVec 32 := Scalar.muli v154 c512_i32_143
  v155
def k0_off1 (k0_t1 : Fin k0_t1_loop.trips) (c0_i32_141 : BitVec 32) : Fin 3 → Nat :=
  let c0_144 : Index := 0#32
  let c0_145 : Index := 0#32
  let c8_i32 : BitVec 32 := 8#32
  let c0_i32 : BitVec 32 := 0#32
  let c1_i32 : BitVec 32 := 1#32
  let arg11 : BitVec 32 := Scf.iv c0_i32 c1_i32 k0_t1
  let v149 : BitVec 32 := Scalar.muli c8_i32 arg11
  let v150 : BitVec 32 := Scalar.addi v149 c0_i32_141
  let c512_i32 : BitVec 32 := 512#32
  let v151 : BitVec 32 := Scalar.muli v150 c512_i32
  let v152 : BitVec 32 := v151
  let v157 : Index := Scalar.indexCast v152
  ![0, 0, v157.toNat]
def k0_off2 (k0_t1 : Fin k0_t1_loop.trips) (c0_i32_141 : BitVec 32) : Fin 3 → Nat :=
  let c0_146 : Index := 0#32
  let c8_i32 : BitVec 32 := 8#32
  let c0_i32 : BitVec 32 := 0#32
  let c1_i32 : BitVec 32 := 1#32
  let arg11 : BitVec 32 := Scf.iv c0_i32 c1_i32 k0_t1
  let v149 : BitVec 32 := Scalar.muli c8_i32 arg11
  let v150 : BitVec 32 := Scalar.addi v149 c0_i32_141
  let c1_i32_142 : BitVec 32 := 1#32
  let v153 : BitVec 32 := Scalar.addi v150 c1_i32_142
  let c31_i32 : BitVec 32 := 31#32
  let v154 : BitVec 32 := Scalar.minsi v153 c31_i32
  let c512_i32_143 : BitVec 32 := 512#32
  let v155 : BitVec 32 := Scalar.muli v154 c512_i32_143
  let v156 : BitVec 32 := v155
  let v160 : Index := Scalar.indexCast v156
  let c0_147 : Index := 0#32
  ![0, v160.toNat, 0]
def k0_mult3 (k0_t1 : Fin k0_t1_loop.trips) : BitVec 32 :=
  let c8_i32_252 : BitVec 32 := 8#32
  let c0_i32 : BitVec 32 := 0#32
  let c1_i32 : BitVec 32 := 1#32
  let arg11 : BitVec 32 := Scf.iv c0_i32 c1_i32 k0_t1
  let v287 : BitVec 32 := Scalar.muli c8_i32_252 arg11
  let c1_i32_253 : BitVec 32 := 1#32
  let v288 : BitVec 32 := Scalar.addi v287 c1_i32_253
  let c512_i32_254 : BitVec 32 := 512#32
  let v289 : BitVec 32 := Scalar.muli v288 c512_i32_254
  v289
def k0_mult4 (k0_t1 : Fin k0_t1_loop.trips) : BitVec 32 :=
  let c8_i32_252 : BitVec 32 := 8#32
  let c0_i32 : BitVec 32 := 0#32
  let c1_i32 : BitVec 32 := 1#32
  let arg11 : BitVec 32 := Scf.iv c0_i32 c1_i32 k0_t1
  let v287 : BitVec 32 := Scalar.muli c8_i32_252 arg11
  let c1_i32_253 : BitVec 32 := 1#32
  let v288 : BitVec 32 := Scalar.addi v287 c1_i32_253
  let c1_i32_255 : BitVec 32 := 1#32
  let v291 : BitVec 32 := Scalar.addi v288 c1_i32_255
  let c31_i32_256 : BitVec 32 := 31#32
  let v292 : BitVec 32 := Scalar.minsi v291 c31_i32_256
  let c512_i32_257 : BitVec 32 := 512#32
  let v293 : BitVec 32 := Scalar.muli v292 c512_i32_257
  v293
def k0_mult5 (k0_t1 : Fin k0_t1_loop.trips) : BitVec 32 :=
  let c8_i32_366 : BitVec 32 := 8#32
  let c0_i32 : BitVec 32 := 0#32
  let c1_i32 : BitVec 32 := 1#32
  let arg11 : BitVec 32 := Scf.iv c0_i32 c1_i32 k0_t1
  let v425 : BitVec 32 := Scalar.muli c8_i32_366 arg11
  let c2_i32 : BitVec 32 := 2#32
  let v426 : BitVec 32 := Scalar.addi v425 c2_i32
  let c512_i32_367 : BitVec 32 := 512#32
  let v427 : BitVec 32 := Scalar.muli v426 c512_i32_367
  v427
def k0_mult6 (k0_t1 : Fin k0_t1_loop.trips) : BitVec 32 :=
  let c8_i32_366 : BitVec 32 := 8#32
  let c0_i32 : BitVec 32 := 0#32
  let c1_i32 : BitVec 32 := 1#32
  let arg11 : BitVec 32 := Scf.iv c0_i32 c1_i32 k0_t1
  let v425 : BitVec 32 := Scalar.muli c8_i32_366 arg11
  let c2_i32 : BitVec 32 := 2#32
  let v426 : BitVec 32 := Scalar.addi v425 c2_i32
  let c1_i32_368 : BitVec 32 := 1#32
  let v429 : BitVec 32 := Scalar.addi v426 c1_i32_368
  let c31_i32_369 : BitVec 32 := 31#32
  let v430 : BitVec 32 := Scalar.minsi v429 c31_i32_369
  let c512_i32_370 : BitVec 32 := 512#32
  let v431 : BitVec 32 := Scalar.muli v430 c512_i32_370
  v431
def k0_mult7 (k0_t1 : Fin k0_t1_loop.trips) : BitVec 32 :=
  let c8_i32_479 : BitVec 32 := 8#32
  let c0_i32 : BitVec 32 := 0#32
  let c1_i32 : BitVec 32 := 1#32
  let arg11 : BitVec 32 := Scf.iv c0_i32 c1_i32 k0_t1
  let v563 : BitVec 32 := Scalar.muli c8_i32_479 arg11
  let c3_i32 : BitVec 32 := 3#32
  let v564 : BitVec 32 := Scalar.addi v563 c3_i32
  let c512_i32_480 : BitVec 32 := 512#32
  let v565 : BitVec 32 := Scalar.muli v564 c512_i32_480
  v565
def k0_mult8 (k0_t1 : Fin k0_t1_loop.trips) : BitVec 32 :=
  let c8_i32_479 : BitVec 32 := 8#32
  let c0_i32 : BitVec 32 := 0#32
  let c1_i32 : BitVec 32 := 1#32
  let arg11 : BitVec 32 := Scf.iv c0_i32 c1_i32 k0_t1
  let v563 : BitVec 32 := Scalar.muli c8_i32_479 arg11
  let c3_i32 : BitVec 32 := 3#32
  let v564 : BitVec 32 := Scalar.addi v563 c3_i32
  let c1_i32_481 : BitVec 32 := 1#32
  let v567 : BitVec 32 := Scalar.addi v564 c1_i32_481
  let c31_i32_482 : BitVec 32 := 31#32
  let v568 : BitVec 32 := Scalar.minsi v567 c31_i32_482
  let c512_i32_483 : BitVec 32 := 512#32
  let v569 : BitVec 32 := Scalar.muli v568 c512_i32_483
  v569
def k0_mult9 (k0_t1 : Fin k0_t1_loop.trips) : BitVec 32 :=
  let c8_i32_592 : BitVec 32 := 8#32
  let c0_i32 : BitVec 32 := 0#32
  let c1_i32 : BitVec 32 := 1#32
  let arg11 : BitVec 32 := Scf.iv c0_i32 c1_i32 k0_t1
  let v701 : BitVec 32 := Scalar.muli c8_i32_592 arg11
  let c4_i32_593 : BitVec 32 := 4#32
  let v702 : BitVec 32 := Scalar.addi v701 c4_i32_593
  let c512_i32_594 : BitVec 32 := 512#32
  let v703 : BitVec 32 := Scalar.muli v702 c512_i32_594
  v703
def k0_mult10 (k0_t1 : Fin k0_t1_loop.trips) : BitVec 32 :=
  let c8_i32_592 : BitVec 32 := 8#32
  let c0_i32 : BitVec 32 := 0#32
  let c1_i32 : BitVec 32 := 1#32
  let arg11 : BitVec 32 := Scf.iv c0_i32 c1_i32 k0_t1
  let v701 : BitVec 32 := Scalar.muli c8_i32_592 arg11
  let c4_i32_593 : BitVec 32 := 4#32
  let v702 : BitVec 32 := Scalar.addi v701 c4_i32_593
  let c1_i32_595 : BitVec 32 := 1#32
  let v705 : BitVec 32 := Scalar.addi v702 c1_i32_595
  let c31_i32_596 : BitVec 32 := 31#32
  let v706 : BitVec 32 := Scalar.minsi v705 c31_i32_596
  let c512_i32_597 : BitVec 32 := 512#32
  let v707 : BitVec 32 := Scalar.muli v706 c512_i32_597
  v707
def k0_mult11 (k0_t1 : Fin k0_t1_loop.trips) : BitVec 32 :=
  let c8_i32_706 : BitVec 32 := 8#32
  let c0_i32 : BitVec 32 := 0#32
  let c1_i32 : BitVec 32 := 1#32
  let arg11 : BitVec 32 := Scf.iv c0_i32 c1_i32 k0_t1
  let v839 : BitVec 32 := Scalar.muli c8_i32_706 arg11
  let c5_i32 : BitVec 32 := 5#32
  let v840 : BitVec 32 := Scalar.addi v839 c5_i32
  let c512_i32_707 : BitVec 32 := 512#32
  let v841 : BitVec 32 := Scalar.muli v840 c512_i32_707
  v841
def k0_mult12 (k0_t1 : Fin k0_t1_loop.trips) : BitVec 32 :=
  let c8_i32_706 : BitVec 32 := 8#32
  let c0_i32 : BitVec 32 := 0#32
  let c1_i32 : BitVec 32 := 1#32
  let arg11 : BitVec 32 := Scf.iv c0_i32 c1_i32 k0_t1
  let v839 : BitVec 32 := Scalar.muli c8_i32_706 arg11
  let c5_i32 : BitVec 32 := 5#32
  let v840 : BitVec 32 := Scalar.addi v839 c5_i32
  let c1_i32_708 : BitVec 32 := 1#32
  let v843 : BitVec 32 := Scalar.addi v840 c1_i32_708
  let c31_i32_709 : BitVec 32 := 31#32
  let v844 : BitVec 32 := Scalar.minsi v843 c31_i32_709
  let c512_i32_710 : BitVec 32 := 512#32
  let v845 : BitVec 32 := Scalar.muli v844 c512_i32_710
  v845
def k0_mult13 (k0_t1 : Fin k0_t1_loop.trips) : BitVec 32 :=
  let c8_i32_819 : BitVec 32 := 8#32
  let c0_i32 : BitVec 32 := 0#32
  let c1_i32 : BitVec 32 := 1#32
  let arg11 : BitVec 32 := Scf.iv c0_i32 c1_i32 k0_t1
  let v977 : BitVec 32 := Scalar.muli c8_i32_819 arg11
  let c6_i32 : BitVec 32 := 6#32
  let v978 : BitVec 32 := Scalar.addi v977 c6_i32
  let c512_i32_820 : BitVec 32 := 512#32
  let v979 : BitVec 32 := Scalar.muli v978 c512_i32_820
  v979
def k0_mult14 (k0_t1 : Fin k0_t1_loop.trips) : BitVec 32 :=
  let c8_i32_819 : BitVec 32 := 8#32
  let c0_i32 : BitVec 32 := 0#32
  let c1_i32 : BitVec 32 := 1#32
  let arg11 : BitVec 32 := Scf.iv c0_i32 c1_i32 k0_t1
  let v977 : BitVec 32 := Scalar.muli c8_i32_819 arg11
  let c6_i32 : BitVec 32 := 6#32
  let v978 : BitVec 32 := Scalar.addi v977 c6_i32
  let c1_i32_821 : BitVec 32 := 1#32
  let v981 : BitVec 32 := Scalar.addi v978 c1_i32_821
  let c31_i32_822 : BitVec 32 := 31#32
  let v982 : BitVec 32 := Scalar.minsi v981 c31_i32_822
  let c512_i32_823 : BitVec 32 := 512#32
  let v983 : BitVec 32 := Scalar.muli v982 c512_i32_823
  v983
def k0_mult15 (k0_t1 : Fin k0_t1_loop.trips) : BitVec 32 :=
  let c8_i32_932 : BitVec 32 := 8#32
  let c0_i32 : BitVec 32 := 0#32
  let c1_i32 : BitVec 32 := 1#32
  let arg11 : BitVec 32 := Scf.iv c0_i32 c1_i32 k0_t1
  let v1115 : BitVec 32 := Scalar.muli c8_i32_932 arg11
  let c7_i32 : BitVec 32 := 7#32
  let v1116 : BitVec 32 := Scalar.addi v1115 c7_i32
  let c512_i32_933 : BitVec 32 := 512#32
  let v1117 : BitVec 32 := Scalar.muli v1116 c512_i32_933
  v1117
def k0_mult16 (k0_t1 : Fin k0_t1_loop.trips) : BitVec 32 :=
  let c8_i32_932 : BitVec 32 := 8#32
  let c0_i32 : BitVec 32 := 0#32
  let c1_i32 : BitVec 32 := 1#32
  let arg11 : BitVec 32 := Scf.iv c0_i32 c1_i32 k0_t1
  let v1115 : BitVec 32 := Scalar.muli c8_i32_932 arg11
  let c7_i32 : BitVec 32 := 7#32
  let v1116 : BitVec 32 := Scalar.addi v1115 c7_i32
  let c1_i32_934 : BitVec 32 := 1#32
  let v1119 : BitVec 32 := Scalar.addi v1116 c1_i32_934
  let c31_i32_935 : BitVec 32 := 31#32
  let v1120 : BitVec 32 := Scalar.minsi v1119 c31_i32_935
  let c512_i32_936 : BitVec 32 := 512#32
  let v1121 : BitVec 32 := Scalar.muli v1120 c512_i32_936
  v1121
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x144x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x144x16384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference.lean ====
abbrev S8x128x16384 : Shape := ⟨3, ![8, 128, 16384]⟩
abbrev S2x256x128 : Shape := ⟨3, ![2, 256, 128]⟩
abbrev S2x144x256 : Shape := ⟨3, ![2, 144, 256]⟩
abbrev S2x16384x128 : Shape := ⟨3, ![2, 16384, 128]⟩
abbrev S2x144x16384 : Shape := ⟨3, ![2, 144, 16384]⟩
abbrev S_ : Shape := ⟨0, ![]⟩
abbrev S16384x8x128 : Shape := ⟨3, ![16384, 8, 128]⟩
abbrev S16384x2x4x128 : Shape := ⟨4, ![16384, 2, 4, 128]⟩
abbrev S2x16640x128 : Shape := ⟨3, ![2, 16640, 128]⟩
abbrev S2x144x16640 : Shape := ⟨3, ![2, 144, 16640]⟩
abbrev S2x128x16640 : Shape := ⟨3, ![2, 128, 16640]⟩
abbrev S2x16640x16384x4 : Shape := ⟨4, ![2, 16640, 16384, 4]⟩
abbrev S2x4x16384x16640 : Shape := ⟨4, ![2, 4, 16384, 16640]⟩
abbrev S2x4x16384 : Shape := ⟨3, ![2, 4, 16384]⟩
abbrev S2x4x16384x1 : Shape := ⟨4, ![2, 4, 16384, 1]⟩
abbrev S2x128x4x16384 : Shape := ⟨4, ![2, 128, 4, 16384]⟩
abbrev S16384x1024 : Shape := ⟨2, ![16384, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8x128x16384, .bf16⟩
  | .hbm, ⟨1, _⟩ => ⟨S2x256x128, .bf16⟩
  | .hbm, ⟨2, _⟩ => ⟨S2x144x256, .bf16⟩
  | .hbm, ⟨3, _⟩ => ⟨S2x16384x128, .bf16⟩
  | .hbm, ⟨4, _⟩ => ⟨S2x144x16384, .bf16⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8x128x16384, .f32⟩
  | .hbm, ⟨14, _⟩ => ⟨S_, .f32⟩
  | .hbm, ⟨15, _⟩ => ⟨S8x128x16384, .f32⟩
  | .hbm, ⟨16, _⟩ => ⟨S8x128x16384, .f32⟩
  | .hbm, ⟨17, _⟩ => ⟨S16384x8x128, .f32⟩
  | .hbm, ⟨18, _⟩ => ⟨S16384x2x4x128, .f32⟩
  | .hbm, ⟨19, _⟩ => ⟨S2x256x128, .f32⟩
  | .hbm, ⟨20, _⟩ => ⟨S2x16384x128, .f32⟩
  | .hbm, ⟨21, _⟩ => ⟨S2x16640x128, .f32⟩
  | .hbm, ⟨22, _⟩ => ⟨S2x144x256, .f32⟩
  | .hbm, ⟨23, _⟩ => ⟨S2x144x16384, .f32⟩
  | .hbm, ⟨24, _⟩ => ⟨S2x144x16640, .f32⟩
  | .hbm, ⟨25, _⟩ => ⟨S2x128x16640, .f32⟩
  | .hbm, ⟨26, _⟩ => ⟨S2x16640x16384x4, .f32⟩
  | .hbm, ⟨27, _⟩ => ⟨S2x4x16384x16640, .f32⟩
  | .hbm, ⟨28, _⟩ => ⟨S2x4x16384x16640, .f32⟩
  | .hbm, ⟨29, _⟩ => ⟨S2x4x16384x16640, .f32⟩
  | .hbm, ⟨30, _⟩ => ⟨S_, .f32⟩
  | .hbm, ⟨31, _⟩ => ⟨S2x4x16384, .f32⟩
  | .hbm, ⟨32, _⟩ => ⟨S_, .f32⟩
  | .hbm, ⟨33, _⟩ => ⟨S2x4x16384, .f32⟩
  | .hbm, ⟨34, _⟩ => ⟨S2x4x16384, .f32⟩
  | .hbm, ⟨35, _⟩ => ⟨S2x4x16384x1, .f32⟩
  | .hbm, ⟨36, _⟩ => ⟨S2x4x16384x16640, .f32⟩
  | .hbm, ⟨37, _⟩ => ⟨S2x4x16384x16640, .f32⟩
  | .hbm, ⟨38, _⟩ => ⟨S2x4x16384x16640, .f32⟩
  | .hbm, ⟨39, _⟩ => ⟨S_, .f32⟩
  | .hbm, ⟨40, _⟩ => ⟨S2x4x16384, .f32⟩
  | .hbm, ⟨41, _⟩ => ⟨S2x4x16384x1, .f32⟩
  | .hbm, ⟨42, _⟩ => ⟨S2x4x16384x16640, .f32⟩
  | .hbm, ⟨43, _⟩ => ⟨S2x4x16384x16640, .f32⟩
  | .hbm, ⟨44, _⟩ => ⟨S2x128x4x16384, .f32⟩
  | .hbm, ⟨45, _⟩ => ⟨S16384x2x4x128, .f32⟩
  | .hbm, ⟨46, _⟩ => ⟨S16384x1024, .f32⟩
  | .hbm, ⟨47, _⟩ => ⟨S16384x1024, .bf16⟩
  | _, _ => ⟨S8x128x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_cst_2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel2.lean ====
abbrev S16384x1024 : Shape := ⟨2, ![16384, 1024]⟩
abbrev S8x6144 : Shape := ⟨2, ![8, 6144]⟩
abbrev S1x1024 : Shape := ⟨2, ![1, 1024]⟩
abbrev S1024x8704 : Shape := ⟨2, ![1024, 8704]⟩
abbrev S1x128 : Shape := ⟨2, ![1, 128]⟩
abbrev S16384x64 : Shape := ⟨2, ![16384, 64]⟩
abbrev S4x128x128 : Shape := ⟨3, ![4, 128, 128]⟩
abbrev S128x4 : Shape := ⟨2, ![128, 4]⟩
abbrev S1024x1024 : Shape := ⟨2, ![1024, 1024]⟩
abbrev S16384x128 : Shape := ⟨2, ![16384, 128]⟩
abbrev S8x128x16384 : Shape := ⟨3, ![8, 128, 16384]⟩
abbrev S2x16384x128 : Shape := ⟨3, ![2, 16384, 128]⟩
abbrev S2x144x16384 : Shape := ⟨3, ![2, 144, 16384]⟩
abbrev S256x1024 : Shape := ⟨2, ![256, 1024]⟩
abbrev S256x128 : Shape := ⟨2, ![256, 128]⟩
abbrev S8x128x256 : Shape := ⟨3, ![8, 128, 256]⟩
abbrev S2x256x128 : Shape := ⟨3, ![2, 256, 128]⟩
abbrev S2x144x256 : Shape := ⟨3, ![2, 144, 256]⟩
abbrev S256 : Shape := ⟨1, ![256]⟩
abbrev S256x1 : Shape := ⟨2, ![256, 1]⟩
abbrev S128x256 : Shape := ⟨2, ![128, 256]⟩
abbrev S1x128x256 : Shape := ⟨3, ![1, 128, 256]⟩
abbrev S1024x256 : Shape := ⟨2, ![1024, 256]⟩
abbrev S256x256 : Shape := ⟨2, ![256, 256]⟩
abbrev S1x256x128 : Shape := ⟨3, ![1, 256, 128]⟩
abbrev S16x256 : Shape := ⟨2, ![16, 256]⟩
abbrev S1x16x256 : Shape := ⟨3, ![1, 16, 256]⟩
abbrev S1x128x128 : Shape := ⟨3, ![1, 128, 128]⟩
abbrev S128x128 : Shape := ⟨2, ![128, 128]⟩
abbrev S128x1 : Shape := ⟨2, ![128, 1]⟩
abbrev S1024x3072 : Shape := ⟨2, ![1024, 3072]⟩
abbrev S256x3072 : Shape := ⟨2, ![256, 3072]⟩

abbrev nBuf : Space → Nat
  | .hbm => 22
  | .vmem => 31
  | .smem => 0
  | _ => 0

abbrev bufTy : (tb : Table) → Fin (tcTables nBuf tb) → BufTy
  | .hbm, ⟨0, _⟩ => ⟨S16384x1024, .f32⟩
  | .hbm, ⟨1, _⟩ => ⟨S8x6144, .f32⟩
  | .hbm, ⟨2, _⟩ => ⟨S1x1024, .f32⟩
  | .hbm, ⟨3, _⟩ => ⟨S1024x8704, .bf16⟩
  | .hbm, ⟨4, _⟩ => ⟨S1x128, .f32⟩
  | .hbm, ⟨5, _⟩ => ⟨S1x128, .f32⟩
  | .hbm, ⟨6, _⟩ => ⟨S16384x64, .f32⟩
  | .hbm, ⟨7, _⟩ => ⟨S16384x64, .f32⟩
  | .hbm, ⟨8, _⟩ => ⟨S1x1024, .f32⟩
  | .hbm, ⟨9, _⟩ => ⟨S4x128x128, .bf16⟩
  | .hbm, ⟨10, _⟩ => ⟨S128x4, .f32⟩
  | .hbm, ⟨11, _⟩ => ⟨S1024x1024, .bf16⟩
  | .hbm, ⟨12, _⟩ => ⟨S16384x128, .f32⟩
  | .hbm, ⟨13, _⟩ => ⟨S16384x64, .f32⟩
  | .hbm, ⟨14, _⟩ => ⟨S16384x128, .f32⟩
  | .hbm, ⟨15, _⟩ => ⟨S8x128x16384, .bf16⟩
  | .hbm, ⟨16, _⟩ => ⟨S2x16384x128, .bf16⟩
  | .hbm, ⟨17, _⟩ => ⟨S2x144x16384, .bf16⟩
  | .hbm, ⟨18, _⟩ => ⟨S16384x1024, .bf16⟩
  | .hbm, ⟨19, _⟩ => ⟨S16384x1024, .bf16⟩
  | .hbm, ⟨20, _⟩ => ⟨S16384x1024, .bf16⟩
  | .hbm, ⟨21, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S8x6144, .f32⟩
  | .local _ .vmem, ⟨3, _⟩ => ⟨S1x1024, .f32⟩
  | .local _ .vmem, ⟨4, _⟩ => ⟨S1024x8704, .bf16⟩
  | .local _ .vmem, ⟨5, _⟩ => ⟨S1x128, .f32⟩
  | .local _ .vmem, ⟨6, _⟩ => ⟨S1x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S1x1024, .f32⟩
  | .local _ .vmem, ⟨12, _⟩ => ⟨S4x128x128, .bf16⟩
  | .local _ .vmem, ⟨13, _⟩ => ⟨S128x4, .f32⟩
  | .local _ .vmem, ⟨14, _⟩ => ⟨S1024x1024, .bf16⟩
  | .local _ .vmem, ⟨15, _⟩ => ⟨S8x128x256, .bf16⟩
  | .local _ .vmem, ⟨16, _⟩ => ⟨S8x128x256, .bf16⟩
  | .local _ .vmem, ⟨17, _⟩ => ⟨S2x256x128, .bf16⟩
  | .local _ .vmem, ⟨18, _⟩ => ⟨S2x256x128, .bf16⟩
  | .local _ .vmem, ⟨19, _⟩ => ⟨S2x144x256, .bf16⟩
  | .local _ .vmem, ⟨20, _⟩ => ⟨S2x144x256, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_v3_3 : Ref sig .tc := ⟨.hbm, 18, rfl⟩
abbrev main_v3_4 : Ref sig .tc := ⟨.hbm, 19, rfl⟩
abbrev main_v3_5 : Ref sig .tc := ⟨.hbm, 20, rfl⟩
abbrev main_v3_6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_scratch0 : Ref sig .tc := ⟨.vmem, 29, rfl⟩
abbrev cc0_scratch1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x8704 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S8x128x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x144x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Kernel2Ideal.lean ====
variable {F : FTy → Type} [FloatOps F] [Named F]
def κ : String → Option EReal := fun
  | "q_scale" => some (((Real.sqrt 128)⁻¹ * (Real.log 2)⁻¹ : ℝ) : EReal)
  | _ => none
-- ==== Reference2.lean ====
abbrev S16384x1024 : Shape := ⟨2, ![16384, 1024]⟩
abbrev S8x6144 : Shape := ⟨2, ![8, 6144]⟩
abbrev S1x1024 : Shape := ⟨2, ![1, 1024]⟩
abbrev S1024x8704 : Shape := ⟨2, ![1024, 8704]⟩
abbrev S1x128 : Shape := ⟨2, ![1, 128]⟩
abbrev S16384x64 : Shape := ⟨2, ![16384, 64]⟩
abbrev S4x128x128 : Shape := ⟨3, ![4, 128, 128]⟩
abbrev S128x4 : Shape := ⟨2, ![128, 4]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S16384x8704 : Shape := ⟨2, ![16384, 8704]⟩
abbrev S16384x8x128 : Shape := ⟨3, ![16384, 8, 128]⟩
abbrev S16384x8 : Shape := ⟨2, ![16384, 8]⟩
abbrev S16384x8x1 : Shape := ⟨3, ![16384, 8, 1]⟩
abbrev S1x1x128 : Shape := ⟨3, ![1, 1, 128]⟩
abbrev S16384x8x64 : Shape := ⟨3, ![16384, 8, 64]⟩
abbrev S16384x1x64 : Shape := ⟨3, ![16384, 1, 64]⟩
abbrev S16384x256 : Shape := ⟨2, ![16384, 256]⟩
abbrev S16384x2x128 : Shape := ⟨3, ![16384, 2, 128]⟩
abbrev S16384x2 : Shape := ⟨2, ![16384, 2]⟩
abbrev S16384x2x1 : Shape := ⟨3, ![16384, 2, 1]⟩
abbrev S16384x2x64 : Shape := ⟨3, ![16384, 2, 64]⟩
abbrev S128x128x4x256 : Shape := ⟨4, ![128, 128, 4, 256]⟩
abbrev S4x128x256x128 : Shape := ⟨4, ![4, 128, 256, 128]⟩
abbrev S1x128x4x1 : Shape := ⟨4, ![1, 128, 4, 1]⟩
abbrev S16384x2048 : Shape := ⟨2, ![16384, 2048]⟩
abbrev S16384x3072 : Shape := ⟨2, ![16384, 3072]⟩
abbrev S8x128x16384 : Shape := ⟨3, ![8, 128, 16384]⟩
abbrev S2x128x16384 : Shape := ⟨3, ![2, 128, 16384]⟩
abbrev S2x16x16384 : Shape := ⟨3, ![2, 16, 16384]⟩
abbrev S2x144x16384 : Shape := ⟨3, ![2, 144, 16384]⟩
abbrev S2x16384x128 : Shape := ⟨3, ![2, 16384, 128]⟩

abbrev nBuf : Space → Nat
  | .hbm => 217
  | .vmem => 0
  | .smem => 0
  | _ => 0

abbrev hbmTy0_0 (i : Nat) : BufTy := match i % 128 with
  | 0 => ⟨S16384x1024, .f32⟩
  | 1 => ⟨S8x6144, .f32⟩
  | 2 => ⟨S1x1024, .f32⟩
  | 3 => ⟨S1024x8704, .bf16⟩
  | 4 => ⟨S1x128, .f32⟩
  | 5 => ⟨S1x128, .f32⟩
  | 6 => ⟨S16384x64, .f32⟩
  | 7 => ⟨S16384x64, .f32⟩
  | 8 => ⟨S1x1024, .f32⟩
  | 9 => ⟨S4x128x128, .bf16⟩
  | 10 => ⟨S128x4, .f32⟩
  | 11 => ⟨S1024x1024, .bf16⟩
  | 12 => ⟨S1x1024, .f32⟩
  | 13 => ⟨S1x1024, .f32⟩
  | 14 => ⟨S16384x1024, .f32⟩
  | 15 => ⟨S_, .f32⟩
  | 16 => ⟨S16384, .f32⟩
  | 17 => ⟨S16384x1, .f32⟩
  | 18 => ⟨S_, .f32⟩
  | 19 => ⟨S16384x1, .f32⟩
  | 20 => ⟨S16384x1, .f32⟩
  | 21 => ⟨S_, .f32⟩
  | 22 => ⟨S16384x1, .f32⟩
  | 23 => ⟨S16384x1, .f32⟩
  | 24 => ⟨S16384x1, .f32⟩
  | 25 => ⟨S16384x1024, .f32⟩
  | 26 => ⟨S16384x1024, .f32⟩
  | 27 => ⟨S16384x1024, .f32⟩
  | 28 => ⟨S16384x1024, .f32⟩
  | 29 => ⟨S_, .f32⟩
  | 30 => ⟨S1x1024, .f32⟩
  | 31 => ⟨S1x1024, .f32⟩
  | 32 => ⟨S16384x1024, .f32⟩
  | 33 => ⟨S16384x1024, .f32⟩
  | 34 => ⟨S16384x1024, .f32⟩
  | 35 => ⟨S16384x1024, .f32⟩
  | 36 => ⟨S1024x8704, .f32⟩
  | 37 => ⟨S16384x8704, .f32⟩
  | 38 => ⟨S16384x1024, .f32⟩
  | 39 => ⟨S16384x8x128, .f32⟩
  | 40 => ⟨S16384x8x128, .f32⟩
  | 41 => ⟨S_, .f32⟩
  | 42 => ⟨S16384x8, .f32⟩
  | 43 => ⟨S16384x8x1, .f32⟩
  | 44 => ⟨S_, .f32⟩
  | 45 => ⟨S16384x8x1, .f32⟩
  | 46 => ⟨S16384x8x1, .f32⟩
  | 47 => ⟨S_, .f32⟩
  | 48 => ⟨S16384x8x1, .f32⟩
  | 49 => ⟨S16384x8x1, .f32⟩
  | 50 => ⟨S16384x8x1, .f32⟩
  | 51 => ⟨S16384x8x128, .f32⟩
  | 52 => ⟨S16384x8x128, .f32⟩
  | 53 => ⟨S1x1x128, .f32⟩
  | 54 => ⟨S16384x8x128, .f32⟩
  | 55 => ⟨S16384x8x128, .f32⟩
  | 56 => ⟨S16384x8x64, .f32⟩
  | 57 => ⟨S16384x8x64, .f32⟩
  | 58 => ⟨S16384x1x64, .f32⟩
  | 59 => ⟨S16384x1x64, .f32⟩
  | 60 => ⟨S16384x8x64, .f32⟩
  | 61 => ⟨S16384x8x64, .f32⟩
  | 62 => ⟨S16384x8x64, .f32⟩
  | 63 => ⟨S16384x8x64, .f32⟩
  | 64 => ⟨S16384x8x64, .f32⟩
  | 65 => ⟨S16384x8x64, .f32⟩
  | 66 => ⟨S16384x8x64, .f32⟩
  | 67 => ⟨S16384x8x64, .f32⟩
  | 68 => ⟨S16384x8x64, .f32⟩
  | 69 => ⟨S16384x8x64, .f32⟩
  | 70 => ⟨S16384x8x128, .f32⟩
  | 71 => ⟨S16384x256, .f32⟩
  | 72 => ⟨S16384x2x128, .f32⟩
  | 73 => ⟨S16384x2x128, .f32⟩
  | 74 => ⟨S_, .f32⟩
  | 75 => ⟨S16384x2, .f32⟩
  | 76 => ⟨S16384x2x1, .f32⟩
  | 77 => ⟨S_, .f32⟩
  | 78 => ⟨S16384x2x1, .f32⟩
  | 79 => ⟨S16384x2x1, .f32⟩
  | 80 => ⟨S_, .f32⟩
  | 81 => ⟨S16384x2x1, .f32⟩
  | 82 => ⟨S16384x2x1, .f32⟩
  | 83 => ⟨S16384x2x1, .f32⟩
  | 84 => ⟨S16384x2x128, .f32⟩
  | 85 => ⟨S16384x2x128, .f32⟩
  | 86 => ⟨S1x1x128, .f32⟩
  | 87 => ⟨S16384x2x128, .f32⟩
  | 88 => ⟨S16384x2x128, .f32⟩
  | 89 => ⟨S16384x2x64, .f32⟩
  | 90 => ⟨S16384x2x64, .f32⟩
  | 91 => ⟨S16384x1x64, .f32⟩
  | 92 => ⟨S16384x1x64, .f32⟩
  | 93 => ⟨S16384x2x64, .f32⟩
  | 94 => ⟨S16384x2x64, .f32⟩
  | 95 => ⟨S16384x2x64, .f32⟩
  | 96 => ⟨S16384x2x64, .f32⟩
  | 97 => ⟨S16384x2x64, .f32⟩
  | 98 => ⟨S16384x2x64, .f32⟩
  | 99 => ⟨S16384x2x64, .f32⟩
  | 100 => ⟨S16384x2x64, .f32⟩
  | 101 => ⟨S16384x2x64, .f32⟩
  | 102 => ⟨S16384x2x64, .f32⟩
  | 103 => ⟨S16384x2x128, .f32⟩
  | 104 => ⟨S16384x256, .f32⟩
  | 105 => ⟨S16384x2x128, .f32⟩
  | 106 => ⟨S16384x1024, .f32⟩
  | 107 => ⟨S16384x1024, .f32⟩
  | 108 => ⟨S16384x1024, .f32⟩
  | 109 => ⟨S_, .f32⟩
  | 110 => ⟨S16384x1024, .f32⟩
  | 111 => ⟨S16384x1024, .f32⟩
  | 112 => ⟨S16384x1024, .f32⟩
  | 113 => ⟨S_, .f32⟩
  | 114 => ⟨S16384x1024, .f32⟩
  | 115 => ⟨S16384x1024, .f32⟩
  | 116 => ⟨S16384x1024, .f32⟩
  | 117 => ⟨S_, .f32⟩
  | 118 => ⟨S16384x1024, .f32⟩
  | 119 => ⟨S16384x1024, .f32⟩
  | 120 => ⟨S_, .f32⟩
  | 121 => ⟨S16384x1024, .f32⟩
  | 122 => ⟨S16384x1024, .f32⟩
  | 123 => ⟨S16384x1024, .f32⟩
  | 124 => ⟨S16384x1024, .f32⟩
  | 125 => ⟨S16384x1024, .f32⟩
  | 126 => ⟨S16384x1024, .f32⟩
  | 127 => ⟨S_, .f32⟩
  | _ => ⟨S16384x1024, .f32⟩

abbrev hbmTy0_1 (i : Nat) : BufTy := match i % 128 with
  | 0 => ⟨S16384x1024, .f32⟩
  | 1 => ⟨S16384x1024, .f32⟩
  | 2 => ⟨S16384x1024, .f32⟩
  | 3 => ⟨S_, .f32⟩
  | 4 => ⟨S16384x1024, .f32⟩
  | 5 => ⟨S16384x1024, .f32⟩
  | 6 => ⟨S16384x1024, .f32⟩
  | 7 => ⟨S_, .f32⟩
  | 8 => ⟨S16384x1024, .f32⟩
  | 9 => ⟨S16384x1024, .f32⟩
  | 10 => ⟨S_, .f32⟩
  | 11 => ⟨S16384x1024, .f32⟩
  | 12 => ⟨S16384x1024, .f32⟩
  | 13 => ⟨S16384x1024, .f32⟩
  | 14 => ⟨S16384x1024, .f32⟩
  | 15 => ⟨S_, .f32⟩
  | 16 => ⟨S16384, .f32⟩
  | 17 => ⟨S16384x1, .f32⟩
  | 18 => ⟨S_, .f32⟩
  | 19 => ⟨S16384x1, .f32⟩
  | 20 => ⟨S16384x1, .f32⟩
  | 21 => ⟨S_, .f32⟩
  | 22 => ⟨S16384x1, .f32⟩
  | 23 => ⟨S16384x1, .f32⟩
  | 24 => ⟨S16384x1, .f32⟩
  | 25 => ⟨S16384x1024, .f32⟩
  | 26 => ⟨S16384x1024, .f32⟩
  | 27 => ⟨S16384x1024, .f32⟩
  | 28 => ⟨S16384x1024, .f32⟩
  | 29 => ⟨S128x128x4x256, .f32⟩
  | 30 => ⟨S4x128x128, .f32⟩
  | 31 => ⟨S4x128x256x128, .f32⟩
  | 32 => ⟨S128x128x4x256, .f32⟩
  | 33 => ⟨S1x128x4x1, .f32⟩
  | 34 => ⟨S128x128x4x256, .f32⟩
  | 35 => ⟨S128x128x4x256, .f32⟩
  | 36 => ⟨S16384x1024, .f32⟩
  | 37 => ⟨S16384x1024, .f32⟩
  | 38 => ⟨S1024x1024, .f32⟩
  | 39 => ⟨S16384x1024, .f32⟩
  | 40 => ⟨S16384x2048, .f32⟩
  | 41 => ⟨S16384x1024, .f32⟩
  | 42 => ⟨S16384x1024, .f32⟩
  | 43 => ⟨S16384x1024, .f32⟩
  | 44 => ⟨S16384x1024, .f32⟩
  | 45 => ⟨S_, .f32⟩
  | 46 => ⟨S16384x1024, .f32⟩
  | 47 => ⟨S16384x1024, .f32⟩
  | 48 => ⟨S_, .f32⟩
  | 49 => ⟨S16384x1024, .f32⟩
  | 50 => ⟨S16384x1024, .f32⟩
  | 51 => ⟨S16384x1024, .f32⟩
  | 52 => ⟨S16384x3072, .f32⟩
  | 53 => ⟨S16384x3072, .f32⟩
  | 54 => ⟨S16384x3072, .f32⟩
  | 55 => ⟨S_, .f32⟩
  | 56 => ⟨S16384x3072, .f32⟩
  | 57 => ⟨S16384x3072, .f32⟩
  | 58 => ⟨S_, .f32⟩
  | 59 => ⟨S16384x3072, .f32⟩
  | 60 => ⟨S16384x3072, .f32⟩
  | 61 => ⟨S16384x1024, .f32⟩
  | 62 => ⟨S16384x1024, .f32⟩
  | 63 => ⟨S16384x1024, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S16384x8x128, .f32⟩
  | 74 => ⟨S16384x8x128, .f32⟩
  | 75 => ⟨S8x128x16384, .f32⟩
  | 76 => ⟨S2x128x16384, .f32⟩
  | 77 => ⟨S_, .f32⟩
  | 78 => ⟨S2x16x16384, .f32⟩
  | 79 => ⟨S2x144x16384, .f32⟩
  | 80 => ⟨S2x16384x128, .f32⟩
  | 81 => ⟨S16384x1024, .f32⟩
  | 82 => ⟨S8x128x16384, .bf16⟩
  | 83 => ⟨S2x16384x128, .bf16⟩
  | 84 => ⟨S2x144x16384, .bf16⟩
  | 85 => ⟨S16384x1024, .bf16⟩
  | 86 => ⟨S16384x1024, .bf16⟩
  | 87 => ⟨S16384x1024, .bf16⟩
  | 88 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_6 : Ref sig .tc := ⟨.hbm, 74, rfl⟩
abbrev main_v55 : Ref sig .tc := ⟨.hbm, 75, rfl⟩
abbrev main_v56 : Ref sig .tc := ⟨.hbm, 76, rfl⟩
abbrev main_cst_7 : Ref sig .tc := ⟨.hbm, 77, rfl⟩
abbrev main_v57 : Ref sig .tc := ⟨.hbm, 78, rfl⟩
abbrev main_v58 : Ref sig .tc := ⟨.hbm, 79, rfl⟩
abbrev main_cst_8 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_9 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_10 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_cst_11 : Ref sig .tc := ⟨.hbm, 117, rfl⟩
abbrev main_v93 : Ref sig .tc := ⟨.hbm, 118, rfl⟩
abbrev main_v94 : Ref sig .tc := ⟨.hbm, 119, rfl⟩
abbrev main_cst_12 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_cst_13 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_cst_14 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_15 : Ref sig .tc := ⟨.hbm, 135, rfl⟩
abbrev main_v107 : Ref sig .tc := ⟨.hbm, 136, rfl⟩
abbrev main_v108 : Ref sig .tc := ⟨.hbm, 137, rfl⟩
abbrev main_cst_16 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_cst_17 : Ref sig .tc := ⟨.hbm, 143, rfl⟩
abbrev main_v113 : Ref sig .tc := ⟨.hbm, 144, rfl⟩
abbrev main_v114 : Ref sig .tc := ⟨.hbm, 145, rfl⟩
abbrev main_cst_18 : Ref sig .tc := ⟨.hbm, 146, rfl⟩
abbrev main_v115 : Ref sig .tc := ⟨.hbm, 147, rfl⟩
abbrev main_v116 : Ref sig .tc := ⟨.hbm, 148, rfl⟩
abbrev main_cst_19 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_cst_20 : Ref sig .tc := ⟨.hbm, 173, rfl⟩
abbrev main_v140 : Ref sig .tc := ⟨.hbm, 174, rfl⟩
abbrev main_v141 : Ref sig .tc := ⟨.hbm, 175, rfl⟩
abbrev main_cst_21 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_cst_22 : Ref sig .tc := ⟨.hbm, 183, rfl⟩
abbrev main_v148 : Ref sig .tc := ⟨.hbm, 184, rfl⟩
abbrev main_v149 : Ref sig .tc := ⟨.hbm, 185, rfl⟩
abbrev main_cst_23 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_cst_24 : Ref sig .tc := ⟨.hbm, 192, rfl⟩
abbrev main_v155 : Ref sig .tc := ⟨.hbm, 193, rfl⟩
abbrev main_cst_25 : Ref sig .tc := ⟨.hbm, 194, rfl⟩
abbrev main_v156 : Ref sig .tc := ⟨.hbm, 195, rfl⟩
abbrev main_cst_26 : Ref sig .tc := ⟨.hbm, 196, rfl⟩
abbrev main_v157 : Ref sig .tc := ⟨.hbm, 197, rfl⟩
abbrev main_cst_27 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_cst_28 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩

abbrev nD : Nat := 1
abbrev τ : Topo := Topo.v7x

variable {F : FTy → Type} [FloatOps F]
-- ==== Kernel3.lean ====
abbrev S16384x1024 : Shape := ⟨2, ![16384, 1024]⟩
abbrev S8x6144 : Shape := ⟨2, ![8, 6144]⟩
abbrev S1x1024 : Shape := ⟨2, ![1, 1024]⟩
abbrev S31x1024 : Shape := ⟨2, ![31, 1024]⟩
abbrev S1024x1024 : Shape := ⟨2, ![1024, 1024]⟩
abbrev S1024x4096 : Shape := ⟨2, ![1024, 4096]⟩
abbrev S4096x1024 : Shape := ⟨2, ![4096, 1024]⟩
abbrev S256x1024 : Shape := ⟨2, ![256, 1024]⟩
abbrev S16x1024 : Shape := ⟨2, ![16, 1024]⟩
abbrev S288x1024 : Shape := ⟨2, ![288, 1024]⟩
abbrev S2x7x280x128 : Shape := ⟨4, ![2, 7, 280, 128]⟩
abbrev S280x128 : Shape := ⟨2, ![280, 128]⟩
abbrev S1x1x280x128 : Shape := ⟨4, ![1, 1, 280, 128]⟩
abbrev S1x128 : Shape := ⟨2, ![1, 128]⟩
abbrev S32x128 : Shape := ⟨2, ![32, 128]⟩
abbrev S1x1x32x128 : Shape := ⟨4, ![1, 1, 32, 128]⟩
abbrev S256 : Shape := ⟨1, ![256]⟩
abbrev S256x1 : Shape := ⟨2, ![256, 1]⟩
abbrev S256x4096 : Shape := ⟨2, ![256, 4096]⟩

abbrev nBuf : Space → Nat
  | .hbm => 20
  | .vmem => 34
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S8x6144, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S31x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S1024x4096, .bf16⟩
  | .hbm, ⟨18, _⟩ => ⟨S4096x1024, .bf16⟩
  | .hbm, ⟨19, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S16x1024, .bf16⟩
  | .local _ .vmem, ⟨5, _⟩ => ⟨S16x1024, .bf16⟩
  | .local _ .vmem, ⟨6, _⟩ => ⟨S256x1024, .bf16⟩
  | .local _ .vmem, ⟨7, _⟩ => ⟨S256x1024, .bf16⟩
  | .local _ .vmem, ⟨8, _⟩ => ⟨S16x1024, .bf16⟩
  | .local _ .vmem, ⟨9, _⟩ => ⟨S16x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S8x6144, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S31x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1024x4096, .bf16⟩
  | .local _ .vmem, ⟨28, _⟩ => ⟨S4096x1024, .bf16⟩
  | .local _ .vmem, ⟨29, _⟩ => ⟨S256x1024, .f32⟩
  | .local _ .vmem, ⟨30, _⟩ => ⟨S256x1024, .f32⟩
  | .local _ .vmem, ⟨31, _⟩ => ⟨S288x1024, .f32⟩
  | .local _ .vmem, ⟨32, _⟩ => ⟨S2x7x280x128, .f32⟩
  | .local _ .vmem, ⟨33, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg21_0 : Ref sig .tc := ⟨.vmem, 29, rfl⟩
abbrev cc0_stg21_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem21_0 : DmaSem sig := 29
abbrev cc0_sem21_1 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S31x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1024x4096 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S4096x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference3.lean ====
abbrev S16384x1024 : Shape := ⟨2, ![16384, 1024]⟩
abbrev S8x6144 : Shape := ⟨2, ![8, 6144]⟩
abbrev S1x1024 : Shape := ⟨2, ![1, 1024]⟩
abbrev S31x1024 : Shape := ⟨2, ![31, 1024]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S16414x1024 : Shape := ⟨2, ![16414, 1024]⟩
abbrev S1024 : Shape := ⟨1, ![1024]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 364
  | .vmem => 0
  | .smem => 0
  | _ => 0

abbrev hbmTy0_0 (i : Nat) : BufTy := match i % 128 with
  | 0 => ⟨S16384x1024, .f32⟩
  | 1 => ⟨S16384x1024, .bf16⟩
  | 2 => ⟨S16384x1024, .bf16⟩
  | 3 => ⟨S16384x1024, .bf16⟩
  | 4 => ⟨S16384x1024, .bf16⟩
  | 5 => ⟨S16384x1024, .bf16⟩
  | 6 => ⟨S8x6144, .f32⟩
  | 7 => ⟨S1x1024, .f32⟩
  | 8 => ⟨S1x1024, .f32⟩
  | 9 => ⟨S1x1024, .f32⟩
  | 10 => ⟨S31x1024, .f32⟩
  | 11 => ⟨S1x1024, .f32⟩
  | 12 => ⟨S1x1024, .f32⟩
  | 13 => ⟨S1x1024, .f32⟩
  | 14 => ⟨S1024x1024, .bf16⟩
  | 15 => ⟨S1024x1024, .bf16⟩
  | 16 => ⟨S1024x1024, .bf16⟩
  | 17 => ⟨S1024x4096, .bf16⟩
  | 18 => ⟨S4096x1024, .bf16⟩
  | 19 => ⟨S1x1024, .f32⟩
  | 20 => ⟨S1x1024, .f32⟩
  | 21 => ⟨S1x1024, .f32⟩
  | 22 => ⟨S1x1024, .f32⟩
  | 23 => ⟨S16384x1024, .f32⟩
  | 24 => ⟨S_, .i32⟩
  | 25 => ⟨S_, .f32⟩
  | 26 => ⟨S16414x1024, .f32⟩
  | 27 => ⟨S1x1024, .f32⟩
  | 28 => ⟨S1024, .f32⟩
  | 29 => ⟨S16384x1024, .f32⟩
  | 30 => ⟨S1x1024, .f32⟩
  | 31 => ⟨S16384x1024, .f32⟩
  | 32 => ⟨S16384x1024, .f32⟩
  | 33 => ⟨S_, .f32⟩
  | 34 => ⟨S16384x1024, .f32⟩
  | 35 => ⟨S16384x1024, .f32⟩
  | 36 => ⟨S1x1024, .f32⟩
  | 37 => ⟨S1024, .f32⟩
  | 38 => ⟨S16384x1024, .f32⟩
  | 39 => ⟨S1x1024, .f32⟩
  | 40 => ⟨S16384x1024, .f32⟩
  | 41 => ⟨S16384x1024, .f32⟩
  | 42 => ⟨S16384x1024, .f32⟩
  | 43 => ⟨S1x1024, .f32⟩
  | 44 => ⟨S1024, .f32⟩
  | 45 => ⟨S16384x1024, .f32⟩
  | 46 => ⟨S1x1024, .f32⟩
  | 47 => ⟨S16384x1024, .f32⟩
  | 48 => ⟨S16384x1024, .f32⟩
  | 49 => ⟨S16384x1024, .f32⟩
  | 50 => ⟨S1x1024, .f32⟩
  | 51 => ⟨S1024, .f32⟩
  | 52 => ⟨S16384x1024, .f32⟩
  | 53 => ⟨S1x1024, .f32⟩
  | 54 => ⟨S16384x1024, .f32⟩
  | 55 => ⟨S16384x1024, .f32⟩
  | 56 => ⟨S16384x1024, .f32⟩
  | 57 => ⟨S1x1024, .f32⟩
  | 58 => ⟨S1024, .f32⟩
  | 59 => ⟨S16384x1024, .f32⟩
  | 60 => ⟨S1x1024, .f32⟩
  | 61 => ⟨S16384x1024, .f32⟩
  | 62 => ⟨S16384x1024, .f32⟩
  | 63 => ⟨S16384x1024, .f32⟩
  | 64 => ⟨S1x1024, .f32⟩
  | 65 => ⟨S1024, .f32⟩
  | 66 => ⟨S16384x1024, .f32⟩
  | 67 => ⟨S1x1024, .f32⟩
  | 68 => ⟨S16384x1024, .f32⟩
  | 69 => ⟨S16384x1024, .f32⟩
  | 70 => ⟨S16384x1024, .f32⟩
  | 71 => ⟨S1x1024, .f32⟩
  | 72 => ⟨S1024, .f32⟩
  | 73 => ⟨S16384x1024, .f32⟩
  | 74 => ⟨S1x1024, .f32⟩
  | 75 => ⟨S16384x1024, .f32⟩
  | 76 => ⟨S16384x1024, .f32⟩
  | 77 => ⟨S16384x1024, .f32⟩
  | 78 => ⟨S1x1024, .f32⟩
  | 79 => ⟨S1024, .f32⟩
  | 80 => ⟨S16384x1024, .f32⟩
  | 81 => ⟨S1x1024, .f32⟩
  | 82 => ⟨S16384x1024, .f32⟩
  | 83 => ⟨S16384x1024, .f32⟩
  | 84 => ⟨S16384x1024, .f32⟩
  | 85 => ⟨S1x1024, .f32⟩
  | 86 => ⟨S1024, .f32⟩
  | 87 => ⟨S16384x1024, .f32⟩
  | 88 => ⟨S1x1024, .f32⟩
  | 89 => ⟨S16384x1024, .f32⟩
  | 90 => ⟨S16384x1024, .f32⟩
  | 91 => ⟨S16384x1024, .f32⟩
  | 92 => ⟨S1x1024, .f32⟩
  | 93 => ⟨S1024, .f32⟩
  | 94 => ⟨S16384x1024, .f32⟩
  | 95 => ⟨S1x1024, .f32⟩
  | 96 => ⟨S16384x1024, .f32⟩
  | 97 => ⟨S16384x1024, .f32⟩
  | 98 => ⟨S16384x1024, .f32⟩
  | 99 => ⟨S1x1024, .f32⟩
  | 100 => ⟨S1024, .f32⟩
  | 101 => ⟨S16384x1024, .f32⟩
  | 102 => ⟨S1x1024, .f32⟩
  | 103 => ⟨S16384x1024, .f32⟩
  | 104 => ⟨S16384x1024, .f32⟩
  | 105 => ⟨S16384x1024, .f32⟩
  | 106 => ⟨S1x1024, .f32⟩
  | 107 => ⟨S1024, .f32⟩
  | 108 => ⟨S16384x1024, .f32⟩
  | 109 => ⟨S1x1024, .f32⟩
  | 110 => ⟨S16384x1024, .f32⟩
  | 111 => ⟨S16384x1024, .f32⟩
  | 112 => ⟨S16384x1024, .f32⟩
  | 113 => ⟨S1x1024, .f32⟩
  | 114 => ⟨S1024, .f32⟩
  | 115 => ⟨S16384x1024, .f32⟩
  | 116 => ⟨S1x1024, .f32⟩
  | 117 => ⟨S16384x1024, .f32⟩
  | 118 => ⟨S16384x1024, .f32⟩
  | 119 => ⟨S16384x1024, .f32⟩
  | 120 => ⟨S1x1024, .f32⟩
  | 121 => ⟨S1024, .f32⟩
  | 122 => ⟨S16384x1024, .f32⟩
  | 123 => ⟨S1x1024, .f32⟩
  | 124 => ⟨S16384x1024, .f32⟩
  | 125 => ⟨S16384x1024, .f32⟩
  | 126 => ⟨S16384x1024, .f32⟩
  | 127 => ⟨S1x1024, .f32⟩
  | _ => ⟨S16384x1024, .f32⟩

abbrev hbmTy0_1 (i : Nat) : BufTy := match i % 128 with
  | 0 => ⟨S1024, .f32⟩
  | 1 => ⟨S16384x1024, .f32⟩
  | 2 => ⟨S1x1024, .f32⟩
  | 3 => ⟨S16384x1024, .f32⟩
  | 4 => ⟨S16384x1024, .f32⟩
  | 5 => ⟨S16384x1024, .f32⟩
  | 6 => ⟨S1x1024, .f32⟩
  | 7 => ⟨S1024, .f32⟩
  | 8 => ⟨S16384x1024, .f32⟩
  | 9 => ⟨S1x1024, .f32⟩
  | 10 => ⟨S16384x1024, .f32⟩
  | 11 => ⟨S16384x1024, .f32⟩
  | 12 => ⟨S16384x1024, .f32⟩
  | 13 => ⟨S1x1024, .f32⟩
  | 14 => ⟨S1024, .f32⟩
  | 15 => ⟨S16384x1024, .f32⟩
  | 16 => ⟨S1x1024, .f32⟩
  | 17 => ⟨S16384x1024, .f32⟩
  | 18 => ⟨S16384x1024, .f32⟩
  | 19 => ⟨S16384x1024, .f32⟩
  | 20 => ⟨S1x1024, .f32⟩
  | 21 => ⟨S1024, .f32⟩
  | 22 => ⟨S16384x1024, .f32⟩
  | 23 => ⟨S1x1024, .f32⟩
  | 24 => ⟨S16384x1024, .f32⟩
  | 25 => ⟨S16384x1024, .f32⟩
  | 26 => ⟨S16384x1024, .f32⟩
  | 27 => ⟨S1x1024, .f32⟩
  | 28 => ⟨S1024, .f32⟩
  | 29 => ⟨S16384x1024, .f32⟩
  | 30 => ⟨S1x1024, .f32⟩
  | 31 => ⟨S16384x1024, .f32⟩
  | 32 => ⟨S16384x1024, .f32⟩
  | 33 => ⟨S16384x1024, .f32⟩
  | 34 => ⟨S1x1024, .f32⟩
  | 35 => ⟨S1024, .f32⟩
  | 36 => ⟨S16384x1024, .f32⟩
  | 37 => ⟨S1x1024, .f32⟩
  | 38 => ⟨S16384x1024, .f32⟩
  | 39 => ⟨S16384x1024, .f32⟩
  | 40 => ⟨S16384x1024, .f32⟩
  | 41 => ⟨S1x1024, .f32⟩
  | 42 => ⟨S1024, .f32⟩
  | 43 => ⟨S16384x1024, .f32⟩
  | 44 => ⟨S1x1024, .f32⟩
  | 45 => ⟨S16384x1024, .f32⟩
  | 46 => ⟨S16384x1024, .f32⟩
  | 47 => ⟨S16384x1024, .f32⟩
  | 48 => ⟨S1x1024, .f32⟩
  | 49 => ⟨S1024, .f32⟩
  | 50 => ⟨S16384x1024, .f32⟩
  | 51 => ⟨S1x1024, .f32⟩
  | 52 => ⟨S16384x1024, .f32⟩
  | 53 => ⟨S16384x1024, .f32⟩
  | 54 => ⟨S16384x1024, .f32⟩
  | 55 => ⟨S1x1024, .f32⟩
  | 56 => ⟨S1024, .f32⟩
  | 57 => ⟨S16384x1024, .f32⟩
  | 58 => ⟨S1x1024, .f32⟩
  | 59 => ⟨S16384x1024, .f32⟩
  | 60 => ⟨S16384x1024, .f32⟩
  | 61 => ⟨S16384x1024, .f32⟩
  | 62 => ⟨S1x1024, .f32⟩
  | 63 => ⟨S1024, .f32⟩
  | 64 => ⟨S16384x1024, .f32⟩
  | 65 => ⟨S1x1024, .f32⟩
  | 66 => ⟨S16384x1024, .f32⟩
  | 67 => ⟨S16384x1024, .f32⟩
  | 68 => ⟨S16384x1024, .f32⟩
  | 69 => ⟨S1x1024, .f32⟩
  | 70 => ⟨S1024, .f32⟩
  | 71 => ⟨S16384x1024, .f32⟩
  | 72 => ⟨S1x1024, .f32⟩
  | 73 => ⟨S16384x1024, .f32⟩
  | 74 => ⟨S16384x1024, .f32⟩
  | 75 => ⟨S16384x1024, .f32⟩
  | 76 => ⟨S1x1024, .f32⟩
  | 77 => ⟨S1024, .f32⟩
  | 78 => ⟨S16384x1024, .f32⟩
  | 79 => ⟨S1x1024, .f32⟩
  | 80 => ⟨S16384x1024, .f32⟩
  | 81 => ⟨S16384x1024, .f32⟩
  | 82 => ⟨S16384x1024, .f32⟩
  | 83 => ⟨S1x1024, .f32⟩
  | 84 => ⟨S1024, .f32⟩
  | 85 => ⟨S16384x1024, .f32⟩
  | 86 => ⟨S1x1024, .f32⟩
  | 87 => ⟨S16384x1024, .f32⟩
  | 88 => ⟨S16384x1024, .f32⟩
  | 89 => ⟨S16384x1024, .f32⟩
  | 90 => ⟨S1x1024, .f32⟩
  | 91 => ⟨S1024, .f32⟩
  | 92 => ⟨S16384x1024, .f32⟩
  | 93 => ⟨S1x1024, .f32⟩
  | 94 => ⟨S16384x1024, .f32⟩
  | 95 => ⟨S16384x1024, .f32⟩
  | 96 => ⟨S16384x1024, .f32⟩
  | 97 => ⟨S1x1024, .f32⟩
  | 98 => ⟨S1024, .f32⟩
  | 99 => ⟨S16384x1024, .f32⟩
  | 100 => ⟨S1x1024, .f32⟩
  | 101 => ⟨S16384x1024, .f32⟩
  | 102 => ⟨S16384x1024, .f32⟩
  | 103 => ⟨S16384x1024, .f32⟩
  | 104 => ⟨S1x1024, .f32⟩
  | 105 => ⟨S1024, .f32⟩
  | 106 => ⟨S16384x1024, .f32⟩
  | 107 => ⟨S1x1024, .f32⟩
  | 108 => ⟨S16384x1024, .f32⟩
  | 109 => ⟨S16384x1024, .f32⟩
  | 110 => ⟨S16384x1024, .f32⟩
  | 111 => ⟨S1x1024, .f32⟩
  | 112 => ⟨S1024, .f32⟩
  | 113 => ⟨S16384x1024, .f32⟩
  | 114 => ⟨S1x1024, .f32⟩
  | 115 => ⟨S16384x1024, .f32⟩
  | 116 => ⟨S16384x1024, .f32⟩
  | 117 => ⟨S16384x1024, .f32⟩
  | 118 => ⟨S16384x1024, .f32⟩
  | 119 => ⟨S16384x1024, .f32⟩
  | 120 => ⟨S_, .f32⟩
  | 121 => ⟨S16384, .f32⟩
  | 122 => ⟨S16384x1, .f32⟩
  | 123 => ⟨S_, .f32⟩
  | 124 => ⟨S16384x1, .f32⟩
  | 125 => ⟨S16384x1, .f32⟩
  | 126 => ⟨S16384x1024, .f32⟩
  | 127 => ⟨S16384x1024, .f32⟩
  | _ => ⟨S16384x1024, .f32⟩

abbrev hbmTy0_2 (i : Nat) : BufTy := match i % 128 with
  | 0 => ⟨S16384x1024, .f32⟩
  | 1 => ⟨S_, .f32⟩
  | 2 => ⟨S16384, .f32⟩
  | 3 => ⟨S16384x1, .f32⟩
  | 4 => ⟨S_, .f32⟩
  | 5 => ⟨S16384x1, .f32⟩
  | 6 => ⟨S16384x1, .f32⟩
  | 7 => ⟨S16384x1024, .f32⟩
  | 8 => ⟨S16384x1024, .f32⟩
  | 9 => ⟨S_, .f32⟩
  | 10 => ⟨S16384x1, .f32⟩
  | 11 => ⟨S16384x1, .f32⟩
  | 12 => ⟨S16384x1, .f32⟩
  | 13 => ⟨S16384x1024, .f32⟩
  | 14 => ⟨S16384x1024, .f32⟩
  | 15 => ⟨S16384x1024, .f32⟩
  | 16 => ⟨S16384x1024, .f32⟩
  | 17 => ⟨S16384x1024, .f32⟩
  | 18 => ⟨S16384x1024, .f32⟩
  | 19 => ⟨S16384x1024, .f32⟩
  | 20 => ⟨S16384x1024, .f32⟩
  | 21 => ⟨S_, .f32⟩
  | 22 => ⟨S16384x1024, .f32⟩
  | 23 => ⟨S16384x1024, .f32⟩
  | 24 => ⟨S_, .f32⟩
  | 25 => ⟨S16384x1024, .f32⟩
  | 26 => ⟨S16384x1024, .f32⟩
  | 27 => ⟨S16384x1024, .f32⟩
  | 28 => ⟨S1024x1024, .f32⟩
  | 29 => ⟨S16384x1024, .f32⟩
  | 30 => ⟨S16384x1024, .f32⟩
  | 31 => ⟨S1024x1024, .f32⟩
  | 32 => ⟨S16384x1024, .f32⟩
  | 33 => ⟨S16384x1024, .f32⟩
  | 34 => ⟨S16384x1024, .f32⟩
  | 35 => ⟨S16384x1024, .f32⟩
  | 36 => ⟨S16384x1024, .f32⟩
  | 37 => ⟨S16384x1024, .f32⟩
  | 38 => ⟨S16384x1024, .f32⟩
  | 39 => ⟨S16384x1024, .f32⟩
  | 40 => ⟨S1024x1024, .f32⟩
  | 41 => ⟨S16384x1024, .f32⟩
  | 42 => ⟨S16384x1024, .f32⟩
  | 43 => ⟨S_, .f32⟩
  | 44 => ⟨S16384, .f32⟩
  | 45 => ⟨S16384x1, .f32⟩
  | 46 => ⟨S_, .f32⟩
  | 47 => ⟨S16384x1, .f32⟩
  | 48 => ⟨S16384x1, .f32⟩
  | 49 => ⟨S_, .f32⟩
  | 50 => ⟨S16384x1, .f32⟩
  | 51 => ⟨S16384x1, .f32⟩
  | 52 => ⟨S16384x1, .f32⟩
  | 53 => ⟨S16384x1024, .f32⟩
  | 54 => ⟨S16384x1024, .f32⟩
  | 55 => ⟨S16384x1024, .f32⟩
  | 56 => ⟨S16384x1024, .f32⟩
  | 57 => ⟨S16384x1024, .f32⟩
  | 58 => ⟨S16384x1024, .f32⟩
  | 59 => ⟨S16384x1024, .f32⟩
  | 60 => ⟨S16384x1024, .f32⟩
  | 61 => ⟨S_, .f32⟩
  | 62 => ⟨S16384, .f32⟩
  | 63 => ⟨S16384x1, .f32⟩
  | 64 => ⟨S_, .f32⟩
  | 65 => ⟨S16384x1, .f32⟩
  | 66 => ⟨S16384x1, .f32⟩
  | 67 => ⟨S_, .f32⟩
  | 68 => ⟨S16384x1, .f32⟩
  | 69 => ⟨S16384x1, .f32⟩
  | 70 => ⟨S16384x1, .f32⟩
  | 71 => ⟨S16384x1024, .f32⟩
  | 72 => ⟨S16384x1024, .f32⟩
  | 73 => ⟨S16384x1024, .f32⟩
  | 74 => ⟨S16384x1024, .f32⟩
  | 75 => ⟨S_, .f32⟩
  | 76 => ⟨S1x1024, .f32⟩
  | 77 => ⟨S1x1024, .f32⟩
  | 78 => ⟨S16384x1024, .f32⟩
  | 79 => ⟨S16384x1024, .f32⟩
  | 80 => ⟨S16384x1024, .f32⟩
  | 81 => ⟨S16384x1024, .f32⟩
  | 82 => ⟨S1024x4096, .f32⟩
  | 83 => ⟨S16384x4096, .f32⟩
  | 84 => ⟨S_, .f32⟩
  | 85 => ⟨S16384x4096, .f32⟩
  | 86 => ⟨S16384x4096, .f32⟩
  | 87 => ⟨S16384x4096, .f32⟩
  | 88 => ⟨S4096x1024, .f32⟩
  | 89 => ⟨S16384x1024, .f32⟩
  | 90 => ⟨S16384x1024, .f32⟩
  | 91 => ⟨S_, .f32⟩
  | 92 => ⟨S16384, .f32⟩
  | 93 => ⟨S16384x1, .f32⟩
  | 94 => ⟨S_, .f32⟩
  | 95 => ⟨S16384x1, .f32⟩
  | 96 => ⟨S16384x1, .f32⟩
  | 97 => ⟨S_, .f32⟩
  | 98 => ⟨S16384x1, .f32⟩
  | 99 => ⟨S16384x1, .f32⟩
  | 100 => ⟨S16384x1, .f32⟩
  | 101 => ⟨S16384x1024, .f32⟩
  | 102 => ⟨S16384x1024, .f32⟩
  | 103 => ⟨S16384x1024, .f32⟩
  | 104 => ⟨S16384x1024, .f32⟩
  | 105 => ⟨S16384x1024, .f32⟩
  | 106 => ⟨S16384x1024, .f32⟩
  | 107 => ⟨S16384x1024, .f32⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_c : Ref sig .tc := ⟨.hbm, 24, rfl⟩
abbrev main_call0_v0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_v224 : Ref sig .tc := ⟨.hbm, 246, rfl⟩
abbrev main_v225 : Ref sig .tc := ⟨.hbm, 247, rfl⟩
abbrev main_cst_0 : Ref sig .tc := ⟨.hbm, 248, rfl⟩
abbrev main_v226 : Ref sig .tc := ⟨.hbm, 249, rfl⟩
abbrev main_v227 : Ref sig .tc := ⟨.hbm, 250, rfl⟩
abbrev main_cst_1 : Ref sig .tc := ⟨.hbm, 251, rfl⟩
abbrev main_v228 : Ref sig .tc := ⟨.hbm, 252, rfl⟩
abbrev main_v229 : Ref sig .tc := ⟨.hbm, 253, rfl⟩
abbrev main_v230 : Ref sig .tc := ⟨.hbm, 254, rfl⟩
abbrev main_v231 : Ref sig .tc := ⟨.hbm, 255, rfl⟩
abbrev main_v232 : Ref sig .tc := ⟨.hbm, 256, rfl⟩
abbrev main_cst_2 : Ref sig .tc := ⟨.hbm, 257, rfl⟩
abbrev main_v233 : Ref sig .tc := ⟨.hbm, 258, rfl⟩
abbrev main_v234 : Ref sig .tc := ⟨.hbm, 259, rfl⟩
abbrev main_cst_3 : Ref sig .tc := ⟨.hbm, 260, rfl⟩
abbrev main_v235 : Ref sig .tc := ⟨.hbm, 261, rfl⟩
abbrev main_v236 : Ref sig .tc := ⟨.hbm, 262, rfl⟩
abbrev main_v237 : Ref sig .tc := ⟨.hbm, 263, rfl⟩
abbrev main_v238 : Ref sig .tc := ⟨.hbm, 264, rfl⟩
abbrev main_cst_4 : Ref sig .tc := ⟨.hbm, 265, rfl⟩
abbrev main_v239 : Ref sig .tc := ⟨.hbm, 266, rfl⟩
abbrev main_v240 : Ref sig .tc := ⟨.hbm, 267, rfl⟩
abbrev main_v241 : Ref sig .tc := ⟨.hbm, 268, rfl⟩
abbrev main_v242 : Ref sig .tc := ⟨.hbm, 269, rfl⟩
abbrev main_v243 : Ref sig .tc := ⟨.hbm, 270, rfl⟩
abbrev main_v244 : Ref sig .tc := ⟨.hbm, 271, rfl⟩
abbrev main_v245 : Ref sig .tc := ⟨.hbm, 272, rfl⟩
abbrev main_v246 : Ref sig .tc := ⟨.hbm, 273, rfl⟩
abbrev main_v247 : Ref sig .tc := ⟨.hbm, 274, rfl⟩
abbrev main_call1_v0 : Ref sig .tc := ⟨.hbm, 275, rfl⟩
abbrev main_call1_v1 : Ref sig .tc := ⟨.hbm, 276, rfl⟩
abbrev main_call1_cst : Ref sig .tc := ⟨.hbm, 277, rfl⟩
abbrev main_call1_v2 : Ref sig .tc := ⟨.hbm, 278, rfl⟩
abbrev main_call1_v3 : Ref sig .tc := ⟨.hbm, 279, rfl⟩
abbrev main_call1_cst_0 : Ref sig .tc := ⟨.hbm, 280, rfl⟩
abbrev main_call1_v4 : Ref sig .tc := ⟨.hbm, 281, rfl⟩
abbrev main_call1_v5 : Ref sig .tc := ⟨.hbm, 282, rfl⟩
abbrev main_v248 : Ref sig .tc := ⟨.hbm, 283, rfl⟩
abbrev main_v249 : Ref sig .tc := ⟨.hbm, 284, rfl⟩
abbrev main_v250 : Ref sig .tc := ⟨.hbm, 285, rfl⟩
abbrev main_v251 : Ref sig .tc := ⟨.hbm, 286, rfl⟩
abbrev main_v252 : Ref sig .tc := ⟨.hbm, 287, rfl⟩
abbrev main_v253 : Ref sig .tc := ⟨.hbm, 288, rfl⟩
abbrev main_v254 : Ref sig .tc := ⟨.hbm, 289, rfl⟩
abbrev main_v255 : Ref sig .tc := ⟨.hbm, 290, rfl⟩
abbrev main_v256 : Ref sig .tc := ⟨.hbm, 291, rfl⟩
abbrev main_v257 : Ref sig .tc := ⟨.hbm, 292, rfl⟩
abbrev main_v258 : Ref sig .tc := ⟨.hbm, 293, rfl⟩
abbrev main_v259 : Ref sig .tc := ⟨.hbm, 294, rfl⟩
abbrev main_v260 : Ref sig .tc := ⟨.hbm, 295, rfl⟩
abbrev main_v261 : Ref sig .tc := ⟨.hbm, 296, rfl⟩
abbrev main_v262 : Ref sig .tc := ⟨.hbm, 297, rfl⟩
abbrev main_v263 : Ref sig .tc := ⟨.hbm, 298, rfl⟩
abbrev main_cst_5 : Ref sig .tc := ⟨.hbm, 299, rfl⟩
abbrev main_v264 : Ref sig .tc := ⟨.hbm, 300, rfl⟩
abbrev main_v265 : Ref sig .tc := ⟨.hbm, 301, rfl⟩
abbrev main_cst_6 : Ref sig .tc := ⟨.hbm, 302, rfl⟩
abbrev main_v266 : Ref sig .tc := ⟨.hbm, 303, rfl⟩
abbrev main_v267 : Ref sig .tc := ⟨.hbm, 304, rfl⟩
abbrev main_cst_7 : Ref sig .tc := ⟨.hbm, 305, rfl⟩
abbrev main_v268 : Ref sig .tc := ⟨.hbm, 306, rfl⟩
abbrev main_v269 : Ref sig .tc := ⟨.hbm, 307, rfl⟩
abbrev main_v270 : Ref sig .tc := ⟨.hbm, 308, rfl⟩
abbrev main_v271 : Ref sig .tc := ⟨.hbm, 309, rfl⟩
abbrev main_v272 : Ref sig .tc := ⟨.hbm, 310, rfl⟩
abbrev main_v273 : Ref sig .tc := ⟨.hbm, 311, rfl⟩
abbrev main_v274 : Ref sig .tc := ⟨.hbm, 312, rfl⟩
abbrev main_v275 : Ref sig .tc := ⟨.hbm, 313, rfl⟩
abbrev main_v276 : Ref sig .tc := ⟨.hbm, 314, rfl⟩
abbrev main_v277 : Ref sig .tc := ⟨.hbm, 315, rfl⟩
abbrev main_v278 : Ref sig .tc := ⟨.hbm, 316, rfl⟩
abbrev main_cst_8 : Ref sig .tc := ⟨.hbm, 317, rfl⟩
abbrev main_v279 : Ref sig .tc := ⟨.hbm, 318, rfl⟩
abbrev main_v280 : Ref sig .tc := ⟨.hbm, 319, rfl⟩
abbrev main_cst_9 : Ref sig .tc := ⟨.hbm, 320, rfl⟩
abbrev main_v281 : Ref sig .tc := ⟨.hbm, 321, rfl⟩
abbrev main_v282 : Ref sig .tc := ⟨.hbm, 322, rfl⟩
abbrev main_cst_10 : Ref sig .tc := ⟨.hbm, 323, rfl⟩
abbrev main_v283 : Ref sig .tc := ⟨.hbm, 324, rfl⟩
abbrev main_v284 : Ref sig .tc := ⟨.hbm, 325, rfl⟩
abbrev main_v285 : Ref sig .tc := ⟨.hbm, 326, rfl⟩
abbrev main_v286 : Ref sig .tc := ⟨.hbm, 327, rfl⟩
abbrev main_v287 : Ref sig .tc := ⟨.hbm, 328, rfl⟩
abbrev main_v288 : Ref sig .tc := ⟨.hbm, 329, rfl⟩
abbrev main_v289 : Ref sig .tc := ⟨.hbm, 330, rfl⟩
abbrev main_cst_11 : Ref sig .tc := ⟨.hbm, 331, rfl⟩
abbrev main_v290 : Ref sig .tc := ⟨.hbm, 332, rfl⟩
abbrev main_v291 : Ref sig .tc := ⟨.hbm, 333, rfl⟩
abbrev main_v292 : Ref sig .tc := ⟨.hbm, 334, rfl⟩
abbrev main_v293 : Ref sig .tc := ⟨.hbm, 335, rfl⟩
abbrev main_v294 : Ref sig .tc := ⟨.hbm, 336, rfl⟩
abbrev main_v295 : Ref sig .tc := ⟨.hbm, 337, rfl⟩
abbrev main_v296 : Ref sig .tc := ⟨.hbm, 338, rfl⟩
abbrev main_v297 : Ref sig .tc := ⟨.hbm, 339, rfl⟩
abbrev main_call2_cst : Ref sig .tc := ⟨.hbm, 340, rfl⟩
abbrev main_call2_v0 : Ref sig .tc := ⟨.hbm, 341, rfl⟩
abbrev main_v298 : Ref sig .tc := ⟨.hbm, 342, rfl⟩
abbrev main_v299 : Ref sig .tc := ⟨.hbm, 343, rfl⟩
abbrev main_v300 : Ref sig .tc := ⟨.hbm, 344, rfl⟩
abbrev main_v301 : Ref sig .tc := ⟨.hbm, 345, rfl⟩
abbrev main_v302 : Ref sig .tc := ⟨.hbm, 346, rfl⟩
abbrev main_cst_12 : Ref sig .tc := ⟨.hbm, 347, rfl⟩
abbrev main_v303 : Ref sig .tc := ⟨.hbm, 348, rfl⟩
abbrev main_v304 : Ref sig .tc := ⟨.hbm, 349, rfl⟩
abbrev main_cst_13 : Ref sig .tc := ⟨.hbm, 350, rfl⟩
abbrev main_v305 : Ref sig .tc := ⟨.hbm, 351, rfl⟩
abbrev main_v306 : Ref sig .tc := ⟨.hbm, 352, rfl⟩
abbrev main_cst_14 : Ref sig .tc := ⟨.hbm, 353, rfl⟩
abbrev main_v307 : Ref sig .tc := ⟨.hbm, 354, rfl⟩
abbrev main_v308 : Ref sig .tc := ⟨.hbm, 355, rfl⟩
abbrev main_v309 : Ref sig .tc := ⟨.hbm, 356, rfl⟩
abbrev main_v310 : Ref sig .tc := ⟨.hbm, 357, rfl⟩
abbrev main_v311 : Ref sig .tc := ⟨.hbm, 358, rfl⟩
abbrev main_v312 : Ref sig .tc := ⟨.hbm, 359, rfl⟩
abbrev main_v313 : Ref sig .tc := ⟨.hbm, 360, rfl⟩
abbrev main_v314 : Ref sig .tc := ⟨.hbm, 361, rfl⟩
abbrev main_v315 : Ref sig .tc := ⟨.hbm, 362, rfl⟩
abbrev main_v316 : Ref sig .tc := ⟨.hbm, 363, rfl⟩

abbrev nD : Nat := 1
abbrev τ : Topo := Topo.v7x

variable {F : FTy → Type} [FloatOps F]
-- ==== Proof.Ideal.Blocks.lean ====
/-
  The blocks of the kernel's own buffers, and what one round computes for one head.

  The running maximum, the weighted sum and the scores live in buffers of several blocks, one per head. Reading a block back
  gives the last contents stored there, and a store to another block does not matter (`read_hit`, `read_skip`). One round for
  one head takes a block of scores and a block of values to a new maximum and a new weighted sum (`mNext`, `aNext`).
-/
module

public import proofs.«01_k».proof.Proof.Gen.KernelIdeal.Skeleton
public import Idealize.ShloMosaic.Lib.Exec

@[expose] public section

set_option maxRecDepth 16384

noncomputable section

namespace Cert.KernelIdeal.Flash

open Cert.KernelIdeal Cert.KernelIdeal.Gen
open Idealize.ShloMosaic Idealize.ShloMosaic.TcCoe

section blocks

variable {Val : EltTy → Type} {sig : RefSig} {κ : Kind} {sp : Space} {S : Shape} {e : EltTy}

/-- Reading the block stored last gives what was stored. -/
theorem read_hit (v : View sig κ sp S e) (f : v.ty.Contents Val) (off size : Fin S.rank → Nat) (inb inb' : ∀ a, off a + size a ≤ S.size a)
    (w : (Rect.unit off size inb).shape.Idx → Val e) (L : List (View.Piece Val S e)) :
    v.readAt Val (Rect.unit off size inb').toLoadRect (v.writes Val f (⟨Rect.unit off size inb, w⟩ :: L)) = w := by
  funext x
  exact View.read_writes_cons_emb v f (Rect.unit off size inb) w L x

/-- Reading a block, a store to another one does not matter. -/
theorem read_skip (v : View sig κ sp S e) (f : v.ty.Contents Val) (off size off' size' : Fin S.rank → Nat) (inb inb')
    (w : (Rect.unit off' size' inb').shape.Idx → Val e) (L : List (View.Piece Val S e))
    (h : ∃ a, off a + size a ≤ off' a ∨ off' a + size' a ≤ off a) :
    v.readAt Val (Rect.unit off size inb).toLoadRect (v.writes Val f (⟨Rect.unit off' size' inb', w⟩ :: L))
      = v.readAt Val (Rect.unit off size inb).toLoadRect (v.writes Val f L) := by
  funext x
  rw [View.readAt_apply, View.readAt_apply, View.writes_cons, View.read_slice_write_of_not_mem]
  rw [Rect.map_emb_univ, Rect.mem_set_unit]
  intro hx
  obtain ⟨a, ha⟩ := h
  have h1 := hx a
  have h2 := (Rect.mem_set_unit (inb := inb)).mp ((Rect.unit off size inb).toLoadRect.idx_mem x) a
  omega

/-- Reading a block of a buffer with no store gives the buffer's. -/
theorem read_nil (v : View sig κ sp S e) (f : v.ty.Contents Val) (r : LoadRect S) :
    v.readAt Val r (v.writes Val f []) = v.readAt Val r f := rfl

end blocks

variable {F : FTy → Type} [FloatOps F]

/-- The scores of a block of keys against a head's queries. -/
def score (K : Vec F S1x512x128 .bf16) (Q : Vec F S1x128x512 .bf16) : Vec F S1x1x512x512 .f32 := k0_pay4 K Q
/-- The new running maximum. -/
def mNext (s : Vec F S1x1x512x512 .f32) (m : Vec F S1x1x512 .f32) : Vec F S1x1x512 .f32 := k0_pay11 (k0_pay7 s m)
/-- The new weighted sum. -/
def aNext (V : Vec F S1x144x512 .bf16) (s : Vec F S1x1x512x512 .f32) (m : Vec F S1x1x512 .f32) (a : Vec F S1x144x512 .f32) :
    Vec F S1x144x512 .f32 := k0_pay10 (k0_pay2 V) (k0_pay8 s m) (k0_pay9 s m) a

/-- The running maximum after `n` rounds. -/
def mRun (s : ℕ → Vec F S1x1x512x512 .f32) (m : Vec F S1x1x512 .f32) : ℕ → Vec F S1x1x512 .f32
  | 0 => m
  | n + 1 => mNext (s n) (mRun s m n)
/-- The weighted sum after `n` rounds. -/
def aRun (V : ℕ → Vec F S1x144x512 .bf16) (s : ℕ → Vec F S1x1x512x512 .f32) (m : Vec F S1x1x512 .f32) (a : Vec F S1x144x512 .f32) :
    ℕ → Vec F S1x144x512 .f32
  | 0 => a
  | n + 1 => aNext (V n) (s n) (mRun s m n) (aRun V s m a n)
/-- The scores a round finds: the first round's were there before, the others come from the keys. -/
def sSeq (s₀ : Vec F S1x1x512x512 .f32) (K : ℕ → Vec F S1x512x128 .bf16) (Q : Vec F S1x128x512 .bf16) : ℕ → Vec F S1x1x512x512 .f32
  | 0 => s₀
  | n + 1 => score (K n) Q

/-- The keys the rounds of trip `k` read ahead. -/
def kSeq (arg5 : Memref sig .tc .vmem S1x16384x128 .bf16) (X5 : BufTy.Contents (Elt F) arg5.view.ty) (k : Fin k0_t1_loop.trips) (u : ℕ) :
    Vec F S1x512x128 .bf16 :=
  arg5.view.readAt (Elt F) (Rect.unit (s := S1x16384x128) (k0_off2 k (BitVec.ofNat 32 (u % 8))) S1x512x128.size
    (k0_off2_inb k ⟨u % 8, Nat.mod_lt _ (by decide)⟩)).toLoadRect X5
/-- The values the rounds of trip `k` read. -/
def vSeq (arg6 : Memref sig .tc .vmem S1x144x16384 .bf16) (X6 : BufTy.Contents (Elt F) arg6.view.ty) (k : Fin k0_t1_loop.trips) (u : ℕ) :
    Vec F S1x144x512 .bf16 :=
  arg6.view.readAt (Elt F) (Rect.unit (s := S1x144x16384) (k0_off1 k (BitVec.ofNat 32 (u % 8))) S1x144x512.size
    (k0_off1_inb k ⟨u % 8, Nat.mod_lt _ (by decide)⟩)).toLoadRect X6

/-- The running maximum of head `g` in its buffer. -/
def blkM (arg8 : Memref sig .tc .vmem S4x1x512 .f32) (f : BufTy.Contents (Elt F) arg8.view.ty) (g : Fin 4) : Vec F S1x1x512 .f32 :=
  arg8.view.readAt (Elt F) (Rect.unit (s := S4x1x512) ![g.val, 0, 0] S1x1x512.size (by revert g; decide)).toLoadRect f
/-- The weighted sum of head `g` in its buffer. -/
def blkA (arg9 : Memref sig .tc .vmem S4x144x512 .f32) (f : BufTy.Contents (Elt F) arg9.view.ty) (g : Fin 4) : Vec F S1x144x512 .f32 :=
  arg9.view.readAt (Elt F) (Rect.unit (s := S4x144x512) ![g.val, 0, 0] S1x144x512.size (by revert g; decide)).toLoadRect f
/-- The scores of head `g` in the first half of their buffer. -/
def blkS (arg10 : Memref sig .tc .vmem S2x4x512x512 .f32) (f : BufTy.Contents (Elt F) arg10.view.ty) (g : Fin 4) :
    Vec F S1x1x512x512 .f32 :=
  arg10.view.readAt (Elt F) (Rect.unit (s := S2x4x512x512) ![0, g.val, 0, 0] S1x1x512x512.size (by revert g; decide)).toLoadRect f
/-- The queries of head `g`. -/
def blkQ (arg2 : Memref sig .tc .vmem S4x128x512 .bf16) (f : BufTy.Contents (Elt F) arg2.view.ty) (g : Fin 4) : Vec F S1x128x512 .bf16 :=
  arg2.view.readAt (Elt F) (Rect.unit (s := S4x128x512) ![g.val, 0, 0] S1x128x512.size (by revert g; decide)).toLoadRect f

end Cert.KernelIdeal.Flash
-- ==== Proof.Ideal.Trip.lean ====
/-
  One trip of the kernel's loop: eight rounds for each of the four heads.

  The trip reads and stores its buffers block by block; `trip_blocks` says what each head's blocks hold after it, as eight
  applications of the one round of `Blocks` (`mNext`, `aNext`) to what they held before.
-/
module

public import proofs.«01_k».proof.Proof.Ideal.Blocks
public import proofs.«01_k».proof.Proof.Gen.KernelIdeal.Loops
import all proofs.«01_k».proof.Proof.Gen.KernelIdeal.Loops

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic

variable {F : FTy → Type} [FloatOps F]

variable (c : Dev nD) (i : grid0.Coords)
  (arg2 : Memref sig .tc .vmem S4x128x512 .bf16) (harg2 : arg2.IsWhole)
  (arg3 : Memref sig .tc .vmem S1x256x128 .bf16) (harg3 : arg3.IsWhole)
  (arg4 : Memref sig .tc .vmem S1x144x256 .bf16) (harg4 : arg4.IsWhole)
  (arg5 : Memref sig .tc .vmem S1x16384x128 .bf16) (harg5 : arg5.IsWhole)
  (arg6 : Memref sig .tc .vmem S1x144x16384 .bf16) (harg6 : arg6.IsWhole)
  (arg7 : Memref sig .tc .vmem S512x512 .bf16) (harg7 : arg7.IsWhole)
  (arg8 : Memref sig .tc .vmem S4x1x512 .f32) (harg8 : arg8.IsWhole)
  (arg9 : Memref sig .tc .vmem S4x144x512 .f32) (harg9 : arg9.IsWhole)
  (arg10 : Memref sig .tc .vmem S2x4x512x512 .f32) (harg10 : arg10.IsWhole)
  (v100 : FVec F S1x512 .f32)
  (X2 : BufTy.Contents (Elt F) arg2.view.ty) (X5 : BufTy.Contents (Elt F) arg5.view.ty) (X6 : BufTy.Contents (Elt F) arg6.view.ty)
  (k : Fin k0_t1_loop.trips)
  (f8 : BufTy.Contents (Elt F) arg8.view.ty) (f9 : BufTy.Contents (Elt F) arg9.view.ty) (f10 : BufTy.Contents (Elt F) arg10.view.ty)

set_option maxHeartbeats 2000000 in
/-- What the blocks of every head hold after a trip, each block written out. -/
theorem trip_blocks_lit :
    (arg8.view.readAt (Elt F) (Rect.unit (s := S4x1x512) ![0, 0, 0] S1x1x512.size inb_S4x1x512_S1x1x512_0_0_0).toLoadRect
        (arg8.view.writes (Elt F) f8 ((trip_k0_t1 (F := F) Variants.none c none i arg2 harg2 arg3 harg3 arg4 harg4 arg5 harg5 arg6 harg6 arg7 harg7 arg8 harg8 arg9 harg9 arg10 harg10 v100 X2 X5 X6 k).1 f8 f9 f10))
      = mRun (sSeq (blkS arg10 f10 0) (kSeq arg5 X5 k) (blkQ arg2 X2 0)) (blkM arg8 f8 0) 8)
    ∧ (arg9.view.readAt (Elt F) (Rect.unit (s := S4x144x512) ![0, 0, 0] S1x144x512.size inb_S4x144x512_S1x144x512_0_0_0).toLoadRect
        (arg9.view.writes (Elt F) f9 ((trip_k0_t1 (F := F) Variants.none c none i arg2 harg2 arg3 harg3 arg4 harg4 arg5 harg5 arg6 harg6 arg7 harg7 arg8 harg8 arg9 harg9 arg10 harg10 v100 X2 X5 X6 k).2.1 f8 f9 f10))
      = aRun (vSeq arg6 X6 k) (sSeq (blkS arg10 f10 0) (kSeq arg5 X5 k) (blkQ arg2 X2 0)) (blkM arg8 f8 0) (blkA arg9 f9 0) 8)
    ∧ (arg10.view.readAt (Elt F) (Rect.unit (s := S2x4x512x512) ![0, 0, 0, 0] S1x1x512x512.size inb_S2x4x512x512_S1x1x512x512_0_0_0_0).toLoadRect
        (arg10.view.writes (Elt F) f10 ((trip_k0_t1 (F := F) Variants.none c none i arg2 harg2 arg3 harg3 arg4 harg4 arg5 harg5 arg6 harg6 arg7 harg7 arg8 harg8 arg9 harg9 arg10 harg10 v100 X2 X5 X6 k).2.2.1 f8 f9 f10))
      = score (kSeq arg5 X5 k 7) (blkQ arg2 X2 0))
    ∧ (arg8.view.readAt (Elt F) (Rect.unit (s := S4x1x512) ![1, 0, 0] S1x1x512.size inb_S4x1x512_S1x1x512_1_0_0).toLoadRect
        (arg8.view.writes (Elt F) f8 ((trip_k0_t1 (F := F) Variants.none c none i arg2 harg2 arg3 harg3 arg4 harg4 arg5 harg5 arg6 harg6 arg7 harg7 arg8 harg8 arg9 harg9 arg10 harg10 v100 X2 X5 X6 k).1 f8 f9 f10))
      = mRun (sSeq (blkS arg10 f10 1) (kSeq arg5 X5 k) (blkQ arg2 X2 1)) (blkM arg8 f8 1) 8)
    ∧ (arg9.view.readAt (Elt F) (Rect.unit (s := S4x144x512) ![1, 0, 0] S1x144x512.size inb_S4x144x512_S1x144x512_1_0_0).toLoadRect
        (arg9.view.writes (Elt F) f9 ((trip_k0_t1 (F := F) Variants.none c none i arg2 harg2 arg3 harg3 arg4 harg4 arg5 harg5 arg6 harg6 arg7 harg7 arg8 harg8 arg9 harg9 arg10 harg10 v100 X2 X5 X6 k).2.1 f8 f9 f10))
      = aRun (vSeq arg6 X6 k) (sSeq (blkS arg10 f10 1) (kSeq arg5 X5 k) (blkQ arg2 X2 1)) (blkM arg8 f8 1) (blkA arg9 f9 1) 8)
    ∧ (arg10.view.readAt (Elt F) (Rect.unit (s := S2x4x512x512) ![0, 1, 0, 0] S1x1x512x512.size inb_S2x4x512x512_S1x1x512x512_0_1_0_0).toLoadRect
        (arg10.view.writes (Elt F) f10 ((trip_k0_t1 (F := F) Variants.none c none i arg2 harg2 arg3 harg3 arg4 harg4 arg5 harg5 arg6 harg6 arg7 harg7 arg8 harg8 arg9 harg9 arg10 harg10 v100 X2 X5 X6 k).2.2.1 f8 f9 f10))
      = score (kSeq arg5 X5 k 7) (blkQ arg2 X2 1))
    ∧ (arg8.view.readAt (Elt F) (Rect.unit (s := S4x1x512) ![2, 0, 0] S1x1x512.size inb_S4x1x512_S1x1x512_2_0_0).toLoadRect
        (arg8.view.writes (Elt F) f8 ((trip_k0_t1 (F := F) Variants.none c none i arg2 harg2 arg3 harg3 arg4 harg4 arg5 harg5 arg6 harg6 arg7 harg7 arg8 harg8 arg9 harg9 arg10 harg10 v100 X2 X5 X6 k).1 f8 f9 f10))
      = mRun (sSeq (blkS arg10 f10 2) (kSeq arg5 X5 k) (blkQ arg2 X2 2)) (blkM arg8 f8 2) 8)
    ∧ (arg9.view.readAt (Elt F) (Rect.unit (s := S4x144x512) ![2, 0, 0] S1x144x512.size inb_S4x144x512_S1x144x512_2_0_0).toLoadRect
        (arg9.view.writes (Elt F) f9 ((trip_k0_t1 (F := F) Variants.none c none i arg2 harg2 arg3 harg3 arg4 harg4 arg5 harg5 arg6 harg6 arg7 harg7 arg8 harg8 arg9 harg9 arg10 harg10 v100 X2 X5 X6 k).2.1 f8 f9 f10))
      = aRun (vSeq arg6 X6 k) (sSeq (blkS arg10 f10 2) (kSeq arg5 X5 k) (blkQ arg2 X2 2)) (blkM arg8 f8 2) (blkA arg9 f9 2) 8)
    ∧ (arg10.view.readAt (Elt F) (Rect.unit (s := S2x4x512x512) ![0, 2, 0, 0] S1x1x512x512.size inb_S2x4x512x512_S1x1x512x512_0_2_0_0).toLoadRect
        (arg10.view.writes (Elt F) f10 ((trip_k0_t1 (F := F) Variants.none c none i arg2 harg2 arg3 harg3 arg4 harg4 arg5 harg5 arg6 harg6 arg7 harg7 arg8 harg8 arg9 harg9 arg10 harg10 v100 X2 X5 X6 k).2.2.1 f8 f9 f10))
      = score (kSeq arg5 X5 k 7) (blkQ arg2 X2 2))
    ∧ (arg8.view.readAt (Elt F) (Rect.unit (s := S4x1x512) ![3, 0, 0] S1x1x512.size inb_S4x1x512_S1x1x512_3_0_0).toLoadRect
        (arg8.view.writes (Elt F) f8 ((trip_k0_t1 (F := F) Variants.none c none i arg2 harg2 arg3 harg3 arg4 harg4 arg5 harg5 arg6 harg6 arg7 harg7 arg8 harg8 arg9 harg9 arg10 harg10 v100 X2 X5 X6 k).1 f8 f9 f10))
      = mRun (sSeq (blkS arg10 f10 3) (kSeq arg5 X5 k) (blkQ arg2 X2 3)) (blkM arg8 f8 3) 8)
    ∧ (arg9.view.readAt (Elt F) (Rect.unit (s := S4x144x512) ![3, 0, 0] S1x144x512.size inb_S4x144x512_S1x144x512_3_0_0).toLoadRect
        (arg9.view.writes (Elt F) f9 ((trip_k0_t1 (F := F) Variants.none c none i arg2 harg2 arg3 harg3 arg4 harg4 arg5 harg5 arg6 harg6 arg7 harg7 arg8 harg8 arg9 harg9 arg10 harg10 v100 X2 X5 X6 k).2.1 f8 f9 f10))
      = aRun (vSeq arg6 X6 k) (sSeq (blkS arg10 f10 3) (kSeq arg5 X5 k) (blkQ arg2 X2 3)) (blkM arg8 f8 3) (blkA arg9 f9 3) 8)
    ∧ (arg10.view.readAt (Elt F) (Rect.unit (s := S2x4x512x512) ![0, 3, 0, 0] S1x1x512x512.size inb_S2x4x512x512_S1x1x512x512_0_3_0_0).toLoadRect
        (arg10.view.writes (Elt F) f10 ((trip_k0_t1 (F := F) Variants.none c none i arg2 harg2 arg3 harg3 arg4 harg4 arg5 harg5 arg6 harg6 arg7 harg7 arg8 harg8 arg9 harg9 arg10 harg10 v100 X2 X5 X6 k).2.2.1 f8 f9 f10))
      = score (kSeq arg5 X5 k 7) (blkQ arg2 X2 3)) := by
  unfold trip_k0_t1
  dsimp only
  simp (disch := decide) only [View.readCov, read_hit, read_skip, read_nil,
    trip_k0_t1.sl.HW_arg10_10, trip_k0_t1.sl.HW_arg10_11, trip_k0_t1.sl.HW_arg10_12, trip_k0_t1.sl.HW_arg10_13,
    trip_k0_t1.sl.HW_arg10_14, trip_k0_t1.sl.HW_arg10_15, trip_k0_t1.sl.HW_arg10_16, trip_k0_t1.sl.HW_arg10_17,
    trip_k0_t1.sl.HW_arg10_18, trip_k0_t1.sl.HW_arg10_19, trip_k0_t1.sl.HW_arg10_20, trip_k0_t1.sl.HW_arg10_21,
    trip_k0_t1.sl.HW_arg10_22, trip_k0_t1.sl.HW_arg10_23, trip_k0_t1.sl.HW_arg10_24, trip_k0_t1.sl.HW_arg10_25,
    trip_k0_t1.sl.HW_arg10_26, trip_k0_t1.sl.HW_arg10_27, trip_k0_t1.sl.HW_arg10_28, trip_k0_t1.sl.HW_arg10_29,
    trip_k0_t1.sl.HW_arg10_30, trip_k0_t1.sl.HW_arg10_31, trip_k0_t1.sl.HW_arg10_32, trip_k0_t1.sl.HW_arg10_5,
    trip_k0_t1.sl.HW_arg10_6, trip_k0_t1.sl.HW_arg10_7, trip_k0_t1.sl.HW_arg10_8, trip_k0_t1.sl.HW_arg10_9,
    trip_k0_t1.sl.HW_arg8_10, trip_k0_t1.sl.HW_arg8_11, trip_k0_t1.sl.HW_arg8_12, trip_k0_t1.sl.HW_arg8_13,
    trip_k0_t1.sl.HW_arg8_14, trip_k0_t1.sl.HW_arg8_15, trip_k0_t1.sl.HW_arg8_16, trip_k0_t1.sl.HW_arg8_17,
    trip_k0_t1.sl.HW_arg8_18, trip_k0_t1.sl.HW_arg8_19, trip_k0_t1.sl.HW_arg8_20, trip_k0_t1.sl.HW_arg8_21,
    trip_k0_t1.sl.HW_arg8_22, trip_k0_t1.sl.HW_arg8_23, trip_k0_t1.sl.HW_arg8_24, trip_k0_t1.sl.HW_arg8_25,
    trip_k0_t1.sl.HW_arg8_26, trip_k0_t1.sl.HW_arg8_27, trip_k0_t1.sl.HW_arg8_28, trip_k0_t1.sl.HW_arg8_29,
    trip_k0_t1.sl.HW_arg8_30, trip_k0_t1.sl.HW_arg8_31, trip_k0_t1.sl.HW_arg8_4, trip_k0_t1.sl.HW_arg8_5,
    trip_k0_t1.sl.HW_arg8_6, trip_k0_t1.sl.HW_arg8_7, trip_k0_t1.sl.HW_arg8_8, trip_k0_t1.sl.HW_arg8_9,
    trip_k0_t1.sl.HW_arg9_10, trip_k0_t1.sl.HW_arg9_11, trip_k0_t1.sl.HW_arg9_12, trip_k0_t1.sl.HW_arg9_13,
    trip_k0_t1.sl.HW_arg9_14, trip_k0_t1.sl.HW_arg9_15, trip_k0_t1.sl.HW_arg9_16, trip_k0_t1.sl.HW_arg9_17,
    trip_k0_t1.sl.HW_arg9_18, trip_k0_t1.sl.HW_arg9_19, trip_k0_t1.sl.HW_arg9_20, trip_k0_t1.sl.HW_arg9_21,
    trip_k0_t1.sl.HW_arg9_22, trip_k0_t1.sl.HW_arg9_23, trip_k0_t1.sl.HW_arg9_24, trip_k0_t1.sl.HW_arg9_25,
    trip_k0_t1.sl.HW_arg9_26, trip_k0_t1.sl.HW_arg9_27, trip_k0_t1.sl.HW_arg9_28, trip_k0_t1.sl.HW_arg9_29,
    trip_k0_t1.sl.HW_arg9_30, trip_k0_t1.sl.HW_arg9_31, trip_k0_t1.sl.HW_arg9_4, trip_k0_t1.sl.HW_arg9_5,
    trip_k0_t1.sl.HW_arg9_6, trip_k0_t1.sl.HW_arg9_7, trip_k0_t1.sl.HW_arg9_8, trip_k0_t1.sl.HW_arg9_9, trip_k0_t1.sl.arg11,
    trip_k0_t1.sl.r, trip_k0_t1.sl.r_1, trip_k0_t1.sl.r_10, trip_k0_t1.sl.r_11, trip_k0_t1.sl.r_12, trip_k0_t1.sl.r_13,
    trip_k0_t1.sl.r_14, trip_k0_t1.sl.r_15, trip_k0_t1.sl.r_16, trip_k0_t1.sl.r_17, trip_k0_t1.sl.r_18, trip_k0_t1.sl.r_19,
    trip_k0_t1.sl.r_2, trip_k0_t1.sl.r_20, trip_k0_t1.sl.r_21, trip_k0_t1.sl.r_22, trip_k0_t1.sl.r_23, trip_k0_t1.sl.r_24,
    trip_k0_t1.sl.r_25, trip_k0_t1.sl.r_26, trip_k0_t1.sl.r_27, trip_k0_t1.sl.r_28, trip_k0_t1.sl.r_29, trip_k0_t1.sl.r_3,
    trip_k0_t1.sl.r_30, trip_k0_t1.sl.r_31, trip_k0_t1.sl.r_32, trip_k0_t1.sl.r_33, trip_k0_t1.sl.r_34, trip_k0_t1.sl.r_35,
    trip_k0_t1.sl.r_36, trip_k0_t1.sl.r_37, trip_k0_t1.sl.r_38, trip_k0_t1.sl.r_39, trip_k0_t1.sl.r_4, trip_k0_t1.sl.r_40,
    trip_k0_t1.sl.r_41, trip_k0_t1.sl.r_42, trip_k0_t1.sl.r_43, trip_k0_t1.sl.r_44, trip_k0_t1.sl.r_45, trip_k0_t1.sl.r_46,
    trip_k0_t1.sl.r_47, trip_k0_t1.sl.r_48, trip_k0_t1.sl.r_49, trip_k0_t1.sl.r_5, trip_k0_t1.sl.r_50, trip_k0_t1.sl.r_51,
    trip_k0_t1.sl.r_52, trip_k0_t1.sl.r_53, trip_k0_t1.sl.r_54, trip_k0_t1.sl.r_55, trip_k0_t1.sl.r_56, trip_k0_t1.sl.r_57,
    trip_k0_t1.sl.r_58, trip_k0_t1.sl.r_59, trip_k0_t1.sl.r_6, trip_k0_t1.sl.r_60, trip_k0_t1.sl.r_61, trip_k0_t1.sl.r_62,
    trip_k0_t1.sl.r_63, trip_k0_t1.sl.r_64, trip_k0_t1.sl.r_65, trip_k0_t1.sl.r_66, trip_k0_t1.sl.r_67, trip_k0_t1.sl.r_68,
    trip_k0_t1.sl.r_69, trip_k0_t1.sl.r_7, trip_k0_t1.sl.r_70, trip_k0_t1.sl.r_71, trip_k0_t1.sl.r_72, trip_k0_t1.sl.r_73,
    trip_k0_t1.sl.r_74, trip_k0_t1.sl.r_75, trip_k0_t1.sl.r_76, trip_k0_t1.sl.r_8, trip_k0_t1.sl.r_9, trip_k0_t1.sl.v1001,
    trip_k0_t1.sl.v1011, trip_k0_t1.sl.v1028, trip_k0_t1.sl.v1032, trip_k0_t1.sl.v1042, trip_k0_t1.sl.v1059,
    trip_k0_t1.sl.v1063, trip_k0_t1.sl.v1073, trip_k0_t1.sl.v1090, trip_k0_t1.sl.v1094, trip_k0_t1.sl.v1104,
    trip_k0_t1.sl.v1116, trip_k0_t1.sl.v1117, trip_k0_t1.sl.v1119, trip_k0_t1.sl.v1120, trip_k0_t1.sl.v1135,
    trip_k0_t1.sl.v1139, trip_k0_t1.sl.v1149, trip_k0_t1.sl.v1166, trip_k0_t1.sl.v1170, trip_k0_t1.sl.v1180,
    trip_k0_t1.sl.v1197, trip_k0_t1.sl.v1201, trip_k0_t1.sl.v1211, trip_k0_t1.sl.v1228, trip_k0_t1.sl.v1232,
    trip_k0_t1.sl.v1242, trip_k0_t1.sl.v169, trip_k0_t1.sl.v200, trip_k0_t1.sl.v204, trip_k0_t1.sl.v214, trip_k0_t1.sl.v231,
    trip_k0_t1.sl.v235, trip_k0_t1.sl.v245, trip_k0_t1.sl.v262, trip_k0_t1.sl.v266, trip_k0_t1.sl.v276, trip_k0_t1.sl.v307,
    trip_k0_t1.sl.v311, trip_k0_t1.sl.v321, trip_k0_t1.sl.v338, trip_k0_t1.sl.v342, trip_k0_t1.sl.v352, trip_k0_t1.sl.v369,
    trip_k0_t1.sl.v373, trip_k0_t1.sl.v383, trip_k0_t1.sl.v400, trip_k0_t1.sl.v404, trip_k0_t1.sl.v414, trip_k0_t1.sl.v425,
    trip_k0_t1.sl.v426, trip_k0_t1.sl.v427, trip_k0_t1.sl.v429, trip_k0_t1.sl.v430, trip_k0_t1.sl.v445, trip_k0_t1.sl.v449,
    trip_k0_t1.sl.v459, trip_k0_t1.sl.v476, trip_k0_t1.sl.v480, trip_k0_t1.sl.v490, trip_k0_t1.sl.v507, trip_k0_t1.sl.v511,
    trip_k0_t1.sl.v521, trip_k0_t1.sl.v538, trip_k0_t1.sl.v542, trip_k0_t1.sl.v552, trip_k0_t1.sl.v583, trip_k0_t1.sl.v587,
    trip_k0_t1.sl.v597, trip_k0_t1.sl.v614, trip_k0_t1.sl.v618, trip_k0_t1.sl.v628, trip_k0_t1.sl.v645, trip_k0_t1.sl.v649,
    trip_k0_t1.sl.v659, trip_k0_t1.sl.v676, trip_k0_t1.sl.v680, trip_k0_t1.sl.v690, trip_k0_t1.sl.v721, trip_k0_t1.sl.v725,
    trip_k0_t1.sl.v735, trip_k0_t1.sl.v752, trip_k0_t1.sl.v756, trip_k0_t1.sl.v766, trip_k0_t1.sl.v783, trip_k0_t1.sl.v787,
    trip_k0_t1.sl.v797, trip_k0_t1.sl.v814, trip_k0_t1.sl.v818, trip_k0_t1.sl.v828, trip_k0_t1.sl.v859, trip_k0_t1.sl.v863,
    trip_k0_t1.sl.v873, trip_k0_t1.sl.v890, trip_k0_t1.sl.v894, trip_k0_t1.sl.v904, trip_k0_t1.sl.v921, trip_k0_t1.sl.v925,
    trip_k0_t1.sl.v935, trip_k0_t1.sl.v952, trip_k0_t1.sl.v956, trip_k0_t1.sl.v966, trip_k0_t1.sl.v997]
  exact ⟨rfl, rfl, rfl, rfl, rfl, rfl, rfl, rfl, rfl, rfl, rfl, rfl⟩

/-- What the blocks of head `g` hold after a trip: its maximum and its weighted sum after eight rounds, and the scores of the
    keys the last round read ahead. -/
theorem trip_blocks (g : Fin 4) :
    blkM arg8 (arg8.view.writes (Elt F) f8 ((trip_k0_t1 (F := F) Variants.none c none i arg2 harg2 arg3 harg3 arg4 harg4 arg5 harg5 arg6 harg6 arg7 harg7 arg8 harg8 arg9 harg9 arg10 harg10 v100 X2 X5 X6 k).1 f8 f9 f10)) g
        = mRun (sSeq (blkS arg10 f10 g) (kSeq arg5 X5 k) (blkQ arg2 X2 g)) (blkM arg8 f8 g) 8
    ∧ blkA arg9 (arg9.view.writes (Elt F) f9 ((trip_k0_t1 (F := F) Variants.none c none i arg2 harg2 arg3 harg3 arg4 harg4 arg5 harg5 arg6 harg6 arg7 harg7 arg8 harg8 arg9 harg9 arg10 harg10 v100 X2 X5 X6 k).2.1 f8 f9 f10)) g
        = aRun (vSeq arg6 X6 k) (sSeq (blkS arg10 f10 g) (kSeq arg5 X5 k) (blkQ arg2 X2 g)) (blkM arg8 f8 g) (blkA arg9 f9 g) 8
    ∧ blkS arg10 (arg10.view.writes (Elt F) f10 ((trip_k0_t1 (F := F) Variants.none c none i arg2 harg2 arg3 harg3 arg4 harg4 arg5 harg5 arg6 harg6 arg7 harg7 arg8 harg8 arg9 harg9 arg10 harg10 v100 X2 X5 X6 k).2.2.1 f8 f9 f10)) g
        = score (kSeq arg5 X5 k 7) (blkQ arg2 X2 g) := by
  have h := trip_blocks_lit c i arg2 harg2 arg3 harg3 arg4 harg4 arg5 harg5 arg6 harg6 arg7 harg7 arg8 harg8 arg9 harg9 arg10 harg10 v100 X2 X5 X6 k f8 f9 f10
  obtain ⟨h1, h2, h3, h4, h5, h6, h7, h8, h9, h10, h11, h12⟩ := h
  match g with
  | 0 => exact ⟨h1, h2, h3⟩
  | 1 => exact ⟨h4, h5, h6⟩
  | 2 => exact ⟨h7, h8, h9⟩
  | 3 => exact ⟨h10, h11, h12⟩

end Cert.KernelIdeal.Flash
-- ==== Proof.Ideal.Run.lean ====
/-
  One point of the grid: the kernel's body, run once at symbolic buffers.

  The body reads the five staged inputs, keeps its running maximum, its weighted sum and its two rounds of scores in
  three buffers of its own, and stores the result four heads at a time. What it stores is found by the run, as a list of
  written rectangles with their contents (`bodyRun`). The list is a function of the five inputs and of what the buffer of
  the scores held before; the module `Output` shows that it does not depend on the latter.
-/
module

public import proofs.«01_k».proof.Proof.Gen.KernelIdeal.Frame
public import proofs.«01_k».proof.Proof.Gen.KernelIdeal.Loops

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- What the body's stores leave in the result's buffer, as written rectangles (last first), from the inputs and the contents
    `f10` the scores' buffer is found at, with the proof that the body, on whole buffers holding the inputs `x0 … x4`, runs to
    its return, leaves the inputs as they were and the result's buffer with those rectangles written. -/
noncomputable def bodyRun (c : Dev nD) (i : grid0.Coords) (arg2 : Memref sig .tc .vmem S4x128x512 .bf16) (harg2 : arg2.IsWhole) (arg3 : Memref sig .tc .vmem S1x256x128 .bf16) (harg3 : arg3.IsWhole) (arg4 : Memref sig .tc .vmem S1x144x256 .bf16) (harg4 : arg4.IsWhole) (arg5 : Memref sig .tc .vmem S1x16384x128 .bf16) (harg5 : arg5.IsWhole) (arg6 : Memref sig .tc .vmem S1x144x16384 .bf16) (harg6 : arg6.IsWhole) (arg7 : Memref sig .tc .vmem S512x512 .bf16) (harg7 : arg7.IsWhole) (arg8 : Memref sig .tc .vmem S4x1x512 .f32) (harg8 : arg8.IsWhole) (arg9 : Memref sig .tc .vmem S4x144x512 .f32) (harg9 : arg9.IsWhole) (arg10 : Memref sig .tc .vmem S2x4x512x512 .f32) (harg10 : arg10.IsWhole)
    (x0 : Vec F S4x128x512 .bf16) (x1 : Vec F S1x256x128 .bf16) (x2 : Vec F S1x144x256 .bf16) (x3 : Vec F S1x16384x128 .bf16) (x4 : Vec F S1x144x16384 .bf16)
    (f10 : BufTy.Contents (Elt F) arg10.view.ty) :
      { L7 : List (View.Piece (Elt F) S512x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ (∃ d, owns (c : Thread nD τ) arg9 fullShare d)
            ∗ (arg10.view.loc (c : Thread nD τ) ↦[arg10.view.set]{fullShare} f10)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L7)
                ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_flash_latent i arg2 harg2 arg3 harg3 arg4 harg4 arg5 harg5 arg6 harg6 arg7 harg7 arg8 harg8 arg9 harg9 arg10 harg10) K } := by
  refine ⟨?_, fun E K => ?run⟩
  case run =>
    simp only [cc0_flash_latent_eq_skeleton]; unfold cc0_flash_latent_skel
    simp only [k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%d9, %f9, -, H9⟩, H10, Hk⟩
    obtain rfl := harg2.eq_unread hf0; obtain rfl := harg3.eq_unread hf1; obtain rfl := harg4.eq_unread hf2
    obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]; · iexists _; iexact H7
    isplitl [H8]
    · iexists _, _; isplitr; swap; · iexact H8
      ipureintro; rfl
    isplitl [H9]
    · iexists _, _; isplitr; swap; · iexact H9
      ipureintro; rfl
    iexists _, _; isplitr; swap; · iexact H10
    ipureintro; rfl

end Cert.KernelIdeal.Flash

end
-- ==== Proof.Ideal.Output.lean ====
/-
  What one point of the grid stores, as a function of the five blocks it reads.

  A head's maximum and weighted sum start from the context's keys (`initM`, `initA`) and go through the keys 512 at a time
  (`headM`, `headA`). The loop's four trips of eight rounds are thirty-two rounds (`loop_blocks`), and the four stored
  rectangles hold the quotient of each head's weighted sum by its last row but the padding (`bodyRun_val`).
-/
module

public import proofs.«01_k».proof.Proof.Ideal.Trip
public import proofs.«01_k».proof.Proof.Ideal.Run
import all proofs.«01_k».proof.Proof.Ideal.Run

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic

variable {F : FTy → Type} [FloatOps F]

/-- The queries of head `g`. -/
def qHead (x0 : Vec F S4x128x512 .bf16) (g : Fin 4) : Vec F S1x128x512 .bf16 :=
  fun y => x0 ((Rect.unit (s := S4x128x512) ![g.val, 0, 0] S1x128x512.size (by revert g; decide)).toLoadRect.idx y)
/-- The context's keys. -/
def cKeys (x1 : Vec F S1x256x128 .bf16) : Vec F S1x256x128 .bf16 :=
  fun y => x1 ((Rect.unit (s := S1x256x128) ![0, 0, 0] S1x256x128.size (by decide)).toLoadRect.idx y)
/-- The context's values. -/
def cVals (x2 : Vec F S1x144x256 .bf16) : Vec F S1x144x256 .bf16 :=
  fun y => x2 ((Rect.unit (s := S1x144x256) ![0, 0, 0] S1x144x256.size (by decide)).toLoadRect.idx y)

theorem kChunk_inb (j : ℕ) : ∀ a, (![0, 512 * min j 31, 0] : Fin 3 → ℕ) a + S1x512x128.size a ≤ S1x16384x128.size a := by
  intro a
  match a with
  | 0 => exact le_refl 1
  | 1 => show 512 * min j 31 + 512 ≤ 16384
         omega
  | 2 => exact le_refl 128
/-- The `j`-th 512 keys (past the last, the last). -/
def kChunk (x3 : Vec F S1x16384x128 .bf16) (j : ℕ) : Vec F S1x512x128 .bf16 :=
  fun y => x3 ((Rect.unit (s := S1x16384x128) ![0, 512 * min j 31, 0] S1x512x128.size (kChunk_inb j)).toLoadRect.idx y)

theorem vChunk_inb (j : ℕ) : ∀ a, (![0, 0, 512 * min j 31] : Fin 3 → ℕ) a + S1x144x512.size a ≤ S1x144x16384.size a := by
  intro a
  match a with
  | 0 => exact le_refl 1
  | 1 => exact le_refl 144
  | 2 => show 512 * min j 31 + 512 ≤ 16384
         omega
/-- The `j`-th 512 values (past the last, the last). -/
def vChunk (x4 : Vec F S1x144x16384 .bf16) (j : ℕ) : Vec F S1x144x512 .bf16 :=
  fun y => x4 ((Rect.unit (s := S1x144x16384) ![0, 0, 512 * min j 31] S1x144x512.size (vChunk_inb j)).toLoadRect.idx y)

/-- The maximum of a head's scores on the context. -/
def initM (x1 : Vec F S1x256x128 .bf16) (Q : Vec F S1x128x512 .bf16) : Vec F S1x1x512 .f32 := k0_pay248 (k0_pay246 (cKeys x1) Q)
/-- The weighted sum of a head on the context. -/
def initA (x1 : Vec F S1x256x128 .bf16) (x2 : Vec F S1x144x256 .bf16) (Q : Vec F S1x128x512 .bf16) : Vec F S1x144x512 .f32 :=
  k0_pay247 (cKeys x1) (cVals x2) Q

/-- The scores of round `j`. -/
def rScore (x3 : Vec F S1x16384x128 .bf16) (Q : Vec F S1x128x512 .bf16) (j : ℕ) : Vec F S1x1x512x512 .f32 := score (kChunk x3 j) Q

/-- A head's weighted sum after `n` rounds. -/
def headA (x0 : Vec F S4x128x512 .bf16) (x1 : Vec F S1x256x128 .bf16) (x2 : Vec F S1x144x256 .bf16) (x3 : Vec F S1x16384x128 .bf16)
    (x4 : Vec F S1x144x16384 .bf16)
    (g : Fin 4) (n : ℕ) : Vec F S1x144x512 .f32 :=
  aRun (vChunk x4) (rScore x3 (qHead x0 g)) (initM x1 (qHead x0 g)) (initA x1 x2 (qHead x0 g)) n

/-- What is stored for a head with weighted sum `a`: its first 128 rows divided by the next one, transposed. -/
def oHead (a : Vec F S1x144x512 .f32) : Vec F S512x128 .bf16 :=
  k0_pay266
    (fun y => a ((Rect.unit (s := S1x144x512) ![0, 0, 0] S1x128x512.size (by decide)).toLoadRect.idx y))
    (fun y => a ((Rect.unit (s := S1x144x512) ![0, 128, 0] S1x1x512.size (by decide)).toLoadRect.idx y))

/-- What the point stores, the last head first. -/
def outPieces (x0 : Vec F S4x128x512 .bf16) (x1 : Vec F S1x256x128 .bf16) (x2 : Vec F S1x144x256 .bf16) (x3 : Vec F S1x16384x128 .bf16)
    (x4 : Vec F S1x144x16384 .bf16) :
    List (View.Piece (Elt F) S512x512 .bf16) :=
  [⟨Rect.unit ![0, 384] S512x128.size inb_S512x512_S512x128_0_384, oHead (headA x0 x1 x2 x3 x4 3 32)⟩,
   ⟨Rect.unit ![0, 256] S512x128.size inb_S512x512_S512x128_0_256, oHead (headA x0 x1 x2 x3 x4 2 32)⟩,
   ⟨Rect.unit ![0, 128] S512x128.size inb_S512x512_S512x128_0_128, oHead (headA x0 x1 x2 x3 x4 1 32)⟩,
   ⟨Rect.unit ![0, 0] S512x128.size inb_S512x512_S512x128_0_0, oHead (headA x0 x1 x2 x3 x4 0 32)⟩]

/-! ### Rounds -/

/-- The first `n` rounds' maximum depends on the first `n` scores. -/
theorem mRun_congr {s s' : ℕ → Vec F S1x1x512x512 .f32} (m : Vec F S1x1x512 .f32) (n : ℕ) (h : ∀ u < n, s u = s' u) :
    mRun s m n = mRun s' m n := by
  induction n with
  | zero => rfl
  | succ n ih => simp only [mRun]; rw [h n (Nat.lt_succ_self n), ih fun u hu => h u (Nat.lt_succ_of_lt hu)]

/-- The first `n` rounds' weighted sum depends on the first `n` scores and values. -/
theorem aRun_congr {V V' : ℕ → Vec F S1x144x512 .bf16} {s s' : ℕ → Vec F S1x1x512x512 .f32} (m : Vec F S1x1x512 .f32)
    (a : Vec F S1x144x512 .f32) (n : ℕ) (hV : ∀ u < n, V u = V' u) (h : ∀ u < n, s u = s' u) :
    aRun V s m a n = aRun V' s' m a n := by
  induction n with
  | zero => rfl
  | succ n ih =>
    simp only [aRun]
    rw [h n (Nat.lt_succ_self n), hV n (Nat.lt_succ_self n), mRun_congr m n fun u hu => h u (Nat.lt_succ_of_lt hu),
      ih (fun u hu => hV u (Nat.lt_succ_of_lt hu)) fun u hu => h u (Nat.lt_succ_of_lt hu)]

/-- Rounds in two parts. -/
theorem mRun_add (s : ℕ → Vec F S1x1x512x512 .f32) (m : Vec F S1x1x512 .f32) (a b : ℕ) :
    mRun s m (a + b) = mRun (fun u => s (a + u)) (mRun s m a) b := by
  induction b with
  | zero => rfl
  | succ b ih => rw [← Nat.add_assoc]; simp only [mRun]; rw [ih]

/-- Rounds in two parts. -/
theorem aRun_add (V : ℕ → Vec F S1x144x512 .bf16) (s : ℕ → Vec F S1x1x512x512 .f32) (m : Vec F S1x1x512 .f32)
    (x : Vec F S1x144x512 .f32) (a b : ℕ) :
    aRun V s m x (a + b) = aRun (fun u => V (a + u)) (fun u => s (a + u)) (mRun s m a) (aRun V s m x a) b := by
  induction b with
  | zero => rfl
  | succ b ih => rw [← Nat.add_assoc]; simp only [aRun]; rw [ih, mRun_add]

/-! ### What the loads read -/

/-- A block of a whole buffer holding `x` is the block of `x`. -/
theorem readAt_unread {S : Shape} {e : EltTy} {sp : Space} (m : Memref sig .tc sp S e) (h : m.IsWhole) (x : S.Idx → Elt F e) (r : LoadRect S) :
    m.view.readAt (Elt F) r (h.unread x) = fun y => x (r.idx y) := by
  funext y
  rw [View.readAt_apply, h.read_unread]

/-- Blocks at equal offsets are equal. -/
theorem block_congr {S : Shape} {e : EltTy} (x : S.Idx → Elt F e) {off off' size : Fin S.rank → ℕ} (inb inb') (h : off = off')
    (y : (Rect.unit off size inb).toLoadRect.shape.Idx) :
    x ((Rect.unit off size inb).toLoadRect.idx y) = x ((Rect.unit off' size inb').toLoadRect.idx y) := by
  subst h; rfl

/-- The keys that trip `k` reads ahead in round `u` are those of the next round. -/
theorem kSeq_unread (arg5 : Memref sig .tc .vmem S1x16384x128 .bf16) (harg5 : arg5.IsWhole) (x3 : Vec F S1x16384x128 .bf16)
    (k : Fin k0_t1_loop.trips) (u : ℕ) (hu : u < 8) :
    kSeq arg5 (harg5.unread x3) k u = kChunk x3 (8 * k.val + u + 1) := by
  unfold kSeq kChunk
  rw [readAt_unread]
  funext y
  refine block_congr x3 _ _ ?_ y
  have h := k0_off2_eq k ⟨u, hu⟩
  rw [Nat.mod_eq_of_lt hu]
  exact h

/-- The values that trip `k` reads in round `u`. -/
theorem vSeq_unread (arg6 : Memref sig .tc .vmem S1x144x16384 .bf16) (harg6 : arg6.IsWhole) (x4 : Vec F S1x144x16384 .bf16)
    (k : Fin k0_t1_loop.trips) (u : ℕ) (hu : u < 8) :
    vSeq arg6 (harg6.unread x4) k u = vChunk x4 (8 * k.val + u) := by
  have hk : k.val < 4 := Nat.lt_of_lt_of_le k.isLt k0_t1_abs.2.1
  unfold vSeq vChunk
  rw [readAt_unread]
  funext y
  refine block_congr x4 _ _ ?_ y
  have h := k0_off1_eq k ⟨u, hu⟩
  rw [Nat.mod_eq_of_lt hu]
  refine h.trans ?_
  show ![0, 0, 4096 * k.val + 512 * u] = _
  have : 4096 * k.val + 512 * u = 512 * min (8 * k.val + u) 31 := by omega
  rw [this]

/-- Four stored blocks read back. -/
theorem blkM_four (arg8 : Memref sig .tc .vmem S4x1x512 .f32) (f : BufTy.Contents (Elt F) arg8.view.ty) (w : Fin 4 → Vec F S1x1x512 .f32) (g : Fin 4) :
    blkM arg8 (arg8.view.writes (Elt F) f
      [⟨Rect.unit ![3, 0, 0] S1x1x512.size inb_S4x1x512_S1x1x512_3_0_0, w 3⟩,
        ⟨Rect.unit ![2, 0, 0] S1x1x512.size inb_S4x1x512_S1x1x512_2_0_0, w 2⟩,
        ⟨Rect.unit ![1, 0, 0] S1x1x512.size inb_S4x1x512_S1x1x512_1_0_0, w 1⟩,
        ⟨Rect.unit ![0, 0, 0] S1x1x512.size inb_S4x1x512_S1x1x512_0_0_0, w 0⟩]) g = w g := by
  match g with
  | 0 =>
    show arg8.view.readAt (Elt F) (Rect.unit (s := S4x1x512) ![0, 0, 0] S1x1x512.size inb_S4x1x512_S1x1x512_0_0_0).toLoadRect _ = w 0
    simp (disch := decide) only [read_hit, read_skip]
  | 1 =>
    show arg8.view.readAt (Elt F) (Rect.unit (s := S4x1x512) ![1, 0, 0] S1x1x512.size inb_S4x1x512_S1x1x512_1_0_0).toLoadRect _ = w 1
    simp (disch := decide) only [read_hit, read_skip]
  | 2 =>
    show arg8.view.readAt (Elt F) (Rect.unit (s := S4x1x512) ![2, 0, 0] S1x1x512.size inb_S4x1x512_S1x1x512_2_0_0).toLoadRect _ = w 2
    simp (disch := decide) only [read_hit, read_skip]
  | 3 =>
    show arg8.view.readAt (Elt F) (Rect.unit (s := S4x1x512) ![3, 0, 0] S1x1x512.size inb_S4x1x512_S1x1x512_3_0_0).toLoadRect _ = w 3
    simp (disch := decide) only [read_hit, read_skip]

/-- Four stored blocks read back. -/
theorem blkA_four (arg9 : Memref sig .tc .vmem S4x144x512 .f32) (f : BufTy.Contents (Elt F) arg9.view.ty) (w : Fin 4 → Vec F S1x144x512 .f32) (g : Fin 4) :
    blkA arg9 (arg9.view.writes (Elt F) f
      [⟨Rect.unit ![3, 0, 0] S1x144x512.size inb_S4x144x512_S1x144x512_3_0_0, w 3⟩,
        ⟨Rect.unit ![2, 0, 0] S1x144x512.size inb_S4x144x512_S1x144x512_2_0_0, w 2⟩,
        ⟨Rect.unit ![1, 0, 0] S1x144x512.size inb_S4x144x512_S1x144x512_1_0_0, w 1⟩,
        ⟨Rect.unit ![0, 0, 0] S1x144x512.size inb_S4x144x512_S1x144x512_0_0_0, w 0⟩]) g = w g := by
  match g with
  | 0 =>
    show arg9.view.readAt (Elt F) (Rect.unit (s := S4x144x512) ![0, 0, 0] S1x144x512.size inb_S4x144x512_S1x144x512_0_0_0).toLoadRect _ = w 0
    simp (disch := decide) only [read_hit, read_skip]
  | 1 =>
    show arg9.view.readAt (Elt F) (Rect.unit (s := S4x144x512) ![1, 0, 0] S1x144x512.size inb_S4x144x512_S1x144x512_1_0_0).toLoadRect _ = w 1
    simp (disch := decide) only [read_hit, read_skip]
  | 2 =>
    show arg9.view.readAt (Elt F) (Rect.unit (s := S4x144x512) ![2, 0, 0] S1x144x512.size inb_S4x144x512_S1x144x512_2_0_0).toLoadRect _ = w 2
    simp (disch := decide) only [read_hit, read_skip]
  | 3 =>
    show arg9.view.readAt (Elt F) (Rect.unit (s := S4x144x512) ![3, 0, 0] S1x144x512.size inb_S4x144x512_S1x144x512_3_0_0).toLoadRect _ = w 3
    simp (disch := decide) only [read_hit, read_skip]

/-- Four stored blocks read back. -/
theorem blkS_four (arg10 : Memref sig .tc .vmem S2x4x512x512 .f32) (f : BufTy.Contents (Elt F) arg10.view.ty) (w : Fin 4 → Vec F S1x1x512x512 .f32) (g : Fin 4) :
    blkS arg10 (arg10.view.writes (Elt F) f
      [⟨Rect.unit ![0, 3, 0, 0] S1x1x512x512.size inb_S2x4x512x512_S1x1x512x512_0_3_0_0, w 3⟩,
        ⟨Rect.unit ![0, 2, 0, 0] S1x1x512x512.size inb_S2x4x512x512_S1x1x512x512_0_2_0_0, w 2⟩,
        ⟨Rect.unit ![0, 1, 0, 0] S1x1x512x512.size inb_S2x4x512x512_S1x1x512x512_0_1_0_0, w 1⟩,
        ⟨Rect.unit ![0, 0, 0, 0] S1x1x512x512.size inb_S2x4x512x512_S1x1x512x512_0_0_0_0, w 0⟩]) g = w g := by
  match g with
  | 0 =>
    show arg10.view.readAt (Elt F) (Rect.unit (s := S2x4x512x512) ![0, 0, 0, 0] S1x1x512x512.size inb_S2x4x512x512_S1x1x512x512_0_0_0_0).toLoadRect _ = w 0
    simp (disch := decide) only [read_hit, read_skip]
  | 1 =>
    show arg10.view.readAt (Elt F) (Rect.unit (s := S2x4x512x512) ![0, 1, 0, 0] S1x1x512x512.size inb_S2x4x512x512_S1x1x512x512_0_1_0_0).toLoadRect _ = w 1
    simp (disch := decide) only [read_hit, read_skip]
  | 2 =>
    show arg10.view.readAt (Elt F) (Rect.unit (s := S2x4x512x512) ![0, 2, 0, 0] S1x1x512x512.size inb_S2x4x512x512_S1x1x512x512_0_2_0_0).toLoadRect _ = w 2
    simp (disch := decide) only [read_hit, read_skip]
  | 3 =>
    show arg10.view.readAt (Elt F) (Rect.unit (s := S2x4x512x512) ![0, 3, 0, 0] S1x1x512x512.size inb_S2x4x512x512_S1x1x512x512_0_3_0_0).toLoadRect _ = w 3
    simp (disch := decide) only [read_hit, read_skip]

/-! ### The loop -/

variable (c : Dev nD) (i : grid0.Coords)
  (arg2 : Memref sig .tc .vmem S4x128x512 .bf16) (harg2 : arg2.IsWhole)
  (arg3 : Memref sig .tc .vmem S1x256x128 .bf16) (harg3 : arg3.IsWhole)
  (arg4 : Memref sig .tc .vmem S1x144x256 .bf16) (harg4 : arg4.IsWhole)
  (arg5 : Memref sig .tc .vmem S1x16384x128 .bf16) (harg5 : arg5.IsWhole)
  (arg6 : Memref sig .tc .vmem S1x144x16384 .bf16) (harg6 : arg6.IsWhole)
  (arg7 : Memref sig .tc .vmem S512x512 .bf16) (harg7 : arg7.IsWhole)
  (arg8 : Memref sig .tc .vmem S4x1x512 .f32) (harg8 : arg8.IsWhole)
  (arg9 : Memref sig .tc .vmem S4x144x512 .f32) (harg9 : arg9.IsWhole)
  (arg10 : Memref sig .tc .vmem S2x4x512x512 .f32) (harg10 : arg10.IsWhole)

/-- After `n` trips every head's blocks are those of `8 n` rounds over the keys. -/
theorem loop_blocks (v100 : FVec F S1x512 .f32) (x0 : Vec F S4x128x512 .bf16) (x3 : Vec F S1x16384x128 .bf16)
    (x4 : Vec F S1x144x16384 .bf16) (G8 : BufTy.Contents (Elt F) arg8.view.ty) (G9 : BufTy.Contents (Elt F) arg9.view.ty)
    (G10 : BufTy.Contents (Elt F) arg10.view.ty) (g : Fin 4) (hS : blkS arg10 G10 g = rScore x3 (qHead x0 g) 0)
    (n : ℕ) (hn : n ≤ k0_t1_loop.trips) :
    blkM arg8 (arg8.view.writes (Elt F) G8 (pb_k0_t1 (F := F) Variants.none c none i arg2 harg2 arg3 harg3 arg4 harg4 arg5 harg5 arg6 harg6 arg7 harg7 arg8 harg8 arg9 harg9 arg10 harg10 v100 (harg2.unread x0) (harg5.unread x3) (harg6.unread x4) G8 G9 G10 n).1) g
        = mRun (rScore x3 (qHead x0 g)) (blkM arg8 G8 g) (8 * n)
    ∧ blkA arg9 (arg9.view.writes (Elt F) G9 (pb_k0_t1 (F := F) Variants.none c none i arg2 harg2 arg3 harg3 arg4 harg4 arg5 harg5 arg6 harg6 arg7 harg7 arg8 harg8 arg9 harg9 arg10 harg10 v100 (harg2.unread x0) (harg5.unread x3) (harg6.unread x4) G8 G9 G10 n).2.1) g
        = aRun (vChunk x4) (rScore x3 (qHead x0 g)) (blkM arg8 G8 g) (blkA arg9 G9 g) (8 * n)
    ∧ blkS arg10 (arg10.view.writes (Elt F) G10 (pb_k0_t1 (F := F) Variants.none c none i arg2 harg2 arg3 harg3 arg4 harg4 arg5 harg5 arg6 harg6 arg7 harg7 arg8 harg8 arg9 harg9 arg10 harg10 v100 (harg2.unread x0) (harg5.unread x3) (harg6.unread x4) G8 G9 G10 n).2.2) g
        = rScore x3 (qHead x0 g) (8 * n) := by
  induction n with
  | zero => exact ⟨rfl, rfl, hS⟩
  | succ n ih =>
    obtain ⟨hM, hA, hS'⟩ := ih (Nat.le_of_succ_le hn)
    have hQ : blkQ arg2 (harg2.unread x0) g = qHead x0 g := by unfold blkQ qHead; rw [readAt_unread]; rfl
    have hs : ∀ u < 8, sSeq (rScore x3 (qHead x0 g) (8 * n)) (kSeq arg5 (harg5.unread x3) ⟨n, hn⟩) (qHead x0 g) u
        = rScore x3 (qHead x0 g) (8 * n + u) := by
      intro u hu
      match u with
      | 0 => rfl
      | u + 1 =>
        show score _ _ = score _ _
        rw [kSeq_unread arg5 harg5 x3 ⟨n, hn⟩ u (by omega)]; rfl
    have hv : ∀ u < 8, vSeq arg6 (harg6.unread x4) ⟨n, hn⟩ u = vChunk x4 (8 * n + u) :=
      fun u hu => vSeq_unread arg6 harg6 x4 ⟨n, hn⟩ u hu
    have ht := trip_blocks c i arg2 harg2 arg3 harg3 arg4 harg4 arg5 harg5 arg6 harg6 arg7 harg7 arg8 harg8 arg9 harg9 arg10 harg10 v100 (harg2.unread x0) (harg5.unread x3) (harg6.unread x4) ⟨n, hn⟩
      (arg8.view.writes (Elt F) G8 (pb_k0_t1 (F := F) Variants.none c none i arg2 harg2 arg3 harg3 arg4 harg4 arg5 harg5 arg6 harg6 arg7 harg7 arg8 harg8 arg9 harg9 arg10 harg10 v100 (harg2.unread x0) (harg5.unread x3) (harg6.unread x4) G8 G9 G10 n).1)
      (arg9.view.writes (Elt F) G9 (pb_k0_t1 (F := F) Variants.none c none i arg2 harg2 arg3 harg3 arg4 harg4 arg5 harg5 arg6 harg6 arg7 harg7 arg8 harg8 arg9 harg9 arg10 harg10 v100 (harg2.unread x0) (harg5.unread x3) (harg6.unread x4) G8 G9 G10 n).2.1)
      (arg10.view.writes (Elt F) G10 (pb_k0_t1 (F := F) Variants.none c none i arg2 harg2 arg3 harg3 arg4 harg4 arg5 harg5 arg6 harg6 arg7 harg7 arg8 harg8 arg9 harg9 arg10 harg10 v100 (harg2.unread x0) (harg5.unread x3) (harg6.unread x4) G8 G9 G10 n).2.2) g
    rw [hQ, hM, hA, hS', mRun_congr _ 8 hs, aRun_congr _ _ 8 hv hs, ← mRun_add, ← aRun_add,
      kSeq_unread arg5 harg5 x3 ⟨n, hn⟩ 7 (by omega)] at ht
    rw [pb_k0_t1_succ Variants.none c none i arg2 harg2 arg3 harg3 arg4 harg4 arg5 harg5 arg6 harg6 arg7 harg7 arg8 harg8 arg9 harg9 arg10 harg10 v100 (harg2.unread x0) (harg5.unread x3) (harg6.unread x4) G8 G9 G10 ⟨n, hn⟩]
    simp only [View.writes_append]
    exact ht

/-! ### What is stored -/

/-- The rows of a head's block, read through a smaller block. -/
theorem read_rows (f : BufTy.Contents (Elt F) arg9.view.ty) (g : Fin 4) (p : ℕ) (size : Fin 3 → ℕ) (inb) (inb') :
    arg9.view.readAt (Elt F) (Rect.unit (s := S4x144x512) ![g.val, p, 0] size inb).toLoadRect f
      = fun y => blkA arg9 f g ((Rect.unit (s := S1x144x512) ![0, p, 0] size inb').toLoadRect.idx y) := by
  funext y
  unfold blkA
  rw [View.readAt_apply, View.readAt_apply]
  congr 1
  funext a
  apply Fin.ext
  match a with
  | 0 => show g.val + 1 * (y 0 : ℕ) = g.val + 1 * (0 + 1 * (y 0 : ℕ))
         omega
  | 1 => show p + 1 * (y 1 : ℕ) = 0 + 1 * (p + 1 * (y 1 : ℕ))
         omega
  | 2 => show 0 + 1 * (y 2 : ℕ) = 0 + 1 * (0 + 1 * (y 2 : ℕ))
         omega

set_option maxHeartbeats 2000000 in
/-- The weighted sums that are read at the end. -/
theorem final_blocks (x0 : Vec F S4x128x512 .bf16) (x1 : Vec F S1x256x128 .bf16) (x2 : Vec F S1x144x256 .bf16) (x3 : Vec F S1x16384x128 .bf16)
    (x4 : Vec F S1x144x16384 .bf16)
    (f10 : BufTy.Contents (Elt F) arg10.view.ty) (g : Fin 4) :
    blkA arg9 (arg9.view.writes (Elt F) arg9.view.junk
      ((pb_k0_t1 (F := F) Variants.none c none i arg2 harg2 arg3 harg3 arg4 harg4 arg5 harg5 arg6 harg6 arg7 harg7 arg8 harg8 arg9 harg9 arg10 harg10 (bodyRun.sl.r_3 c arg2 harg2 arg3 harg3 x0 x1)
          (harg2.unread x0) (harg5.unread x3) (harg6.unread x4)
          (arg8.view.writes (Elt F) arg8.view.junk (bodyRun.sl.H8_4 c arg2 harg2 arg3 harg3 x0 x1))
          (arg9.view.writes (Elt F) arg9.view.junk (bodyRun.sl.H9_4 c arg2 harg2 arg3 harg3 arg4 harg4 x0 x1 x2))
          (arg10.view.writes (Elt F) f10
            [⟨Rect.unit ![0, 3, 0, 0] S1x1x512x512.size inb_S2x4x512x512_S1x1x512x512_0_3_0_0, k0_pay259
                (arg5.view.readAt (Elt F) (Rect.unit (s := S1x16384x128) ![0, 0, 0] S1x512x128.size inb_S1x16384x128_S1x512x128_0_0_0).toLoadRect (harg5.unread x3))
                (arg2.view.readAt (Elt F) (Rect.unit (s := S4x128x512) ![3, 0, 0] S1x128x512.size inb_S4x128x512_S1x128x512_3_0_0).toLoadRect (harg2.unread x0))⟩,
             ⟨Rect.unit ![0, 2, 0, 0] S1x1x512x512.size inb_S2x4x512x512_S1x1x512x512_0_2_0_0, k0_pay254
                (arg5.view.readAt (Elt F) (Rect.unit (s := S1x16384x128) ![0, 0, 0] S1x512x128.size inb_S1x16384x128_S1x512x128_0_0_0).toLoadRect (harg5.unread x3))
                (arg2.view.readAt (Elt F) (Rect.unit (s := S4x128x512) ![2, 0, 0] S1x128x512.size inb_S4x128x512_S1x128x512_2_0_0).toLoadRect (harg2.unread x0))⟩,
             ⟨Rect.unit ![0, 1, 0, 0] S1x1x512x512.size inb_S2x4x512x512_S1x1x512x512_0_1_0_0, k0_pay249
                (arg5.view.readAt (Elt F) (Rect.unit (s := S1x16384x128) ![0, 0, 0] S1x512x128.size inb_S1x16384x128_S1x512x128_0_0_0).toLoadRect (harg5.unread x3))
                (arg2.view.readAt (Elt F) (Rect.unit (s := S4x128x512) ![1, 0, 0] S1x128x512.size inb_S4x128x512_S1x128x512_1_0_0).toLoadRect (harg2.unread x0))⟩,
             ⟨Rect.unit ![0, 0, 0, 0] S1x1x512x512.size inb_S2x4x512x512_S1x1x512x512_0_0_0_0, k0_pay244
                (arg5.view.readAt (Elt F) (Rect.unit (s := S1x16384x128) ![0, 0, 0] S1x512x128.size inb_S1x16384x128_S1x512x128_0_0_0).toLoadRect (harg5.unread x3))
                (arg2.view.readAt (Elt F) (Rect.unit (s := S4x128x512) ![0, 0, 0] S1x128x512.size inb_S4x128x512_S1x128x512_0_0_0).toLoadRect (harg2.unread x0))⟩])
          (Scf.trips k0_t1_loop.lb k0_t1_loop.ub k0_t1_loop.st)).2.1 ++ bodyRun.sl.H9_4 c arg2 harg2 arg3 harg3 arg4 harg4 x0 x1 x2)) g
      = headA x0 x1 x2 x3 x4 g 32 := by
  rw [View.writes_append]
  refine ((loop_blocks c i arg2 harg2 arg3 harg3 arg4 harg4 arg5 harg5 arg6 harg6 arg7 harg7 arg8 harg8 arg9 harg9 arg10 harg10 _ x0 x3 x4 _ _ _ g ?_ _ (le_refl _)).2.1).trans ?_
  · simp only [readAt_unread]
    exact blkS_four arg10 f10 (fun g => rScore x3 (qHead x0 g) 0) g
  · have hM : blkM arg8 (arg8.view.writes (Elt F) arg8.view.junk (bodyRun.sl.H8_4 c arg2 harg2 arg3 harg3 x0 x1)) g = initM x1 (qHead x0 g) := by
      unfold bodyRun.sl.H8_4 bodyRun.sl.r bodyRun.sl.r_1 bodyRun.sl.r_2 bodyRun.sl.r_3
      simp only [readAt_unread]
      exact blkM_four arg8 _ (fun g => initM x1 (qHead x0 g)) g
    have hA : blkA arg9 (arg9.view.writes (Elt F) arg9.view.junk (bodyRun.sl.H9_4 c arg2 harg2 arg3 harg3 arg4 harg4 x0 x1 x2)) g
        = initA x1 x2 (qHead x0 g) := by
      unfold bodyRun.sl.H9_4
      simp only [readAt_unread]
      exact blkA_four arg9 _ (fun g => initA x1 x2 (qHead x0 g)) g
    rw [hM, hA]; rfl

set_option maxHeartbeats 2000000 in
/-- What the point stores is `outPieces` of the blocks it reads, whatever its buffers held before. -/
theorem bodyRun_val (x0 : Vec F S4x128x512 .bf16) (x1 : Vec F S1x256x128 .bf16) (x2 : Vec F S1x144x256 .bf16) (x3 : Vec F S1x16384x128 .bf16)
    (x4 : Vec F S1x144x16384 .bf16)
    (f10 : BufTy.Contents (Elt F) arg10.view.ty) :
    (bodyRun c i arg2 harg2 arg3 harg3 arg4 harg4 arg5 harg5 arg6 harg6 arg7 harg7 arg8 harg8 arg9 harg9 arg10 harg10 x0 x1 x2 x3 x4 f10).1
      = outPieces x0 x1 x2 x3 x4 := by
  have hf := final_blocks c i arg2 harg2 arg3 harg3 arg4 harg4 arg5 harg5 arg6 harg6 arg7 harg7 arg8 harg8 arg9 harg9 arg10 harg10 x0 x1 x2 x3 x4 f10
  unfold bodyRun
  dsimp only
  unfold outPieces
  refine congrArg₂ List.cons (congrArg (Sigma.mk _) ?_) (congrArg₂ List.cons (congrArg (Sigma.mk _) ?_)
    (congrArg₂ List.cons (congrArg (Sigma.mk _) ?_) (congrArg₂ List.cons (congrArg (Sigma.mk _) ?_) rfl)))
  · rw [← hf 3]
    exact congrArg₂ k0_pay266 (read_rows (F := F) arg9 _ 3 0 S1x128x512.size _ _) (read_rows (F := F) arg9 _ 3 128 S1x1x512.size _ _)
  · rw [← hf 2]
    exact congrArg₂ k0_pay266 (read_rows (F := F) arg9 _ 2 0 S1x128x512.size _ _) (read_rows (F := F) arg9 _ 2 128 S1x1x512.size _ _)
  · rw [← hf 1]
    exact congrArg₂ k0_pay266 (read_rows (F := F) arg9 _ 1 0 S1x128x512.size _ _) (read_rows (F := F) arg9 _ 1 128 S1x1x512.size _ _)
  · rw [← hf 0]
    exact congrArg₂ k0_pay266 (read_rows (F := F) arg9 _ 0 0 S1x128x512.size _ _) (read_rows (F := F) arg9 _ 0 128 S1x1x512.size _ _)

end Cert.KernelIdeal.Flash
-- ==== Proof.Ideal.Frame.lean ====
/-
  The whole run of the kernel.

  Every point of the grid finds its five inputs staged, leaves them, and leaves in the result's buffer the four rectangles of
  `Output`, which cover it (`outVal`). From that the launch ends with every array of the pipeline at what the points left, and
  every argument as it was (`run_main`, `frame`).
-/
module

public import Idealize.ShloMosaic.Lib.Claim
public import proofs.«01_k».proof.Proof.Ideal.Output

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The four stored rectangles cover the result's block. -/
theorem out_cover (x0 : Vec F S4x128x512 .bf16) (x1 : Vec F S1x256x128 .bf16) (x2 : Vec F S1x144x256 .bf16) (x3 : Vec F S1x16384x128 .bf16)
    (x4 : Vec F S1x144x16384 .bf16) (y : S512x512.Idx) : ∃ pc ∈ outPieces x0 x1 x2 x3 x4, y ∈ pc.1.set :=
  View.cover_of_tiledL (outPieces x0 x1 x2 x3 x4) S512x128.size (by sl_kernel_rfl) y

/-- What a point leaves in the result's block. -/
def outVal (x0 : Vec F S4x128x512 .bf16) (x1 : Vec F S1x256x128 .bf16) (x2 : Vec F S1x144x256 .bf16) (x3 : Vec F S1x16384x128 .bf16)
    (x4 : Vec F S1x144x16384 .bf16) : Vec F S512x512 .bf16 := View.canon (outPieces x0 x1 x2 x3 x4)

variable (m : (ℓ : Loc nD τ sig) → Buf (Elt F) ℓ) (ρ : Dev nD → PrngReg)

abbrev ms0 (t : Fin cfg0.N) : Memref sig .tc .vmem S4x128x512 .bf16 := win0_0.stage (cfg0.slots t 0)
abbrev ms1 (t : Fin cfg0.N) : Memref sig .tc .vmem S1x256x128 .bf16 := win0_1.stage (cfg0.slots t 1)
abbrev ms2 (t : Fin cfg0.N) : Memref sig .tc .vmem S1x144x256 .bf16 := win0_2.stage (cfg0.slots t 2)
abbrev ms3 (t : Fin cfg0.N) : Memref sig .tc .vmem S1x16384x128 .bf16 := win0_3.stage (cfg0.slots t 3)
abbrev ms4 (t : Fin cfg0.N) : Memref sig .tc .vmem S1x144x16384 .bf16 := win0_4.stage (cfg0.slots t 4)
abbrev ms5 (t : Fin cfg0.N) : Memref sig .tc .vmem S512x512 .bf16 := win0_5.stage (cfg0.slots t 5)
abbrev scM0 : Memref sig .tc .vmem S4x1x512 .f32 := Memref.whole cc0_scratch0
abbrev scM1 : Memref sig .tc .vmem S4x144x512 .f32 := Memref.whole cc0_scratch1
abbrev scM2 : Memref sig .tc .vmem S2x4x512x512 .f32 := Memref.whole cc0_scratch2

/-- The invariant between points: the kernel's own three buffers at some contents, and the generator's register. -/
theorem phi_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d)) ∗ (∃ r, prngReg c r)) := by
  unfold Pipeline.ΦA; rw [scopedRest0_eq]; simp only [scM0, scM1, scM2, owns_whole]; try rfl

/-- The proof data: the arrays as launched; each input's buffer at its block after every point, the result's at `outVal`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outVal (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t
    = outVal (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- What a point finds, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it leaves. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

/-- The body at any point: the inputs' buffers hold their blocks, so the run of `Run` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  rw [show (dats m 0 c).Φ t.castSucc = Pipeline.ΦA spec0 c from rfl, phi_eq]
  iintro ⟨⟨⟨HS0, HS1, ⟨%dS, HS2⟩⟩, Hg⟩, Ho, ⟨%d0, H0⟩, ⟨%d1, H1⟩, ⟨%d2, H2⟩, ⟨%d3, H3⟩, ⟨%d4, H4⟩, ⟨%d5, H5⟩⟩
  unfold owns
  icases HS2 with ⟨%f10, -, HS2⟩
  iapply ((bodyRun c (grid0.coords t) _ _ _ _ _ _ _ _ _ _ _ _ _ _ _ _ _ _ (iblk m c 0 t) (iblk m c 1 t) (iblk m c 2 t) (iblk m c 3 t) (iblk m c 4 t) f10).2 Set.univ _)
  unfold owns
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  iintro ⟨H0, H1, H2, H3, H4, ⟨%e5, H5⟩, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexists _; isplitr
  swap; · iexact H5
  ipureintro
  rw [bodyRun_val]
  exact View.read_writes_eq_canon _ _ _ (out_cover _ _ _ _ _)

/-- The table's row for the body at point `t`. -/
theorem defs₀_row (t : Fin cfg0.N) :
    defs₀ (F := F) .tc cfg0.body (cfg0.bodyArgs t (cfg0.slots t)) = bodyAt0 t := by
  unfold defs₀; rw [Defs.onTc_tc]

/-- The pipeline's obligation for the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: the arrays end at what the points left, and every counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Flash
-- ==== Proof.Word.Frame.lean ====
/-
  The whole run of the kernel at machine words.

  Every point of the grid finds its five inputs staged and leaves them; what it leaves in the result's buffer is not named here.
  The launch ends with every argument as it was (`frame`).
-/
module

public import Idealize.ShloMosaic.Lib.Claim
public import proofs.«01_k».proof.Proof.Word.Run

@[expose] public section

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0 (t : Fin cfg0.N) : Memref sig .tc .vmem S4x128x512 .bf16 := win0_0.stage (cfg0.slots t 0)
abbrev ms1 (t : Fin cfg0.N) : Memref sig .tc .vmem S1x256x128 .bf16 := win0_1.stage (cfg0.slots t 1)
abbrev ms2 (t : Fin cfg0.N) : Memref sig .tc .vmem S1x144x256 .bf16 := win0_2.stage (cfg0.slots t 2)
abbrev ms3 (t : Fin cfg0.N) : Memref sig .tc .vmem S1x16384x128 .bf16 := win0_3.stage (cfg0.slots t 3)
abbrev ms4 (t : Fin cfg0.N) : Memref sig .tc .vmem S1x144x16384 .bf16 := win0_4.stage (cfg0.slots t 4)
abbrev ms5 (t : Fin cfg0.N) : Memref sig .tc .vmem S512x512 .bf16 := win0_5.stage (cfg0.slots t 5)
abbrev scM0 : Memref sig .tc .vmem S4x1x512 .f32 := Memref.whole cc0_scratch0
abbrev scM1 : Memref sig .tc .vmem S4x144x512 .f32 := Memref.whole cc0_scratch1
abbrev scM2 : Memref sig .tc .vmem S2x4x512x512 .f32 := Memref.whole cc0_scratch2

/-- The invariant between points: the kernel's own three buffers at some contents, and the generator's register. -/
theorem phi_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d)) ∗ (∃ r, prngReg c r)) := by
  unfold Pipeline.ΦA; rw [scopedRest0_eq]; simp only [scM0, scM1, scM2, owns_whole]; try rfl

/-- The proof data: the arrays as launched; each input's buffer at its block after every point (nothing is
    claimed of the result's). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => fun _ => Classical.arbitrary _
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- What a point finds, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ X, owns (c : Thread nD τ) (ms5 t) fullShare X))

/-- and what it leaves. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ (∃ X, owns (c : Thread nD τ) (ms5 t) fullShare X))

/-- The body at any point: the inputs' buffers hold their blocks, so the run of `Run` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4]
  rw [show (dats m 0 c).Φ t.castSucc = Pipeline.ΦA spec0 c from rfl, phi_eq]
  iintro ⟨⟨⟨HS0, HS1, ⟨%dS, HS2⟩⟩, Hg⟩, Ho, ⟨%d0, H0⟩, ⟨%d1, H1⟩, ⟨%d2, H2⟩, ⟨%d3, H3⟩, ⟨%d4, H4⟩, ⟨%d5, H5⟩⟩
  unfold owns
  icases HS2 with ⟨%f10, -, HS2⟩
  iapply ((bodyRun c (grid0.coords t) _ _ _ _ _ _ _ _ _ _ _ _ _ _ _ _ _ _ (iblk m c 0 t) (iblk m c 1 t) (iblk m c 2 t) (iblk m c 3 t) (iblk m c 4 t) f10).2 Set.univ _)
  unfold owns
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  iintro ⟨H0, H1, H2, H3, H4, ⟨%e5, H5⟩, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexists _; iexists _; isplitr
  swap; · iexact H5
  ipureintro; rfl

/-- The table's row for the body at point `t`. -/
theorem defs₀_row (t : Fin cfg0.N) :
    defs₀ (F := F) .tc cfg0.body (cfg0.bodyArgs t (cfg0.slots t)) = bodyAt0 t := by
  unfold defs₀; rw [Defs.onTc_tc]

/-- Which windows nothing is claimed of: the result's. -/
def fgt : Fin cfg0.W → Bool := fun w => decide (w.val = 5)

/-- The pipeline's obligation for the body, at every point. -/
theorem body_obligation (c : Dev nD) : Pipeline.BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The launch: every array but the result's ends at what the points left, and every counter at zero. -/
theorem run_main_quiescent : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => body_obligation m c) (hshare := fun c => (dats m 0 c).share_full fun _ => rfl)
    (howed := fun _ _ => rfl) (V := V m) (hmain := hmain m Variants.none) (hA := A_eq m) (hΦ := fun _ _ => rfl)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h.1.arr_in c 0 rfl).trans ((A_eq m c 0).trans (V_main_arg0 m c)), (h.1.arr_in c 1 rfl).trans ((A_eq m c 1).trans (V_main_arg1 m c)),
     (h.1.arr_in c 2 rfl).trans ((A_eq m c 2).trans (V_main_arg2 m c)), (h.1.arr_in c 3 rfl).trans ((A_eq m c 3).trans (V_main_arg3 m c)),
     (h.1.arr_in c 4 rfl).trans ((A_eq m c 4).trans (V_main_arg4 m c))⟩) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Flash
-- ==== Proof.Value.Payloads.lean ====
/-
  One round of the attention, element by element, over the extended reals.

  The score of a key against a query is their product summed over the 128 coordinates; a round takes the maximum of its scores
  and the one before, moves the weighted sum to the new maximum and adds the values of its keys times their weights.
-/
module

public import proofs.«01_k».proof.Proof.Ideal.Output
public import Idealize.ShloMosaic.Lib.MatmulPlain
public import Idealize.ShloMosaic.Lib.Pipeline.Value
public import Idealize.ShloMosaic.Lib.ValueIdx
import all proofs.«01_k».proof.Proof.Ideal.Output

@[expose] public section

set_option maxRecDepth 16384

noncomputable section

namespace Cert.KernelIdeal.Flash

open Cert.KernelIdeal Cert.KernelIdeal.Gen
open Idealize.ShloMosaic Idealize.ShloMosaic.ValueIdx

/-- A plain product from zero, at an index. -/
theorem dot_apply {M K N : ℕ} {φ₁ φ₂ : FTy} (lhs : FVec Ideal ⟨2, ![M, K]⟩ φ₁) (rhs : FVec Ideal ⟨2, ![K, N]⟩ φ₂) (r : Fin M) (c : Fin N) :
    matmul (DotDims.plain M K N) none lhs rhs (constant ⟨2, ![M, N]⟩ .f32 0x00000000#32) (ix2 r c) = ∑ k : Fin K, lhs (ix2 r k) * rhs (ix2 k c) := by
  refine (Ideal.matmul_plain_apply none lhs rhs _ r c).trans ?_
  rw [constant_apply, Ideal.ofBits_zero_f32, zero_add]

/-- A block without its first axis of size one. -/
theorem drop1 {a b : ℕ} {e : EltTy} (x : Vec Ideal ⟨3, ![1, a, b]⟩ e) (h) (i : Fin a) (j : Fin b) :
    shapeCast ⟨2, ![a, b]⟩ x h (ix2 i j) = x (ix3 0 i j) :=
  shapeCast_apply x h _ _ (by rewrite [Shape.rowMajor_val_three, Shape.rowMajor_val_two]; show ((0 : ℕ) * a + i) * b + j = i * b + j; rw [Nat.zero_mul, Nat.zero_add])

/-- A block with one more first axis of size one. -/
theorem add1 {a b : ℕ} {e : EltTy} (x : Vec Ideal ⟨2, ![a, b]⟩ e) (h) (i : Fin a) (j : Fin b) :
    shapeCast ⟨3, ![1, a, b]⟩ x h (ix3 0 i j) = x (ix2 i j) :=
  shapeCast_apply x h _ _ (by rewrite [Shape.rowMajor_val_three, Shape.rowMajor_val_two]; show i * b + j = ((0 : ℕ) * a + i) * b + j; rw [Nat.zero_mul, Nat.zero_add])

/-- A row with a first axis of size one. -/
theorem addRow {a : ℕ} {e : EltTy} (x : Vec Ideal ⟨1, ![a]⟩ e) (h) (j : Fin a) :
    shapeCast ⟨2, ![1, a]⟩ x h (ix2 0 j) = x (ix1 j) :=
  shapeCast_apply x h _ _ (by rewrite [Shape.rowMajor_val_one, Shape.rowMajor_val_two]; show (j : ℕ) = (0 : ℕ) * a + j; rw [Nat.zero_mul, Nat.zero_add])

/-- A row spread over the rows of a matrix. -/
theorem spread {a b : ℕ} {e : EltTy} (x : Vec Ideal ⟨2, ![1, b]⟩ e) (h) (hb : b ≠ 1) (i : Fin a) (j : Fin b) :
    broadcastTo ⟨2, ![a, b]⟩ x h (ix2 i j) = x (ix2 0 j) :=
  broadcastTo_apply x h _ _ fun c => by
    match c with
    | 0 => rfl
    | 1 => exact (if_neg hb).symm

/-- The value that `multiReduction` of a maximum starts from. -/
theorem ofBits_neg_inf : Ideal.ofBits .f32 0xFF800000#32 = ⊥ := by simp [Ideal.ofBits, Ideal.ieee]

/-- A column's maximum. -/
theorem colMax {a b : ℕ} (x : FVec Ideal ⟨2, ![a, b]⟩ .f32) (h : (⟨2, ![a, b]⟩ : Shape).Reduces [0] ⟨1, ![b]⟩) (hφ hacc) (j : Fin b) :
    multiReduction .maximumf [0] ⟨1, ![b]⟩ x 0xFF800000#32 h hφ hacc (ix1 j) = (Finset.univ : Finset (Fin a)).fold max ⊥ fun k => x (ix2 k j) := by
  refine (Ideal.multiReduction_maximumf_single x _ h hφ hacc (ix1 j)).trans ?_
  show (Finset.univ : Finset (Fin a)).fold max (Ideal.ofBits .f32 0xFF800000#32) _ = _
  rw [ofBits_neg_inf]
  congr 1
  funext k
  refine congrArg x (funext fun c => ?_)
  match c with
  | 0 => rfl
  | 1 => rfl

/-- A score. -/
theorem score_apply (K : Vec Ideal S1x512x128 .bf16) (Q : Vec Ideal S1x128x512 .bf16) (k q : Fin 512) :
    score K Q (ix4 0 0 k q) = ∑ d : Fin 128, K (ix3 0 k d) * Q (ix3 0 d q) := by
  unfold score k0_pay4
  refine (shapeCast_apply _ _ _ (ix2 k q) (by rewrite [Shape.rowMajor_val_four, Shape.rowMajor_val_two]; show (k : ℕ) * 512 + q = (((0 : ℕ) * 1 + 0) * 512 + k) * 512 + q; omega)).trans ?_
  refine (dot_apply (M := 512) (K := 128) (N := 512) _ _ k q).trans ?_
  refine Finset.sum_congr rfl fun d _ => ?_
  unfold k0_pay3
  exact congrArg₂ _ (drop1 (a := 512) (b := 128) (e := .bf16) _ _ k d) (drop1 (a := 128) (b := 512) (e := .bf16) _ _ d q)

/-- The scores of a round as a matrix. -/
theorem pay5_apply (s : Vec Ideal S1x1x512x512 .f32) (k q : Fin 512) : k0_pay5 s (ix2 k q) = s (ix4 0 0 k q) :=
  shapeCast_apply _ _ _ _ (by rewrite [Shape.rowMajor_val_four, Shape.rowMajor_val_two]; show (((0 : ℕ) * 1 + 0) * 512 + k) * 512 + q = (k : ℕ) * 512 + q; omega)

/-- The new maximum, as a row. -/
theorem pay7_apply (s : Vec Ideal S1x1x512x512 .f32) (m : Vec Ideal S1x1x512 .f32) (q : Fin 512) :
    k0_pay7 s m (ix2 0 q) = max (m (ix3 0 0 q)) ((Finset.univ : Finset (Fin 512)).fold max ⊥ fun k => s (ix4 0 0 k q)) := by
  unfold k0_pay7 k0_pay6
  rw [maximumf_apply]
  refine congrArg₂ max (drop1 (a := 1) (b := 512) (e := .f32) _ _ 0 q) ?_
  refine (addRow (a := 512) (e := .f32) _ _ q).trans ?_
  refine (colMax (a := 512) (b := 512) _ _ _ _ q).trans ?_
  simp only [pay5_apply]

/-- The new maximum. -/
theorem mNext_apply (s : Vec Ideal S1x1x512x512 .f32) (m : Vec Ideal S1x1x512 .f32) (q : Fin 512) :
    mNext s m (ix3 0 0 q) = max (m (ix3 0 0 q)) ((Finset.univ : Finset (Fin 512)).fold max ⊥ fun k => s (ix4 0 0 k q)) := by
  unfold mNext k0_pay11
  exact (add1 (a := 1) (b := 512) (e := .f32) _ _ 0 q).trans (pay7_apply s m q)

/-- The new weighted sum. -/
theorem aNext_apply (V : Vec Ideal S1x144x512 .bf16) (s : Vec Ideal S1x1x512x512 .f32) (m : Vec Ideal S1x1x512 .f32) (a : Vec Ideal S1x144x512 .f32)
    (r : Fin 144) (q : Fin 512) :
    aNext V s m a (ix3 0 r q) = Ideal.exp2 (m (ix3 0 0 q) - mNext s m (ix3 0 0 q)) * a (ix3 0 r q)
      + ∑ k : Fin 512, V (ix3 0 r k) * Ideal.exp2 (s (ix4 0 0 k q) - mNext s m (ix3 0 0 q)) := by
  have hm : mNext s m (ix3 0 0 q) = k0_pay7 s m (ix2 0 q) := (mNext_apply s m q).trans (pay7_apply s m q).symm
  rw [hm]
  unfold aNext k0_pay10
  refine (add1 (a := 144) (b := 512) (e := .f32) _ _ r q).trans ?_
  rw [addf_apply, mulf_apply]
  refine congrArg₂ _ (congrArg₂ _ ?_ (drop1 (a := 144) (b := 512) (e := .f32) _ _ r q)) ?_
  · refine (spread (a := 144) (b := 512) (e := .f32) _ _ (by decide) r q).trans ?_
    unfold k0_pay8
    show Ideal.exp2 (k0_pay6 m (ix2 0 q) - k0_pay7 s m (ix2 0 q)) = _
    unfold k0_pay6
    rw [show shapeCast S1x512 m _ (ix2 0 q) = m (ix3 0 0 q) from drop1 (a := 1) (b := 512) (e := .f32) _ _ 0 q]
  · refine (dot_apply (M := 144) (K := 512) (N := 512) _ _ r q).trans ?_
    refine Finset.sum_congr rfl fun k _ => ?_
    unfold k0_pay2 k0_pay9
    refine congrArg₂ _ (drop1 (a := 144) (b := 512) (e := .bf16) _ _ r k) ?_
    show Ideal.exp2 (k0_pay5 s (ix2 k q) - broadcastTo S512x512 (k0_pay7 s m) _ (ix2 k q)) = _
    rw [pay5_apply, show broadcastTo S512x512 (k0_pay7 s m) _ (ix2 k q) = k0_pay7 s m (ix2 0 q) from spread (a := 512) (b := 512) (e := .f32) _ _ (by decide) k q]

/-- A score on the context. -/
theorem pay245_apply (K : Vec Ideal S1x256x128 .bf16) (Q : Vec Ideal S1x128x512 .bf16) (k : Fin 256) (q : Fin 512) :
    k0_pay245 K Q (ix2 k q) = ∑ d : Fin 128, K (ix3 0 k d) * Q (ix3 0 d q) := by
  unfold k0_pay245
  refine (dot_apply (M := 256) (K := 128) (N := 512) _ _ k q).trans ?_
  exact Finset.sum_congr rfl fun d _ => congrArg₂ _ (drop1 (a := 256) (b := 128) (e := .bf16) _ _ k d) (drop1 (a := 128) (b := 512) (e := .bf16) _ _ d q)

/-- The maximum on the context, as a row. -/
theorem pay246_apply (K : Vec Ideal S1x256x128 .bf16) (Q : Vec Ideal S1x128x512 .bf16) (q : Fin 512) :
    k0_pay246 K Q (ix2 0 q) = (Finset.univ : Finset (Fin 256)).fold max ⊥ fun k => ∑ d : Fin 128, K (ix3 0 k d) * Q (ix3 0 d q) := by
  unfold k0_pay246
  refine (addRow (a := 512) (e := .f32) _ _ q).trans ?_
  refine (colMax (a := 256) (b := 512) _ _ _ _ q).trans ?_
  simp only [pay245_apply]

/-- The maximum on the context. -/
theorem pay248_apply (K : Vec Ideal S1x256x128 .bf16) (Q : Vec Ideal S1x128x512 .bf16) (q : Fin 512) :
    k0_pay248 (k0_pay246 K Q) (ix3 0 0 q) = (Finset.univ : Finset (Fin 256)).fold max ⊥ fun k => ∑ d : Fin 128, K (ix3 0 k d) * Q (ix3 0 d q) := by
  unfold k0_pay248
  exact (add1 (a := 1) (b := 512) (e := .f32) _ _ 0 q).trans (pay246_apply K Q q)

/-- The weighted sum on the context. -/
theorem pay247_apply (K : Vec Ideal S1x256x128 .bf16) (V : Vec Ideal S1x144x256 .bf16) (Q : Vec Ideal S1x128x512 .bf16) (r : Fin 144) (q : Fin 512) :
    k0_pay247 K V Q (ix3 0 r q) = ∑ k : Fin 256, V (ix3 0 r k)
      * Ideal.exp2 ((∑ d : Fin 128, K (ix3 0 k d) * Q (ix3 0 d q)) - k0_pay248 (k0_pay246 K Q) (ix3 0 0 q)) := by
  rw [(pay248_apply K Q q).trans (pay246_apply K Q q).symm]
  unfold k0_pay247
  refine (add1 (a := 144) (b := 512) (e := .f32) _ _ r q).trans ?_
  refine (dot_apply (M := 144) (K := 256) (N := 512) _ _ r q).trans ?_
  refine Finset.sum_congr rfl fun k _ => ?_
  refine congrArg₂ _ (drop1 (a := 144) (b := 256) (e := .bf16) _ _ r k) ?_
  show Ideal.exp2 (k0_pay245 K Q (ix2 k q) - broadcastTo S256x512 (k0_pay246 K Q) _ (ix2 k q)) = _
  rw [pay245_apply, show broadcastTo S256x512 (k0_pay246 K Q) _ (ix2 k q) = k0_pay246 K Q (ix2 0 q) from spread (a := 256) (b := 512) (e := .f32) _ _ (by decide) k q]

/-- What is stored for a query and a coordinate: the coordinate's weighted sum divided by the sum of the weights. -/
theorem oHead_apply (a : Vec Ideal S1x144x512 .f32) (q : Fin 512) (d : Fin 128) :
    oHead a (ix2 q d) = Ideal.div (a (ix3 0 (Fin.castLE (by decide) d) q)) (a (ix3 0 128 q)) := by
  unfold oHead k0_pay266
  rw [truncf_apply]
  refine (transpose_apply _ _ _ (ix2 q d) (ix2 d q) (fun b => match b with
    | 0 => rfl
    | 1 => rfl)).trans ?_
  rw [divf_apply]
  refine congrArg₂ _ ((drop1 (a := 128) (b := 512) (e := .f32) _ _ d q).trans (congrArg a ?_)) (((spread (a := 128) (b := 512) (e := .f32) _ _ (by decide) d q).trans (drop1 (a := 1) (b := 512) (e := .f32) _ _ 0 q)).trans (congrArg a ?_))
  · funext c
    refine Fin.ext ?_
    rw [LoadRect.idx_apply]
    match c with
    | 0 => rfl
    | 1 => show 0 + 1 * (d : ℕ) = d
           omega
    | 2 => show 0 + 1 * (q : ℕ) = q
           omega
  · funext c
    refine Fin.ext ?_
    rw [LoadRect.idx_apply]
    match c with
    | 0 => rfl
    | 1 => rfl
    | 2 => show 0 + 1 * (q : ℕ) = q
           omega

end Cert.KernelIdeal.Flash
-- ==== Proof.Value.Softmax.lean ====
/-
  The softmax over the extended reals, apart from any program.

  Scores are real numbers and values may be infinite. A weighted sum kept relative to one maximum is moved to another by a
  factor (`step`), and the quotient of the weighted sum by the sum of the weights, with weights to the base two, is the sum of
  the values times the softmax of the scores times `log 2`, whichever real number either side subtracts (`quotient_eq`).
-/
module

public import Idealize.ShloMosaic.PureOps.Ideal
public import Mathlib.Analysis.SpecialFunctions.Pow.Real

@[expose] public section

noncomputable section

namespace Cert.Softmax

open Idealize.ShloMosaic Finset

/-- The maximum of finitely many real numbers, at least one, is real. -/
theorem fold_max_real {ι : Type} [DecidableEq ι] (f : ι → ℝ) (S : Finset ι) :
    (S = ∅ ∧ S.fold max (⊥ : EReal) (fun i => (f i : EReal)) = ⊥) ∨ ∃ r : ℝ, S.fold max (⊥ : EReal) (fun i => (f i : EReal)) = r := by
  induction S using Finset.induction_on with
  | empty => exact .inl ⟨rfl, by simp⟩
  | insert a S ha ih =>
    right
    rw [Finset.fold_insert ha]
    rcases ih with ⟨-, h⟩ | ⟨r, h⟩
    · exact ⟨f a, by rw [h]; exact max_eq_left bot_le⟩
    · exact ⟨max (f a) r, by rw [h]; exact (EReal.coe_strictMono.monotone.map_max (a := f a) (b := r)).symm⟩

/-- A nonnegative real factor goes into a sum of extended reals. -/
theorem coe_mul_sum {ι : Type} (c : ℝ) (hc : 0 ≤ c) (S : Finset ι) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha,
      EReal.left_distrib_of_nonneg_of_ne_top (EReal.coe_nonneg.mpr hc) (EReal.coe_ne_top c), ih]

/-- A sum of real numbers is real. -/
theorem coe_sum {ι : Type} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

/-- The weight of a score relative to a real number. -/
theorem exp2_sub (a b : ℝ) : Ideal.exp2 ((a : EReal) - b) = (((2 : ℝ) ^ (a - b) : ℝ) : EReal) := by
  rw [← EReal.coe_sub]; rfl

/-- The weight of a score relative to a real number, to the base e. -/
theorem exp_sub (a b : ℝ) : Ideal.exp ((a : EReal) - b) = ((Real.exp (a - b) : ℝ) : EReal) := by
  rw [← EReal.coe_sub]; rfl

/-- The weighted sum of the first `N` keys relative to `m`. -/
def wsum (s : ℕ → ℝ) (V : ℕ → EReal) (m : ℝ) (N : ℕ) : EReal := ∑ k ∈ range N, V k * (((2 : ℝ) ^ (s k - m) : ℝ) : EReal)

/-- The first keys' sum. -/
theorem first (s : ℕ → ℝ) (V : ℕ → EReal) (m : ℝ) (n : ℕ) :
    ∑ k : Fin n, V k * Ideal.exp2 ((s k : EReal) - m) = wsum s V m n := by
  unfold wsum
  rw [Finset.sum_range]
  exact Finset.sum_congr rfl fun k _ => by rw [exp2_sub]

/-- The sum of `N` keys moved from `m` to `m'`, and `n` more keys added. -/
theorem step (s : ℕ → ℝ) (V : ℕ → EReal) (m m' : ℝ) (N n : ℕ) :
    Ideal.exp2 ((m : EReal) - m') * wsum s V m N + ∑ k : Fin n, V (N + k) * Ideal.exp2 ((s (N + k) : EReal) - m')
      = wsum s V m' (N + n) := by
  unfold wsum
  rw [exp2_sub, coe_mul_sum _ (Real.rpow_nonneg (by norm_num) _), Finset.sum_range_add]
  congr 1
  · refine Finset.sum_congr rfl fun k _ => ?_
    rw [mul_left_comm, ← EReal.coe_mul, ← Real.rpow_add (by norm_num), show m - m' + (s k - m) = s k - m' by ring]
  · rw [Finset.sum_range]
    exact Finset.sum_congr rfl fun k _ => by rw [exp2_sub]

/-- The quotient of the weighted sum by the sum of the weights is the softmax of the scores times `log 2`, applied to the values. -/
theorem quotient_eq (s : ℕ → ℝ) (V : ℕ → EReal) (m M : ℝ) (N : ℕ) (hN : 0 < N) :
    Ideal.div (wsum s V m N) (wsum s (fun _ => 1) m N)
      = ∑ k ∈ range N, V k * Ideal.div (Ideal.exp (((s k * Real.log 2 : ℝ) : EReal) - M))
          (0 + ∑ j ∈ range N, Ideal.exp (((s j * Real.log 2 : ℝ) : EReal) - M)) := by
  have hne : (range N).Nonempty := ⟨0, mem_range.mpr hN⟩
  have hD : 0 < ∑ k ∈ range N, (2 : ℝ) ^ (s k - m) := Finset.sum_pos (fun k _ => Real.rpow_pos_of_pos (by norm_num) _) hne
  have hE : 0 < ∑ k ∈ range N, Real.exp (s k * Real.log 2 - M) := Finset.sum_pos (fun k _ => Real.exp_pos _) hne
  have hC : ∀ k, Real.exp (s k * Real.log 2 - M) = (2 : ℝ) ^ (s k - m) * Real.exp (m * Real.log 2 - M) := fun k => by
    rw [Real.rpow_def_of_pos (by norm_num), ← Real.exp_add]
    congr 1
    ring
  unfold wsum
  simp only [one_mul, exp_sub, coe_sum, zero_add]
  rw [Ideal.div_coe hD.ne', mul_comm, coe_mul_sum _ (by positivity)]
  refine Finset.sum_congr rfl fun k _ => ?_
  rw [Ideal.div_coe hE.ne', mul_left_comm, ← EReal.coe_mul, ← EReal.coe_mul]
  congr 2
  simp only [hC]
  rw [← Finset.sum_mul]
  have := (Real.exp_pos (m * Real.log 2 - M)).ne'
  field_simp

end Cert.Softmax
-- ==== Proof.Value.Block.lean ====
/-
  What a point of the grid stores, element by element, when every score is a real number.

  After every round the maximum is some real number and the weighted sum is the one over the keys seen so far, relative to that
  number (`rounds`). So a stored element is the quotient of two such sums over all keys (`outVal_apply`).
-/
module

public import proofs.«01_k».proof.Proof.Ideal.Frame
public import proofs.«01_k».proof.Proof.Value.Payloads
public import proofs.«01_k».proof.Proof.Value.Softmax

@[expose] public section

set_option maxRecDepth 16384

noncomputable section

namespace Cert.KernelIdeal.Flash

open Cert.KernelIdeal Cert.KernelIdeal.Gen
open Idealize.ShloMosaic Idealize.ShloMosaic.ValueIdx
open Cert.Softmax

/-- An index of a block of rank three, moved by the block's offset. -/
theorem idx3 {a b c a' b' c' : ℕ} {off : Fin 3 → ℕ} (inb) (i : Fin a') (j : Fin b') (k : Fin c') (i' : Fin a) (j' : Fin b) (k' : Fin c)
    (h0 : i'.val = off 0 + i) (h1 : j'.val = off 1 + j) (h2 : k'.val = off 2 + k) :
    (Rect.unit (s := ⟨3, ![a, b, c]⟩) off ![a', b', c'] inb).toLoadRect.idx (ix3 i j k) = ix3 i' j' k' := by
  funext x
  refine Fin.ext ?_
  rw [LoadRect.idx_apply]
  match x with
  | 0 => show off 0 + 1 * (i : ℕ) = i'
         omega
  | 1 => show off 1 + 1 * (j : ℕ) = j'
         omega
  | 2 => show off 2 + 1 * (k : ℕ) = k'
         omega

theorem qHead_apply (x0 : Vec Ideal S4x128x512 .bf16) (g : Fin 4) (d : Fin 128) (q : Fin 512) : qHead x0 g (ix3 0 d q) = x0 (ix3 g d q) :=
  congrArg x0 (idx3 (a := 4) (b := 128) (c := 512) (a' := 1) (b' := 128) (c' := 512) _ 0 d q g d q rfl (Nat.zero_add _).symm (Nat.zero_add _).symm)
theorem cKeys_apply (x1 : Vec Ideal S1x256x128 .bf16) (k : Fin 256) (d : Fin 128) : cKeys x1 (ix3 0 k d) = x1 (ix3 0 k d) :=
  congrArg x1 (idx3 (a := 1) (b := 256) (c := 128) (a' := 1) (b' := 256) (c' := 128) _ 0 k d 0 k d rfl (Nat.zero_add _).symm (Nat.zero_add _).symm)
theorem cVals_apply (x2 : Vec Ideal S1x144x256 .bf16) (r : Fin 144) (k : Fin 256) : cVals x2 (ix3 0 r k) = x2 (ix3 0 r k) :=
  congrArg x2 (idx3 (a := 1) (b := 144) (c := 256) (a' := 1) (b' := 144) (c' := 256) _ 0 r k 0 r k rfl (Nat.zero_add _).symm (Nat.zero_add _).symm)
theorem kChunk_apply (x3 : Vec Ideal S1x16384x128 .bf16) (j : ℕ) (hj : j < 32) (k : Fin 512) (d : Fin 128) :
    kChunk x3 j (ix3 0 k d) = x3 (ix3 0 ⟨512 * j + k, by omega⟩ d) :=
  congrArg x3 (idx3 (a := 1) (b := 16384) (c := 128) (a' := 1) (b' := 512) (c' := 128) _ 0 k d 0 ⟨512 * j + k, by omega⟩ d rfl
    (by show 512 * j + (k : ℕ) = 512 * min j 31 + k
        omega) (Nat.zero_add _).symm)
theorem vChunk_apply (x4 : Vec Ideal S1x144x16384 .bf16) (j : ℕ) (hj : j < 32) (r : Fin 144) (k : Fin 512) :
    vChunk x4 j (ix3 0 r k) = x4 (ix3 0 r ⟨512 * j + k, by omega⟩) :=
  congrArg x4 (idx3 (a := 1) (b := 144) (c := 16384) (a' := 1) (b' := 144) (c' := 512) _ 0 r k 0 r ⟨512 * j + k, by omega⟩ rfl
    (Nat.zero_add _).symm (by show 512 * j + (k : ℕ) = 512 * min j 31 + k
                              omega))

section
variable (x0 : Vec Ideal S4x128x512 .bf16) (x1 : Vec Ideal S1x256x128 .bf16) (x2 : Vec Ideal S1x144x256 .bf16) (x3 : Vec Ideal S1x16384x128 .bf16)
  (x4 : Vec Ideal S1x144x16384 .bf16) (g : Fin 4) (q : Fin 512) (s : ℕ → ℝ)

/-- After `n` rounds: a real maximum, and every row's weighted sum relative to it over the keys so far. -/
theorem rounds (hc : ∀ k : Fin 256, (∑ d : Fin 128, (x1 (ix3 0 k d) : EReal) * x0 (ix3 g d q)) = (s k : EReal))
    (hk : ∀ k : Fin 16384, (∑ d : Fin 128, (x3 (ix3 0 k d) : EReal) * x0 (ix3 g d q)) = (s (256 + k) : EReal)) (n : ℕ) (hn : n ≤ 32) :
    ∃ μ : ℝ, mRun (rScore x3 (qHead x0 g)) (initM x1 (qHead x0 g)) n (ix3 0 0 q) = (μ : EReal) ∧
      ∀ (r : Fin 144) (V : ℕ → EReal), (∀ k : Fin 256, x2 (ix3 0 r k) = V k) → (∀ k : Fin 16384, x4 (ix3 0 r k) = V (256 + k)) →
        headA x0 x1 x2 x3 x4 g n (ix3 0 r q) = wsum s V μ (256 + 512 * n) := by
  induction n with
  | zero =>
    have h0 : initM x1 (qHead x0 g) (ix3 0 0 q) = (Finset.univ : Finset (Fin 256)).fold max ⊥ fun k : Fin 256 => (s k : EReal) := by
      unfold initM
      rw [pay248_apply]
      simp only [cKeys_apply, qHead_apply]
      congr 1
      funext k
      exact hc k
    obtain ⟨h, _⟩ | ⟨μ, hμ⟩ := fold_max_real (fun k : Fin 256 => s k) Finset.univ
    · exact absurd h (Finset.univ_nonempty (α := Fin 256)).ne_empty
    have hm : initM x1 (qHead x0 g) (ix3 0 0 q) = (μ : EReal) := h0.trans hμ
    refine ⟨μ, hm, fun r V h2 _ => ?_⟩
    show initA x1 x2 (qHead x0 g) (ix3 0 r q) = _
    unfold initA
    rw [pay247_apply]
    rw [show k0_pay248 (k0_pay246 (cKeys x1) (qHead x0 g)) (ix3 0 0 q) = (μ : EReal) from hm]
    refine Eq.trans (Finset.sum_congr rfl fun k _ => ?_) (first s V μ 256)
    rw [cVals_apply, h2 k]
    refine congrArg (fun z : EReal => V k * Ideal.exp2 (z - μ)) ?_
    simp only [cKeys_apply, qHead_apply]
    exact hc k
  | succ n ih =>
    obtain ⟨μ, hμ, hA⟩ := ih (by omega)
    have hs : ∀ k : Fin 512, rScore x3 (qHead x0 g) n (ix4 0 0 k q) = (s (256 + 512 * n + k) : EReal) := fun k => by
      unfold rScore
      rw [score_apply]
      simp only [kChunk_apply x3 n (by omega), qHead_apply]
      refine (hk ⟨512 * n + k, by omega⟩).trans ?_
      show ((s (256 + (512 * n + k)) : ℝ) : EReal) = _
      rw [Nat.add_assoc]
    obtain ⟨h, _⟩ | ⟨ν, hν⟩ := fold_max_real (fun k : Fin 512 => s (256 + 512 * n + k)) Finset.univ
    · exact absurd h (Finset.univ_nonempty (α := Fin 512)).ne_empty
    have hm : mNext (rScore x3 (qHead x0 g) n) (mRun (rScore x3 (qHead x0 g)) (initM x1 (qHead x0 g)) n) (ix3 0 0 q) = ((max μ ν : ℝ) : EReal) := by
      rw [mNext_apply, hμ]
      simp only [hs]
      rw [hν]
      exact (EReal.coe_strictMono.monotone.map_max (a := μ) (b := ν)).symm
    refine ⟨max μ ν, hm, fun r V h2 h4 => ?_⟩
    show aNext (vChunk x4 n) (rScore x3 (qHead x0 g) n) (mRun (rScore x3 (qHead x0 g)) (initM x1 (qHead x0 g)) n)
      (headA x0 x1 x2 x3 x4 g n) (ix3 0 r q) = _
    rw [aNext_apply, hm, hμ, hA r V h2 h4]
    refine Eq.trans ?_ (step s V μ (max μ ν) (256 + 512 * n) 512)
    refine congrArg (fun z : EReal => Ideal.exp2 ((μ : EReal) - ((max μ ν : ℝ) : EReal)) * wsum s V μ (256 + 512 * n) + z) (Finset.sum_congr rfl fun k _ => ?_)
    rw [vChunk_apply x4 n (by omega), h4, hs]
    show V (256 + (512 * n + k)) * _ = _
    rw [← Nat.add_assoc]

/-- A stored element: the weighted sum of its coordinate over all keys, divided by the sum of the weights. -/
theorem outVal_apply (hc : ∀ k : Fin 256, (∑ d : Fin 128, (x1 (ix3 0 k d) : EReal) * x0 (ix3 g d q)) = (s k : EReal))
    (hk : ∀ k : Fin 16384, (∑ d : Fin 128, (x3 (ix3 0 k d) : EReal) * x0 (ix3 g d q)) = (s (256 + k) : EReal))
    (h2 : ∀ k : Fin 256, x2 (ix3 0 128 k) = (1 : EReal)) (h4 : ∀ k : Fin 16384, x4 (ix3 0 128 k) = (1 : EReal))
    (d : Fin 128) (V : ℕ → EReal) (hV2 : ∀ k : Fin 256, x2 (ix3 0 (Fin.castLE (by decide) d) k) = V k)
    (hV4 : ∀ k : Fin 16384, x4 (ix3 0 (Fin.castLE (by decide) d) k) = V (256 + k)) :
    ∃ μ : ℝ, outVal x0 x1 x2 x3 x4 (ix2 q ⟨128 * g + d, by omega⟩) = Ideal.div (wsum s V μ 16640) (wsum s (fun _ => 1) μ 16640) := by
  obtain ⟨μ, _, hA⟩ := rounds x0 x1 x2 x3 x4 g q s hc hk 32 (le_refl 32)
  refine ⟨μ, ?_⟩
  unfold outVal
  refine (View.canon_apply_of_pieces (fun y : S512x512.Idx =>
      oHead (headA x0 x1 x2 x3 x4 ⟨(y 1).val / 128, Nat.div_lt_of_lt_mul (y 1).isLt⟩ 32) (ix2 (y 0) ⟨(y 1).val % 128, Nat.mod_lt _ (by decide)⟩))
    _ ?_ _ (out_cover x0 x1 x2 x3 x4 _)).trans ?_
  · have key : ∀ (g : Fin 4) (inb) (z : S512x128.Idx),
        oHead (headA x0 x1 x2 x3 x4 g 32) z = (fun y : S512x512.Idx =>
          oHead (headA x0 x1 x2 x3 x4 ⟨(y 1).val / 128, Nat.div_lt_of_lt_mul (y 1).isLt⟩ 32) (ix2 (y 0) ⟨(y 1).val % 128, Nat.mod_lt _ (by decide)⟩))
          ((Rect.unit (s := S512x512) ![0, 128 * g.val] S512x128.size inb).emb z) := by
      intro g inb z
      have e0 : (((Rect.unit (s := S512x512) ![0, 128 * g.val] S512x128.size inb).emb z) 0).val = (z 0).val := by
        rw [Rect.emb_apply]
        show 0 + 1 * (z 0).val = (z 0).val
        omega
      have e1 : (((Rect.unit (s := S512x512) ![0, 128 * g.val] S512x128.size inb).emb z) 1).val = 128 * g.val + (z 1).val := by
        rw [Rect.emb_apply]
        show 128 * g.val + 1 * (z 1).val = _
        omega
      have hz : (z 1).val < 128 := (z 1).isLt
      refine congrArg₂ (fun g' z' => oHead (headA x0 x1 x2 x3 x4 g' 32) z') (Fin.ext ?_)
        ((eq_ix2 z).trans (congrArg₂ ix2 (Fin.ext e0.symm) (Fin.ext ?_)))
      · show g.val = _ / 128
        rw [e1]
        omega
      · show (z 1).val = _ % 128
        rw [e1]
        omega
    intro p hp z
    simp only [outPieces, List.mem_cons, List.not_mem_nil, or_false] at hp
    rcases hp with rfl | rfl | rfl | rfl
    · exact key 3 inb_S512x512_S512x128_0_384 z
    · exact key 2 inb_S512x512_S512x128_0_256 z
    · exact key 1 inb_S512x512_S512x128_0_128 z
    · exact key 0 inb_S512x512_S512x128_0_0 z
  · have eg : (⟨(128 * g.val + d.val) / 128, by omega⟩ : Fin 4) = g := Fin.ext (by
      show (128 * g.val + d.val) / 128 = g.val
      omega)
    have ed : (⟨(128 * g.val + d.val) % 128, by omega⟩ : Fin 128) = d := Fin.ext (by
      show (128 * g.val + d.val) % 128 = d.val
      omega)
    show oHead (headA x0 x1 x2 x3 x4 ⟨(128 * g.val + d.val) / 128, _⟩ 32) (ix2 q ⟨(128 * g.val + d.val) % 128, _⟩) = _
    rw [eg, ed, oHead_apply, hA _ V hV2 hV4, hA 128 (fun _ => 1) h2 h4]

end

end Cert.KernelIdeal.Flash
-- ==== Proof.Value.Reference.lean ====
/-
  The reference's result, element by element, when queries and keys are real numbers.

  The queries come scaled by `1/√128 · 1/log 2`; the reference divides that out and scales its scores by `1/√128`, so its scores are
  the kernel's times `log 2` (`score_eq`). Its result is the values weighted by the softmax of those (`result_eq`), which is the
  quotient of two weighted sums in powers of two, whatever number they are taken relative to.
-/
module

public import proofs.«01_k».proof.Proof.Gen.ReferenceIdeal.Read
public import proofs.«01_k».proof.Proof.Value.Softmax
public import Idealize.ShloMosaic.Lib.KernelVsHost
public import Idealize.ShloMosaic.Lib.ValueIdx

@[expose] public section

set_option maxRecDepth 16384

noncomputable section

namespace Cert.ReferenceIdeal.Attention

open Cert.ReferenceIdeal Cert.ReferenceIdeal.Gen Cert.ReferenceIdeal.Read
open Idealize.ShloMosaic Idealize.ShloMosaic.ValueIdx
open Cert.Softmax Finset

theorem ofBits_128 : Ideal.ofBits .f32 0x43000000#32 = ((128 : ℝ) : EReal) := by
  simp [Ideal.ofBits, Ideal.ieee, -EReal.coe_mul]; norm_num
theorem ofBits_2 : Ideal.ofBits .f32 0x40000000#32 = ((2 : ℝ) : EReal) := by
  simp [Ideal.ofBits, Ideal.ieee, -EReal.coe_mul]; norm_num
theorem ofBits_1 : Ideal.ofBits .f32 0x3F800000#32 = ((1 : ℝ) : EReal) := by
  simp [Ideal.ofBits, Ideal.ieee, -EReal.coe_mul]; norm_num
theorem ofBits_neg_inf : Ideal.ofBits .f32 0xFF800000#32 = ⊥ := by simp [Ideal.ofBits, Ideal.ieee]

/-- The scores' scale: `1/√128`. -/
theorem scale_eq (i : S_.Idx) : val_main_v1 (F := Ideal) i = ((1 / Real.sqrt 128 : ℝ) : EReal) := by
  show Ideal.div (Ideal.ofBits .f32 0x3F800000#32) (Ideal.sqrt (Ideal.ofBits .f32 0x43000000#32)) = _
  rw [ofBits_1, ofBits_128, Ideal.sqrt_coe, if_neg (by norm_num), Ideal.div_coe (by positivity), ← EReal.coe_mul, one_mul]

/-- The change to powers of two: `1/log 2`. -/
theorem log2e_eq (i : S_.Idx) : val_main_v3 (F := Ideal) i = ((1 / Real.log 2 : ℝ) : EReal) := by
  show Ideal.div (Ideal.ofBits .f32 0x3F800000#32) (Ideal.log (Ideal.ofBits .f32 0x40000000#32)) = _
  rw [ofBits_1, ofBits_2, Ideal.log_coe, if_neg (by norm_num), Ideal.div_coe (Real.log_pos (by norm_num)).ne', ← EReal.coe_mul, one_mul]

section
variable (x0 : Vec Ideal S8x128x16384 .bf16) (x1 : Vec Ideal S2x256x128 .bf16) (x2 : Vec Ideal S2x144x256 .bf16) (x3 : Vec Ideal S2x16384x128 .bf16)
  (x4 : Vec Ideal S2x144x16384 .bf16) (h : Fin 2) (g : Fin 4) (Q : Fin 16384) (κ : ℕ → Fin 128 → ℝ) (θ : Fin 128 → ℝ)

/-- A query of the reference: the kernel's with its scale divided out. -/
theorem query_eq (hθ : ∀ e : Fin 128, x0 (ix3 ⟨4 * h + g, by omega⟩ e Q) = ((θ e : ℝ) : EReal)) (e : Fin 128) :
    val_main_v9 (F := Ideal) x0 (ix4 Q h g e) = ((θ e * (Real.sqrt 128 * Real.log 2) : ℝ) : EReal) := by
  have hi : idx_main_v8 (idx_main_v9 (ix4 Q h g e)) = ix3 ⟨4 * h + g, by omega⟩ e Q := by
    funext a
    refine Fin.ext ?_
    match a with
    | ⟨0, _⟩ => show ((((Q : ℕ) * 2 + h) * 4 + g) * 128 + e) / 128 % 8 = 4 * h + g
                omega
    | ⟨1, _⟩ => show ((((Q : ℕ) * 2 + h) * 4 + g) * 128 + e) % 128 = e
                omega
    | ⟨2, _⟩ => show ((((Q : ℕ) * 2 + h) * 4 + g) * 128 + e) / 1024 = Q
                omega
  rw [val_main_v9_apply, val_main_v8_apply, val_main_v7_apply, val_main_v6_apply, val_main_v5_apply, val_main_v4_apply, hi]
  show Ideal.div (x0 (ix3 ⟨4 * h + g, _⟩ e Q)) (val_main_v1 (F := Ideal) _ * val_main_v3 (F := Ideal) _) = _
  have hl : Real.log 2 ≠ 0 := (Real.log_pos (by norm_num)).ne'
  have hq : Real.sqrt 128 ≠ 0 := by positivity
  rw [scale_eq, log2e_eq, ← EReal.coe_mul, hθ, Ideal.div_coe (by positivity), ← EReal.coe_mul]
  congr 2
  field_simp

/-- A key of the reference. -/
theorem key_eq (hc : ∀ (k : Fin 256) (e : Fin 128), x1 (ix3 h k e) = ((κ k e : ℝ) : EReal))
    (hk : ∀ (k : Fin 16384) (e : Fin 128), x3 (ix3 h k e) = ((κ (256 + k) e : ℝ) : EReal)) (k : Fin 16640) (e : Fin 128) :
    val_main_v12 (F := Ideal) x1 x3 (ix3 h k e) = ((κ k e : ℝ) : EReal) := by
  unfold val_main_v12
  by_cases hlt : k.val < 256
  · refine (concatenate_pair_apply_left (t := S2x16640x128) (s₁ := S2x256x128) (s₂ := S2x16384x128) 1 _ _ _ (ix3 h k e) rfl (ix3 h ⟨k, hlt⟩ e) (fun b => match b with
      | ⟨0, _⟩ => rfl
      | ⟨1, _⟩ => rfl
      | ⟨2, _⟩ => rfl)).trans ?_
    exact hc ⟨k, hlt⟩ e
  · refine (concatenate_pair_apply_right (t := S2x16640x128) (s₁ := S2x256x128) (s₂ := S2x16384x128) 1 _ _ _ (ix3 h k e) rfl rfl (ix3 h ⟨k - 256, by omega⟩ e) (fun b hb => match b, hb with
      | ⟨0, _⟩, _ => rfl
      | ⟨1, _⟩, hb => absurd rfl hb
      | ⟨2, _⟩, _ => rfl) (by
        show (k : ℕ) - 256 + 256 = k
        omega)).trans ?_
    refine (hk ⟨k - 256, by omega⟩ e).trans ?_
    show ((κ (256 + ((k : ℕ) - 256)) e : ℝ) : EReal) = _
    rw [Nat.add_sub_cancel' (Nat.le_of_not_lt hlt)]

/-- A value of the reference. -/
theorem value_eq (d : Fin 128) (V : ℕ → EReal) (h2 : ∀ k : Fin 256, x2 (ix3 h (Fin.castLE (by decide) d) k) = V k)
    (h4 : ∀ k : Fin 16384, x4 (ix3 h (Fin.castLE (by decide) d) k) = V (256 + k)) (k : Fin 16640) :
    val_main_v16 (F := Ideal) x2 x4 (ix3 h d k) = V k := by
  rw [val_main_v16_apply]
  unfold val_main_v15
  by_cases hlt : k.val < 256
  · refine (concatenate_pair_apply_left (t := S2x144x16640) (s₁ := S2x144x256) (s₂ := S2x144x16384) 2 _ _ _ (idx_main_v16 (ix3 h d k)) rfl (ix3 h (Fin.castLE (by decide) d) ⟨k, hlt⟩) (fun b => match b with
      | ⟨0, _⟩ => rfl
      | ⟨1, _⟩ => rfl
      | ⟨2, _⟩ => rfl)).trans ?_
    exact h2 ⟨k, hlt⟩
  · refine (concatenate_pair_apply_right (t := S2x144x16640) (s₁ := S2x144x256) (s₂ := S2x144x16384) 2 _ _ _ (idx_main_v16 (ix3 h d k)) rfl rfl (ix3 h (Fin.castLE (by decide) d) ⟨k - 256, by omega⟩) (fun b hb => match b, hb with
      | ⟨0, _⟩, _ => rfl
      | ⟨1, _⟩, _ => rfl
      | ⟨2, _⟩, hb => absurd rfl hb) (by
        show (k : ℕ) - 256 + 256 = k
        omega)).trans ?_
    refine (h4 ⟨k - 256, by omega⟩).trans ?_
    show V (256 + ((k : ℕ) - 256)) = _
    rw [Nat.add_sub_cancel' (Nat.le_of_not_lt hlt)]

/-- A score of the reference: the kernel's times `log 2`. -/
theorem score_eq (hθ : ∀ e : Fin 128, x0 (ix3 ⟨4 * h + g, by omega⟩ e Q) = ((θ e : ℝ) : EReal))
    (hc : ∀ (k : Fin 256) (e : Fin 128), x1 (ix3 h k e) = ((κ k e : ℝ) : EReal))
    (hk : ∀ (k : Fin 16384) (e : Fin 128), x3 (ix3 h k e) = ((κ (256 + k) e : ℝ) : EReal)) (k : Fin 16640) :
    val_main_v20 (F := Ideal) x0 x1 x3 (ix4 h g Q k) = (((∑ e, κ k e * θ e) * Real.log 2 : ℝ) : EReal) := by
  have hl : ∀ e, lidx_main_v17 (idx_main_v18 (ix4 h g Q k)) e = ix3 h k e := fun e => funext fun a => match a with
    | ⟨0, _⟩ => rfl
    | ⟨1, _⟩ => rfl
    | ⟨2, _⟩ => rfl
  have hr : ∀ e, ridx_main_v17 (idx_main_v18 (ix4 h g Q k)) e = ix4 Q h g e := fun e => funext fun a => match a with
    | ⟨0, _⟩ => rfl
    | ⟨1, _⟩ => rfl
    | ⟨2, _⟩ => rfl
    | ⟨3, _⟩ => rfl
  rw [val_main_v20_apply, val_main_v18_apply, val_main_v17_apply, val_main_v19_apply, scale_eq]
  simp only [hl, hr, key_eq x1 x3 h κ hc hk, query_eq x0 h g Q θ hθ]
  show (∑ e : Fin 128, ((κ k e : ℝ) : EReal) * ((θ e * (Real.sqrt 128 * Real.log 2) : ℝ) : EReal)) * ((1 / Real.sqrt 128 : ℝ) : EReal) = _
  have hq : Real.sqrt 128 ≠ 0 := by positivity
  simp only [← EReal.coe_mul]
  rw [coe_sum, ← EReal.coe_mul]
  congr 1
  rw [Finset.sum_mul, Finset.sum_mul]
  refine Finset.sum_congr rfl fun e _ => ?_
  field_simp

/-- The number the reference takes its softmax relative to is real. -/
theorem max_real (hθ : ∀ e : Fin 128, x0 (ix3 ⟨4 * h + g, by omega⟩ e Q) = ((θ e : ℝ) : EReal))
    (hc : ∀ (k : Fin 256) (e : Fin 128), x1 (ix3 h k e) = ((κ k e : ℝ) : EReal))
    (hk : ∀ (k : Fin 16384) (e : Fin 128), x3 (ix3 h k e) = ((κ (256 + k) e : ℝ) : EReal)) :
    ∃ M : ℝ, val_main_v23 (F := Ideal) x0 x1 x3 (ix3 h g Q) = (M : EReal) := by
  have h' : S2x4x16384x16640.Reduces [3] S2x4x16384 := by decide
  have hm : val_main_v21 (F := Ideal) x0 x1 x3 (ix3 h g Q)
      = (Finset.univ : Finset (Fin 16640)).fold max ⊥ fun k : Fin 16640 => (((∑ e, κ k e * θ e) * Real.log 2 : ℝ) : EReal) := by
    unfold val_main_v21 val_main_cst_3
    refine (congrFun (hostReduce_maximumf_eq_multiReduction (F := Ideal) (φ := .f32) (u := S_) (val_main_v20 (F := Ideal) x0 x1 x3) 0xFF800000#32
      reducesTo_S2x4x16384x16640_S2x4x16384_d3 h_S_ h' (.inl rfl) rfl) (ix3 h g Q)).trans ?_
    refine (Ideal.multiReduction_maximumf_single _ _ h' (.inl rfl) rfl (ix3 h g Q)).trans ?_
    show (Finset.univ : Finset (Fin 16640)).fold max (Ideal.ofBits .f32 0xFF800000#32) _ = _
    rw [ofBits_neg_inf]
    congr 1
    funext k
    refine Eq.trans (congrArg (val_main_v20 (F := Ideal) x0 x1 x3) (funext fun a => ?_)) (score_eq x0 x1 x3 h g Q κ θ hθ hc hk k)
    match a with
    | ⟨0, _⟩ => rfl
    | ⟨1, _⟩ => rfl
    | ⟨2, _⟩ => rfl
    | ⟨3, _⟩ => rfl
  obtain ⟨he, _⟩ | ⟨M, hM⟩ := fold_max_real (fun k : Fin 16640 => (∑ e, κ k e * θ e) * Real.log 2) Finset.univ
  · exact absurd he (Finset.univ_nonempty (α := Fin 16640)).ne_empty
  · refine ⟨M, ?_⟩
    rw [val_main_v23_apply, val_main_v22_apply, hm, hM]
    show max (Ideal.ofBits .f32 0xFF800000#32) (M : EReal) = _
    rw [ofBits_neg_inf]
    exact max_eq_right bot_le

/-- The reference's result: the quotient of the weighted sum of the values by the sum of the weights, relative to any number. -/
theorem result_eq (hθ : ∀ e : Fin 128, x0 (ix3 ⟨4 * h + g, by omega⟩ e Q) = ((θ e : ℝ) : EReal))
    (hc : ∀ (k : Fin 256) (e : Fin 128), x1 (ix3 h k e) = ((κ k e : ℝ) : EReal))
    (hk : ∀ (k : Fin 16384) (e : Fin 128), x3 (ix3 h k e) = ((κ (256 + k) e : ℝ) : EReal))
    (d : Fin 128) (V : ℕ → EReal) (h2 : ∀ k : Fin 256, x2 (ix3 h (Fin.castLE (by decide) d) k) = V k)
    (h4 : ∀ k : Fin 16384, x4 (ix3 h (Fin.castLE (by decide) d) k) = V (256 + k)) (μ : ℝ) :
    val_main_v35 (F := Ideal) x0 x1 x2 x3 x4 (ix2 Q ⟨512 * h + 128 * g + d, by omega⟩)
      = Ideal.div (wsum (fun k => ∑ e, κ k e * θ e) V μ 16640) (wsum (fun k => ∑ e, κ k e * θ e) (fun _ => 1) μ 16640) := by
  obtain ⟨M, hM⟩ := max_real x0 x1 x3 h g Q κ θ hθ hc hk
  rw [quotient_eq _ V μ M 16640 (by norm_num)]
  have hi : idx_main_v34 (ix2 Q ⟨512 * h + 128 * g + d, by omega⟩) = ix4 Q h g d := by
    funext a
    refine Fin.ext ?_
    match a with
    | ⟨0, _⟩ => show ((Q : ℕ) * 1024 + (512 * h + 128 * g + d)) / 1024 = Q
                omega
    | ⟨1, _⟩ => show ((Q : ℕ) * 1024 + (512 * h + 128 * g + d)) / 512 % 2 = h
                omega
    | ⟨2, _⟩ => show ((Q : ℕ) * 1024 + (512 * h + 128 * g + d)) / 128 % 4 = g
                omega
    | ⟨3, _⟩ => show ((Q : ℕ) * 1024 + (512 * h + 128 * g + d)) % 128 = d
                omega
  have hl : ∀ k, lidx_main_v32 (idx_main_v33 (ix4 Q h g d)) k = ix3 h d k := fun k => funext fun a => match a with
    | ⟨0, _⟩ => rfl
    | ⟨1, _⟩ => rfl
    | ⟨2, _⟩ => rfl
  have hr : ∀ k, ridx_main_v32 (idx_main_v33 (ix4 Q h g d)) k = ix4 h g Q k := fun k => funext fun a => match a with
    | ⟨0, _⟩ => rfl
    | ⟨1, _⟩ => rfl
    | ⟨2, _⟩ => rfl
    | ⟨3, _⟩ => rfl
  have hb : ∀ k : Fin 16640, idx_main_v24 (idx_main_v25 (ix4 h g Q k)) = ix3 h g Q := fun k => funext fun a => match a with
    | ⟨0, _⟩ => rfl
    | ⟨1, _⟩ => rfl
    | ⟨2, _⟩ => rfl
  have hs : ∀ k : Fin 16640, idx_main_v29 (idx_main_v30 (ix4 h g Q k)) = ix3 h g Q := fun k => funext fun a => match a with
    | ⟨0, _⟩ => rfl
    | ⟨1, _⟩ => rfl
    | ⟨2, _⟩ => rfl
  have hj : ∀ k : Fin 16640, idx_main_v28 (ix3 h g Q) k = ix4 h g Q k := fun k => funext fun a => match a with
    | ⟨0, _⟩ => rfl
    | ⟨1, _⟩ => rfl
    | ⟨2, _⟩ => rfl
    | ⟨3, _⟩ => rfl
  have hE : ∀ k : Fin 16640, val_main_v27 (F := Ideal) x0 x1 x3 (ix4 h g Q k)
      = Ideal.exp ((((∑ e, κ k e * θ e) * Real.log 2 : ℝ) : EReal) - M) := fun k => by
    rw [val_main_v27_apply, val_main_v26_apply, val_main_v25_apply, val_main_v24_apply, hb, hM, score_eq x0 x1 x3 h g Q κ θ hθ hc hk]
    rfl
  have hD : val_main_v28 (F := Ideal) x0 x1 x3 (ix3 h g Q)
      = 0 + ∑ j ∈ range 16640, Ideal.exp ((((∑ e, κ j e * θ e) * Real.log 2 : ℝ) : EReal) - M) := by
    rw [val_main_v28_apply]
    refine congrArg₂ (fun a b : EReal => a + b) Ideal.ofBits_zero_f32 ?_
    rw [← Fin.sum_univ_eq_sum_range (fun j => Ideal.exp ((((∑ e, κ j e * θ e) * Real.log 2 : ℝ) : EReal) - M))]
    exact Finset.sum_congr rfl fun k _ => by rw [hj, hE]
  show val_main_v34 (F := Ideal) x0 x1 x2 x3 x4 _ = _
  rw [val_main_v34_apply, hi, val_main_v33_apply, val_main_v32_apply,
    ← Fin.sum_univ_eq_sum_range (fun k => V k * Ideal.div (Ideal.exp ((((∑ e, κ k e * θ e) * Real.log 2 : ℝ) : EReal) - M))
      (0 + ∑ j ∈ range 16640, Ideal.exp ((((∑ e, κ j e * θ e) * Real.log 2 : ℝ) : EReal) - M)))]
  refine Finset.sum_congr rfl fun k _ => ?_
  rw [hl, hr, value_eq x2 x4 h d V h2 h4, val_main_v31_apply, val_main_v30_apply, val_main_v29_apply, hs, hD, hE]
  rfl

end

end Cert.ReferenceIdeal.Attention
-- ==== Proof.Value.Array.lean ====
/-
  The kernel's result array is the reference's function of its arguments, when queries and keys are real and the values' row 128
  is one.

  Point `(h, i)` of the grid reads the queries of heads `4h … 4h+3` at positions `512i … 512i+511` and all keys and values of
  pair `h` (`blk0` … `blk4`), and writes rows `512i …` and columns `512h …` of the result, which over the grid cover it (`final`).
-/
module

public import proofs.«01_k».proof.Proof.Value.Block
public import proofs.«01_k».proof.Proof.Value.Reference
public import Idealize.ShloMosaic.Lib.Pipeline.ValueKit

@[expose] public section

set_option maxRecDepth 16384

noncomputable section

namespace Cert.KernelIdeal.Flash

open Cert.KernelIdeal Cert.KernelIdeal.Gen
open Idealize.ShloMosaic Idealize.ShloMosaic.TcCoe Idealize.SL.Sem
open Cert.Softmax

variable (m : (ℓ : Loc nD τ sig) → Buf (Elt Ideal) ℓ) (ρ : Dev nD → PrngReg)

/-- The pair of heads and the block of positions of a point. -/
def hOf (t : Fin cfg0.N) : Fin 2 := grid0.coords t 0
/-- The block of positions of a point. -/
def iOf (t : Fin cfg0.N) : Fin 32 := grid0.coords t 1

theorem index0 : ∀ t : Fin cfg0.N, win0_0.index t = ![(hOf t).val, 0, (iOf t).val] := (by decide +kernel : ∀ t : Fin grid0.N, _)
theorem index1 : ∀ t : Fin cfg0.N, win0_1.index t = ![(hOf t).val, 0, 0] := (by decide +kernel : ∀ t : Fin grid0.N, _)
theorem index2 : ∀ t : Fin cfg0.N, win0_2.index t = ![(hOf t).val, 0, 0] := (by decide +kernel : ∀ t : Fin grid0.N, _)
theorem index3 : ∀ t : Fin cfg0.N, win0_3.index t = ![(hOf t).val, 0, 0] := (by decide +kernel : ∀ t : Fin grid0.N, _)
theorem index4 : ∀ t : Fin cfg0.N, win0_4.index t = ![(hOf t).val, 0, 0] := (by decide +kernel : ∀ t : Fin grid0.N, _)
theorem index5 : ∀ t : Fin cfg0.N, win0_5.index t = ![(iOf t).val, (hOf t).val] := (by decide +kernel : ∀ t : Fin grid0.N, _)

/-- A block of the queries. -/
theorem blk0 (c : Dev nD) (t : Fin cfg0.N) (g : Fin 4) (d : Fin 128) (q : Fin 512) :
    iblk m c 0 t (ix3 g d q) = m ((c : Thread nD τ).loc main_arg0) (ix3 ⟨4 * hOf t + g, by omega⟩ d ⟨512 * iOf t + q, by omega⟩) := by
  refine congrArg (m ((c : Thread nD τ).loc main_arg0)) (funext fun a => Fin.ext ?_)
  refine (win0_0.rect_emb_val t (ix3 g d q) a).trans ?_
  rw [index0]
  match a with
  | 0 => show (hOf t).val * 4 + g = 4 * hOf t + g
         omega
  | 1 => show 0 * 128 + d = (d : ℕ)
         omega
  | 2 => show (iOf t).val * 512 + q = 512 * iOf t + q
         omega

/-- A block of the context's keys. -/
theorem blk1 (c : Dev nD) (t : Fin cfg0.N) (k : Fin 256) (d : Fin 128) :
    iblk m c 1 t (ix3 0 k d) = m ((c : Thread nD τ).loc main_arg1) (ix3 (hOf t) k d) := by
  refine congrArg (m ((c : Thread nD τ).loc main_arg1)) (funext fun a => Fin.ext ?_)
  refine (win0_1.rect_emb_val t (ix3 0 k d) a).trans ?_
  rw [index1]
  match a with
  | 0 => show (hOf t).val * 1 + 0 = hOf t
         omega
  | 1 => show 0 * 256 + k = (k : ℕ)
         omega
  | 2 => show 0 * 128 + d = (d : ℕ)
         omega

/-- A block of the context's values. -/
theorem blk2 (c : Dev nD) (t : Fin cfg0.N) (r : Fin 144) (k : Fin 256) :
    iblk m c 2 t (ix3 0 r k) = m ((c : Thread nD τ).loc main_arg2) (ix3 (hOf t) r k) := by
  refine congrArg (m ((c : Thread nD τ).loc main_arg2)) (funext fun a => Fin.ext ?_)
  refine (win0_2.rect_emb_val t (ix3 0 r k) a).trans ?_
  rw [index2]
  match a with
  | 0 => show (hOf t).val * 1 + 0 = hOf t
         omega
  | 1 => show 0 * 144 + r = (r : ℕ)
         omega
  | 2 => show 0 * 256 + k = (k : ℕ)
         omega

/-- A block of the keys. -/
theorem blk3 (c : Dev nD) (t : Fin cfg0.N) (k : Fin 16384) (d : Fin 128) :
    iblk m c 3 t (ix3 0 k d) = m ((c : Thread nD τ).loc main_arg3) (ix3 (hOf t) k d) := by
  refine congrArg (m ((c : Thread nD τ).loc main_arg3)) (funext fun a => Fin.ext ?_)
  refine (win0_3.rect_emb_val t (ix3 0 k d) a).trans ?_
  rw [index3]
  match a with
  | 0 => show (hOf t).val * 1 + 0 = hOf t
         omega
  | 1 => show 0 * 16384 + k = (k : ℕ)
         omega
  | 2 => show 0 * 128 + d = (d : ℕ)
         omega

/-- A block of the values. -/
theorem blk4 (c : Dev nD) (t : Fin cfg0.N) (r : Fin 144) (k : Fin 16384) :
    iblk m c 4 t (ix3 0 r k) = m ((c : Thread nD τ).loc main_arg4) (ix3 (hOf t) r k) := by
  refine congrArg (m ((c : Thread nD τ).loc main_arg4)) (funext fun a => Fin.ext ?_)
  refine (win0_4.rect_emb_val t (ix3 0 r k) a).trans ?_
  rw [index4]
  match a with
  | 0 => show (hOf t).val * 1 + 0 = hOf t
         omega
  | 1 => show 0 * 144 + r = (r : ℕ)
         omega
  | 2 => show 0 * 16384 + k = (k : ℕ)
         omega

/-- What a device's arguments have to be: real queries and keys, and the values' row 128 one. -/
structure Args (c : Dev nD) : Prop where
  query : ∀ i : S8x128x16384.Idx, ∃ r : ℝ, m ((c : Thread nD τ).loc main_arg0) i = (r : EReal)
  ckey : ∀ i : S2x256x128.Idx, ∃ r : ℝ, m ((c : Thread nD τ).loc main_arg1) i = (r : EReal)
  cone : ∀ (h : Fin 2) (k : Fin 256), m ((c : Thread nD τ).loc main_arg2) (ix3 h 128 k) = (1 : EReal)
  key : ∀ i : S2x16384x128.Idx, ∃ r : ℝ, m ((c : Thread nD τ).loc main_arg3) i = (r : EReal)
  one : ∀ (h : Fin 2) (k : Fin 16384), m ((c : Thread nD τ).loc main_arg4) (ix3 h 128 k) = (1 : EReal)

/-- The reference's function of the kernel's arguments. -/
abbrev target (c : Dev nD) : Buf (Elt Ideal) ((c : Thread nD τ).loc main_v0) :=
  Cert.ReferenceIdeal.Read.val_main_v35 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- What a point leaves is its block of the reference's result. -/
theorem point (c : Dev nD) (H : Args m c) (t : Fin cfg0.N) (q : Fin 512) (g : Fin 4) (d : Fin 128) :
    outVal (iblk m c 0 t) (iblk m c 1 t) (iblk m c 2 t) (iblk m c 3 t) (iblk m c 4 t) (ix2 q ⟨128 * g + d, by omega⟩)
      = target m c (ix2 ⟨512 * iOf t + q, by omega⟩ ⟨512 * hOf t + 128 * g + d, by omega⟩) := by
  obtain ⟨hq, hck, hc1, hk, h1⟩ := H
  choose r0 hr0 using hq
  choose r1 hr1 using hck
  choose r3 hr3 using hk
  let θ : Fin 128 → ℝ := fun e => r0 (ix3 ⟨4 * hOf t + g, by omega⟩ e ⟨512 * iOf t + q, by omega⟩)
  let κ : ℕ → Fin 128 → ℝ := fun k e => if h : k < 256 then r1 (ix3 (hOf t) ⟨k, h⟩ e) else r3 (ix3 (hOf t) ⟨(k - 256) % 16384, Nat.mod_lt _ (by decide)⟩ e)
  let V : ℕ → EReal := fun k => if h : k < 256 then m ((c : Thread nD τ).loc main_arg2) (ix3 (hOf t) (Fin.castLE (by decide) d) ⟨k, h⟩)
    else m ((c : Thread nD τ).loc main_arg4) (ix3 (hOf t) (Fin.castLE (by decide) d) ⟨(k - 256) % 16384, Nat.mod_lt _ (by decide)⟩)
  have e : ∀ k : Fin 16384, (⟨(256 + k.val - 256) % 16384, Nat.mod_lt _ (by decide)⟩ : Fin 16384) = k := fun k => Fin.ext (by
    show (256 + k.val - 256) % 16384 = k.val
    omega)
  have hθ : ∀ e : Fin 128, m ((c : Thread nD τ).loc main_arg0) (ix3 ⟨4 * hOf t + g, by omega⟩ e ⟨512 * iOf t + q, by omega⟩) = ((θ e : ℝ) : EReal) :=
    fun e => hr0 _
  have hκc : ∀ (k : Fin 256) (e : Fin 128), m ((c : Thread nD τ).loc main_arg1) (ix3 (hOf t) k e) = ((κ k e : ℝ) : EReal) := fun k e => by
    rw [show κ k e = r1 (ix3 (hOf t) k e) from dif_pos k.isLt]
    exact hr1 _
  have hκ : ∀ (k : Fin 16384) (e : Fin 128), m ((c : Thread nD τ).loc main_arg3) (ix3 (hOf t) k e) = ((κ (256 + k) e : ℝ) : EReal) := fun k x => by
    rw [show κ (256 + k) x = r3 (ix3 (hOf t) k x) from (dif_neg (by omega)).trans (by rw [e k])]
    exact hr3 _
  have hVc : ∀ k : Fin 256, m ((c : Thread nD τ).loc main_arg2) (ix3 (hOf t) (Fin.castLE (by decide) d) k) = V k := fun k => by
    simp only [V]
    rw [dif_pos k.isLt]
  have hV : ∀ k : Fin 16384, m ((c : Thread nD τ).loc main_arg4) (ix3 (hOf t) (Fin.castLE (by decide) d) k) = V (256 + k) := fun k => by
    simp only [V]
    rw [dif_neg (by omega), e k]
  obtain ⟨μ, hμ⟩ := outVal_apply (iblk m c 0 t) (iblk m c 1 t) (iblk m c 2 t) (iblk m c 3 t) (iblk m c 4 t) g q (fun k => ∑ x, κ k x * θ x)
    (fun k => by
      rw [← coe_sum]
      exact Finset.sum_congr rfl fun x _ => by
        rw [EReal.coe_mul]
        exact congrArg₂ _ ((blk1 m c t k x).trans (hκc k x)) ((blk0 m c t g x q).trans (hθ x)))
    (fun k => by
      rw [← coe_sum]
      exact Finset.sum_congr rfl fun x _ => by
        rw [EReal.coe_mul]
        exact congrArg₂ _ ((blk3 m c t k x).trans (hκ k x)) ((blk0 m c t g x q).trans (hθ x)))
    (fun k => (blk2 m c t 128 k).trans (hc1 _ k)) (fun k => (blk4 m c t 128 k).trans (h1 _ k)) d V
    (fun k => (blk2 m c t _ k).trans (hVc k)) (fun k => (blk4 m c t _ k).trans (hV k))
  exact hμ.trans (Cert.ReferenceIdeal.Attention.result_eq _ _ _ _ _ (hOf t) g ⟨512 * iOf t + q, by omega⟩ κ θ hθ hκc hκ d V hVc hV μ).symm

/-- The result array after the run. -/
theorem final (c : Dev nD) (H : Args m c) : (dats m 0 c).arrAt 5 cfg0.N = target m c := by
  refine (dats m 0 c).arrAt_eq_of_covers 5 _ (by decide +kernel) fun t _ y => ?_
  show (dats m 0 c).after 5 t y = _
  rw [after5]
  have hy0 : (y 0).val < 512 := (y 0).isLt
  have hy1 : (y 1).val < 512 := (y 1).isLt
  have hy : y = ix2 ⟨(y 0).val, hy0⟩ ⟨128 * ((⟨(y 1).val / 128, by omega⟩ : Fin 4) : ℕ) + ((⟨(y 1).val % 128, by omega⟩ : Fin 128) : ℕ), by
      show 128 * ((y 1).val / 128) + (y 1).val % 128 < 512
      omega⟩ := by
    funext a
    refine Fin.ext ?_
    match a with
    | 0 => rfl
    | 1 => show (y 1).val = 128 * ((y 1).val / 128) + (y 1).val % 128
           omega
  rw [hy]
  refine (point m c H t _ _ _).trans (congrArg (target m c) (funext fun a => Fin.ext ?_))
  refine Eq.trans ?_ (win0_5.rect_emb_val t _ a).symm
  rw [index5]
  match a with
  | 0 => show 512 * (iOf t).val + (y 0).val = (iOf t).val * 512 + (y 0).val
         omega
  | 1 => show 512 * (hOf t).val + 128 * ((y 1).val / 128) + (y 1).val % 128 = (hOf t).val * 512 + (128 * ((y 1).val / 128) + (y 1).val % 128)
         omega

/-- The run: the result array holds the reference's function of the arguments, which end unchanged. -/
theorem run_value (H : ∀ c, Args m c) : θ_run defs (onTc (τ := τ) (main (F := Ideal))) ⟨m, fun _ => 0, ρ⟩ (fun r => ∀ c : Dev nD,
      r.2.mem ((c.tc : Thread nD τ).loc main_v0) = target m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (θ_run_and (run_main m ρ) (unchanged m ρ))
  exact ⟨((h.1 c).1 5).trans (final m c (H c)), h.2 c⟩

end Cert.KernelIdeal.Flash
-- ==== Proof.Value.Pre.lean ====
/-
  What the precondition of the equality says of a device's arguments: the queries and keys are real numbers, and the values' row
  128 is one.
-/
module

public import proofs.«01_k».proof.Defs
public import proofs.«01_k».proof.Proof.Gen.Pre_finite_scores
public import proofs.«01_k».proof.Proof.Value.Array

@[expose] public section

set_option maxRecDepth 16384

noncomputable section

namespace Cert.KernelIdeal.Flash

open Cert.KernelIdeal
open Idealize.ShloMosaic Idealize.ShloMosaic.TcCoe
open Cert.Pre_finite_scores.Gen

/-- The word of `+∞` reads as `⊤`. -/
theorem ofBits_inf : Ideal.ofBits .f32 0x7F800000#32 = ⊤ := by simp [Ideal.ofBits, Ideal.ieee]

/-- The word of one reads as one. -/
theorem ofBits_one : Ideal.ofBits .f32 0x3F800000#32 = 1 := Cert.ReferenceIdeal.Attention.ofBits_1.trans EReal.coe_one

/-- A comparison's bit is one exactly where the comparison holds. -/
theorem of_ofBool {p : Prop} [Decidable p] (h : BitVec.ofBool (decide p) = 1#1) : p := by
  by_contra hp
  rw [decide_eq_false hp] at h
  exact absurd h (by decide)

/-- An extended real whose absolute value is below `+∞` is real. -/
theorem real_of_lt (x : EReal) (h : Ideal.cmp .olt (max x (-x)) (Ideal.ofBits .f32 0x7F800000#32) = 1#1) : ∃ r : ℝ, x = (r : EReal) := by
  have h' : max x (-x) < (⊤ : EReal) := by
    rw [ofBits_inf] at h
    exact of_ofBool h
  induction x using EReal.rec with
  | bot => exact absurd (lt_of_le_of_lt (le_max_right _ _) h') (by simp)
  | coe r => exact ⟨r, rfl⟩
  | top => exact absurd (lt_of_le_of_lt (le_max_left _ _) h') (by simp)

/-- An extended real that compares equal to one is one. -/
theorem one_of_eq (x : EReal) (h : Ideal.cmp .oeq x (Ideal.ofBits .f32 0x3F800000#32) = 1#1) : x = 1 := by
  rw [ofBits_one] at h
  exact of_ofBool h

/-- Row 128 of the values, as the precondition reads it. -/
theorem row_apply {n : ℕ} (x : Vec Ideal ⟨3, ![2, 144, n]⟩ .bf16) (hs) (hc) (h : Fin 2) (k : Fin n) :
    shapeCast (⟨2, ![2, n]⟩ : Shape) (extractStridedSlice ⟨3, ![2, 1, n]⟩ ![0, 128, 0] x hs) hc (ix2 h k) = x (ix3 h 128 k) := by
  refine (shapeCast_apply _ hc (ix2 h k) (ix3 h 0 k) ?_).trans (extractStridedSlice_apply _ x hs (ix3 h 0 k) (ix3 h 128 k) ?_)
  · rewrite [Shape.rowMajor_val_three, Shape.rowMajor_val_two]
    show ((h : ℕ) * 1 + 0) * n + k = h * n + k
    rw [Nat.mul_one, Nat.add_zero]
  · intro a
    match a with
    | 0 => show (h : ℕ) = 0 + h
           omega
    | 1 => rfl
    | 2 => show (k : ℕ) = 0 + k
           omega

/-- The precondition gives what the array's equality takes. -/
theorem args_of_pre (m : (ℓ : Loc nD τ sig) → Buf (Elt Ideal) ℓ) (hpre : Pre_KernelIdeal_finite_scores m) (c : Dev nD) : Args m c := by
  obtain ⟨h0, h1, h2, h3, h4⟩ := hpre c
  refine ⟨fun i => real_of_lt _ (congrFun h0 i), fun i => real_of_lt _ (congrFun h1 i), fun h k => ?_,
    fun i => real_of_lt _ (congrFun h3 i), fun h k => ?_⟩
  · rw [← row_apply (n := 256) (m ((c : Thread nD τ).loc main_arg2)) Cert.Pre_finite_scores.Facts.slices_S2x144x256_S2x1x256_0_128_0
      Cert.Pre_finite_scores.Facts.shapeCasts_S2x1x256_S2x256 h k]
    exact one_of_eq _ (congrFun h2 (ix2 h k))
  · rw [← row_apply (n := 16384) (m ((c : Thread nD τ).loc main_arg4)) Cert.Pre_finite_scores.Facts.slices_S2x144x16384_S2x1x16384_0_128_0
      Cert.Pre_finite_scores.Facts.shapeCasts_S2x1x16384_S2x16384 h k]
    exact one_of_eq _ (congrFun h4 (ix2 h k))

end Cert.KernelIdeal.Flash
-- ==== Proof.Inproj.Rows.lean ====
/-
  The functions of one token's row that the input projection is made of, over the extended reals: the normalisation of a row
  (`rms`), GELU in its tanh form (`gelu`), the sigmoid (`sigm`), the rotation of a head (`rope`). Then the vector operations that
  compute them on a block of tokens, read at an index.
-/
module

public import Idealize.ShloMosaic.PureOps.Ideal.Laws
public import Idealize.ShloMosaic.Lib.MatmulPlain
public import Idealize.ShloMosaic.Lib.Pipeline.Value
public import Idealize.ShloMosaic.Lib.ValueIdx
public import Idealize.ShloMosaic.Lib.KernelVsHost

@[expose] public section

set_option maxRecDepth 16384

noncomputable section

namespace Cert.Inproj

open Idealize.ShloMosaic Idealize.ShloMosaic.ValueIdx

/-- A row of `n` numbers divided by the root of its mean square (its sum over `N`, plus `ε`), times `g`. -/
def rms {n : ℕ} (N : BitVec 32) (x g : Fin n → EReal) (j : Fin n) : EReal :=
  x j * Ideal.rsqrt (Ideal.div (∑ k, x k * x k) (Ideal.ofBits .f32 N) + Ideal.ofBits .f32 0x358637BD#32) * g j

/-- GELU in its tanh form. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * x * x)))))

/-- The sigmoid. -/
def sigm (x : EReal) : EReal :=
  Ideal.div (Ideal.ofBits .f32 0x3F800000#32) (Ideal.ofBits .f32 0x3F800000#32 + Ideal.exp (-x))

/-- A head rotated by its token's angles. -/
def rope (y : Fin 128 → EReal) (c s : Fin 64 → EReal) (d : Fin 128) : EReal :=
  if h : d.val < 64 then y d * c ⟨d, h⟩ - y ⟨d + 64, by omega⟩ * s ⟨d, h⟩
  else y d * c ⟨d - 64, by omega⟩ + y ⟨d - 64, by omega⟩ * s ⟨d - 64, by omega⟩

/-- A plain product from zero, at an index. -/
theorem dot_apply {M K N : ℕ} {φ₁ φ₂ : FTy} (lhs : FVec Ideal ⟨2, ![M, K]⟩ φ₁) (rhs : FVec Ideal ⟨2, ![K, N]⟩ φ₂) (r : Fin M) (c : Fin N) :
    matmul (DotDims.plain M K N) none lhs rhs (constant ⟨2, ![M, N]⟩ .f32 0x00000000#32) (ix2 r c) = ∑ k : Fin K, lhs (ix2 r k) * rhs (ix2 k c) := by
  refine (Ideal.matmul_plain_apply none lhs rhs _ r c).trans ?_
  rw [constant_apply, Ideal.ofBits_zero_f32, zero_add]

/-- A block without its first axis of size one. -/
theorem drop1 {a b : ℕ} {e : EltTy} (x : Vec Ideal ⟨3, ![1, a, b]⟩ e) (h) (i : Fin a) (j : Fin b) :
    shapeCast ⟨2, ![a, b]⟩ x h (ix2 i j) = x (ix3 0 i j) :=
  shapeCast_apply x h _ _ (by rewrite [Shape.rowMajor_val_three, Shape.rowMajor_val_two]; show ((0 : ℕ) * a + i) * b + j = i * b + j; rw [Nat.zero_mul, Nat.zero_add])

/-- A block with one more first axis of size one. -/
theorem add1 {a b : ℕ} {e : EltTy} (x : Vec Ideal ⟨2, ![a, b]⟩ e) (h) (i : Fin a) (j : Fin b) :
    shapeCast ⟨3, ![1, a, b]⟩ x h (ix3 0 i j) = x (ix2 i j) :=
  shapeCast_apply x h _ _ (by rewrite [Shape.rowMajor_val_three, Shape.rowMajor_val_two]; show i * b + j = ((0 : ℕ) * a + i) * b + j; rw [Nat.zero_mul, Nat.zero_add])

/-- A column with one more axis of size one. -/
theorem addCol {a : ℕ} {e : EltTy} (x : Vec Ideal ⟨1, ![a]⟩ e) (h) (i : Fin a) :
    shapeCast ⟨2, ![a, 1]⟩ x h (ix2 i 0) = x (ix1 i) :=
  shapeCast_apply x h _ _ (by rewrite [Shape.rowMajor_val_one, Shape.rowMajor_val_two]; show (i : ℕ) = (i : ℕ) * 1 + 0; omega)

/-- A row spread over the rows of a matrix. -/
theorem spread {a b : ℕ} {e : EltTy} (x : Vec Ideal ⟨2, ![1, b]⟩ e) (h) (hb : b ≠ 1) (i : Fin a) (j : Fin b) :
    broadcastTo ⟨2, ![a, b]⟩ x h (ix2 i j) = x (ix2 0 j) :=
  broadcastTo_apply x h _ _ fun c => by
    match c with
    | 0 => rfl
    | 1 => exact (if_neg hb).symm

/-- A column spread over the columns of a matrix. -/
theorem spreadCol {a b : ℕ} {e : EltTy} (x : Vec Ideal ⟨2, ![a, 1]⟩ e) (h) (ha : a ≠ 1) (i : Fin a) (j : Fin b) :
    broadcastTo ⟨2, ![a, b]⟩ x h (ix2 i j) = x (ix2 i 0) :=
  broadcastTo_apply x h _ _ fun c => by
    match c with
    | 0 => exact (if_neg ha).symm
    | 1 => rfl

/-- A row's sum. -/
theorem rowSum {a b : ℕ} (x : FVec Ideal ⟨2, ![a, b]⟩ .f32) (h : (⟨2, ![a, b]⟩ : Shape).Reduces [1] ⟨1, ![a]⟩) (hφ hacc) (i : Fin a) :
    multiReduction .add [1] ⟨1, ![a]⟩ x 0x00000000#32 h hφ hacc (ix1 i) = ∑ k : Fin b, x (ix2 i k) := by
  refine (Ideal.multiReduction_add_single x _ h hφ hacc (ix1 i)).trans ?_
  refine Finset.sum_congr rfl fun k _ => congrArg x (funext fun c => ?_)
  match c with
  | 0 => rfl
  | 1 => rfl

/-- The columns of a matrix from `o` on. -/
theorem slice2 {a b b' : ℕ} {e : EltTy} (o₀ o : ℕ) (x : Vec Ideal ⟨2, ![a, b]⟩ e) {a' : ℕ} (h) (i : Fin a') (j : Fin b') (hi : o₀ + i < a) (hj : o + j < b) :
    extractStridedSlice ⟨2, ![a', b']⟩ ![o₀, o] x h (ix2 i j) = x (ix2 ⟨o₀ + i, hi⟩ ⟨o + j, hj⟩) :=
  extractStridedSlice_apply _ x h _ _ fun c => by
    match c with
    | 0 => rfl
    | 1 => rfl

/-- A matrix transposed. -/
theorem transpose2 {a b : ℕ} {e : EltTy} (x : Vec Ideal ⟨2, ![a, b]⟩ e) (h) (i : Fin a) (j : Fin b) :
    transpose ⟨2, ![b, a]⟩ [1, 0] x h (ix2 j i) = x (ix2 i j) :=
  transpose_apply _ _ _ (ix2 j i) (ix2 i j) fun c => match c with
    | 0 => rfl
    | 1 => rfl

/-- A block of rows normalised, at an index. -/
theorem rms_apply {a n : ℕ} (N : BitVec 32) (x : FVec Ideal ⟨2, ![a, n]⟩ .f32) (g : FVec Ideal ⟨2, ![1, n]⟩ .f32) (ha : a ≠ 1) (hn : n ≠ 1)
    (hr : (⟨2, ![a, n]⟩ : Shape).Reduces [1] ⟨1, ![a]⟩) (hφ hacc hc hb hg) (i : Fin a) (j : Fin n) :
    mulf (mulf x (broadcastTo ⟨2, ![a, n]⟩ (rsqrt (addf (divf (shapeCast ⟨2, ![a, 1]⟩ (multiReduction .add [1] ⟨1, ![a]⟩ (mulf x x) 0x00000000#32 hr hφ hacc) hc)
        (broadcast ⟨2, ![a, 1]⟩ (Scalar.ofBits .f32 N))) (broadcast ⟨2, ![a, 1]⟩ (Scalar.ofBits .f32 0x358637BD#32)))) hb)) (broadcastTo ⟨2, ![a, n]⟩ g hg) (ix2 i j)
      = rms N (fun k => x (ix2 i k)) (fun k => g (ix2 0 k)) j := by
  unfold rms
  rw [mulf_apply, mulf_apply, spread (e := .f32) g hg hn i j, spreadCol (e := .f32) _ hb ha i j]
  refine congrArg (fun y => (x (ix2 i j) * Ideal.rsqrt (Ideal.div y _ + _) : EReal) * g (ix2 0 j)) ?_
  refine (addCol (e := .f32) _ hc i).trans ((rowSum _ hr hφ hacc i).trans ?_)
  exact Finset.sum_congr rfl fun k _ => mulf_apply _ _ _

end Cert.Inproj
-- ==== Proof.Inproj.Heads.lean ====
/-
  The heads of the queries and keys on a block of 256 tokens: each of them is the projection's columns for that head, normalised,
  rotated and, for a query, scaled (`qHead`, `kHead`); the kernel's ten pieces are these (`pay8_eq` …). Read at an index, a head is
  `rope` of `rms` of its token's row (`qHead_apply`, `kHead_apply`).
-/
module

public import proofs.«01_k».proof.Proof.Gen.Kernel2Ideal.Skeleton
public import proofs.«01_k».proof.Proof.Inproj.Rows

@[expose] public section

set_option maxRecDepth 16384

noncomputable section

namespace Cert.Kernel2Ideal.Inproj

open Cert.Kernel2Ideal Cert.Kernel2Ideal.Gen Cert.Inproj
open Idealize.ShloMosaic Idealize.ShloMosaic.ValueIdx

section
variable {F : FTy → Type} [FloatOps F]

/-- A head's columns, normalised. -/
def hNorm (p : Vec F S256x128 .f32) (g : Vec F S1x128 .f32) : Vec F S256x128 .f32 :=
  mulf (mulf p (broadcastTo S256x128 (rsqrt (addf (divf (shapeCast S256x1 (multiReduction .add [1] S256 (mulf p p) 0x00000000#32 reduces_S256x128_S256 (.inl rfl) rfl) shapeCasts_S256_S256x1)
    (broadcast S256x1 (Scalar.ofBits .f32 0x43000000#32))) (broadcast S256x1 (Scalar.ofBits .f32 0x358637BD#32)))) broadcasts_S256x1_S256x128))
    (broadcastTo S256x128 g broadcasts_S1x128_S256x128)

/-- A head rotated: its columns times the cosines, plus its halves exchanged times the signed sines. -/
def hRope (y c s : Vec F S256x128 .f32) : Vec F S256x128 .f32 :=
  addf (mulf y (shapeCast S256x128 c shapeCasts_S256x128_S256x128))
    (mulf (dynamicRotate 1 64#32 none y rotates_S256x128_d1) (shapeCast S256x128 s shapeCasts_S256x128_S256x128))

/-- A head of the keys. -/
def kHead (p : Vec F S256x128 .f32) (g : Vec F S1x128 .f32) (c s : Vec F S256x128 .f32) : Vec F S1x256x128 .bf16 :=
  shapeCast S1x256x128 (truncf .bf16 (hRope (hNorm p g) c s) bitsLt_bf16_f32) shapeCasts_S256x128_S1x256x128

variable [Named F]

/-- A head of the queries. -/
def qHead (p : Vec F S256x128 .f32) (g : Vec F S1x128 .f32) (c s : Vec F S256x128 .f32) : Vec F S1x128x256 .bf16 :=
  shapeCast S1x128x256 (truncf .bf16 (transpose S128x256 [1, 0]
    (mulf (hRope (hNorm p g) c s) (broadcast S256x128 (Named.named κ "q_scale" 0x3E0293EE#32))) transposes_S256x128_p1_0_S128x256) bitsLt_bf16_f32)
    shapeCasts_S128x256_S1x128x256

variable (h : Vec F S256x1024 .bf16) (w : Vec F S1024x1024 .bf16) (v : Vec F S1024x256 .bf16) (p : Vec F S256x1024 .f32) (k : Vec F S256x256 .f32)
  (g : Vec F S1x128 .f32) (c s : Vec F S256x128 .f32)

theorem pay8_eq : k0_pay8 (k0_pay5 h w) g (k0_pay6 h w) k0_pay7 c s
    = qHead (extractStridedSlice S256x128 ![0, 0] (k0_pay4 h w) slices_S256x1024_o0_0_S256x128) g c s := rfl
theorem pay12_eq : k0_pay12 (k0_pay10 p g c) (k0_pay11 p g) s
    = qHead (extractStridedSlice S256x128 ![0, 128] p slices_S256x1024_o0_128_S256x128) g c s := rfl
theorem pay14_eq : k0_pay14 (k0_pay13 p g c s)
    = qHead (extractStridedSlice S256x128 ![0, 256] p slices_S256x1024_o0_256_S256x128) g c s := rfl
theorem pay15_eq : k0_pay15 p g c s
    = qHead (extractStridedSlice S256x128 ![0, 384] p slices_S256x1024_o0_384_S256x128) g c s := rfl
theorem pay18_eq : k0_pay18 (k0_pay16 p) g (k0_pay17 p) c s
    = qHead (extractStridedSlice S256x128 ![0, 512] p slices_S256x1024_o0_512_S256x128) g c s := rfl
theorem pay23_eq : k0_pay23 (k0_pay20 p g c) (k0_pay21 p g) (k0_pay22 s)
    = qHead (extractStridedSlice S256x128 ![0, 640] p slices_S256x1024_o0_640_S256x128) g c s := rfl
theorem pay24_eq : k0_pay24 p g c s
    = qHead (extractStridedSlice S256x128 ![0, 768] p slices_S256x1024_o0_768_S256x128) g c s := rfl
theorem pay26_eq : k0_pay26 (k0_pay25 p) g c s
    = qHead (extractStridedSlice S256x128 ![0, 896] p slices_S256x1024_o0_896_S256x128) g c s := rfl
theorem pay31_eq : k0_pay31 (k0_pay28 h v) g (k0_pay29 h v) k0_pay30 c s
    = kHead (extractStridedSlice S256x128 ![0, 0] (k0_pay27 h v) slices_S256x256_o0_0_S256x128) g c s := rfl
theorem pay36_eq : k0_pay36 (k0_pay33 k g c) (k0_pay34 k g) (k0_pay35 s)
    = kHead (extractStridedSlice S256x128 ![0, 128] k slices_S256x256_o0_128_S256x128) g c s := rfl

end

section
variable (p : Vec Ideal S256x128 .f32) (g : Vec Ideal S1x128 .f32) (c s : Vec Ideal S256x128 .f32) (γ σ : Fin 64 → EReal)

/-- A head's normalised columns at an index. -/
theorem hNorm_apply (r : Fin 256) (d : Fin 128) :
    hNorm p g (ix2 r d) = rms 0x43000000#32 (fun k => p (ix2 r k)) (fun k => g (ix2 0 k)) d :=
  rms_apply _ p g (by decide) (by decide) _ _ _ _ _ _ r d

/-- A rotated head at an index, where the cosines are given twice and the sines once negated and once as they are. -/
theorem hRope_apply (y : Vec Ideal S256x128 .f32) (r : Fin 256) (d : Fin 128)
    (hc : ∀ e : Fin 128, c (ix2 r e) = γ ⟨e % 64, Nat.mod_lt _ (by decide)⟩)
    (hs : ∀ e : Fin 128, s (ix2 r e) = if h : e.val < 64 then -σ ⟨e, h⟩ else σ ⟨e - 64, by omega⟩) :
    hRope y c s (ix2 r d) = rope (fun k => y (ix2 r k)) γ σ d := by
  have hd := d.isLt
  unfold hRope rope
  rw [addf_apply, mulf_apply, mulf_apply, shapeCast_self, shapeCast_self, hc, hs]
  by_cases h : d.val < 64
  · rw [dif_pos h, dif_pos h]
    rw [show dynamicRotate 1 64#32 none y rotates_S256x128_d1 (ix2 r d) = y (ix2 r ⟨d + 64, by omega⟩) from
      dynamicRotate_apply 1 64#32 y _ (ix2 r d) (ix2 r ⟨d + 64, by omega⟩) fun b => by
        match b with
        | 0 => rfl
        | 1 => show d.val + 64 = (d.val + 128 - 64 % 128) % 128
               omega]
    rw [show (⟨d.val % 64, Nat.mod_lt _ (by decide)⟩ : Fin 64) = ⟨d, h⟩ from Fin.ext (Nat.mod_eq_of_lt h)]
    show (_ : EReal) * _ + _ * -_ = _
    rw [mul_neg, ← sub_eq_add_neg]
  · rw [dif_neg h, dif_neg h]
    rw [show dynamicRotate 1 64#32 none y rotates_S256x128_d1 (ix2 r d) = y (ix2 r ⟨d - 64, by omega⟩) from
      dynamicRotate_apply 1 64#32 y _ (ix2 r d) (ix2 r ⟨d - 64, by omega⟩) fun b => by
        match b with
        | 0 => rfl
        | 1 => show d.val - 64 = (d.val + 128 - 64 % 128) % 128
               omega]
    rw [show (⟨d.val % 64, Nat.mod_lt _ (by decide)⟩ : Fin 64) = ⟨d - 64, by omega⟩ from Fin.ext (by show d.val % 64 = d.val - 64; omega)]

/-- A head of the keys at an index. -/
theorem kHead_apply (r : Fin 256) (d : Fin 128)
    (hc : ∀ e : Fin 128, c (ix2 r e) = γ ⟨e % 64, Nat.mod_lt _ (by decide)⟩)
    (hs : ∀ e : Fin 128, s (ix2 r e) = if h : e.val < 64 then -σ ⟨e, h⟩ else σ ⟨e - 64, by omega⟩) :
    kHead p g c s (ix3 0 r d) = rope (rms 0x43000000#32 (fun k => p (ix2 r k)) (fun k => g (ix2 0 k))) γ σ d := by
  unfold kHead
  refine (add1 (a := 256) (b := 128) (e := .bf16) _ _ r d).trans ?_
  rw [truncf_apply]
  refine (hRope_apply c s γ σ (hNorm p g) r d hc hs).trans ?_
  exact congrArg (fun y => rope y γ σ d) (funext fun k => hNorm_apply p g r k)

/-- A head of the queries at an index. -/
theorem qHead_apply (r : Fin 256) (d : Fin 128)
    (hc : ∀ e : Fin 128, c (ix2 r e) = γ ⟨e % 64, Nat.mod_lt _ (by decide)⟩)
    (hs : ∀ e : Fin 128, s (ix2 r e) = if h : e.val < 64 then -σ ⟨e, h⟩ else σ ⟨e - 64, by omega⟩) :
    qHead p g c s (ix3 0 d r) = rope (rms 0x43000000#32 (fun k => p (ix2 r k)) (fun k => g (ix2 0 k))) γ σ d
      * (((Real.sqrt 128)⁻¹ * (Real.log 2)⁻¹ : ℝ) : EReal) := by
  unfold qHead
  refine (add1 (a := 128) (b := 256) (e := .bf16) _ _ d r).trans ?_
  rw [truncf_apply]
  refine (transpose2 (a := 256) (b := 128) (e := .f32) _ _ r d).trans ?_
  rw [mulf_apply]
  refine congrArg₂ (fun x y : EReal => x * y) ?_ rfl
  refine (hRope_apply c s γ σ (hNorm p g) r d hc hs).trans ?_
  exact congrArg (fun y => rope y γ σ d) (funext fun k => hNorm_apply p g r k)

end

end Cert.Kernel2Ideal.Inproj
-- ==== Proof.Inproj.Payloads.lean ====
/-
  The other pieces of the kernel on a block of 256 tokens, at an index: the modulated normalisation (`pay3_apply`), the products with
  the projection's columns (`proj_apply`), GELU and the gates of them, the spatial gate of a chunk of 128 tokens (`spatial_apply`).
-/
module

public import proofs.«01_k».proof.Proof.Gen.Kernel2Ideal.Skeleton
public import proofs.«01_k».proof.Proof.Inproj.Rows

@[expose] public section

set_option maxRecDepth 16384

noncomputable section

namespace Cert.Kernel2Ideal.Inproj

open Cert.Kernel2Ideal Cert.Kernel2Ideal.Gen Cert.Inproj
open Idealize.ShloMosaic Idealize.ShloMosaic.ValueIdx

/-- The spatial gate of a chunk of 128 tokens (from row `o₀`) and a group of 256 columns (from column `o`). -/
def spatial {F : FTy → Type} [FloatOps F] (u : Vec F S256x1024 .f32) (y : Vec F S256x1024 .bf16) (a : Vec F S1x128x128 .bf16) (b : Vec F S128x1 .f32)
    (o₀ o : ℕ) (h : S256x1024.Slices ![o₀, o] S128x256) : Vec F S128x256 .f32 :=
  mulf (extractStridedSlice S128x256 ![o₀, o] u h) (addf (matmul dot_S128x128_S128x256_S128x256_1_0_0_1_n_n none
    (shapeCast S128x128 a shapeCasts_S1x128x128_S128x128) (extractStridedSlice S128x256 ![o₀, o] y h) (constant S128x256 .f32 0x00000000#32))
    (broadcastTo S128x256 b broadcasts_S128x1_S128x256))

/-- The kernel's sigmoid of a number is `sigm`. -/
theorem sig_eq (x : EReal) : Ideal.div (Ideal.ofBits .f32 0x3F800000#32)
    (Ideal.ofBits .f32 0x3F800000#32 + Ideal.exp (Ideal.ofBits .f32 0x00000000#32 - x)) = sigm x := by
  rw [Ideal.ofBits_zero_f32, zero_sub]; rfl

section
variable (h : Vec Ideal S256x1024 .bf16) (w w' : Vec Ideal S1024x1024 .bf16) (v : Vec Ideal S1024x256 .bf16) (m : Vec Ideal S1024x3072 .bf16)

/-- The modulated normalisation. -/
theorem pay3_apply (b a : Vec Ideal S1x1024 .f32) (x : Vec Ideal S256x1024 .f32) (g : Vec Ideal S1x1024 .f32) (r : Fin 256) (j : Fin 1024) :
    k0_pay3 b a x g (ix2 r j) = rms 0x44800000#32 (fun k => x (ix2 r k)) (fun k => g (ix2 0 k)) j
      * (Ideal.ofBits .f32 0x3F800000#32 + a (ix2 0 j)) + b (ix2 0 j) := by
  unfold k0_pay3
  dsimp only
  rw [shapeCast_self, truncf_apply]
  show (_ : EReal) * _ + _ = _
  refine congrArg₂ (fun x y : EReal => x + y) (congrArg₂ (fun x y : EReal => x * y) ?_ ?_) ?_
  · exact rms_apply (a := 256) (n := 1024) 0x44800000#32 x g (by decide) (by decide) _ _ _ _ _ _ r j
  · exact spread (a := 256) (b := 1024) (e := .f32) _ _ (by decide) r j
  · exact spread (a := 256) (b := 1024) (e := .f32) b _ (by decide) r j

/-- A product with 1024 columns. -/
theorem proj_apply (r : Fin 256) (j : Fin 1024) : k0_pay4 h w (ix2 r j) = ∑ k : Fin 1024, h (ix2 r k) * w (ix2 k j) :=
  dot_apply (M := 256) (K := 1024) (N := 1024) (φ₁ := .bf16) (φ₂ := .bf16) h w r j

/-- A product with 256 columns. -/
theorem projK_apply (r : Fin 256) (j : Fin 256) : k0_pay27 h v (ix2 r j) = ∑ k : Fin 1024, h (ix2 r k) * v (ix2 k j) :=
  dot_apply (M := 256) (K := 1024) (N := 256) (φ₁ := .bf16) (φ₂ := .bf16) h v r j

/-- A product with 3072 columns. -/
theorem projG_apply (r : Fin 256) (j : Fin 3072) : k0_pay56 h m (ix2 r j) = ∑ k : Fin 1024, h (ix2 r k) * m (ix2 k j) :=
  dot_apply (M := 256) (K := 1024) (N := 3072) (φ₁ := .bf16) (φ₂ := .bf16) h m r j

/-- The values of the first head, a token a column. -/
theorem pay38_apply (r : Fin 256) (d : Fin 128) :
    k0_pay38 h v (ix3 0 d r) = ∑ k : Fin 1024, h (ix2 r k) * v (ix2 k ⟨d, by omega⟩) := by
  unfold k0_pay38
  dsimp only
  refine (add1 (a := 128) (b := 256) (e := .bf16) _ _ d r).trans ?_
  rw [truncf_apply]
  refine (transpose2 (a := 256) (b := 128) (e := .f32) _ _ r d).trans ?_
  refine (slice2 (a := 256) (b := 256) (b' := 128) (a' := 256) (e := .f32) 0 0 _ _ r d (by omega) (by omega)).trans ?_
  refine (projK_apply h v _ _).trans ?_
  exact Finset.sum_congr rfl fun k _ => congrArg₂ (fun x y : EReal => x * y) (congrArg h (congrArg (ix2 · k) (Fin.ext (Nat.zero_add _))))
    (congrArg v (congrArg (ix2 k) (Fin.ext (Nat.zero_add _))))

/-- The values of the second head, a token a column. -/
theorem pay40_apply (r : Fin 256) (d : Fin 128) :
    k0_pay40 h v (ix3 0 d r) = ∑ k : Fin 1024, h (ix2 r k) * v (ix2 k ⟨128 + d, by omega⟩) := by
  unfold k0_pay40
  dsimp only
  refine (add1 (a := 128) (b := 256) (e := .bf16) _ _ d r).trans ?_
  rw [truncf_apply]
  refine (transpose2 (a := 256) (b := 128) (e := .f32) _ _ r d).trans ?_
  refine (slice2 (a := 256) (b := 256) (b' := 128) (a' := 256) (e := .f32) 0 128 _ _ r d (by omega) (by omega)).trans ?_
  refine (projK_apply h v _ _).trans ?_
  exact Finset.sum_congr rfl fun k _ => congrArg₂ (fun x y : EReal => x * y) (congrArg h (congrArg (ix2 · k) (Fin.ext (Nat.zero_add _)))) rfl

/-- GELU of a product. -/
theorem pay42_apply (r : Fin 256) (j : Fin 1024) : k0_pay42 h w (ix2 r j) = gelu (∑ k : Fin 1024, h (ix2 r k) * w (ix2 k j)) :=
  congrArg gelu (proj_apply h w r j)

/-- GELU of a product. -/
theorem pay43_apply (r : Fin 256) (j : Fin 1024) : k0_pay43 h w (ix2 r j) = gelu (∑ k : Fin 1024, h (ix2 r k) * w (ix2 k j)) :=
  congrArg gelu (proj_apply h w r j)

/-- A product gated by another. -/
theorem pay2_apply (r : Fin 256) (j : Fin 1024) : k0_pay2 h w h w' (ix2 r j)
    = (∑ k : Fin 1024, h (ix2 r k) * w (ix2 k j)) * sigm (∑ k : Fin 1024, h (ix2 r k) * w' (ix2 k j)) :=
  congrArg₂ (fun x y : EReal => x * y) (proj_apply h w r j) ((sig_eq _).trans (congrArg sigm (proj_apply h w' r j)))

/-- The first of the three gates. -/
theorem pay57_apply (r : Fin 256) (j : Fin 1024) : k0_pay57 h m (ix2 r j) = sigm (∑ k : Fin 1024, h (ix2 r k) * m (ix2 k ⟨j, by omega⟩)) := by
  refine (sig_eq _).trans (congrArg sigm ?_)
  refine (slice2 (a := 256) (b := 3072) (b' := 1024) (a' := 256) (e := .f32) 0 0 _ _ r j (by omega) (by omega)).trans ?_
  refine (projG_apply h m _ _).trans ?_
  exact Finset.sum_congr rfl fun k _ => congrArg₂ (fun x y : EReal => x * y) (congrArg h (congrArg (ix2 · k) (Fin.ext (Nat.zero_add _))))
    (congrArg m (congrArg (ix2 k) (Fin.ext (Nat.zero_add _))))

/-- The third of the three gates. -/
theorem pay59_apply (r : Fin 256) (j : Fin 1024) :
    k0_pay1 (k0_pay59 h m) k0_pay60 (ix2 r j) = sigm (∑ k : Fin 1024, h (ix2 r k) * m (ix2 k ⟨2048 + j, by omega⟩)) := by
  refine (sig_eq _).trans (congrArg sigm ?_)
  refine (slice2 (a := 256) (b := 3072) (b' := 1024) (a' := 256) (e := .f32) 0 2048 _ _ r j (by omega) (by omega)).trans ?_
  refine (projG_apply h m _ _).trans ?_
  exact Finset.sum_congr rfl fun k _ => congrArg₂ (fun x y : EReal => x * y) (congrArg h (congrArg (ix2 · k) (Fin.ext (Nat.zero_add _)))) rfl

/-- The second of the three gates times a product. -/
theorem pay58_apply (s : Vec Ideal S256x1024 .bf16) (r : Fin 256) (j : Fin 1024) : k0_pay58 s w h m (ix2 r j)
    = sigm (∑ k : Fin 1024, h (ix2 r k) * m (ix2 k ⟨1024 + j, by omega⟩)) * ∑ k : Fin 1024, s (ix2 r k) * w (ix2 k j) := by
  refine congrArg₂ (fun x y : EReal => x * y) ((sig_eq _).trans (congrArg sigm ?_)) (proj_apply s w r j)
  refine (slice2 (a := 256) (b := 3072) (b' := 1024) (a' := 256) (e := .f32) 0 1024 _ _ r j (by omega) (by omega)).trans ?_
  refine (projG_apply h m _ _).trans ?_
  exact Finset.sum_congr rfl fun k _ => congrArg₂ (fun x y : EReal => x * y) (congrArg h (congrArg (ix2 · k) (Fin.ext (Nat.zero_add _)))) rfl

end

section
variable (u : Vec Ideal S256x1024 .f32) (p : Vec Ideal S256x1024 .f32) (g : Vec Ideal S1x1024 .f32)

/-- The second half of the spatial part, normalised. -/
theorem pay45_apply (h : Vec Ideal S256x1024 .bf16) (w : Vec Ideal S1024x1024 .bf16) (r : Fin 256) (j : Fin 1024) :
    k0_pay45 (k0_pay43 h w) g (k0_pay44 h w) (ix2 r j)
      = rms 0x44800000#32 (fun k => k0_pay43 h w (ix2 r k)) (fun k => g (ix2 0 k)) j :=
  rms_apply (a := 256) (n := 1024) 0x44800000#32 (k0_pay43 h w) g (by decide) (by decide) _ _ _ _ _ _ r j

variable (y : Vec Ideal S256x1024 .bf16) (a : Vec Ideal S1x128x128 .bf16) (b : Vec Ideal S128x1 .f32)

/-- The spatial gate of a chunk of 128 tokens and a group of 256 columns, at an index. -/
theorem spatial_apply (o₀ o : ℕ) (h₁ : S256x1024.Slices ![o₀, o] S128x256)
    (i : Fin 128) (j : Fin 256) (hi : ∀ i : Fin 128, o₀ + i.val < 256) (hj : o + j.val < 1024) :
    spatial u y a b o₀ o h₁ (ix2 i j)
      = u (ix2 ⟨o₀ + i, hi i⟩ ⟨o + j, hj⟩) * ((∑ k : Fin 128, a (ix3 0 i k) * y (ix2 ⟨o₀ + k, hi k⟩ ⟨o + j, hj⟩)) + b (ix2 i 0)) := by
  unfold spatial
  rw [mulf_apply, addf_apply]
  refine congrArg₂ (fun x y : EReal => x * y) ?_ (congrArg₂ (fun x y : EReal => x + y) ?_ ?_)
  · exact slice2 (a := 256) (b := 1024) (b' := 256) (a' := 128) (e := .f32) o₀ o u h₁ i j (hi i) hj
  · refine (dot_apply (M := 128) (K := 128) (N := 256) (φ₁ := .bf16) (φ₂ := .bf16) _ _ i j).trans ?_
    refine Finset.sum_congr rfl fun k _ => congrArg₂ (fun x y : EReal => x * y) ?_ ?_
    · exact drop1 (a := 128) (b := 128) (e := .bf16) a _ i k
    · exact slice2 (a := 256) (b := 1024) (b' := 256) (a' := 128) (e := .bf16) o₀ o y h₁ k j (hi k) hj
  · exact spreadCol (a := 128) (b := 256) (e := .f32) b _ (by decide) i j

end

/-- The spatial gate of a block: chunk `c`, group `q`. -/
def sgate (u : Vec Ideal S256x1024 .f32) (y : Vec Ideal S256x1024 .bf16) (a : Vec Ideal S1x128x128 .bf16) (b : Vec Ideal S128x1 .f32)
    (o₀ : ℕ) (h₀ : o₀ + 128 ≤ 256) (o : ℕ) (h₁ : o + 256 ≤ 1024) (i : Fin 128) (j : Fin 256) : EReal :=
  u (ix2 ⟨o₀ + i, by omega⟩ ⟨o + j, by omega⟩)
    * ((∑ k : Fin 128, a (ix3 0 i k) * y (ix2 ⟨o₀ + k, by omega⟩ ⟨o + j, by omega⟩)) + b (ix2 i 0))

section
variable (u : Vec Ideal S256x1024 .f32) (p : Vec Ideal S256x1024 .f32) (g : Vec Ideal S1x1024 .f32) (s : Vec Ideal S256x1 .f32)
  (y : Vec Ideal S256x1024 .bf16) (a : Vec Ideal S1x128x128 .bf16) (b : Vec Ideal S128x1 .f32) (i : Fin 128) (j : Fin 256)

theorem pay46_apply : k0_pay46 u p g s a b (ix2 i j) = sgate u (k0_pay45 p g s) a b 0 (by decide) 0 (by decide) i j := by
  unfold k0_pay46; rw [shapeCast_self, truncf_apply]
  exact spatial_apply u _ a b 0 0 _ i j (by omega) (by omega)
theorem pay47_apply : k0_pay47 u p g s a b (ix2 i j) = sgate u (k0_pay45 p g s) a b 0 (by decide) 256 (by decide) i j := by
  unfold k0_pay47; rw [shapeCast_self, truncf_apply]
  exact spatial_apply u _ a b 0 256 _ i j (by omega) (by omega)
theorem pay49_apply : k0_pay49 u (k0_pay48 p g s a) b (ix2 i j) = sgate u (k0_pay45 p g s) a b 0 (by decide) 512 (by decide) i j := by
  unfold k0_pay49 k0_pay48; rw [shapeCast_self, truncf_apply]
  exact spatial_apply u _ a b 0 512 _ i j (by omega) (by omega)
theorem pay50_apply : k0_pay50 u y a b (ix2 i j) = sgate u y a b 0 (by decide) 768 (by decide) i j := by
  unfold k0_pay50; rw [shapeCast_self, truncf_apply]
  exact spatial_apply u _ a b 0 768 _ i j (by omega) (by omega)
theorem pay51_apply : k0_pay51 u y a b (ix2 i j) = sgate u y a b 128 (by decide) 0 (by decide) i j := by
  unfold k0_pay51; rw [shapeCast_self, truncf_apply]
  exact spatial_apply u _ a b 128 0 _ i j (by omega) (by omega)
theorem pay53_apply : k0_pay53 u y (k0_pay52 a) b (ix2 i j) = sgate u y a b 128 (by decide) 256 (by decide) i j := by
  unfold k0_pay53 k0_pay52; rw [shapeCast_self, truncf_apply]
  exact spatial_apply u _ a b 128 256 _ i j (by omega) (by omega)
theorem pay54_apply : k0_pay54 u y a b (ix2 i j) = sgate u y a b 128 (by decide) 512 (by decide) i j := by
  unfold k0_pay54; rw [shapeCast_self, truncf_apply]
  exact spatial_apply u _ a b 128 512 _ i j (by omega) (by omega)
theorem pay55_apply : k0_pay55 u y a b (ix2 i j) = sgate u y a b 128 (by decide) 768 (by decide) i j := by
  unfold k0_pay55; rw [shapeCast_self, truncf_apply]
  exact spatial_apply u _ a b 128 768 _ i j (by omega) (by omega)

end

end Cert.Kernel2Ideal.Inproj
-- ==== Proof.Inproj.Block.lean ====
/-
  What a point of the grid reads, and the first of what it stores: the modulated normalisation of its 256 tokens and the gates,
  element by element, as functions of the blocks it reads.
-/
module

public import proofs.«01_k».proof.Proof.Gen.Kernel2Ideal.Frame
public import proofs.«01_k».proof.Proof.Inproj.Payloads
public import Idealize.ShloMosaic.Lib.WholeRead
public import Idealize.ShloMosaic.Lib.Pipeline.Value
public import Idealize.ShloMosaic.Lib.Pipeline.ValueKit
import all proofs.«01_k».proof.Proof.Gen.Kernel2Ideal.Frame.RunA

@[expose] public section

set_option maxRecDepth 16384

noncomputable section

namespace Cert.Kernel2Ideal.Inproj

open Cert.Kernel2Ideal Cert.Kernel2Ideal.Gen Cert.Inproj
open Idealize.ShloMosaic hiding ix2 ix3
open Idealize.ShloMosaic.ValueIdx Idealize.ShloMosaic.TcCoe Idealize.SL.Sem

/-- A block's entries at the places of a rectangle. -/
def ld {s : Shape} {α : Type} (x : s.Idx → α) (B : LoadRect s) : B.shape.Idx → α := fun j => x (B.idx j)

/-- A load from a buffer that holds `x` reads `x`'s entries. -/
theorem readAt_eq {κ : Kind} {sp : Space} {s : Shape} {e : EltTy} {m : Memref sig κ sp s e} (h : m.IsWhole) (x : s.Idx → Elt Ideal e) (B : LoadRect s) :
    View.readAt (Elt Ideal) m.view B (h.unread x) = ld x B :=
  funext fun j => h.readAt_unread x B j

/-- An index of a block of rank two, moved by the block's offset. -/
theorem ld2 {a b a' b' : ℕ} {α : Type} (x : (⟨2, ![a, b]⟩ : Shape).Idx → α) (o₀ o : ℕ) (inb) (i : Fin a') (j : Fin b') (hi : o₀ + i.val < a) (hj : o + j.val < b) :
    ld x (Rect.unit (s := ⟨2, ![a, b]⟩) ![o₀, o] ![a', b'] inb).toLoadRect (ix2 i j) = x (ix2 ⟨o₀ + i, hi⟩ ⟨o + j, hj⟩) := by
  refine congrArg x (funext fun k => Fin.ext ?_)
  rw [LoadRect.idx_apply]
  match k with
  | 0 => show o₀ + 1 * (i : ℕ) = o₀ + i
         omega
  | 1 => show o + 1 * (j : ℕ) = o + j
         omega

/-- An index of a block of rank three, moved by the block's offset along its first axis. -/
theorem ld3 {a b c : ℕ} {α : Type} (x : (⟨3, ![a, b, c]⟩ : Shape).Idx → α) (o : ℕ) (inb) (i : Fin b) (j : Fin c) (ho : o < a) :
    ld x (Rect.unit (s := ⟨3, ![a, b, c]⟩) ![o, 0, 0] ![1, b, c] inb).toLoadRect (ix3 0 i j) = x (ix3 ⟨o, ho⟩ i j) := by
  refine congrArg x (funext fun k => Fin.ext ?_)
  rw [LoadRect.idx_apply]
  match k with
  | 0 => rfl
  | 1 => show 0 + 1 * (i : ℕ) = i
         omega
  | 2 => show 0 + 1 * (j : ℕ) = j
         omega

/-- A whole block. -/
theorem ld_whole2 {a b : ℕ} {α : Type} (x : (⟨2, ![a, b]⟩ : Shape).Idx → α) (inb) :
    ld x (Rect.unit (s := ⟨2, ![a, b]⟩) ![0, 0] ![a, b] inb).toLoadRect = x := by
  funext j
  refine congrArg x (funext fun k => Fin.ext ?_)
  rw [LoadRect.idx_apply]
  match k with
  | 0 => show 0 + 1 * (j 0 : ℕ) = j 0
         omega
  | 1 => show 0 + 1 * (j 1 : ℕ) = j 1
         omega

section
variable (x0 : Vec Ideal S256x1024 .f32) (x1 : Vec Ideal S8x6144 .f32) (x2 : Vec Ideal S1x1024 .f32) (x3 : Vec Ideal S1024x8704 .bf16)

/-- The modulated normalisation of the block's tokens. -/
def hid : Vec Ideal S256x1024 .bf16 :=
  k0_pay3 (ld x1 (Rect.unit (s := S8x6144) ![0, 0] S1x1024.size inb_S8x6144_S1x1024_0_0).toLoadRect)
    (ld x1 (Rect.unit (s := S8x6144) ![0, 1024] S1x1024.size inb_S8x6144_S1x1024_0_1024).toLoadRect) x0 x2

/-- The projection of a token of the block. -/
def pr (r : Fin 256) (j : Fin 8704) : EReal := ∑ k : Fin 1024, hid x0 x1 x2 (ix2 r k) * x3 (ix2 k j)

theorem hid_apply (r : Fin 256) (j : Fin 1024) : hid x0 x1 x2 (ix2 r j)
    = rms 0x44800000#32 (fun k => x0 (ix2 r k)) (fun k => x2 (ix2 0 k)) j
      * (Ideal.ofBits .f32 0x3F800000#32 + x1 (ix2 0 ⟨1024 + j, by omega⟩)) + x1 (ix2 0 ⟨j, by omega⟩) := by
  refine (pay3_apply _ _ _ _ r j).trans ?_
  refine congrArg₂ (fun x y : EReal => x + y) (congrArg₂ (fun x y : EReal => x * y) rfl (congrArg (fun x : EReal => _ + x) ?_)) ?_
  · exact (ld2 (a := 8) (b := 6144) (a' := 1) (b' := 1024) x1 0 1024 _ 0 j (by decide) (by omega))
  · exact (ld2 (a := 8) (b := 6144) (a' := 1) (b' := 1024) x1 0 0 _ 0 j (by decide) (by omega)).trans
      (congrArg x1 (congrArg (ix2 0) (Fin.ext (Nat.zero_add _))))

/-- Columns of the projection, as the kernel reads them. -/
theorem pr_cols (o n : ℕ) (inb) (r : Fin 256) (j : Fin n) (hj : o + j.val < 8704) :
    ∑ k : Fin 1024, hid x0 x1 x2 (ix2 r k) * ld x3 (Rect.unit (s := S1024x8704) ![0, o] ![1024, n] inb).toLoadRect (ix2 k j)
      = pr x0 x1 x2 x3 r ⟨o + j, hj⟩ :=
  Finset.sum_congr rfl fun k _ => congrArg (fun y : EReal => hid x0 x1 x2 (ix2 r k) * y)
    ((ld2 (a := 1024) (b := 8704) (a' := 1024) (b' := n) x3 0 o inb k j (by omega) hj).trans
      (congrArg x3 (congrArg (ix2 · _) (Fin.ext (Nat.zero_add _)))))

end

section
variable (m : (ℓ : Loc nD τ sig) → Buf (Elt Ideal) ℓ) (c : Dev nD) (t : Fin cfg0.N)

theorem zero2 : (![0, 0] : Fin 2 → ℕ) = fun _ => 0 := funext fun a => match a with | 0 => rfl | 1 => rfl

/-- The projection of a token of the point's block. -/
def P (r : Fin 256) (j : Fin 8704) : EReal := pr (iblk m c 0 t) (iblk m c 1 t) (iblk m c 2 t) (iblk m c 3 t) r j

/-- The gated product the point stores. -/
theorem out15_apply (r : Fin 256) (j : Fin 1024) : (outsAt0 m c t).2.2.2.1 (ix2 r j)
    = P m c t r ⟨3584 + j, by omega⟩ * sigm (P m c t r ⟨4608 + j, by omega⟩) := by
  unfold outsAt0 out0_A_15
  dsimp only
  rw [View.read_writes_eq_canon _ _ _ (cover0_A_15 _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  unfold kernelRun0_A.sl.v526 kernelRun0_A.sl.HS0_1
  simp only [readAt_eq, View.canon_unit_zero (S := S256x1024) zero2, View.readCov_unit_zero (S := S256x1024) _ zero2, ld_whole2]
  refine (pay2_apply _ _ _ r j).trans ?_
  exact congrArg₂ (fun x y : EReal => x * y) (pr_cols _ _ _ _ 3584 1024 _ r j (by omega)) (congrArg sigm (pr_cols _ _ _ _ 4608 1024 _ r j (by omega)))

/-- The gate of the attention's branch. -/
theorem out17_apply (r : Fin 256) (j : Fin 1024) : (outsAt0 m c t).2.2.2.2.2.1 (ix2 r j) = sigm (P m c t r ⟨5632 + j, by omega⟩) := by
  unfold outsAt0 out0_A_17
  dsimp only
  rw [View.read_writes_eq_canon _ _ _ (cover0_A_17 _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  unfold kernelRun0_A.sl.v26 kernelRun0_A.sl.HS0_1
  simp only [readAt_eq, View.canon_unit_zero (S := S256x1024) zero2, View.readCov_unit_zero (S := S256x1024) _ zero2, ld_whole2]
  refine (pay57_apply _ _ r j).trans ?_
  exact congrArg sigm (pr_cols _ _ _ _ 5632 3072 _ r ⟨j, by omega⟩ (by show 5632 + j.val < 8704; omega))

/-- The gate of the local branch. -/
theorem out18_apply (r : Fin 256) (j : Fin 1024) : (outsAt0 m c t).2.2.2.2.2.2 (ix2 r j) = sigm (P m c t r ⟨7680 + j, by omega⟩) := by
  unfold outsAt0 out0_A_18
  dsimp only
  rw [View.read_writes_eq_canon _ _ _ (cover0_A_18 _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  simp only [kernelRun0_A.sl.r_29]
  unfold kernelRun0_A.sl.v26 kernelRun0_A.sl.HS0_1
  simp only [readAt_eq, View.canon_unit_zero (S := S256x1024) zero2, View.readCov_unit_zero (S := S256x1024) _ zero2, ld_whole2]
  refine (pay59_apply _ _ r j).trans ?_
  exact congrArg sigm ((pr_cols _ _ _ _ 5632 3072 _ r ⟨2048 + j, by omega⟩ (by show 5632 + (2048 + j.val) < 8704; omega)).trans
    (congrArg (P m c t r) (Fin.ext (by show 5632 + (2048 + j.val) = 7680 + j.val; omega))))

end

end Cert.Kernel2Ideal.Inproj
-- ==== Proof.Inproj.Rotary.lean ====
/-
  The queries, keys and values that a point of the grid stores, element by element, as functions of the blocks it reads.
-/
module

public import proofs.«01_k».proof.Proof.Inproj.Heads
public import proofs.«01_k».proof.Proof.Inproj.Block
import all proofs.«01_k».proof.Proof.Gen.Kernel2Ideal.Frame.RunA

@[expose] public section

set_option maxRecDepth 16384
set_option backward.proofsInPublic true

noncomputable section

namespace Cert.Kernel2Ideal.Inproj

open Cert.Kernel2Ideal Cert.Kernel2Ideal.Gen Cert.Inproj
open Idealize.ShloMosaic hiding ix2 ix3
open Idealize.ShloMosaic.ValueIdx Idealize.ShloMosaic.TcCoe Idealize.SL.Sem

/-- An index of one piece of a block of rank three, placed in the block. -/
theorem emb3 {a b c b' c' : ℕ} (o o₁ : ℕ) (inb) (x : (⟨3, ![1, b', c']⟩ : Shape).Idx) (ho : o < a) (hb : ∀ j : Fin b', o₁ + j.val < b) (hc : ∀ k : Fin c', k.val < c) :
    (Rect.unit (s := ⟨3, ![a, b, c]⟩) ![o, o₁, 0] ![1, b', c'] inb).emb x = ix3 ⟨o, ho⟩ ⟨o₁ + (x 1).val, hb (x 1)⟩ ⟨(x 2).val, hc (x 2)⟩ := by
  funext k
  refine Fin.ext ((ValueKit.rect_emb_unit_val _ _ _ _ _).trans ?_)
  match k with
  | 0 => have h := (x 0).isLt
         show o + (x 0).val = o
         have : (x 0).val < 1 := h
         omega
  | 1 => rfl
  | 2 => show 0 + (x 2).val = (x 2).val
         omega

/-- An index of a piece of rank three. -/
theorem eq_ix3 {b c : ℕ} (x : (⟨3, ![1, b, c]⟩ : Shape).Idx) : x = ix3 0 (x 1) (x 2) := by
  funext k
  match k with
  | 0 => exact Subsingleton.elim (α := Fin 1) _ _
  | 1 => rfl
  | 2 => rfl

section
variable (m : (ℓ : Loc nD τ sig) → Buf (Elt Ideal) ℓ) (c : Dev nD) (t : Fin cfg0.N) (γ σ : Fin 256 → Fin 64 → EReal)

/-- A head of the block: its columns of the projection from `o` on, normalised by `g` and rotated. -/
def hd (g : Vec Ideal S1x128 .f32) (o : ℕ) (ho : o + 128 ≤ 8704) (r : Fin 256) (d : Fin 128) : EReal :=
  rope (rms 0x43000000#32 (fun k => P m c t r ⟨o + k, by omega⟩) (fun k => g (ix2 0 k))) (γ r) (σ r) d

/-- The queries the point stores. -/
def qs : S8x128x256.Idx → EReal := fun y =>
  hd m c t γ σ (iblk m c 4 t) (128 * (y 0).val) (by have := (y 0).isLt; have : (y 0).val < 8 := this; omega) (y 2) (y 1)
    * (((Real.sqrt 128)⁻¹ * (Real.log 2)⁻¹ : ℝ) : EReal)

/-- The keys the point stores. -/
def ks : S2x256x128.Idx → EReal := fun y =>
  hd m c t γ σ (iblk m c 5 t) (1024 + 128 * (y 0).val) (by have := (y 0).isLt; have : (y 0).val < 2 := this; omega) (y 1) (y 2)

/-- The values the point stores, with sixteen rows of ones below each head's. -/
def vs : S2x144x256.Idx → EReal := fun y =>
  if h : (y 1).val < 128 then P m c t (y 2) ⟨1280 + (128 * (y 0).val + (y 1).val), by have := (y 0).isLt; have : (y 0).val < 2 := this; omega⟩
  else Ideal.ofBits .bf16 0x3F80#16

variable (hγ : ∀ (r : Fin 256) (e : Fin 128), iblk m c 6 t (ix2 r e) = γ r ⟨e % 64, Nat.mod_lt _ (by decide)⟩)
  (hσ : ∀ (r : Fin 256) (e : Fin 128), iblk m c 7 t (ix2 r e) = if h : e.val < 64 then -σ r ⟨e, h⟩ else σ r ⟨e - 64, by omega⟩)

include hγ hσ

/-- One head of the queries is its piece of `qs`. -/
theorem qpiece (o a : ℕ) (ha : a < 8) (ho : o = 128 * a) (h) (inb) (x : S1x128x256.Idx) :
    qHead (extractStridedSlice S256x128 ![0, o] (k0_pay4 (hid (iblk m c 0 t) (iblk m c 1 t) (iblk m c 2 t))
        (ld (iblk m c 3 t) (Rect.unit (s := S1024x8704) ![0, 0] S1024x1024.size inb_S1024x8704_S1024x1024_0_0).toLoadRect)) h)
        (iblk m c 4 t) (iblk m c 6 t) (iblk m c 7 t) x
      = qs m c t γ σ ((Rect.unit (s := S8x128x256) ![a, 0, 0] S1x128x256.size inb).emb x) := by
  subst ho
  refine Eq.trans ?_ (congrArg (qs m c t γ σ) (emb3 (a := 8) (b := 128) (c := 256) (b' := 128) (c' := 256) a 0 inb x ha (fun j => by omega) (fun k => k.isLt))).symm
  refine (congrArg _ (eq_ix3 (b := 128) (c := 256) x)).trans ?_
  refine (qHead_apply _ _ _ _ (γ (x 2)) (σ (x 2)) (x 2) (x 1) (hγ _) (hσ _)).trans ?_
  unfold qs hd
  refine congrArg (fun y : EReal => y * _) ?_
  refine congr (congrArg (fun y => rope y (γ (x 2)) (σ (x 2))) (congrArg (fun y => rms 0x43000000#32 y _) (funext fun k => ?_)))
    (Fin.ext (Nat.zero_add _).symm)
  refine (slice2 (a := 256) (b := 1024) (b' := 128) (a' := 256) (e := .f32) 0 (128 * a) _ h (x 2) k (by have := (x 2).isLt; have : (x 2).val < 256 := this; omega) (by omega)).trans ?_
  refine (proj_apply _ _ _ _).trans ((pr_cols _ _ _ _ 0 1024 _ _ _ (by show 0 + (128 * a + k.val) < 8704; omega)).trans ?_)
  exact congrArg₂ (P m c t) (Fin.ext (Nat.zero_add _)) (Fin.ext (Nat.zero_add _))

/-- One head of the keys is its piece of `ks`. -/
theorem kpiece (o a : ℕ) (ha : a < 2) (ho : o = 128 * a) (h) (inb) (x : S1x256x128.Idx) :
    kHead (extractStridedSlice S256x128 ![0, o] (k0_pay27 (hid (iblk m c 0 t) (iblk m c 1 t) (iblk m c 2 t))
        (ld (iblk m c 3 t) (Rect.unit (s := S1024x8704) ![0, 1024] S1024x256.size inb_S1024x8704_S1024x256_0_1024).toLoadRect)) h)
        (iblk m c 5 t) (iblk m c 6 t) (iblk m c 7 t) x
      = ks m c t γ σ ((Rect.unit (s := S2x256x128) ![a, 0, 0] S1x256x128.size inb).emb x) := by
  subst ho
  refine Eq.trans ?_ (congrArg (ks m c t γ σ) (emb3 (a := 2) (b := 256) (c := 128) (b' := 256) (c' := 128) a 0 inb x ha (fun j => by omega) (fun k => k.isLt))).symm
  refine (congrArg _ (eq_ix3 (b := 256) (c := 128) x)).trans ?_
  refine (kHead_apply _ _ _ _ (γ (x 1)) (σ (x 1)) (x 1) (x 2) (hγ _) (hσ _)).trans ?_
  unfold ks hd
  rw [show (ix3 (⟨a, ha⟩ : Fin 2) (⟨0 + (x 1).val, by have := (x 1).isLt; have : (x 1).val < 256 := this; omega⟩ : Fin 256) (⟨(x 2).val, (x 2).isLt⟩ : Fin 128)) 1 = x 1 from
    Fin.ext (Nat.zero_add _)]
  refine congrArg (fun y => rope y (γ (x 1)) (σ (x 1)) (x 2)) (congrArg (fun y => rms 0x43000000#32 y _) (funext fun k => ?_))
  refine (slice2 (a := 256) (b := 256) (b' := 128) (a' := 256) (e := .f32) 0 (128 * a) _ h (x 1) k (by have := (x 1).isLt; have : (x 1).val < 256 := this; omega) (by omega)).trans ?_
  refine (projK_apply _ _ _ _).trans ((pr_cols _ _ _ _ 1024 256 _ _ _ (by show 1024 + (128 * a + k.val) < 8704; omega)).trans ?_)
  exact congrArg₂ (P m c t) (Fin.ext (Nat.zero_add _)) (Fin.ext (by show 1024 + (128 * a + k.val) = 1024 + 128 * a + k.val; omega))

/-- The queries the point stores. -/
theorem out12_eq : (outsAt0 m c t).1 = qs m c t γ σ := by
  funext y
  unfold outsAt0 out0_A_12
  dsimp only
  rw [View.read_writes_eq_canon _ _ _ (cover0_A_12 _ _ _ _ _ _ _ _ _ _ _ _ _ _ _ _ _ _ _ _ _ _ _ _ _ _ _ _ _ _ _ _ _ _ _ _ _ _ _ _ _ _ _ _ _ _ _ _ _ _ _ _ _ _ _ _)]
  refine View.canon_apply_of_pieces (Val := Elt Ideal) (e := .bf16) (qs m c t γ σ) _ (fun p hp x => ?_) y (cover0_A_12 _ _ _ _ _ _ _ _ _ _ _ _ _ _ _ _ _ _ _ _ _ _ _ _ _ _ _ _ _ _ _ _ _ _ _ _ _ _ _ _ _ _ _ _ _ _ _ _ _ _ _ _ _ _ _ _ y)
  unfold kernelRun0_A at hp
  dsimp only at hp
  simp only [kernelRun0_A.sl.r, kernelRun0_A.sl.r_1, kernelRun0_A.sl.r_2, kernelRun0_A.sl.r_3, kernelRun0_A.sl.r_4, kernelRun0_A.sl.r_5,
    kernelRun0_A.sl.r_6, kernelRun0_A.sl.r_7, kernelRun0_A.sl.r_8, kernelRun0_A.sl.r_9, kernelRun0_A.sl.r_10, kernelRun0_A.sl.r_11, kernelRun0_A.sl.r_12,
    kernelRun0_A.sl.v26, kernelRun0_A.sl.HS0_1, readAt_eq, View.readCov_unit_zero (S := S256x1024) _ zero2, ld_whole2, List.mem_cons, List.not_mem_nil, or_false] at hp
  rcases hp with rfl | rfl | rfl | rfl | rfl | rfl | rfl | rfl
  · exact (congrFun (pay26_eq _ _ _ _) x).trans (qpiece m c t γ σ hγ hσ 896 7 (by decide) rfl _ inb_S8x128x256_S1x128x256_7_0_0 x)
  · exact (congrFun (pay24_eq _ _ _ _) x).trans (qpiece m c t γ σ hγ hσ 768 6 (by decide) rfl _ inb_S8x128x256_S1x128x256_6_0_0 x)
  · exact (congrFun (pay23_eq _ _ _ _) x).trans (qpiece m c t γ σ hγ hσ 640 5 (by decide) rfl _ inb_S8x128x256_S1x128x256_5_0_0 x)
  · exact (congrFun (pay18_eq _ _ _ _) x).trans (qpiece m c t γ σ hγ hσ 512 4 (by decide) rfl _ inb_S8x128x256_S1x128x256_4_0_0 x)
  · exact (congrFun (pay15_eq _ _ _ _) x).trans (qpiece m c t γ σ hγ hσ 384 3 (by decide) rfl _ inb_S8x128x256_S1x128x256_3_0_0 x)
  · exact (congrFun (pay14_eq _ _ _ _) x).trans (qpiece m c t γ σ hγ hσ 256 2 (by decide) rfl _ inb_S8x128x256_S1x128x256_2_0_0 x)
  · exact (congrFun (pay12_eq _ _ _ _) x).trans (qpiece m c t γ σ hγ hσ 128 1 (by decide) rfl _ inb_S8x128x256_S1x128x256_1_0_0 x)
  · exact (congrFun (pay8_eq _ _ _ _ _) x).trans (qpiece m c t γ σ hγ hσ 0 0 (by decide) rfl _ inb_S8x128x256_S1x128x256_0_0_0 x)

/-- The keys the point stores. -/
theorem out13_eq : (outsAt0 m c t).2.1 = ks m c t γ σ := by
  funext y
  unfold outsAt0 out0_A_13
  dsimp only
  rw [View.read_writes_eq_canon _ _ _ (cover0_A_13 _ _ _ _ _ _ _ _ _ _ _ _ _ _ _ _ _ _ _ _ _ _ _ _ _ _ _ _ _ _ _ _ _ _ _ _ _ _ _ _ _ _ _ _ _ _ _ _ _ _ _ _ _ _ _ _)]
  refine View.canon_apply_of_pieces (Val := Elt Ideal) (e := .bf16) (ks m c t γ σ) _ (fun p hp x => ?_) y (cover0_A_13 _ _ _ _ _ _ _ _ _ _ _ _ _ _ _ _ _ _ _ _ _ _ _ _ _ _ _ _ _ _ _ _ _ _ _ _ _ _ _ _ _ _ _ _ _ _ _ _ _ _ _ _ _ _ _ _ y)
  unfold kernelRun0_A at hp
  dsimp only at hp
  simp only [kernelRun0_A.sl.r_13, kernelRun0_A.sl.r_14, kernelRun0_A.sl.r_15, kernelRun0_A.sl.r_16, kernelRun0_A.sl.r_17, kernelRun0_A.sl.r_18, kernelRun0_A.sl.r_19,
    kernelRun0_A.sl.v26, kernelRun0_A.sl.HS0_1, readAt_eq, View.readCov_unit_zero (S := S256x1024) _ zero2, ld_whole2, List.mem_cons, List.not_mem_nil, or_false] at hp
  rcases hp with rfl | rfl
  · exact (congrFun (pay36_eq _ _ _ _) x).trans (kpiece m c t γ σ hγ hσ 128 1 (by decide) rfl _ inb_S2x256x128_S1x256x128_1_0_0 x)
  · exact (congrFun (pay31_eq _ _ _ _ _) x).trans (kpiece m c t γ σ hγ hσ 0 0 (by decide) rfl _ inb_S2x256x128_S1x256x128_0_0_0 x)

omit hγ hσ

/-- Sixteen rows of ones are their piece of `vs`. -/
theorem opiece (a : ℕ) (ha : a < 2) (inb) (x : S1x16x256.Idx) :
    Ideal.ofBits .bf16 0x3F80#16 = vs m c t ((Rect.unit (s := S2x144x256) ![a, 128, 0] S1x16x256.size inb).emb x) := by
  refine Eq.trans ?_ (congrArg (vs m c t) (emb3 (a := 2) (b := 144) (c := 256) (b' := 16) (c' := 256) a 128 inb x ha (fun j => by omega) (fun k => k.isLt))).symm
  unfold vs
  rw [dif_neg (show ¬(ix3 (⟨a, ha⟩ : Fin 2) (⟨128 + (x 1).val, by have := (x 1).isLt; have : (x 1).val < 16 := this; omega⟩ : Fin 144)
    (⟨(x 2).val, (x 2).isLt⟩ : Fin 256) 1).val < 128 by show ¬128 + (x 1).val < 128; omega)]

/-- One head of the values is its piece of `vs`. -/
theorem vpiece (a : ℕ) (ha : a < 2) (inb) (x : S1x128x256.Idx) (hx : ∀ d : Fin 128, 128 * a + d.val < 256) :
    ∑ k : Fin 1024, hid (iblk m c 0 t) (iblk m c 1 t) (iblk m c 2 t) (ix2 (x 2) k)
        * ld (iblk m c 3 t) (Rect.unit (s := S1024x8704) ![0, 1280] S1024x256.size inb_S1024x8704_S1024x256_0_1280).toLoadRect (ix2 k ⟨128 * a + (x 1).val, hx (x 1)⟩)
      = vs m c t ((Rect.unit (s := S2x144x256) ![a, 0, 0] S1x128x256.size inb).emb x) := by
  have h1 : (x 1).val < 128 := (x 1).isLt
  refine Eq.trans ?_ (congrArg (vs m c t) (emb3 (a := 2) (b := 144) (c := 256) (b' := 128) (c' := 256) a 0 inb x ha (fun j => by omega) (fun k => k.isLt))).symm
  unfold vs
  refine Eq.trans ?_ (dif_pos (by show 0 + (x 1).val < 128; omega)).symm
  refine (pr_cols _ _ _ _ 1280 256 _ (x 2) _ (by show 1280 + (128 * a + (x 1).val) < 8704; omega)).trans ?_
  exact congrArg (P m c t (x 2)) (Fin.ext (by show 1280 + (128 * a + (x 1).val) = 1280 + (128 * a + (0 + (x 1).val)); omega))

/-- The values the point stores. -/
theorem out14_eq : (outsAt0 m c t).2.2.1 = vs m c t := by
  funext y
  unfold outsAt0 out0_A_14
  dsimp only
  rw [View.read_writes_eq_canon _ _ _ (cover0_A_14 _ _ _ _ _ _ _ _ _ _ _ _ _ _ _ _ _ _ _ _ _ _ _ _ _ _ _ _ _ _ _ _ _ _ _ _ _ _ _ _ _ _ _ _ _ _ _ _ _ _ _ _ _ _ _ _)]
  refine View.canon_apply_of_pieces (Val := Elt Ideal) (e := .bf16) (vs m c t) _ (fun p hp x => ?_) y (cover0_A_14 _ _ _ _ _ _ _ _ _ _ _ _ _ _ _ _ _ _ _ _ _ _ _ _ _ _ _ _ _ _ _ _ _ _ _ _ _ _ _ _ _ _ _ _ _ _ _ _ _ _ _ _ _ _ _ _ y)
  unfold kernelRun0_A at hp
  dsimp only at hp
  simp only [kernelRun0_A.sl.v26, kernelRun0_A.sl.HS0_1, readAt_eq, View.readCov_unit_zero (S := S256x1024) _ zero2, ld_whole2,
    List.mem_cons, List.not_mem_nil, or_false] at hp
  rcases hp with rfl | rfl | rfl | rfl
  · exact opiece m c t 1 (by decide) inb_S2x144x256_S1x16x256_1_128_0 x
  · refine (congrArg _ (eq_ix3 (b := 128) (c := 256) x)).trans ?_
    exact (pay40_apply _ _ (x 2) (x 1)).trans (vpiece m c t 1 (by decide) inb_S2x144x256_S1x128x256_1_0_0 x (fun d => by omega))
  · exact opiece m c t 0 (by decide) inb_S2x144x256_S1x16x256_0_128_0 x
  · refine (congrArg _ (eq_ix3 (b := 128) (c := 256) x)).trans ?_
    refine (pay38_apply _ _ (x 2) (x 1)).trans (Eq.trans ?_ (vpiece m c t 0 (by decide) inb_S2x144x256_S1x128x256_0_0_0 x (fun d => by omega)))
    exact Finset.sum_congr rfl fun k _ => congrArg (fun y : EReal => _ * y) (congrArg _ (congrArg (ix2 k) (Fin.ext (by show (x 1).val = 128 * 0 + (x 1).val; omega))))

end

end Cert.Kernel2Ideal.Inproj
-- ==== Proof.Inproj.Gated.lean ====
/-
  The spatially gated product that a point of the grid stores, element by element, as a function of the blocks it reads.
-/
module

public import proofs.«01_k».proof.Proof.Inproj.Rotary
import all proofs.«01_k».proof.Proof.Gen.Kernel2Ideal.Frame.RunA

@[expose] public section

set_option maxRecDepth 16384

noncomputable section

namespace Cert.Kernel2Ideal.Inproj

open Cert.Kernel2Ideal Cert.Kernel2Ideal.Gen Cert.Inproj
open Idealize.ShloMosaic hiding ix2 ix3
open Idealize.ShloMosaic.ValueIdx Idealize.ShloMosaic.TcCoe Idealize.SL.Sem

/-- An index of one piece of a block of rank two, placed in the block. -/
theorem emb2 {a b a' b' : ℕ} (o₀ o : ℕ) (inb) (x : (⟨2, ![a', b']⟩ : Shape).Idx) (ha : ∀ i : Fin a', o₀ + i.val < a) (hb : ∀ j : Fin b', o + j.val < b) :
    (Rect.unit (s := ⟨2, ![a, b]⟩) ![o₀, o] ![a', b'] inb).emb x = ix2 ⟨o₀ + (x 0).val, ha (x 0)⟩ ⟨o + (x 1).val, hb (x 1)⟩ := by
  funext k
  refine Fin.ext ((ValueKit.rect_emb_unit_val _ _ _ _ _).trans ?_)
  match k with
  | 0 => rfl
  | 1 => rfl

/-- An index of rank two. -/
theorem eq_ix2 {a b : ℕ} (x : (⟨2, ![a, b]⟩ : Shape).Idx) : x = ix2 (x 0) (x 1) := by
  funext k
  match k with
  | 0 => rfl
  | 1 => rfl

section
variable (m : (ℓ : Loc nD τ sig) → Buf (Elt Ideal) ℓ) (c : Dev nD) (t : Fin cfg0.N)

/-- The second half of the spatial part of a token of the block, normalised. -/
def gv (r : Fin 256) (j : Fin 1024) : EReal :=
  rms 0x44800000#32 (fun k : Fin 1024 => gelu (P m c t r ⟨2560 + k, by omega⟩)) (fun k => iblk m c 8 t (ix2 0 k)) j

/-- The matrices that mix the tokens of a chunk, one for each group of columns. -/
def wsb : Vec Ideal S4x128x128 .bf16 := iblk m c 9 t

/-- The spatial gate of the block: each chunk of 128 tokens is mixed by the matrix of its column's group. -/
def sv : S256x1024.Idx → EReal := fun y =>
  have h0 : (y 0).val < 256 := (y 0).isLt
  have h1 : (y 1).val < 1024 := (y 1).isLt
  gelu (P m c t (y 0) ⟨1536 + (y 1).val, by omega⟩)
    * ((∑ k : Fin 128, wsb m c t (ix3 ⟨(y 1).val / 256, by omega⟩ ⟨(y 0).val % 128, by omega⟩ k) * gv m c t ⟨128 * ((y 0).val / 128) + k, by omega⟩ (y 1))
      + iblk m c 10 t (ix2 ⟨(y 0).val % 128, by omega⟩ ⟨(y 1).val / 256, by omega⟩))

/-- GELU of columns of the projection, as the kernel computes it. -/
theorem gelu_cols (o : ℕ) (inb) (r : Fin 256) (j : Fin 1024) (hj : o + j.val < 8704) :
    k0_pay42 (hid (iblk m c 0 t) (iblk m c 1 t) (iblk m c 2 t))
      (ld (iblk m c 3 t) (Rect.unit (s := S1024x8704) ![0, o] S1024x1024.size inb).toLoadRect) (ix2 r j) = gelu (P m c t r ⟨o + j, hj⟩) :=
  (pay42_apply _ _ r j).trans (congrArg gelu (pr_cols _ _ _ _ o 1024 inb r j hj))

/-- The kernel's second half, normalised. -/
theorem gv_cols (r : Fin 256) (j : Fin 1024) :
    k0_pay45 (k0_pay43 (hid (iblk m c 0 t) (iblk m c 1 t) (iblk m c 2 t))
        (ld (iblk m c 3 t) (Rect.unit (s := S1024x8704) ![0, 2560] S1024x1024.size inb_S1024x8704_S1024x1024_0_2560).toLoadRect)) (iblk m c 8 t)
      (k0_pay44 (hid (iblk m c 0 t) (iblk m c 1 t) (iblk m c 2 t))
        (ld (iblk m c 3 t) (Rect.unit (s := S1024x8704) ![0, 2560] S1024x1024.size inb_S1024x8704_S1024x1024_0_2560).toLoadRect)) (ix2 r j) = gv m c t r j := by
  refine (pay45_apply _ _ _ r j).trans ?_
  unfold gv
  exact congrArg (fun y => rms 0x44800000#32 y _ j) (funext fun k =>
    (pay43_apply _ _ r k).trans (congrArg gelu (pr_cols _ _ _ _ 2560 1024 _ r k (by omega))))

/-- One chunk and group of the spatial gate is its piece of `sv`. -/
theorem spiece (a b : ℕ) (ha : a < 2) (hb : b < 4) (o₀ o : ℕ) (h₀ : o₀ + 128 ≤ 256) (h₁ : o + 256 ≤ 1024) (e₀ : o₀ = 128 * a) (e₁ : o = 256 * b) (i1) (i2) (inb) (x : S128x256.Idx)
    (u : Vec Ideal S256x1024 .f32) (y : Vec Ideal S256x1024 .bf16)
    (hu : ∀ (r : Fin 256) (j : Fin 1024), u (ix2 r j) = gelu (P m c t r ⟨1536 + j, by omega⟩)) (hy : ∀ (r : Fin 256) (j : Fin 1024), y (ix2 r j) = gv m c t r j) :
    sgate u y (ld (iblk m c 9 t) (Rect.unit (s := S4x128x128) ![b, 0, 0] S1x128x128.size i1).toLoadRect)
        (ld (iblk m c 10 t) (Rect.unit (s := S128x4) ![0, b] S128x1.size i2).toLoadRect) o₀ h₀ o h₁ (x 0) (x 1)
      = sv m c t ((Rect.unit (s := S256x1024) ![o₀, o] S128x256.size inb).emb x) := by
  subst e₀ e₁
  have h0 : (x 0).val < 128 := (x 0).isLt
  have h1 : (x 1).val < 256 := (x 1).isLt
  refine Eq.trans ?_ (congrArg (sv m c t) (emb2 (a := 256) (b := 1024) (a' := 128) (b' := 256) (128 * a) (256 * b) inb x (fun j => by omega) (fun k => by omega))).symm
  unfold sgate sv
  refine congrArg₂ (fun x y : EReal => x * y) (hu _ _) (congrArg₂ (fun x y : EReal => x + y) ?_ ?_)
  · refine Finset.sum_congr rfl fun k _ => congrArg₂ (fun x y : EReal => x * y) ?_ ((hy _ _).trans ?_)
    · refine (ld3 (a := 4) (b := 128) (c := 128) _ b i1 (x 0) k hb).trans (congrArg (iblk m c 9 t) ?_)
      exact congrArg₂ (fun p q => ix3 p q k) (Fin.ext (by show b = (256 * b + (x 1).val) / 256; omega)) (Fin.ext (by show (x 0).val = (128 * a + (x 0).val) % 128; omega))
    · exact congrArg (gv m c t · _) (Fin.ext (by show 128 * a + k.val = 128 * ((128 * a + (x 0).val) / 128) + k.val; omega))
  · refine (ld2 (a := 128) (b := 4) (a' := 128) (b' := 1) _ 0 b i2 (x 0) 0 (by omega) (by omega)).trans (congrArg (iblk m c 10 t) ?_)
    exact congrArg₂ ix2 (Fin.ext (by show 0 + (x 0).val = (128 * a + (x 0).val) % 128; omega)) (Fin.ext (by show b + 0 = (256 * b + (x 1).val) / 256; omega))

/-- The spatially gated product the point stores. -/
theorem out16_apply (r : Fin 256) (j : Fin 1024) : (outsAt0 m c t).2.2.2.2.1 (ix2 r j)
    = sigm (P m c t r ⟨6656 + j, by omega⟩) * ∑ k : Fin 1024, sv m c t (ix2 r k) * iblk m c 11 t (ix2 k j) := by
  unfold outsAt0 out0_A_16
  dsimp only
  rw [View.read_writes_eq_canon _ _ _ (cover0_A_16 _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  rw [View.canon_unit_zero (S := S256x1024) zero2]
  simp only [kernelRun0_A.sl.v26, kernelRun0_A.sl.HS0_1, readAt_eq, View.readCov_unit_zero (S := S256x1024) _ zero2, ld_whole2]
  refine (pay58_apply _ _ _ _ r j).trans ?_
  refine congrArg₂ (fun x y : EReal => x * y) (congrArg sigm ((pr_cols _ _ _ _ 5632 3072 _ r ⟨1024 + j, by omega⟩ (by show 5632 + (1024 + j.val) < 8704; omega)).trans
    (congrArg (P m c t r) (Fin.ext (by show 5632 + (1024 + j.val) = 6656 + j.val; omega))))) ?_
  refine Finset.sum_congr rfl fun k _ => congrArg (fun y : EReal => y * _) ?_
  unfold kernelRun0_A.sl.v489
  rw [View.readCov_eq_canon']
  show View.canon (kernelRun0_A.sl.HS1_8 (F := Ideal) _ _ _ _ _ _ _ _ _ _ _ _ _ _ _ _ _ _ _ _ _ _ _) ((Rect.unit (s := S256x1024) ![0, 0] S256x1024.size inb_S256x1024_S256x1024_0_0).toLoadRect.idx (ix2 r k)) = sv m c t (ix2 r k)
  rw [show (Rect.unit (s := S256x1024) ![0, 0] S256x1024.size inb_S256x1024_S256x1024_0_0).toLoadRect.idx (ix2 r k) = ix2 r k from
    congrFun (ld_whole2 (a := 256) (b := 1024) id _) _]
  refine View.canon_apply_of_pieces (Val := Elt Ideal) (e := .bf16) (sv m c t) _ (fun p hp x => ?_) _
    (View.cover_of_tiledL (Val := Elt Ideal) (s := S256x1024) (e := .bf16) (kernelRun0_A.sl.HS1_8 (F := Ideal) _ _ _ _ _ _ _ _ _ _ _ _ _ _ _ _ _ _ _ _ _ _ _) S128x256.size (by sl_kernel_rfl) _)
  simp only [kernelRun0_A.sl.HS1_8, kernelRun0_A.sl.r_20, kernelRun0_A.sl.r_21, kernelRun0_A.sl.r_22, kernelRun0_A.sl.r_23, kernelRun0_A.sl.r_24, kernelRun0_A.sl.r_25,
    kernelRun0_A.sl.r_26, kernelRun0_A.sl.r_27, kernelRun0_A.sl.r_28, kernelRun0_A.sl.v26, kernelRun0_A.sl.HS0_1, readAt_eq,
    View.readCov_unit_zero (S := S256x1024) _ zero2, ld_whole2, List.mem_cons, List.not_mem_nil, or_false] at hp
  have hu := fun r j => gelu_cols m c t 1536 inb_S1024x8704_S1024x1024_0_1536 r j (by omega)
  have hy := gv_cols m c t
  rcases hp with rfl | rfl | rfl | rfl | rfl | rfl | rfl | rfl
  · exact (congrArg _ (eq_ix2 (a := 128) (b := 256) x)).trans ((pay55_apply _ _ _ _ (x 0) (x 1)).trans
      (spiece m c t 1 3 (by decide) (by decide) 128 768 (by decide) (by decide) rfl rfl inb_S4x128x128_S1x128x128_3_0_0 inb_S128x4_S128x1_0_3 inb_S256x1024_S128x256_128_768 x _ _ hu hy))
  · exact (congrArg _ (eq_ix2 (a := 128) (b := 256) x)).trans ((pay54_apply _ _ _ _ (x 0) (x 1)).trans
      (spiece m c t 1 2 (by decide) (by decide) 128 512 (by decide) (by decide) rfl rfl inb_S4x128x128_S1x128x128_2_0_0 inb_S128x4_S128x1_0_2 inb_S256x1024_S128x256_128_512 x _ _ hu hy))
  · exact (congrArg _ (eq_ix2 (a := 128) (b := 256) x)).trans ((pay53_apply _ _ _ _ (x 0) (x 1)).trans
      (spiece m c t 1 1 (by decide) (by decide) 128 256 (by decide) (by decide) rfl rfl inb_S4x128x128_S1x128x128_1_0_0 inb_S128x4_S128x1_0_1 inb_S256x1024_S128x256_128_256 x _ _ hu hy))
  · exact (congrArg _ (eq_ix2 (a := 128) (b := 256) x)).trans ((pay51_apply _ _ _ _ (x 0) (x 1)).trans
      (spiece m c t 1 0 (by decide) (by decide) 128 0 (by decide) (by decide) rfl rfl inb_S4x128x128_S1x128x128_0_0_0 inb_S128x4_S128x1_0_0 inb_S256x1024_S128x256_128_0 x _ _ hu hy))
  · exact (congrArg _ (eq_ix2 (a := 128) (b := 256) x)).trans ((pay50_apply _ _ _ _ (x 0) (x 1)).trans
      (spiece m c t 0 3 (by decide) (by decide) 0 768 (by decide) (by decide) rfl rfl inb_S4x128x128_S1x128x128_3_0_0 inb_S128x4_S128x1_0_3 inb_S256x1024_S128x256_0_768 x _ _ hu hy))
  · exact (congrArg _ (eq_ix2 (a := 128) (b := 256) x)).trans ((pay49_apply _ _ _ _ _ _ (x 0) (x 1)).trans
      (spiece m c t 0 2 (by decide) (by decide) 0 512 (by decide) (by decide) rfl rfl inb_S4x128x128_S1x128x128_2_0_0 inb_S128x4_S128x1_0_2 inb_S256x1024_S128x256_0_512 x _ _ hu hy))
  · exact (congrArg _ (eq_ix2 (a := 128) (b := 256) x)).trans ((pay47_apply _ _ _ _ _ _ (x 0) (x 1)).trans
      (spiece m c t 0 1 (by decide) (by decide) 0 256 (by decide) (by decide) rfl rfl inb_S4x128x128_S1x128x128_1_0_0 inb_S128x4_S128x1_0_1 inb_S256x1024_S128x256_0_256 x _ _ hu hy))
  · exact (congrArg _ (eq_ix2 (a := 128) (b := 256) x)).trans ((pay46_apply _ _ _ _ _ _ (x 0) (x 1)).trans
      (spiece m c t 0 0 (by decide) (by decide) 0 0 (by decide) (by decide) rfl rfl inb_S4x128x128_S1x128x128_0_0_0 inb_S128x4_S128x1_0_0 inb_S256x1024_S128x256_0_0 x _ _ hu hy))

end

end Cert.Kernel2Ideal.Inproj
-- ==== Proof.Inproj.RefRows.lean ====
/-
  The reference's hidden states, their projection, and the four results that are rows of tokens, element by element.
-/
module

public import proofs.«01_k».proof.Proof.Gen.Reference2Ideal.Read
public import proofs.«01_k».proof.Proof.Inproj.Rows

@[expose] public section

set_option maxRecDepth 16384

noncomputable section

namespace Cert.Reference2Ideal.Inproj

open Cert.Reference2Ideal Cert.Reference2Ideal.Gen Cert.Reference2Ideal.Read
open Idealize.ShloMosaic Idealize.ShloMosaic.ValueIdx
open Cert.Inproj

/-- An index of a matrix is the pair of its coordinates. -/
theorem of2 {a b : ℕ} (i : Shape.Idx ⟨2, ![a, b]⟩) : i = ix2 (i 0) (i 1) := funext fun x => match x with
  | ⟨0, _⟩ => rfl
  | ⟨1, _⟩ => rfl

/-- An index of rank three is the triple of its coordinates. -/
theorem of3 {a b d : ℕ} (i : Shape.Idx ⟨3, ![a, b, d]⟩) : i = ix3 (i 0) (i 1) (i 2) := funext fun x => match x with
  | ⟨0, _⟩ => rfl
  | ⟨1, _⟩ => rfl
  | ⟨2, _⟩ => rfl

/-- A sum from the literal zero. -/
theorem zsum (x : EReal) : (FloatOps.ofBits (F := Ideal) .f32 0x00000000#32 : EReal) + x = x := by
  show Ideal.ofBits .f32 0x00000000#32 + x = x
  rw [Ideal.ofBits_zero_f32, zero_add]

section
variable (x0 : Vec Ideal S16384x1024 .f32) (x1 : Vec Ideal S8x6144 .f32) (x2 : Vec Ideal S1x1024 .f32) (x3 : Vec Ideal S1024x8704 .bf16)

/-- A token's hidden state: its row normalised, scaled and shifted. -/
def hidden (T : Fin 16384) (l : Fin 1024) : EReal :=
  rms 0x44800000#32 (fun k => x0 (ix2 T k)) (fun k => x2 (ix2 0 k)) l * (Ideal.ofBits .f32 0x3F800000#32 + x1 (ix2 0 ⟨1024 + l, by omega⟩))
    + x1 (ix2 0 ⟨l, by omega⟩)

/-- A token's hidden state times a column of the weights. -/
def proj (T : Fin 16384) (j : Fin 8704) : EReal := ∑ k : Fin 1024, hidden x0 x1 x2 T k * x3 (ix2 k j)

theorem hidden_eq (T : Fin 16384) (l : Fin 1024) : val_main_v19 (F := Ideal) x0 x1 x2 (ix2 T l) = hidden x0 x1 x2 T l := by
  have i3 : ∀ k, idx_main_v3 (idx_main_v4 (idx_main_v10 (ix2 T l))) k = ix2 T k := fun k => of2 _
  have i12 : idx_main_v12 (ix2 T l) = ix2 0 l := of2 _
  have i1 : idx_main_v1 (idx_main_v16 (ix2 T l)) = ix2 0 ⟨1024 + l, by omega⟩ := of2 _
  have i0 : idx_main_v0 (idx_main_v18 (ix2 T l)) = ix2 0 ⟨l, by omega⟩ := of2 _
  simp only [val_main_v19_apply, val_main_v17_apply, val_main_v13_apply, val_main_v11_apply, val_main_v10_apply, val_main_v9_apply,
    val_main_v8_apply, val_main_v6_apply, val_main_v4_apply, val_main_v3_apply, val_main_v2_apply, val_main_v5_apply, val_main_v7_apply,
    val_main_v12_apply, val_main_v16_apply, val_main_v15_apply, val_main_v14_apply, val_main_v18_apply, val_main_v1_apply, val_main_v0_apply,
    val_main_cst_apply, val_main_cst_0_apply, val_main_cst_1_apply, val_main_cst_2_apply, i3, i12, i1, i0, zsum]
  rfl

theorem proj_eq (T : Fin 16384) (j : Fin 8704) : val_main_v21 (F := Ideal) x0 x1 x2 x3 (ix2 T j) = proj x0 x1 x2 x3 T j := by
  rw [val_main_v21_apply]
  refine Finset.sum_congr rfl fun k _ => ?_
  rw [val_main_v20_apply, show lidx_main_v21 (ix2 T j) k = ix2 T k from of2 _, show ridx_main_v21 (ix2 T j) k = ix2 k j from of2 _, hidden_eq]
  rfl

/-- The gated linear unit's result. -/
theorem res171 (T : Fin 16384) (j : Fin 1024) : val_main_v171 (F := Ideal) x0 x1 x2 x3 (ix2 T j)
    = proj x0 x1 x2 x3 T ⟨3584 + j, by omega⟩ * sigm (proj x0 x1 x2 x3 T ⟨4608 + j, by omega⟩) := by
  have i1 : idx_main_v135 (idx_main_v136 (ix2 T j)) = ix2 T ⟨3584 + j, by omega⟩ := of2 _
  have i2 : idx_main_v135 (idx_main_v137 (ix2 T j)) = ix2 T ⟨4608 + j, by omega⟩ := (of2 _).trans (congrArg (ix2 T) (Fin.ext (by
    show 3584 + (1024 + (j : ℕ)) = 4608 + j
    omega)))
  simp only [val_main_v171_apply, val_main_v144_apply, val_main_v143_apply, val_main_v142_apply, val_main_v141_apply, val_main_v140_apply,
    val_main_v139_apply, val_main_v138_apply, val_main_v137_apply, val_main_v136_apply, val_main_v135_apply, val_main_cst_20_apply,
    val_main_cst_21_apply, i1, i2, proj_eq]
  rfl

/-- A gate. -/
theorem gate_eq (T : Fin 16384) (j : Fin 3072) : val_main_v151 (F := Ideal) x0 x1 x2 x3 (ix2 T j)
    = sigm (proj x0 x1 x2 x3 T ⟨5632 + j, by omega⟩) := by
  have i1 : idx_main_v145 (ix2 T j) = ix2 T ⟨5632 + j, by omega⟩ := of2 _
  simp only [val_main_v151_apply, val_main_v150_apply, val_main_v149_apply, val_main_v148_apply, val_main_v147_apply, val_main_v146_apply,
    val_main_v145_apply, val_main_cst_22_apply, val_main_cst_23_apply, i1, proj_eq]
  rfl

/-- The attention's gate. -/
theorem res173 (T : Fin 16384) (j : Fin 1024) : val_main_v173 (F := Ideal) x0 x1 x2 x3 (ix2 T j)
    = sigm (proj x0 x1 x2 x3 T ⟨5632 + j, by omega⟩) := by
  rw [val_main_v173_apply, val_main_v152_apply, show idx_main_v152 (ix2 T j) = ix2 T ⟨j, by omega⟩ from of2 _, gate_eq]
  rfl

/-- The convolution's gate. -/
theorem res174 (T : Fin 16384) (j : Fin 1024) : val_main_v174 (F := Ideal) x0 x1 x2 x3 (ix2 T j)
    = sigm (proj x0 x1 x2 x3 T ⟨7680 + j, by omega⟩) := by
  rw [val_main_v174_apply, val_main_v154_apply, show idx_main_v154 (ix2 T j) = ix2 T ⟨2048 + j, by omega⟩ from of2 _, gate_eq]
  refine congrArg (fun a => sigm (proj x0 x1 x2 x3 T a)) (Fin.ext ?_)
  show 5632 + (2048 + (j : ℕ)) = 7680 + j
  omega

/-- The first half of the gated unit. -/
theorem gu_eq (T : Fin 16384) (j : Fin 1024) : val_main_v97 (F := Ideal) x0 x1 x2 x3 (ix2 T j)
    = gelu (proj x0 x1 x2 x3 T ⟨1536 + j, by omega⟩) := by
  have i1 : idx_main_v84 (ix2 T j) = ix2 T ⟨1536 + j, by omega⟩ := of2 _
  simp only [val_main_v97_apply, val_main_v96_apply, val_main_v95_apply, val_main_v94_apply, val_main_v93_apply, val_main_v92_apply,
    val_main_v91_apply, val_main_v90_apply, val_main_v89_apply, val_main_v88_apply, val_main_v87_apply, val_main_v86_apply, val_main_v85_apply,
    val_main_v84_apply, val_main_cst_9_apply, val_main_cst_10_apply, val_main_cst_11_apply, val_main_cst_12_apply, i1, proj_eq]
  rfl

/-- The second half of the gated unit. -/
theorem gv_eq (T : Fin 16384) (j : Fin 1024) : val_main_v111 (F := Ideal) x0 x1 x2 x3 (ix2 T j)
    = gelu (proj x0 x1 x2 x3 T ⟨2560 + j, by omega⟩) := by
  have i1 : idx_main_v98 (ix2 T j) = ix2 T ⟨2560 + j, by omega⟩ := of2 _
  simp only [val_main_v111_apply, val_main_v110_apply, val_main_v109_apply, val_main_v108_apply, val_main_v107_apply, val_main_v106_apply,
    val_main_v105_apply, val_main_v104_apply, val_main_v103_apply, val_main_v102_apply, val_main_v101_apply, val_main_v100_apply, val_main_v99_apply,
    val_main_v98_apply, val_main_cst_13_apply, val_main_cst_14_apply, val_main_cst_15_apply, val_main_cst_16_apply, i1, proj_eq]
  rfl

variable (x8 : Vec Ideal S1x1024 .f32) (x9 : Vec Ideal S4x128x128 .bf16) (x10 : Vec Ideal S128x4 .f32) (x11 : Vec Ideal S1024x1024 .bf16)

/-- The second half, normalised. -/
theorem gvn_eq (T : Fin 16384) (j : Fin 1024) : val_main_v123 (F := Ideal) x0 x1 x2 x3 x8 (ix2 T j)
    = rms 0x44800000#32 (fun k : Fin 1024 => gelu (proj x0 x1 x2 x3 T ⟨2560 + k, by omega⟩)) (fun k => x8 (ix2 0 k)) j := by
  have i1 : ∀ k, idx_main_v113 (idx_main_v114 (idx_main_v120 (ix2 T j))) k = ix2 T k := fun k => of2 _
  have i2 : idx_main_v122 (ix2 T j) = ix2 0 j := of2 _
  simp only [val_main_v123_apply, val_main_v122_apply, val_main_v121_apply, val_main_v120_apply, val_main_v119_apply, val_main_v118_apply,
    val_main_v117_apply, val_main_v116_apply, val_main_v115_apply, val_main_v114_apply, val_main_v113_apply, val_main_v112_apply,
    val_main_cst_17_apply, val_main_cst_18_apply, val_main_cst_19_apply, i1, i2, gv_eq, zsum]
  rfl

/-- The spatial gate: the normalised second half, mixed over its block of 128 tokens. -/
theorem spatial_eq (T : Fin 16384) (j : Fin 1024) : val_main_v131 (F := Ideal) x0 x1 x2 x3 x8 x9 x10 (ix2 T j)
    = (∑ k : Fin 128, val_main_v123 (F := Ideal) x0 x1 x2 x3 x8 (ix2 ⟨128 * (T / 128) + k, by omega⟩ j)
        * x9 (ix3 ⟨j / 256, by omega⟩ ⟨T % 128, Nat.mod_lt _ (by decide)⟩ k))
      + x10 (ix2 ⟨T % 128, Nat.mod_lt _ (by decide)⟩ ⟨j / 256, by omega⟩) := by
  have i1 : ∀ k, idx_main_v124 (lidx_main_v126 (idx_main_v127 (idx_main_v131 (ix2 T j))) k) = ix2 ⟨128 * (T / 128) + k, by omega⟩ j := fun k => by
    funext a
    refine Fin.ext ?_
    match a with
    | ⟨0, _⟩ =>
      show ((((T * 1024 + j : ℕ) / 131072 * 128 + k) * 4 + (T * 1024 + j : ℕ) / 256 % 4) * 256 + (T * 1024 + j : ℕ) % 256) / 1024 = 128 * (T / 128) + k
      omega
    | ⟨1, _⟩ =>
      show ((((T * 1024 + j : ℕ) / 131072 * 128 + k) * 4 + (T * 1024 + j : ℕ) / 256 % 4) * 256 + (T * 1024 + j : ℕ) % 256) % 1024 = j
      omega
  have i2 : ∀ k, ridx_main_v126 (idx_main_v127 (idx_main_v131 (ix2 T j))) k = ix3 ⟨j / 256, by omega⟩ ⟨T % 128, Nat.mod_lt _ (by decide)⟩ k := fun k => by
    funext a
    refine Fin.ext ?_
    match a with
    | ⟨0, _⟩ =>
      show (T * 1024 + j : ℕ) / 256 % 4 = j / 256
      omega
    | ⟨1, _⟩ =>
      show (T * 1024 + j : ℕ) / 1024 % 128 = T % 128
      omega
    | ⟨2, _⟩ => rfl
  have i3 : idx_main_v128 (idx_main_v129 (idx_main_v131 (ix2 T j))) = ix2 ⟨T % 128, Nat.mod_lt _ (by decide)⟩ ⟨j / 256, by omega⟩ := by
    funext a
    refine Fin.ext ?_
    match a with
    | ⟨0, _⟩ =>
      show (T * 1024 + j : ℕ) / 1024 % 128 = T % 128
      omega
    | ⟨1, _⟩ =>
      show (T * 1024 + j : ℕ) / 256 % 4 = j / 256
      omega
  simp only [val_main_v131_apply, val_main_v130_apply, val_main_v127_apply, val_main_v126_apply, val_main_v125_apply, val_main_v124_apply,
    val_main_v129_apply, val_main_v128_apply, i1, i2, i3]
  rfl

/-- The gated unit's result. -/
theorem res172 (T : Fin 16384) (j : Fin 1024) : val_main_v172 (F := Ideal) x0 x1 x2 x3 x8 x9 x10 x11 (ix2 T j)
    = sigm (proj x0 x1 x2 x3 T ⟨6656 + j, by omega⟩) * ∑ l : Fin 1024,
        gelu (proj x0 x1 x2 x3 T ⟨1536 + l, by omega⟩) * val_main_v131 (F := Ideal) x0 x1 x2 x3 x8 x9 x10 (ix2 T l) * x11 (ix2 l j) := by
  have i1 : idx_main_v153 (ix2 T j) = ix2 T ⟨1024 + j, by omega⟩ := of2 _
  have i2 : ∀ k, lidx_main_v134 (ix2 T j) k = ix2 T k := fun k => of2 _
  have i3 : ∀ k, ridx_main_v134 (ix2 T j) k = ix2 k j := fun k => of2 _
  simp only [val_main_v172_apply, val_main_v167_apply, val_main_v153_apply, val_main_v134_apply, val_main_v133_apply, val_main_v132_apply,
    i1, i2, i3, gate_eq, gu_eq]
  refine congrArg (fun a => sigm (proj x0 x1 x2 x3 T a) * _) (Fin.ext ?_)
  show 5632 + (1024 + (j : ℕ)) = 6656 + j
  omega

end

end Cert.Reference2Ideal.Inproj
-- ==== Proof.Inproj.Reads.lean ====
/-
  What a point of the input projection's grid reads of its arguments: point `i` its 256 tokens' rows of the activations and of the
  two tables of angles, and all of the rest. The tables are built before the grid runs: the cosines twice side by side
  (`cosTable`), and the sines with their sign changed next to the sines (`sinTable`).
-/
module

public import proofs.«01_k».proof.Proof.Inproj.Gated
public import proofs.«01_k».proof.Proof.Inproj.RefRows
public import Idealize.ShloMosaic.Lib.Pipeline.ValueKit
public import Idealize.ShloMosaic.Lib.StableHlo.RunRead

@[expose] public section

set_option maxRecDepth 16384

noncomputable section

namespace Cert.Kernel2Ideal.Inproj

open Cert.Kernel2Ideal Cert.Kernel2Ideal.Gen Cert.Inproj
open Idealize.ShloMosaic hiding ix2 ix3
open Idealize.ShloMosaic.ValueIdx Idealize.ShloMosaic.TcCoe Idealize.SL.Sem

variable (m : (ℓ : Loc nD τ sig) → Buf (Elt Ideal) ℓ)

/-- The block of tokens of a point. -/
def iOf (t : Fin cfg0.N) : Fin 64 := grid0.coords t 0

theorem index0 : ∀ t : Fin cfg0.N, win0_0.index t = ![(iOf t).val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![(iOf t).val, 0] := (by decide +kernel : ∀ t : Fin grid0.N, _)
theorem index7 : ∀ t : Fin cfg0.N, win0_7.index t = ![(iOf t).val, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![0, 0] := (by decide +kernel : ∀ t : Fin grid0.N, _)

/-- The table of cosines. -/
theorem V_cos (c : Dev nD) : V m c main_v0 = concatenate S16384x128 1 [⟨S16384x64, m ((c : Thread nD τ).loc main_arg6)⟩,
    ⟨S16384x64, m ((c : Thread nD τ).loc main_arg6)⟩] concatenates_S16384x64_S16384x64_S16384x128_d1 := by
  show StableHlo.after hostOps0 (fun b => m (c, b)) (Proc.devRef .tc main_v0) = _
  after_results

/-- The table of sines. -/
theorem V_sin (c : Dev nD) : V m c main_v2 = concatenate S16384x128 1 [⟨S16384x64, Host.negf (F := Ideal) (φ := .f32) (s := S16384x64) (m ((c : Thread nD τ).loc main_arg7))⟩,
    ⟨S16384x64, m ((c : Thread nD τ).loc main_arg7)⟩] concatenates_S16384x64_S16384x64_S16384x128_d1 := by
  show StableHlo.after hostOps0 (fun b => m (c, b)) (Proc.devRef .tc main_v2) = _
  after_results

/-- A token's cosine. -/
theorem cosTable (c : Dev nD) (T : Fin 16384) (e : Fin 128) :
    V m c main_v0 (ix2 T e) = m ((c : Thread nD τ).loc main_arg6) (ix2 T ⟨e % 64, Nat.mod_lt _ (by decide)⟩) := by
  rw [V_cos]
  by_cases h : e.val < 64
  · refine (concatenate_pair_apply_left (t := S16384x128) (s₁ := S16384x64) (s₂ := S16384x64) 1 _ _ _ (ix2 T e) rfl (ix2 T ⟨e, h⟩) (fun b => match b with
      | ⟨0, _⟩ => rfl
      | ⟨1, _⟩ => rfl)).trans ?_
    refine congrArg (fun a => m ((c : Thread nD τ).loc main_arg6) (ix2 T a)) (Fin.ext ?_)
    show (e : ℕ) = e % 64
    omega
  · refine (concatenate_pair_apply_right (t := S16384x128) (s₁ := S16384x64) (s₂ := S16384x64) 1 _ _ _ (ix2 T e) rfl rfl (ix2 T ⟨e - 64, by omega⟩) (fun b hb => match b, hb with
      | ⟨0, _⟩, _ => rfl
      | ⟨1, _⟩, hb => absurd rfl hb) (by
        show (e : ℕ) - 64 + 64 = e
        omega)).trans ?_
    refine congrArg (fun a => m ((c : Thread nD τ).loc main_arg6) (ix2 T a)) (Fin.ext ?_)
    show (e : ℕ) - 64 = e % 64
    omega

/-- The sines as they are given. -/
abbrev sines (c : Dev nD) : Vec Ideal S16384x64 .f32 := m ((c : Thread nD τ).loc main_arg7)

/-- A token's sine, with its sign. -/
theorem sinTable (c : Dev nD) (T : Fin 16384) (e : Fin 128) :
    V m c main_v2 (ix2 T e) = if h : e.val < 64 then -sines m c (ix2 T ⟨e, h⟩)
      else sines m c (ix2 T ⟨e - 64, by omega⟩) := by
  rw [V_sin]
  by_cases h : e.val < 64
  · rw [dif_pos h]
    exact concatenate_pair_apply_left (t := S16384x128) (s₁ := S16384x64) (s₂ := S16384x64) 1 _ _ _ (ix2 T e) rfl (ix2 T ⟨e, h⟩) (fun b => match b with
      | ⟨0, _⟩ => rfl
      | ⟨1, _⟩ => rfl)
  · rw [dif_neg h]
    exact concatenate_pair_apply_right (t := S16384x128) (s₁ := S16384x64) (s₂ := S16384x64) 1 _ _ _ (ix2 T e) rfl rfl (ix2 T ⟨e - 64, by omega⟩) (fun b hb => match b, hb with
      | ⟨0, _⟩, _ => rfl
      | ⟨1, _⟩, hb => absurd rfl hb) (by
        show (e : ℕ) - 64 + 64 = e
        omega)

/-- A block of activations. -/
theorem blk0 (c : Dev nD) (t : Fin cfg0.N) (r : Fin 256) (k : Fin 1024) :
    iblk m c 0 t (ix2 r k) = m ((c : Thread nD τ).loc main_arg0) (ix2 ⟨256 * iOf t + r, by omega⟩ k) := by
  refine Eq.trans ?_ (congrFun (V_main_arg0 m c) _)
  refine congrArg (V m c main_arg0) (funext fun a => Fin.ext ?_)
  refine (win0_0.rect_emb_val t (ix2 r k) a).trans ?_
  rw [index0]
  match a with
  | 0 => show (iOf t).val * 256 + r = 256 * iOf t + r
         omega
  | 1 => show 0 * 1024 + k = (k : ℕ)
         omega

/-- A block of the table of cosines. -/
theorem blk6 (c : Dev nD) (t : Fin cfg0.N) (r : Fin 256) (e : Fin 128) :
    iblk m c 6 t (ix2 r e) = V m c main_v0 (ix2 ⟨256 * iOf t + r, by omega⟩ e) := by
  refine congrArg (V m c main_v0) (funext fun a => Fin.ext ?_)
  refine (win0_6.rect_emb_val t (ix2 r e) a).trans ?_
  rw [index6]
  match a with
  | 0 => show (iOf t).val * 256 + r = 256 * iOf t + r
         omega
  | 1 => show 0 * 128 + e = (e : ℕ)
         omega

/-- A block of the table of sines. -/
theorem blk7 (c : Dev nD) (t : Fin cfg0.N) (r : Fin 256) (e : Fin 128) :
    iblk m c 7 t (ix2 r e) = V m c main_v2 (ix2 ⟨256 * iOf t + r, by omega⟩ e) := by
  refine congrArg (V m c main_v2) (funext fun a => Fin.ext ?_)
  refine (win0_7.rect_emb_val t (ix2 r e) a).trans ?_
  rw [index7]
  match a with
  | 0 => show (iOf t).val * 256 + r = 256 * iOf t + r
         omega
  | 1 => show 0 * 128 + e = (e : ℕ)
         omega

/-- The modulation. -/
theorem blk1 (c : Dev nD) (t : Fin cfg0.N) (r : Fin 8) (k : Fin 6144) :
    iblk m c 1 t (ix2 r k) = m ((c : Thread nD τ).loc main_arg1) (ix2 r k) := by
  refine Eq.trans ?_ (congrFun (V_main_arg1 m c) _)
  refine congrArg (V m c main_arg1) (funext fun a => Fin.ext ?_)
  refine (win0_1.rect_emb_val t (ix2 r k) a).trans ?_
  rw [index1]
  match a with
  | 0 => show 0 * 8 + r = (r : ℕ)
         omega
  | 1 => show 0 * 6144 + k = (k : ℕ)
         omega

/-- The norm's scale. -/
theorem blk2 (c : Dev nD) (t : Fin cfg0.N) (r : Fin 1) (k : Fin 1024) :
    iblk m c 2 t (ix2 r k) = m ((c : Thread nD τ).loc main_arg2) (ix2 r k) := by
  refine Eq.trans ?_ (congrFun (V_main_arg2 m c) _)
  refine congrArg (V m c main_arg2) (funext fun a => Fin.ext ?_)
  refine (win0_2.rect_emb_val t (ix2 r k) a).trans ?_
  rw [index2]
  match a with
  | 0 => show 0 * 1 + r = (r : ℕ)
         omega
  | 1 => show 0 * 1024 + k = (k : ℕ)
         omega

/-- The weights. -/
theorem blk3 (c : Dev nD) (t : Fin cfg0.N) (r : Fin 1024) (k : Fin 8704) :
    iblk m c 3 t (ix2 r k) = m ((c : Thread nD τ).loc main_arg3) (ix2 r k) := by
  refine Eq.trans ?_ (congrFun (V_main_arg3 m c) _)
  refine congrArg (V m c main_arg3) (funext fun a => Fin.ext ?_)
  refine (win0_3.rect_emb_val t (ix2 r k) a).trans ?_
  rw [index3]
  match a with
  | 0 => show 0 * 1024 + r = (r : ℕ)
         omega
  | 1 => show 0 * 8704 + k = (k : ℕ)
         omega

/-- The queries' norm. -/
theorem blk4 (c : Dev nD) (t : Fin cfg0.N) (r : Fin 1) (k : Fin 128) :
    iblk m c 4 t (ix2 r k) = m ((c : Thread nD τ).loc main_arg4) (ix2 r k) := by
  refine Eq.trans ?_ (congrFun (V_main_arg4 m c) _)
  refine congrArg (V m c main_arg4) (funext fun a => Fin.ext ?_)
  refine (win0_4.rect_emb_val t (ix2 r k) a).trans ?_
  rw [index4]
  match a with
  | 0 => show 0 * 1 + r = (r : ℕ)
         omega
  | 1 => show 0 * 128 + k = (k : ℕ)
         omega

/-- The keys' norm. -/
theorem blk5 (c : Dev nD) (t : Fin cfg0.N) (r : Fin 1) (k : Fin 128) :
    iblk m c 5 t (ix2 r k) = m ((c : Thread nD τ).loc main_arg5) (ix2 r k) := by
  refine Eq.trans ?_ (congrFun (V_main_arg5 m c) _)
  refine congrArg (V m c main_arg5) (funext fun a => Fin.ext ?_)
  refine (win0_5.rect_emb_val t (ix2 r k) a).trans ?_
  rw [index5]
  match a with
  | 0 => show 0 * 1 + r = (r : ℕ)
         omega
  | 1 => show 0 * 128 + k = (k : ℕ)
         omega

/-- The gated unit's norm. -/
theorem blk8 (c : Dev nD) (t : Fin cfg0.N) (r : Fin 1) (k : Fin 1024) :
    iblk m c 8 t (ix2 r k) = m ((c : Thread nD τ).loc main_arg8) (ix2 r k) := by
  refine Eq.trans ?_ (congrFun (V_main_arg8 m c) _)
  refine congrArg (V m c main_arg8) (funext fun a => Fin.ext ?_)
  refine (win0_8.rect_emb_val t (ix2 r k) a).trans ?_
  rw [index8]
  match a with
  | 0 => show 0 * 1 + r = (r : ℕ)
         omega
  | 1 => show 0 * 1024 + k = (k : ℕ)
         omega

/-- The spatial gate's bias. -/
theorem blk10 (c : Dev nD) (t : Fin cfg0.N) (r : Fin 128) (k : Fin 4) :
    iblk m c 10 t (ix2 r k) = m ((c : Thread nD τ).loc main_arg10) (ix2 r k) := by
  refine Eq.trans ?_ (congrFun (V_main_arg10 m c) _)
  refine congrArg (V m c main_arg10) (funext fun a => Fin.ext ?_)
  refine (win0_10.rect_emb_val t (ix2 r k) a).trans ?_
  rw [index10]
  match a with
  | 0 => show 0 * 128 + r = (r : ℕ)
         omega
  | 1 => show 0 * 4 + k = (k : ℕ)
         omega

/-- The gated unit's output weights. -/
theorem blk11 (c : Dev nD) (t : Fin cfg0.N) (r : Fin 1024) (k : Fin 1024) :
    iblk m c 11 t (ix2 r k) = m ((c : Thread nD τ).loc main_arg11) (ix2 r k) := by
  refine Eq.trans ?_ (congrFun (V_main_arg11 m c) _)
  refine congrArg (V m c main_arg11) (funext fun a => Fin.ext ?_)
  refine (win0_11.rect_emb_val t (ix2 r k) a).trans ?_
  rw [index11]
  match a with
  | 0 => show 0 * 1024 + r = (r : ℕ)
         omega
  | 1 => show 0 * 1024 + k = (k : ℕ)
         omega

/-- The spatial gate's weights. -/
theorem blk9 (c : Dev nD) (t : Fin cfg0.N) (g : Fin 4) (r k : Fin 128) :
    iblk m c 9 t (ix3 g r k) = m ((c : Thread nD τ).loc main_arg9) (ix3 g r k) := by
  refine Eq.trans ?_ (congrFun (V_main_arg9 m c) _)
  refine congrArg (V m c main_arg9) (funext fun a => Fin.ext ?_)
  refine (win0_9.rect_emb_val t (ix3 g r k) a).trans ?_
  rw [index9]
  match a with
  | 0 => show 0 * 4 + g = (g : ℕ)
         omega
  | 1 => show 0 * 128 + r = (r : ℕ)
         omega
  | 2 => show 0 * 128 + k = (k : ℕ)
         omega

/-- The reference's projection of the kernel's arguments. -/
abbrev rproj (c : Dev nD) (T : Fin 16384) (j : Fin 8704) : EReal :=
  Cert.Reference2Ideal.Inproj.proj (m ((c : Thread nD τ).loc main_arg0)) (m ((c : Thread nD τ).loc main_arg1))
    (m ((c : Thread nD τ).loc main_arg2)) (m ((c : Thread nD τ).loc main_arg3)) T j

/-- A point's projection is its tokens' rows of the reference's. -/
theorem P_eq (c : Dev nD) (t : Fin cfg0.N) (r : Fin 256) (j : Fin 8704) :
    P m c t r j = rproj m c ⟨256 * iOf t + r, by omega⟩ j := by
  unfold P pr
  refine Finset.sum_congr rfl fun k _ => ?_
  rw [hid_apply, blk3, blk1, blk1]
  simp only [blk0, blk2]
  rfl

end Cert.Kernel2Ideal.Inproj
-- ==== Proof.Inproj.RefHeads.lean ====
/-
  The reference's queries, keys and values, element by element: each head of the projection, normalised and rotated, or as it is.
-/
module

public import proofs.«01_k».proof.Proof.Inproj.RefRows

@[expose] public section

set_option maxRecDepth 16384

noncomputable section

namespace Cert.Reference2Ideal.Inproj

open Cert.Reference2Ideal Cert.Reference2Ideal.Gen Cert.Reference2Ideal.Read
open Idealize.ShloMosaic Idealize.ShloMosaic.ValueIdx
open Cert.Inproj

theorem ofBits_128 : Ideal.ofBits .f32 0x43000000#32 = ((128 : ℝ) : EReal) := by
  simp [Ideal.ofBits, Ideal.ieee, -EReal.coe_mul]; norm_num
theorem ofBits_2 : Ideal.ofBits .f32 0x40000000#32 = ((2 : ℝ) : EReal) := by
  simp [Ideal.ofBits, Ideal.ieee, -EReal.coe_mul]; norm_num
theorem ofBits_1 : Ideal.ofBits .f32 0x3F800000#32 = ((1 : ℝ) : EReal) := by
  simp [Ideal.ofBits, Ideal.ieee, -EReal.coe_mul]; norm_num
theorem ofBits_1_bf16 : Ideal.ofBits .bf16 0x3F80#16 = ((1 : ℝ) : EReal) := by
  simp [Ideal.ofBits, Ideal.ieee, -EReal.coe_mul]; norm_num

/-- The queries' scale. -/
theorem qscale (i : S_.Idx) : val_main_v159 (F := Ideal) i = (((Real.sqrt 128)⁻¹ * (Real.log 2)⁻¹ : ℝ) : EReal) := by
  show Ideal.div (Ideal.ofBits .f32 0x3F800000#32) (Ideal.sqrt (Ideal.ofBits .f32 0x43000000#32))
    * Ideal.div (Ideal.ofBits .f32 0x3F800000#32) (Ideal.log (Ideal.ofBits .f32 0x40000000#32)) = _
  rw [ofBits_1, ofBits_128, ofBits_2, Ideal.sqrt_coe, if_neg (by norm_num), Ideal.log_coe, if_neg (by norm_num),
    Ideal.div_coe (by positivity), Ideal.div_coe (Real.log_pos (by norm_num)).ne', ← EReal.coe_mul, ← EReal.coe_mul, ← EReal.coe_mul,
    one_div, one_div, one_mul, one_mul]

section
variable (x0 : Vec Ideal S16384x1024 .f32) (x1 : Vec Ideal S8x6144 .f32) (x2 : Vec Ideal S1x1024 .f32) (x3 : Vec Ideal S1024x8704 .bf16)
  (x4 x5 : Vec Ideal S1x128 .f32) (x6 x7 : Vec Ideal S16384x64 .f32)

/-- A head of the projection, from column `o`, normalised by `g` and rotated. -/
def head (g : Vec Ideal S1x128 .f32) (o : ℕ) (ho : o + 128 ≤ 8704) (T : Fin 16384) (d : Fin 128) : EReal :=
  rope (rms 0x43000000#32 (fun k : Fin 128 => proj x0 x1 x2 x3 T ⟨o + k, by omega⟩) (fun k => g (ix2 0 k)))
    (fun e => x6 (ix2 T e)) (fun e => x7 (ix2 T e)) d

/-- A head of the projected queries. -/
theorem qProj_eq (T : Fin 16384) (h : Fin 8) (d : Fin 128) : val_main_v23 (F := Ideal) x0 x1 x2 x3 (ix3 T h d)
    = proj x0 x1 x2 x3 T ⟨128 * h.val + d, by omega⟩ := by
  have i1 : idx_main_v22 (idx_main_v23 (ix3 T h d)) = ix2 T ⟨128 * h.val + d, by omega⟩ := by
    funext a
    refine Fin.ext ?_
    match a with
    | ⟨0, _⟩ =>
      show ((T * 8 + h : ℕ) * 128 + d) / 1024 = T
      omega
    | ⟨1, _⟩ =>
      show ((T * 8 + h : ℕ) * 128 + d) % 1024 = 128 * h.val + d
      omega
  rw [val_main_v23_apply, val_main_v22_apply, i1, proj_eq]

/-- A head of the normalised queries. -/
theorem qNorm_eq (T : Fin 16384) (h : Fin 8) (d : Fin 128) : val_main_v36 (F := Ideal) x0 x1 x2 x3 x4 (ix3 T h d)
    = rms 0x43000000#32 (fun k : Fin 128 => proj x0 x1 x2 x3 T ⟨128 * h.val + k, by omega⟩) (fun k => x4 (ix2 0 k)) d := by
  have i1 : ∀ k, idx_main_v25 (idx_main_v26 (idx_main_v32 (ix3 T h d))) k = ix3 T h k := fun k => of3 _
  have i2 : idx_main_v34 (idx_main_v35 (ix3 T h d)) = ix2 0 d := of2 _
  simp only [val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_cst_3_apply, val_main_cst_4_apply,
    val_main_cst_5_apply, i1, i2, qProj_eq, zsum]
  rfl

/-- A head of the rotated queries. -/
theorem qRope_eq (T : Fin 16384) (h : Fin 8) (d : Fin 128) : val_main_v51 (F := Ideal) x0 x1 x2 x3 x4 x6 x7 (ix3 T h d)
    = head x0 x1 x2 x3 x6 x7 x4 (128 * h.val) (by omega) T d := by
  unfold val_main_v51 head rope
  by_cases hd : d.val < 64
  · have i1 : idx_main_v37 (ix3 T h (⟨d, hd⟩ : Fin 64)) = ix3 T h d := of3 _
    have i2 : idx_main_v38 (ix3 T h (⟨d, hd⟩ : Fin 64)) = ix3 T h ⟨d + 64, by omega⟩ := (of3 _).trans (congrArg (ix3 T h) (Fin.ext (Nat.add_comm _ _)))
    have i3 : idx_main_v39 (idx_main_v41 (ix3 T h (⟨d, hd⟩ : Fin 64))) = ix2 T ⟨d, hd⟩ := of2 _
    have i4 : idx_main_v40 (idx_main_v43 (ix3 T h (⟨d, hd⟩ : Fin 64))) = ix2 T ⟨d, hd⟩ := of2 _
    rw [dif_pos hd]
    refine (concatenate_pair_apply_left (t := S16384x8x128) (s₁ := S16384x8x64) (s₂ := S16384x8x64) 2 _ _ _ (ix3 T h d) rfl (ix3 T h ⟨d, hd⟩) (fun b => match b with
      | ⟨0, _⟩ => rfl
      | ⟨1, _⟩ => rfl
      | ⟨2, _⟩ => rfl)).trans ?_
    simp only [val_main_v45_apply, val_main_v44_apply, val_main_v43_apply, val_main_v42_apply, val_main_v41_apply,
      val_main_v40_apply, val_main_v39_apply, val_main_v38_apply, val_main_v37_apply, i1, i2, i3, i4, qNorm_eq]
    rfl
  · have i1 : idx_main_v37 (ix3 T h (⟨d - 64, by omega⟩ : Fin 64)) = ix3 T h ⟨d - 64, by omega⟩ := of3 _
    have i2 : idx_main_v38 (ix3 T h (⟨d - 64, by omega⟩ : Fin 64)) = ix3 T h d := (of3 _).trans (congrArg (ix3 T h) (Fin.ext (by
      show 64 + (d - 64 : ℕ) = d
      omega)))
    have i3 : idx_main_v39 (idx_main_v46 (ix3 T h (⟨d - 64, by omega⟩ : Fin 64))) = ix2 T ⟨d - 64, by omega⟩ := of2 _
    have i4 : idx_main_v40 (idx_main_v48 (ix3 T h (⟨d - 64, by omega⟩ : Fin 64))) = ix2 T ⟨d - 64, by omega⟩ := of2 _
    rw [dif_neg hd]
    refine (concatenate_pair_apply_right (t := S16384x8x128) (s₁ := S16384x8x64) (s₂ := S16384x8x64) 2 _ _ _ (ix3 T h d) rfl rfl (ix3 T h ⟨d - 64, by omega⟩) (fun b hb => match b, hb with
      | ⟨0, _⟩, _ => rfl
      | ⟨1, _⟩, _ => rfl
      | ⟨2, _⟩, hb => absurd rfl hb) (by
        show (d : ℕ) - 64 + 64 = d
        omega)).trans ?_
    simp only [val_main_v50_apply, val_main_v49_apply, val_main_v48_apply, val_main_v47_apply, val_main_v46_apply,
      val_main_v40_apply, val_main_v39_apply, val_main_v38_apply, val_main_v37_apply, i1, i2, i3, i4, qNorm_eq]
    rfl

/-- A head of the projected keys. -/
theorem kProj_eq (T : Fin 16384) (h : Fin 2) (d : Fin 128) : val_main_v53 (F := Ideal) x0 x1 x2 x3 (ix3 T h d)
    = proj x0 x1 x2 x3 T ⟨1024 + 128 * h.val + d, by omega⟩ := by
  have i1 : idx_main_v52 (idx_main_v53 (ix3 T h d)) = ix2 T ⟨1024 + 128 * h.val + d, by omega⟩ := by
    funext a
    refine Fin.ext ?_
    match a with
    | ⟨0, _⟩ =>
      show ((T * 2 + h : ℕ) * 128 + d) / 256 = T
      omega
    | ⟨1, _⟩ =>
      show 1024 + ((T * 2 + h : ℕ) * 128 + d) % 256 = 1024 + 128 * h.val + d
      omega
  rw [val_main_v53_apply, val_main_v52_apply, i1, proj_eq]

/-- A head of the normalised keys. -/
theorem kNorm_eq (T : Fin 16384) (h : Fin 2) (d : Fin 128) : val_main_v66 (F := Ideal) x0 x1 x2 x3 x5 (ix3 T h d)
    = rms 0x43000000#32 (fun k : Fin 128 => proj x0 x1 x2 x3 T ⟨1024 + 128 * h.val + k, by omega⟩) (fun k => x5 (ix2 0 k)) d := by
  have i1 : ∀ k, idx_main_v55 (idx_main_v56 (idx_main_v62 (ix3 T h d))) k = ix3 T h k := fun k => of3 _
  have i2 : idx_main_v64 (idx_main_v65 (ix3 T h d)) = ix2 0 d := of2 _
  simp only [val_main_v66_apply, val_main_v65_apply, val_main_v64_apply, val_main_v63_apply, val_main_v62_apply, val_main_v61_apply, val_main_v60_apply, val_main_v59_apply, val_main_v58_apply, val_main_v57_apply, val_main_v56_apply, val_main_v55_apply, val_main_v54_apply, val_main_cst_6_apply, val_main_cst_7_apply,
    val_main_cst_8_apply, i1, i2, kProj_eq, zsum]
  rfl

/-- A head of the rotated keys. -/
theorem kRope_eq (T : Fin 16384) (h : Fin 2) (d : Fin 128) : val_main_v81 (F := Ideal) x0 x1 x2 x3 x5 x6 x7 (ix3 T h d)
    = head x0 x1 x2 x3 x6 x7 x5 (1024 + 128 * h.val) (by omega) T d := by
  unfold val_main_v81 head rope
  by_cases hd : d.val < 64
  · have i1 : idx_main_v67 (ix3 T h (⟨d, hd⟩ : Fin 64)) = ix3 T h d := of3 _
    have i2 : idx_main_v68 (ix3 T h (⟨d, hd⟩ : Fin 64)) = ix3 T h ⟨d + 64, by omega⟩ := (of3 _).trans (congrArg (ix3 T h) (Fin.ext (Nat.add_comm _ _)))
    have i3 : idx_main_v69 (idx_main_v71 (ix3 T h (⟨d, hd⟩ : Fin 64))) = ix2 T ⟨d, hd⟩ := of2 _
    have i4 : idx_main_v70 (idx_main_v73 (ix3 T h (⟨d, hd⟩ : Fin 64))) = ix2 T ⟨d, hd⟩ := of2 _
    rw [dif_pos hd]
    refine (concatenate_pair_apply_left (t := S16384x2x128) (s₁ := S16384x2x64) (s₂ := S16384x2x64) 2 _ _ _ (ix3 T h d) rfl (ix3 T h ⟨d, hd⟩) (fun b => match b with
      | ⟨0, _⟩ => rfl
      | ⟨1, _⟩ => rfl
      | ⟨2, _⟩ => rfl)).trans ?_
    simp only [val_main_v75_apply, val_main_v74_apply, val_main_v73_apply, val_main_v72_apply, val_main_v71_apply,
      val_main_v70_apply, val_main_v69_apply, val_main_v68_apply, val_main_v67_apply, i1, i2, i3, i4, kNorm_eq]
    rfl
  · have i1 : idx_main_v67 (ix3 T h (⟨d - 64, by omega⟩ : Fin 64)) = ix3 T h ⟨d - 64, by omega⟩ := of3 _
    have i2 : idx_main_v68 (ix3 T h (⟨d - 64, by omega⟩ : Fin 64)) = ix3 T h d := (of3 _).trans (congrArg (ix3 T h) (Fin.ext (by
      show 64 + (d - 64 : ℕ) = d
      omega)))
    have i3 : idx_main_v69 (idx_main_v76 (ix3 T h (⟨d - 64, by omega⟩ : Fin 64))) = ix2 T ⟨d - 64, by omega⟩ := of2 _
    have i4 : idx_main_v70 (idx_main_v78 (ix3 T h (⟨d - 64, by omega⟩ : Fin 64))) = ix2 T ⟨d - 64, by omega⟩ := of2 _
    rw [dif_neg hd]
    refine (concatenate_pair_apply_right (t := S16384x2x128) (s₁ := S16384x2x64) (s₂ := S16384x2x64) 2 _ _ _ (ix3 T h d) rfl rfl (ix3 T h ⟨d - 64, by omega⟩) (fun b hb => match b, hb with
      | ⟨0, _⟩, _ => rfl
      | ⟨1, _⟩, _ => rfl
      | ⟨2, _⟩, hb => absurd rfl hb) (by
        show (d : ℕ) - 64 + 64 = d
        omega)).trans ?_
    simp only [val_main_v80_apply, val_main_v79_apply, val_main_v78_apply, val_main_v77_apply, val_main_v76_apply,
      val_main_v70_apply, val_main_v69_apply, val_main_v68_apply, val_main_v67_apply, i1, i2, i3, i4, kNorm_eq]
    rfl

/-- A head of the projected values. -/
theorem vProj_eq (T : Fin 16384) (h : Fin 2) (d : Fin 128) : val_main_v83 (F := Ideal) x0 x1 x2 x3 (ix3 T h d)
    = proj x0 x1 x2 x3 T ⟨1280 + 128 * h.val + d, by omega⟩ := by
  have i1 : idx_main_v82 (idx_main_v83 (ix3 T h d)) = ix2 T ⟨1280 + 128 * h.val + d, by omega⟩ := by
    funext a
    refine Fin.ext ?_
    match a with
    | ⟨0, _⟩ =>
      show ((T * 2 + h : ℕ) * 128 + d) / 256 = T
      omega
    | ⟨1, _⟩ =>
      show 1280 + ((T * 2 + h : ℕ) * 128 + d) % 256 = 1280 + 128 * h.val + d
      omega
  rw [val_main_v83_apply, val_main_v82_apply, i1, proj_eq]

/-- The queries. -/
theorem res168 (h : Fin 8) (d : Fin 128) (T : Fin 16384) : val_main_v168 (F := Ideal) x0 x1 x2 x3 x4 x6 x7 (ix3 h d T)
    = head x0 x1 x2 x3 x6 x7 x4 (128 * h.val) (by omega) T d * (((Real.sqrt 128)⁻¹ * (Real.log 2)⁻¹ : ℝ) : EReal) := by
  rw [val_main_v168_apply, val_main_v162_apply, val_main_v161_apply, val_main_v160_apply, qscale,
    show idx_main_v162 (ix3 h d T) = ix3 T h d from of3 _, qRope_eq]
  rfl

/-- The keys. -/
theorem res169 (h : Fin 2) (T : Fin 16384) (d : Fin 128) : val_main_v169 (F := Ideal) x0 x1 x2 x3 x5 x6 x7 (ix3 h T d)
    = head x0 x1 x2 x3 x6 x7 x5 (1024 + 128 * h.val) (by omega) T d := by
  rw [val_main_v169_apply, val_main_v166_apply, show idx_main_v166 (ix3 h T d) = ix3 T h d from of3 _, kRope_eq]
  rfl

/-- The values, with their rows of ones. -/
theorem res170 (h : Fin 2) (d : Fin 144) (T : Fin 16384) : val_main_v170 (F := Ideal) x0 x1 x2 x3 (ix3 h d T)
    = if hd : d.val < 128 then proj x0 x1 x2 x3 T ⟨1280 + (128 * h.val + d.val), by omega⟩ else Ideal.ofBits .bf16 0x3F80#16 := by
  rw [val_main_v170_apply]
  show val_main_v165 (F := Ideal) x0 x1 x2 x3 (ix3 h d T) = _
  unfold val_main_v165
  by_cases hd : d.val < 128
  · rw [dif_pos hd]
    refine (concatenate_pair_apply_left (t := S2x144x16384) (s₁ := S2x128x16384) (s₂ := S2x16x16384) 1 _ _ _ (ix3 h d T) rfl (ix3 h ⟨d, hd⟩ T) (fun b => match b with
      | ⟨0, _⟩ => rfl
      | ⟨1, _⟩ => rfl
      | ⟨2, _⟩ => rfl)).trans ?_
    rw [val_main_v163_apply, show idx_main_v163 (ix3 h (⟨d, hd⟩ : Fin 128) T) = ix3 T h ⟨d, hd⟩ from of3 _, vProj_eq]
    refine congrArg (fun a => proj x0 x1 x2 x3 T a) (Fin.ext ?_)
    show 1280 + 128 * h.val + d.val = 1280 + (128 * h.val + d.val)
    omega
  · rw [dif_neg hd]
    refine (concatenate_pair_apply_right (t := S2x144x16384) (s₁ := S2x128x16384) (s₂ := S2x16x16384) 1 _ _ _ (ix3 h d T) rfl rfl (ix3 h ⟨d - 128, by omega⟩ T) (fun b hb => match b, hb with
      | ⟨0, _⟩, _ => rfl
      | ⟨1, _⟩, hb => absurd rfl hb
      | ⟨2, _⟩, _ => rfl) (by
        show (d : ℕ) - 128 + 128 = d
        omega)).trans ?_
    rw [val_main_v164_apply, val_main_cst_28_apply]
    exact ofBits_1.trans ofBits_1_bf16.symm

end

end Cert.Reference2Ideal.Inproj
-- ==== Proof.Inproj.Array.lean ====
/-
  The input projection's seven result arrays are the reference's functions of its arguments.

  Point `i` of the grid writes tokens `256i … 256i+255` of each result, which over the grid cover it; what it writes there is the
  reference's value at those tokens (`point12` … `point18`).
-/
module

public import proofs.«01_k».proof.Proof.Inproj.Reads
public import proofs.«01_k».proof.Proof.Inproj.RefHeads
public import proofs.«01_k».proof.Proof.Gen.Kernel2Ideal.Value

@[expose] public section

set_option maxRecDepth 16384

noncomputable section

namespace Cert.Kernel2Ideal.Inproj

open Cert.Kernel2Ideal Cert.Kernel2Ideal.Gen Cert.Inproj
open Idealize.ShloMosaic hiding ix2 ix3
open Idealize.ShloMosaic.ValueIdx Idealize.ShloMosaic.TcCoe Idealize.SL.Sem
open Cert.Reference2Ideal.Inproj (of2 of3 head res168 res169 res170 res171 res172 res173 res174 spatial_eq gvn_eq)

variable (m : (ℓ : Loc nD τ sig) → Buf (Elt Ideal) ℓ) (ρ : Dev nD → PrngReg)

theorem index12 : ∀ t : Fin cfg0.N, win0_12.index t = ![0, 0, (iOf t).val] := (by decide +kernel : ∀ t : Fin grid0.N, _)
theorem index13 : ∀ t : Fin cfg0.N, win0_13.index t = ![0, (iOf t).val, 0] := (by decide +kernel : ∀ t : Fin grid0.N, _)
theorem index14 : ∀ t : Fin cfg0.N, win0_14.index t = ![0, 0, (iOf t).val] := (by decide +kernel : ∀ t : Fin grid0.N, _)
theorem index15 : ∀ t : Fin cfg0.N, win0_15.index t = ![(iOf t).val, 0] := (by decide +kernel : ∀ t : Fin grid0.N, _)
theorem index16 : ∀ t : Fin cfg0.N, win0_16.index t = ![(iOf t).val, 0] := (by decide +kernel : ∀ t : Fin grid0.N, _)
theorem index17 : ∀ t : Fin cfg0.N, win0_17.index t = ![(iOf t).val, 0] := (by decide +kernel : ∀ t : Fin grid0.N, _)
theorem index18 : ∀ t : Fin cfg0.N, win0_18.index t = ![(iOf t).val, 0] := (by decide +kernel : ∀ t : Fin grid0.N, _)

/-- The cosines as they are given. -/
abbrev cosines (c : Dev nD) : Vec Ideal S16384x64 .f32 := m ((c : Thread nD τ).loc main_arg6)

/-- A block's cosines, as they are given. -/
theorem cosBlock (c : Dev nD) (t : Fin cfg0.N) (r : Fin 256) (e : Fin 128) :
    iblk m c 6 t (ix2 r e) = cosines m c (ix2 ⟨256 * iOf t + r, by omega⟩ ⟨e % 64, Nat.mod_lt _ (by decide)⟩) :=
  (blk6 m c t r e).trans (cosTable m c _ e)

/-- A block's sines, as they are given. -/
theorem sinBlock (c : Dev nD) (t : Fin cfg0.N) (r : Fin 256) (e : Fin 128) :
    iblk m c 7 t (ix2 r e) = if h : e.val < 64 then -sines m c (ix2 ⟨256 * iOf t + r, by omega⟩ ⟨e, h⟩)
      else sines m c (ix2 ⟨256 * iOf t + r, by omega⟩ ⟨e - 64, by omega⟩) :=
  (blk7 m c t r e).trans (sinTable m c _ e)

/-- A rotated head of a block is its tokens' rows of the reference's. -/
theorem hd_eq (c : Dev nD) (t : Fin cfg0.N) (g g' : Vec Ideal S1x128 .f32) (hg : ∀ k : Fin 128, g (ix2 0 k) = g' (ix2 0 k)) (o : ℕ)
    (ho : o + 128 ≤ 8704) (r : Fin 256) (d : Fin 128) :
    hd m c t (fun r e => cosines m c (ix2 ⟨256 * iOf t + r, by omega⟩ e)) (fun r e => sines m c (ix2 ⟨256 * iOf t + r, by omega⟩ e)) g o ho r d
      = head (m ((c : Thread nD τ).loc main_arg0)) (m ((c : Thread nD τ).loc main_arg1)) (m ((c : Thread nD τ).loc main_arg2))
          (m ((c : Thread nD τ).loc main_arg3)) (cosines m c) (sines m c) g' o ho ⟨256 * iOf t + r, by omega⟩ d := by
  unfold hd head
  simp only [P_eq, hg]

/-- The reference's queries, of the kernel's arguments. -/
abbrev target12 (c : Dev nD) : Buf (Elt Ideal) ((c : Thread nD τ).loc main_v3_0) :=
  Cert.Reference2Ideal.Read.val_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7))

/-- The reference's keys, of the kernel's arguments. -/
abbrev target13 (c : Dev nD) : Buf (Elt Ideal) ((c : Thread nD τ).loc main_v3_1) :=
  Cert.Reference2Ideal.Read.val_main_v169 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7))

/-- The reference's values, of the kernel's arguments. -/
abbrev target14 (c : Dev nD) : Buf (Elt Ideal) ((c : Thread nD τ).loc main_v3_2) :=
  Cert.Reference2Ideal.Read.val_main_v170 (F := Ideal) (m ((c : Thread nD τ).loc main_arg0)) (m ((c : Thread nD τ).loc main_arg1)) (m ((c : Thread nD τ).loc main_arg2)) (m ((c : Thread nD τ).loc main_arg3))

/-- The reference's gated linear unit, of the kernel's arguments. -/
abbrev target15 (c : Dev nD) : Buf (Elt Ideal) ((c : Thread nD τ).loc main_v3_3) :=
  Cert.Reference2Ideal.Read.val_main_v171 (F := Ideal) (m ((c : Thread nD τ).loc main_arg0)) (m ((c : Thread nD τ).loc main_arg1)) (m ((c : Thread nD τ).loc main_arg2)) (m ((c : Thread nD τ).loc main_arg3))

/-- The reference's gated unit, of the kernel's arguments. -/
abbrev target16 (c : Dev nD) : Buf (Elt Ideal) ((c : Thread nD τ).loc main_v3_4) :=
  Cert.Reference2Ideal.Read.val_main_v172 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11))

/-- The reference's attention's gate, of the kernel's arguments. -/
abbrev target17 (c : Dev nD) : Buf (Elt Ideal) ((c : Thread nD τ).loc main_v3_5) :=
  Cert.Reference2Ideal.Read.val_main_v173 (F := Ideal) (m ((c : Thread nD τ).loc main_arg0)) (m ((c : Thread nD τ).loc main_arg1)) (m ((c : Thread nD τ).loc main_arg2)) (m ((c : Thread nD τ).loc main_arg3))

/-- The reference's convolution's gate, of the kernel's arguments. -/
abbrev target18 (c : Dev nD) : Buf (Elt Ideal) ((c : Thread nD τ).loc main_v3_6) :=
  Cert.Reference2Ideal.Read.val_main_v174 (F := Ideal) (m ((c : Thread nD τ).loc main_arg0)) (m ((c : Thread nD τ).loc main_arg1)) (m ((c : Thread nD τ).loc main_arg2)) (m ((c : Thread nD τ).loc main_arg3))

/-- The queries a point stores. -/
theorem point12 (c : Dev nD) (t : Fin cfg0.N) (h : Fin 8) (d : Fin 128) (r : Fin 256) :
    (outsAt0 m c t).1 (ix3 h d r) = target12 m c (ix3 h d ⟨256 * iOf t + r, by omega⟩) := by
  rw [out12_eq m c t (fun r e => cosines m c (ix2 ⟨256 * iOf t + r, by omega⟩ e)) (fun r e => sines m c (ix2 ⟨256 * iOf t + r, by omega⟩ e)) (cosBlock m c t) (sinBlock m c t)]
  refine Eq.trans ?_ (res168 _ _ _ _ _ _ _ h d _).symm
  exact congrArg (fun x : EReal => x * (((Real.sqrt 128)⁻¹ * (Real.log 2)⁻¹ : ℝ) : EReal))
    (hd_eq m c t (iblk m c 4 t) _ (fun k => blk4 m c t 0 k) (128 * h.val) (by omega) r d)

/-- The keys a point stores. -/
theorem point13 (c : Dev nD) (t : Fin cfg0.N) (h : Fin 2) (r : Fin 256) (d : Fin 128) :
    (outsAt0 m c t).2.1 (ix3 h r d) = target13 m c (ix3 h ⟨256 * iOf t + r, by omega⟩ d) := by
  rw [out13_eq m c t (fun r e => cosines m c (ix2 ⟨256 * iOf t + r, by omega⟩ e)) (fun r e => sines m c (ix2 ⟨256 * iOf t + r, by omega⟩ e)) (cosBlock m c t) (sinBlock m c t)]
  refine Eq.trans ?_ (res169 _ _ _ _ _ _ _ h _ d).symm
  exact hd_eq m c t (iblk m c 5 t) _ (fun k => blk5 m c t 0 k) (1024 + 128 * h.val) (by omega) r d

/-- The values a point stores. -/
theorem point14 (c : Dev nD) (t : Fin cfg0.N) (h : Fin 2) (d : Fin 144) (r : Fin 256) :
    (outsAt0 m c t).2.2.1 (ix3 h d r) = target14 m c (ix3 h d ⟨256 * iOf t + r, by omega⟩) := by
  rw [out14_eq m c t]
  refine Eq.trans ?_ (res170 _ _ _ _ h d _).symm
  show (if hd : d.val < 128 then P m c t r ⟨1280 + (128 * h.val + d.val), _⟩ else Ideal.ofBits .bf16 0x3F80#16) = _
  simp only [P_eq]

/-- The gated linear unit's result of a point. -/
theorem point15 (c : Dev nD) (t : Fin cfg0.N) (r : Fin 256) (j : Fin 1024) :
    (outsAt0 m c t).2.2.2.1 (ix2 r j) = target15 m c (ix2 ⟨256 * iOf t + r, by omega⟩ j) := by
  rw [out15_apply, P_eq, P_eq]
  exact (res171 _ _ _ _ _ j).symm

/-- The mixed second half of a point's gated unit. -/
theorem sv_eq (c : Dev nD) (t : Fin cfg0.N) (r : Fin 256) (l : Fin 1024) :
    sv m c t (ix2 r l) = gelu (rproj m c ⟨256 * iOf t + r, by omega⟩ ⟨1536 + l, by omega⟩)
      * Cert.Reference2Ideal.Read.val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (ix2 ⟨256 * iOf t + r, by omega⟩ l) := by
  show gelu (P m c t r ⟨1536 + l, _⟩)
    * ((∑ k : Fin 128, wsb m c t (ix3 ⟨l / 256, _⟩ ⟨r % 128, _⟩ k) * gv m c t ⟨128 * (r / 128) + k, _⟩ l) + iblk m c 10 t (ix2 ⟨r % 128, _⟩ ⟨l / 256, _⟩)) = _
  have hr : (⟨(256 * iOf t + r : ℕ) % 128, Nat.mod_lt _ (by decide)⟩ : Fin 128) = ⟨r % 128, by omega⟩ := Fin.ext (by
    show (256 * iOf t + r : ℕ) % 128 = r % 128
    omega)
  rw [P_eq, blk10]
  refine congrArg (fun x : EReal => gelu _ * x) ?_
  refine Eq.trans ?_ (spatial_eq _ _ _ _ _ _ _ ⟨256 * iOf t + r, by omega⟩ l).symm
  show _ = (∑ k : Fin 128, Cert.Reference2Ideal.Read.val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (ix2 ⟨128 * ((256 * iOf t + r : ℕ) / 128) + k, _⟩ l)
      * (m ((c : Thread nD τ).loc main_arg9) : Vec Ideal S4x128x128 .bf16) (ix3 ⟨l / 256, _⟩ ⟨(256 * iOf t + r : ℕ) % 128, _⟩ k)) + (m ((c : Thread nD τ).loc main_arg10) : Vec Ideal S128x4 .f32) (ix2 ⟨(256 * iOf t + r : ℕ) % 128, _⟩ ⟨l / 256, _⟩)
  rw [hr]
  refine congrArg (fun x : EReal => x + _) (Finset.sum_congr rfl fun k _ => ?_)
  rw [mul_comm, gvn_eq]
  refine congrArg₂ (fun x y : EReal => x * y) ?_ (blk9 m c t _ _ k)
  unfold gv
  have hk : (⟨256 * iOf t + (128 * (r / 128) + k : ℕ), by omega⟩ : Fin 16384) = ⟨128 * ((256 * iOf t + r : ℕ) / 128) + k, by omega⟩ := Fin.ext (by
    show 256 * (iOf t : ℕ) + (128 * (r / 128) + k) = 128 * ((256 * iOf t + r) / 128) + k
    omega)
  simp only [P_eq, blk8, hk]

/-- The gated unit's result of a point. -/
theorem point16 (c : Dev nD) (t : Fin cfg0.N) (r : Fin 256) (j : Fin 1024) :
    (outsAt0 m c t).2.2.2.2.1 (ix2 r j) = target16 m c (ix2 ⟨256 * iOf t + r, by omega⟩ j) := by
  rw [out16_apply, P_eq]
  refine Eq.trans ?_ (res172 _ _ _ _ _ _ _ _ _ j).symm
  refine congrArg (fun x : EReal => sigm _ * x) (Finset.sum_congr rfl fun l _ => ?_)
  rw [sv_eq, blk11]

/-- The attention's gate of a point. -/
theorem point17 (c : Dev nD) (t : Fin cfg0.N) (r : Fin 256) (j : Fin 1024) :
    (outsAt0 m c t).2.2.2.2.2.1 (ix2 r j) = target17 m c (ix2 ⟨256 * iOf t + r, by omega⟩ j) := by
  rw [out17_apply, P_eq]
  exact (res173 _ _ _ _ _ j).symm

/-- The convolution's gate of a point. -/
theorem point18 (c : Dev nD) (t : Fin cfg0.N) (r : Fin 256) (j : Fin 1024) :
    (outsAt0 m c t).2.2.2.2.2.2 (ix2 r j) = target18 m c (ix2 ⟨256 * iOf t + r, by omega⟩ j) := by
  rw [out18_apply, P_eq]
  exact (res174 _ _ _ _ _ j).symm

/-- The queries after the run. -/
theorem final12 (c : Dev nD) : (dats m 0 c).arrAt 12 cfg0.N = target12 m c := by
  refine (dats m 0 c).arrAt_eq_of_covers 12 _ (by decide +kernel) fun t _ y => ?_
  show (dats m 0 c).after 12 t y = _
  rw [after0_12]
  refine (congrArg _ (of3 (a := 8) (b := 128) (d := 256) y)).trans ((point12 m c t (y 0) (y 1) (y 2)).trans (congrArg (target12 m c) (funext fun a => Fin.ext ?_)))
  refine Eq.trans ?_ (win0_12.rect_emb_val t y a).symm
  rw [index12]
  match a with
  | 0 => show (y 0).val = 0 * 8 + (y 0).val
         omega
  | 1 => show (y 1).val = 0 * 128 + (y 1).val
         omega
  | 2 => show 256 * (iOf t).val + (y 2).val = (iOf t).val * 256 + (y 2).val
         omega

/-- The keys after the run. -/
theorem final13 (c : Dev nD) : (dats m 0 c).arrAt 13 cfg0.N = target13 m c := by
  refine (dats m 0 c).arrAt_eq_of_covers 13 _ (by decide +kernel) fun t _ y => ?_
  show (dats m 0 c).after 13 t y = _
  rw [after0_13]
  refine (congrArg _ (of3 (a := 2) (b := 256) (d := 128) y)).trans ((point13 m c t (y 0) (y 1) (y 2)).trans (congrArg (target13 m c) (funext fun a => Fin.ext ?_)))
  refine Eq.trans ?_ (win0_13.rect_emb_val t y a).symm
  rw [index13]
  match a with
  | 0 => show (y 0).val = 0 * 2 + (y 0).val
         omega
  | 1 => show 256 * (iOf t).val + (y 1).val = (iOf t).val * 256 + (y 1).val
         omega
  | 2 => show (y 2).val = 0 * 128 + (y 2).val
         omega

/-- The values after the run. -/
theorem final14 (c : Dev nD) : (dats m 0 c).arrAt 14 cfg0.N = target14 m c := by
  refine (dats m 0 c).arrAt_eq_of_covers 14 _ (by decide +kernel) fun t _ y => ?_
  show (dats m 0 c).after 14 t y = _
  rw [after0_14]
  refine (congrArg _ (of3 (a := 2) (b := 144) (d := 256) y)).trans ((point14 m c t (y 0) (y 1) (y 2)).trans (congrArg (target14 m c) (funext fun a => Fin.ext ?_)))
  refine Eq.trans ?_ (win0_14.rect_emb_val t y a).symm
  rw [index14]
  match a with
  | 0 => show (y 0).val = 0 * 2 + (y 0).val
         omega
  | 1 => show (y 1).val = 0 * 144 + (y 1).val
         omega
  | 2 => show 256 * (iOf t).val + (y 2).val = (iOf t).val * 256 + (y 2).val
         omega

/-- The gated linear unit after the run. -/
theorem final15 (c : Dev nD) : (dats m 0 c).arrAt 15 cfg0.N = target15 m c := by
  refine (dats m 0 c).arrAt_eq_of_covers 15 _ (by decide +kernel) fun t _ y => ?_
  show (dats m 0 c).after 15 t y = _
  rw [after0_15]
  refine (congrArg _ (of2 (a := 256) (b := 1024) y)).trans ((point15 m c t (y 0) (y 1)).trans (congrArg (target15 m c) (funext fun a => Fin.ext ?_)))
  refine Eq.trans ?_ (win0_15.rect_emb_val t y a).symm
  rw [index15]
  match a with
  | 0 => show 256 * (iOf t).val + (y 0).val = (iOf t).val * 256 + (y 0).val
         omega
  | 1 => show (y 1).val = 0 * 1024 + (y 1).val
         omega

/-- The gated unit after the run. -/
theorem final16 (c : Dev nD) : (dats m 0 c).arrAt 16 cfg0.N = target16 m c := by
  refine (dats m 0 c).arrAt_eq_of_covers 16 _ (by decide +kernel) fun t _ y => ?_
  show (dats m 0 c).after 16 t y = _
  rw [after0_16]
  refine (congrArg _ (of2 (a := 256) (b := 1024) y)).trans ((point16 m c t (y 0) (y 1)).trans (congrArg (target16 m c) (funext fun a => Fin.ext ?_)))
  refine Eq.trans ?_ (win0_16.rect_emb_val t y a).symm
  rw [index16]
  match a with
  | 0 => show 256 * (iOf t).val + (y 0).val = (iOf t).val * 256 + (y 0).val
         omega
  | 1 => show (y 1).val = 0 * 1024 + (y 1).val
         omega

/-- The attention's gate after the run. -/
theorem final17 (c : Dev nD) : (dats m 0 c).arrAt 17 cfg0.N = target17 m c := by
  refine (dats m 0 c).arrAt_eq_of_covers 17 _ (by decide +kernel) fun t _ y => ?_
  show (dats m 0 c).after 17 t y = _
  rw [after0_17]
  refine (congrArg _ (of2 (a := 256) (b := 1024) y)).trans ((point17 m c t (y 0) (y 1)).trans (congrArg (target17 m c) (funext fun a => Fin.ext ?_)))
  refine Eq.trans ?_ (win0_17.rect_emb_val t y a).symm
  rw [index17]
  match a with
  | 0 => show 256 * (iOf t).val + (y 0).val = (iOf t).val * 256 + (y 0).val
         omega
  | 1 => show (y 1).val = 0 * 1024 + (y 1).val
         omega

/-- The convolution's gate after the run. -/
theorem final18 (c : Dev nD) : (dats m 0 c).arrAt 18 cfg0.N = target18 m c := by
  refine (dats m 0 c).arrAt_eq_of_covers 18 _ (by decide +kernel) fun t _ y => ?_
  show (dats m 0 c).after 18 t y = _
  rw [after0_18]
  refine (congrArg _ (of2 (a := 256) (b := 1024) y)).trans ((point18 m c t (y 0) (y 1)).trans (congrArg (target18 m c) (funext fun a => Fin.ext ?_)))
  refine Eq.trans ?_ (win0_18.rect_emb_val t y a).symm
  rw [index18]
  match a with
  | 0 => show 256 * (iOf t).val + (y 0).val = (iOf t).val * 256 + (y 0).val
         omega
  | 1 => show (y 1).val = 0 * 1024 + (y 1).val
         omega

/-- The run: the result arrays hold the reference's functions of the arguments, which end unchanged. -/
theorem run_value : θ_run defs (onTc (τ := τ) (main (F := Ideal))) ⟨m, fun _ => 0, ρ⟩ (fun r => ∀ c : Dev nD,
      r.2.mem ((c.tc : Thread nD τ).loc main_v3_0) = target12 m c
      ∧ r.2.mem ((c.tc : Thread nD τ).loc main_v3_1) = target13 m c
      ∧ r.2.mem ((c.tc : Thread nD τ).loc main_v3_2) = target14 m c
      ∧ r.2.mem ((c.tc : Thread nD τ).loc main_v3_3) = target15 m c
      ∧ r.2.mem ((c.tc : Thread nD τ).loc main_v3_4) = target16 m c
      ∧ r.2.mem ((c.tc : Thread nD τ).loc main_v3_5) = target17 m c
      ∧ r.2.mem ((c.tc : Thread nD τ).loc main_v3_6) = target18 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine (θ_run defs _ _).mono (fun r h c => ?_) (Cert.Kernel2Ideal.Value.run_blocks m ρ)
  obtain ⟨h0, h1, h2, h3, h4, h5, h6, hargs⟩ := h c
  exact ⟨h0.trans (final12 m c), h1.trans (final13 m c), h2.trans (final14 m c), h3.trans (final15 m c), h4.trans (final16 m c),
    h5.trans (final17 m c), h6.trans (final18 m c), hargs⟩

end Cert.Kernel2Ideal.Inproj
-- ==== Proof.Merge.Rows.lean ====
/-
  What the merge and the MLP make of one token, as functions of rows of numbers: the layer norm of the convolution's row, the gated
  merge of the three branches, the residual, and the MLP with its residual (`first`, `second`).
-/
module

public import proofs.«01_k».proof.Proof.Inproj.Rows

@[expose] public section

set_option maxRecDepth 16384

noncomputable section

namespace Cert.Merge

open Idealize.ShloMosaic Idealize.ShloMosaic.ValueIdx
open Cert.Inproj (rms sigm)

/-- A row of a block. -/
abbrev row {a b : ℕ} {e : EltTy} (x : Vec Ideal ⟨2, ![a, b]⟩ e) (r : Fin a) : Fin b → Elt Ideal e := fun k => x (ix2 r k)

/-- A filter of 31 taps on 31 numbers, plus `b`. -/
def conv (w z : ℕ → EReal) (b : EReal) : EReal := ∑ t ∈ Finset.range 31, w t * z t + b

/-- The taps of a channel. -/
def wt (cw : Vec Ideal ⟨2, ![31, 1024]⟩ .f32) (j : Fin 1024) (t : ℕ) : EReal := cw (ix2 (Fin.ofNat 31 t) j)

/-- The rows of the tokens, 15 rows of zeros before and after them. -/
def padded (x : Vec Ideal ⟨2, ![16384, 1024]⟩ .bf16) (p : ℕ) (j : Fin 1024) : EReal :=
  if h : 15 ≤ p ∧ p < 16399 then x (ix2 ⟨p - 15, by omega⟩ j) else 0

/-- The mean of a row of 1024 numbers. -/
def mean (y : Fin 1024 → EReal) : EReal := Ideal.div (∑ k, y k) (Ideal.ofBits .f32 0x44800000#32)

/-- A row less its mean, divided by the root of its variance (plus `ε`), times `g`, plus `b`. -/
def lnorm (y g b : Fin 1024 → EReal) (j : Fin 1024) : EReal :=
  (y j - mean y) * Ideal.rsqrt (mean (fun k => (y k - mean y) * (y k - mean y)) + Ideal.ofBits .f32 0x358637BD#32) * g j + b j

/-- A number times its sigmoid. -/
def swish (x : EReal) : EReal := x * sigm x

/-- A row times a matrix. -/
def times {K N : ℕ} (x : Fin K → EReal) (w : Vec Ideal ⟨2, ![K, N]⟩ .bf16) (j : Fin N) : EReal := ∑ k : Fin K, x k * w (ix2 k j)

/-- The token after the mixing: the three branches gated and merged, projected, normalised, scaled and added to `x`. -/
def first (wao wco wout : Vec Ideal ⟨2, ![1024, 1024]⟩ .bf16) (lng lnb pg m2 x at' u ga gc y : Fin 1024 → EReal) (j : Fin 1024) : EReal :=
  x j + m2 j * rms 0x44800000#32 (times (fun k => ga k * times at' wao k + u k + gc k * times (fun l => swish (lnorm y lng lnb l)) wco k) wout) pg j

/-- The square of a number's positive part. -/
def sqrelu (x : EReal) : EReal :=
  (FloatOps.maximumf (F := Ideal) (φ := .f32) x (Ideal.ofBits .f32 0x00000000#32) : EReal)
    * (FloatOps.maximumf (F := Ideal) (φ := .f32) x (Ideal.ofBits .f32 0x00000000#32) : EReal)

/-- The token after the MLP: normalised, scaled and shifted, through the MLP, normalised, scaled and added to `x`. -/
def second (w1 : Vec Ideal ⟨2, ![1024, 4096]⟩ .bf16) (w2 : Vec Ideal ⟨2, ![4096, 1024]⟩ .bf16) (fg pg m3 m4 m5 x : Fin 1024 → EReal) (j : Fin 1024) : EReal :=
  x j + m5 j * rms 0x44800000#32 (times (fun l => sqrelu (times (fun k => rms 0x44800000#32 x fg k * (Ideal.ofBits .f32 0x3F800000#32 + m4 k) + m3 k) w1 l)) w2) pg j

end Cert.Merge
-- ==== Proof.Merge.Payloads.lean ====
/-
  The kernel's pieces around the convolution on a block of 256 tokens, at an index: the layer norm with the product after it
  (`pay737_apply`), the merge with its residual (`pay739_apply`) and the MLP with its residual (`pay741_apply`).
-/
module

public import proofs.«01_k».proof.Proof.Gen.Kernel3Ideal.Skeleton.P01
public import proofs.«01_k».proof.Proof.Merge.Rows

@[expose] public section

set_option maxRecDepth 16384

noncomputable section

namespace Cert.Kernel3Ideal.Merge

open Cert.Kernel3Ideal Cert.Kernel3Ideal.Gen Cert.Inproj Cert.Merge
open Idealize.ShloMosaic Idealize.ShloMosaic.ValueIdx

/-- The kernel's sigmoid of a number is `sigm`. -/
theorem sig_eq (x : EReal) : Ideal.div (Ideal.ofBits .f32 0x3F800000#32)
    (Ideal.ofBits .f32 0x3F800000#32 + Ideal.exp (Ideal.ofBits .f32 0x00000000#32 - x)) = sigm x := by
  rw [Ideal.ofBits_zero_f32, zero_sub]; rfl

/-- The mean of a row, spread over the row. -/
theorem mean_apply (x : FVec Ideal S256x1024 .f32) (hr hφ hacc hc) (r : Fin 256) :
    divf (shapeCast S256x1 (multiReduction .add [1] S256 x 0x00000000#32 hr hφ hacc) hc) (broadcast S256x1 (Scalar.ofBits .f32 0x44800000#32)) (ix2 r 0)
      = mean (row (e := .f32) x r) := by
  unfold mean
  refine congrArg (fun y : EReal => Ideal.div y _) ?_
  exact (addCol (e := .f32) _ hc r).trans (rowSum _ hr hφ hacc r)

/-- The layer norm of the convolution's block, its swish and the product with the convolution's output weights. -/
theorem pay737_apply (y : Vec Ideal S256x1024 .f32) (g b : Vec Ideal S1x1024 .f32) (w : Vec Ideal S1024x1024 .bf16) (r : Fin 256) (j : Fin 1024) :
    k0_pay737 y g b w (ix2 r j) = times (fun l => swish (lnorm (row y r) (row g 0) (row b 0) l)) w j := by
  unfold k0_pay737
  dsimp only
  refine (dot_apply (M := 256) (K := 1024) (N := 1024) (φ₁ := .bf16) (φ₂ := .bf16) _ w r j).trans ?_
  refine Finset.sum_congr rfl fun l _ => congrArg (fun x : EReal => x * w (ix2 l j)) ?_
  have hm : ∀ k : Fin 1024, ∀ h, broadcastTo S256x1024 (divf (shapeCast S256x1 (multiReduction (F := Ideal) .add [1] S256 y 0x00000000#32 reduces_S256x1024_S256 (.inl rfl) rfl)
      shapeCasts_S256_S256x1) (broadcast S256x1 (Scalar.ofBits .f32 0x44800000#32))) h (ix2 r k) = mean (row y r) := fun k h =>
    (spreadCol (a := 256) (b := 1024) (e := .f32) _ h (by decide) r k).trans (mean_apply y _ _ _ _ r)
  have hn : ∀ z : EReal, z = lnorm (row y r) (row g 0) (row b 0) l → z * Ideal.div (Ideal.ofBits .f32 0x3F800000#32)
    (Ideal.ofBits .f32 0x3F800000#32 + Ideal.exp (Ideal.ofBits .f32 0x00000000#32 - z)) = swish (lnorm (row y r) (row g 0) (row b 0) l) := fun z hz => by
    rw [sig_eq, hz]; rfl
  refine hn _ ?_
  unfold lnorm
  refine congrArg₂ (fun x y : EReal => x + y) (congrArg₂ (fun x y : EReal => x * y) (congrArg₂ (fun x y : EReal => x * y) ?_ ?_) ?_) ?_
  · exact congrArg (fun x : EReal => y (ix2 r l) - x) (hm l _)
  · refine (spreadCol (a := 256) (b := 1024) (e := .f32) _ _ (by decide) r l).trans ?_
    refine congrArg (fun x : EReal => Ideal.rsqrt (x + _)) ?_
    refine (mean_apply _ _ _ _ _ r).trans (congrArg mean (funext fun k => ?_))
    exact congrArg₂ (fun x z : EReal => (y (ix2 r k) - x) * (y (ix2 r k) - z)) (hm k _) (hm k _)
  · exact spread (a := 256) (b := 1024) (e := .f32) g _ (by decide) r l
  · exact spread (a := 256) (b := 1024) (e := .f32) b _ (by decide) r l

/-- The attention's product with its output weights. -/
theorem pay1_apply (x : Vec Ideal S256x1024 .bf16) (w : Vec Ideal S1024x1024 .bf16) (r : Fin 256) (j : Fin 1024) :
    k0_pay1 x w (ix2 r j) = times (row x r) w j :=
  dot_apply (M := 256) (K := 1024) (N := 1024) (φ₁ := .bf16) (φ₂ := .bf16) x w r j

/-- The token after the mixing. -/
theorem pay739_apply (at' ga u gc : Vec Ideal S256x1024 .bf16) (x y : Vec Ideal S256x1024 .f32) (wao wco wout : Vec Ideal S1024x1024 .bf16)
    (lng lnb m2 pg : Vec Ideal S1x1024 .f32) (r : Fin 256) (j : Fin 1024) :
    k0_pay739 (k0_pay1 at' wao) (k0_pay737 y lng lnb wco) (k0_pay738 ga) u gc wout x m2 pg (ix2 r j)
      = first wao wco wout (row lng 0) (row lnb 0) (row pg 0) (row m2 0) (row x r) (row at' r) (row u r) (row ga r) (row gc r) (row y r) j := by
  unfold k0_pay739
  dsimp only
  unfold first
  refine congrArg₂ (fun a b : EReal => x (ix2 r j) + a * b) ?_ ?_
  · exact spread (a := 256) (b := 1024) (e := .f32) m2 _ (by decide) r j
  · refine (rms_apply (a := 256) (n := 1024) 0x44800000#32 _ pg (by decide) (by decide) _ _ _ _ _ _ r j).trans ?_
    refine congrArg (fun z => rms 0x44800000#32 z (row pg 0) j) (funext fun k => ?_)
    refine (dot_apply (M := 256) (K := 1024) (N := 1024) (φ₁ := .bf16) (φ₂ := .bf16) _ wout r k).trans ?_
    refine Finset.sum_congr rfl fun l _ => congrArg (fun x : EReal => x * wout (ix2 l k)) ?_
    exact congrArg₂ (fun a b : EReal => ga (ix2 r l) * a + u (ix2 r l) + gc (ix2 r l) * b) (pay1_apply at' wao r l) (pay737_apply y lng lnb wco r l)

/-- The token after the MLP. -/
theorem pay741_apply (v2 c ga : FVec Ideal S256x1024 .f32) (u gc : Vec Ideal S256x1024 .bf16) (wout : Vec Ideal S1024x1024 .bf16) (x : Vec Ideal S256x1024 .f32)
    (m2 pg fg m4 m3 m5 qg : Vec Ideal S1x1024 .f32) (w1 : Vec Ideal S1024x4096 .bf16) (w2 : Vec Ideal S4096x1024 .bf16) (r : Fin 256) (j : Fin 1024) :
    k0_pay741 (k0_pay739 v2 c ga u gc wout x m2 pg) fg (k0_pay740 v2 c ga u gc wout x m2 pg) m4 m3 w1 w2 m5 qg (ix2 r j)
      = second w1 w2 (row fg 0) (row qg 0) (row m3 0) (row m4 0) (row m5 0) (row (e := .f32) (k0_pay739 v2 c ga u gc wout x m2 pg) r) j := by
  unfold k0_pay740
  generalize k0_pay739 v2 c ga u gc wout x m2 pg = X
  unfold k0_pay741
  dsimp only
  unfold second
  refine congrArg₂ (fun a b : EReal => X (ix2 r j) + a * b) ?_ ?_
  · exact spread (a := 256) (b := 1024) (e := .f32) m5 _ (by decide) r j
  · refine (rms_apply (a := 256) (n := 1024) 0x44800000#32 _ qg (by decide) (by decide) _ _ _ _ _ _ r j).trans ?_
    refine congrArg (fun z => rms 0x44800000#32 z (row qg 0) j) (funext fun k => ?_)
    refine (dot_apply (M := 256) (K := 4096) (N := 1024) (φ₁ := .bf16) (φ₂ := .bf16) _ w2 r k).trans ?_
    refine Finset.sum_congr rfl fun l _ => congrArg (fun x : EReal => x * w2 (ix2 l k)) ?_
    refine (congrArg sqrelu (dot_apply (M := 256) (K := 1024) (N := 4096) (φ₁ := .bf16) (φ₂ := .bf16) _ w1 r l)).trans ?_
    refine congrArg sqrelu (Finset.sum_congr rfl fun i _ => congrArg (fun x : EReal => x * w1 (ix2 i l)) ?_)
    refine congrArg₂ (fun a b : EReal => a + b) (congrArg₂ (fun a b : EReal => a * b) ?_ ?_) ?_
    · exact rms_apply (a := 256) (n := 1024) 0x44800000#32 X fg (by decide) (by decide) _ _ _ _ _ _ r i
    · exact spread (a := 256) (b := 1024) (e := .f32) _ _ (by decide) r i
    · exact spread (a := 256) (b := 1024) (e := .f32) m3 _ (by decide) r i

end Cert.Kernel3Ideal.Merge
-- ==== Proof.Merge.Shift.lean ====
/-
  The convolution's window of a point of the grid (its 256 rows with 16 rows before and after them, `win`), and the copies of it,
  shifted by one to seven rows, that the kernel keeps of 128 columns at a time: what the loads of these buffers read.
-/
module

public import proofs.«01_k».proof.Proof.Gen.Kernel3Ideal.Frame
public import proofs.«01_k».proof.Proof.Merge.Payloads
public import Idealize.ShloMosaic.Lib.WholeRead
public import Idealize.ShloMosaic.Lib.Pipeline.Value
public import Idealize.ShloMosaic.Lib.Pipeline.ValueKit
public import Idealize.ShloMosaic.Lib.Pipeline.CanonAppend
public import proofs.«01_k».proof.Proof.Inproj.Block
import all proofs.«01_k».proof.Proof.Gen.Kernel3Ideal.Frame.RunA

@[expose] public section

set_option maxRecDepth 16384

noncomputable section

namespace Cert.Kernel3Ideal.Merge

open Cert.Kernel3Ideal Cert.Kernel3Ideal.Gen Cert.Inproj Cert.Merge
open Idealize.ShloMosaic hiding ix2 ix3 ix4
open Idealize.ShloMosaic.ValueIdx Idealize.ShloMosaic.TcCoe Idealize.SL.Sem
open Cert.Kernel2Ideal.Inproj (ld ld2 ld_whole2 zero2)

/-- 1 where there are tokens before the block, else 0. -/
def keepP (i : grid0.Coords) : EReal :=
  Scalar.select (Scalar.cmpi .sgt (BitVec.ofNat 32 (i 0).val) 0#32) (Scalar.ofBits .f32 0x3F800000#32 : Ideal .f32) (Scalar.ofBits .f32 0x00000000#32 : Ideal .f32)

/-- 1 where there are tokens after the block, else 0. -/
def keepN (i : grid0.Coords) : EReal :=
  Scalar.select (Scalar.cmpi .slt (BitVec.ofNat 32 (i 0).val) 63#32) (Scalar.ofBits .f32 0x3F800000#32 : Ideal .f32) (Scalar.ofBits .f32 0x00000000#32 : Ideal .f32)

/-- The window: 16 rows before the block, the block's rows, 16 rows after it. -/
def win (i : grid0.Coords) (x2 : Vec Ideal S16x1024 .bf16) (x3 : Vec Ideal S256x1024 .bf16) (x4 : Vec Ideal S16x1024 .bf16) (p q : ℕ) : EReal :=
  if p < 16 then x2 (ix2 (Fin.ofNat 16 p) (Fin.ofNat 1024 q)) * keepP i
  else if p < 272 then x3 (ix2 (Fin.ofNat 256 (p - 16)) (Fin.ofNat 1024 q))
  else x4 (ix2 (Fin.ofNat 16 (p - 272)) (Fin.ofNat 1024 q)) * keepN i

/-- A tap. -/
def tapN (x12 : Vec Ideal S31x1024 .f32) (t q : ℕ) : EReal := x12 (ix2 (Fin.ofNat 31 t) (Fin.ofNat 1024 q))

/-- The convolution's offset of a channel. -/
def offN (x13 : Vec Ideal S1x1024 .f32) (q : ℕ) : EReal := x13 (ix2 0 (Fin.ofNat 1024 q))

/-- An entry of a rectangle is in it. -/
theorem mem_emb {s : Shape} (r : Rect s) (x : r.shape.Idx) : r.emb x ∈ r.set := by
  rw [← Rect.map_emb_univ]
  exact Finset.mem_map_of_mem _ (Finset.mem_univ x)

/-- A load from a buffer that holds `x` reads `x`'s entries. -/
theorem readAt_eq {κ : Kind} {sp : Space} {s : Shape} {e : EltTy} {m : Memref sig κ sp s e} (h : m.IsWhole) (x : s.Idx → Elt Ideal e) (B : LoadRect s) :
    View.readAt (Elt Ideal) m.view B (h.unread x) = ld x B :=
  funext fun j => h.readAt_unread x B j

theorem ofNat_eq {n : ℕ} [NeZero n] (j : Fin n) (k : ℕ) (h : k = j) : Fin.ofNat n k = j :=
  Fin.ext (by show k % n = j; rw [h, Nat.mod_eq_of_lt j.isLt])

theorem idx_eq {a b : ℕ} [NeZero a] [NeZero b] (x : (⟨2, ![a, b]⟩ : Shape).Idx) (p q : ℕ) (hp : p = (x 0 : Fin a)) (hq : q = (x 1 : Fin b)) :
    x = ix2 (Fin.ofNat a p) (Fin.ofNat b q) :=
  (ValueIdx.eq_ix2 x).trans (congrArg₂ ix2 (ofNat_eq (n := a) _ p hp).symm (ofNat_eq (n := b) _ q hq).symm)

/-- The convolution of a row and channel of the block. -/
def convN (i : grid0.Coords) (x2 : Vec Ideal S16x1024 .bf16) (x3 : Vec Ideal S256x1024 .bf16) (x4 : Vec Ideal S16x1024 .bf16)
    (x12 : Vec Ideal S31x1024 .f32) (x13 : Vec Ideal S1x1024 .f32) (p q : ℕ) : EReal :=
  ∑ t ∈ Finset.range 31, tapN x12 t q * win i x2 x3 x4 (p + (t + 1)) q + offN x13 q

/-- The load of a tap of 128 channels. -/
abbrev tapLd (arg13 : Memref sig .tc .vmem S31x1024 .f32) (harg13 : arg13.IsWhole) (x12 : Vec Ideal S31x1024 .f32) (t o : ℕ) (inb) :=
  View.readAt (Elt Ideal) arg13.view (Rect.unit (s := S31x1024) ![t, o] S1x128.size inb).toLoadRect (harg13.unread x12)

/-- A sum of 31 terms after an offset, in the order of the kernel. -/
theorem chain (b : EReal) (f : ℕ → EReal) : ((((((((((((((((((((((((((((((b + f 0) + f 1) + f 2) + f 3) + f 4) + f 5) + f 6) + f 7) + f 8) + f 9) + f 10) + f 11) + f 12) + f 13) + f 14) + f 15) + f 16) + f 17) + f 18) + f 19) + f 20) + f 21) + f 22) + f 23) + f 24) + f 25) + f 26) + f 27) + f 28) + f 29) + f 30 = ∑ t ∈ Finset.range 31, f t + b := by
  simp only [Finset.sum_range_succ, Finset.sum_range_zero, zero_add]
  ac_rfl

theorem add_at (x y : FVec Ideal S32x128 .f32) (k : S32x128.Idx) : addf x y k = (x k + y k : EReal) := rfl

theorem mul_at (x y : FVec Ideal S32x128 .f32) (k : S32x128.Idx) : mulf x y k = (x k * y k : EReal) := rfl

/-- A row spread over 32 rows. -/
theorem spread_at {α : Type} (x : S1x128.Idx → α) (h) (r : Fin 32) (l : Fin 128) : broadcastTo S32x128 x h (ix2 r l) = x (ix2 0 l) := by
  refine broadcastTo_apply x h _ _ fun d => ?_
  match d with
  | 0 => rfl
  | 1 => exact (if_neg (by decide)).symm

/-- A block without its two first axes of size one. -/
theorem drop_at {α : Type} (x : S1x1x32x128.Idx → α) (h) (r : Fin 32) (l : Fin 128) : shapeCast S32x128 x h (ix2 r l) = x (ix4 0 0 r l) :=
  shapeCast_apply x h _ _ (by
    rewrite [Shape.rowMajor_val_four, Shape.rowMajor_val_two]
    show (((0 : ℕ) * 1 + 0) * 32 + r) * 128 + l = r * 128 + l
    omega)

/-- A block with two more first axes of size one. -/
theorem addaxes_at (x : Vec Ideal S280x128 .f32) (h) (k : S1x1x280x128.Idx) : shapeCast S1x1x280x128 x h k = x (ix2 (k 2) (k 3)) :=
  shapeCast_apply x h _ _ (by
    rewrite [Shape.rowMajor_val_four, Shape.rowMajor_val_two]
    have h0 : (k 0 : ℕ) < 1 := (k 0).isLt
    have h1 : (k 1 : ℕ) < 1 := (k 1).isLt
    show ((k 2 : ℕ)) * 128 + (k 3 : ℕ) = (((k 0 : ℕ) * 1 + (k 1 : ℕ)) * 280 + (k 2 : ℕ)) * 128 + (k 3 : ℕ)
    omega)

section
variable (c : Dev nD) (i : grid0.Coords) (arg3 : Memref sig .tc .vmem S16x1024 .bf16) (harg3 : arg3.IsWhole)
  (arg4 : Memref sig .tc .vmem S256x1024 .bf16) (harg4 : arg4.IsWhole) (arg5 : Memref sig .tc .vmem S16x1024 .bf16) (harg5 : arg5.IsWhole)
  (arg13 : Memref sig .tc .vmem S31x1024 .f32) (harg13 : arg13.IsWhole) (arg14 : Memref sig .tc .vmem S1x1024 .f32) (harg14 : arg14.IsWhole)
  (arg23 : Memref sig .tc .vmem S288x1024 .f32) (arg24 : Memref sig .tc .vmem S2x7x280x128 .f32) (arg25 : Memref sig .tc .vmem S256x1024 .f32)
  (x2 : Vec Ideal S16x1024 .bf16) (x3 : Vec Ideal S256x1024 .bf16) (x4 : Vec Ideal S16x1024 .bf16)
  (x12 : Vec Ideal S31x1024 .f32) (x13 : Vec Ideal S1x1024 .f32)

theorem tap_at (t o : ℕ) (inb) (l : Fin 128) :
    View.readAt (Elt Ideal) arg13.view (Rect.unit (s := S31x1024) ![t, o] ![1, 128] inb).toLoadRect (harg13.unread x12) (ix2 (n0 := 1) (n1 := 128) 0 l) = tapN x12 t (l + o) := by
  have h0 : t + 1 ≤ 31 := inb 0
  have h1 : o + 128 ≤ 1024 := inb 1
  rw [readAt_eq]
  refine (ld2 (a := 31) (b := 1024) (a' := 1) (b' := 128) x12 t o inb 0 l (by show t + 0 < 31; omega) (by omega)).trans ?_
  unfold tapN
  exact congrArg x12 (congrArg₂ ix2 (ofNat_eq _ _ rfl).symm (ofNat_eq _ _ (Nat.add_comm _ _)).symm)

theorem off_at (o : ℕ) (inb) (l : Fin 128) :
    View.readAt (Elt Ideal) arg14.view (Rect.unit (s := S1x1024) ![0, o] ![1, 128] inb).toLoadRect (harg14.unread x13) (ix2 (n0 := 1) (n1 := 128) 0 l) = offN x13 (l + o) := by
  have h1 : o + 128 ≤ 1024 := inb 1
  rw [readAt_eq]
  refine (ld2 (a := 1) (b := 1024) (a' := 1) (b' := 128) x13 0 o inb 0 l (by decide) (by omega)).trans ?_
  unfold offN
  exact congrArg x13 (congrArg₂ ix2 rfl (ofNat_eq _ _ (Nat.add_comm _ _)).symm)

/-- The window's buffer. -/
theorem canon_win (y : S288x1024.Idx) :
    @Eq (Elt Ideal .f32) (View.canon (kernelRun0_A.sl.HS0_3 (F := Ideal) c i arg3 harg3 arg4 harg4 arg5 harg5 x2 x3 x4) y) (win i x2 x3 x4 (y 0) (y 1)) := by
  unfold kernelRun0_A.sl.HS0_3
  refine View.canon_apply_of_pieces (Val := Elt Ideal) (e := .f32) (fun y : S288x1024.Idx => (win i x2 x3 x4 (y 0) (y 1) : Elt Ideal .f32)) _ ?_ y (View.cover_of_tiledBy _ ![16, 1024] (by sl_kernel_rfl) y)
  simp only [readAt_eq, ld_whole2]
  refine List.forall_mem_cons.2 ⟨fun x => ?_, List.forall_mem_cons.2 ⟨fun x => ?_, List.forall_mem_cons.2 ⟨fun x => ?_, fun _ h => absurd h List.not_mem_nil⟩⟩⟩
  · have h0 : ((x 0 : Fin 16) : ℕ) < 16 := (x 0).isLt
    rw [ValueKit.rect_emb_unit_val, ValueKit.rect_emb_unit_val]
    show (k0_pay4 (F := Ideal) i x4 x : Elt Ideal .f32) = win i x2 x3 x4 (272 + (x 0 : Fin 16)) (0 + (x 1 : Fin 1024))
    unfold k0_pay4 win
    rw [if_neg (by omega), if_neg (by omega)]
    dsimp only
    rw [shapeCast_self]
    refine congrArg (fun z => (x4 z * keepN i : EReal)) (idx_eq (a := 16) (b := 1024) x _ _ (by omega) (by omega))
  · have h0 : ((x 0 : Fin 256) : ℕ) < 256 := (x 0).isLt
    rw [ValueKit.rect_emb_unit_val, ValueKit.rect_emb_unit_val]
    show (k0_pay3 (F := Ideal) x3 x : Elt Ideal .f32) = win i x2 x3 x4 (16 + (x 0 : Fin 256)) (0 + (x 1 : Fin 1024))
    unfold k0_pay3 win
    rw [if_neg (by omega), if_pos (by omega)]
    dsimp only
    rw [shapeCast_self]
    refine congrArg x3 (idx_eq (a := 256) (b := 1024) x _ _ (by omega) (by omega))
  · have h0 : ((x 0 : Fin 16) : ℕ) < 16 := (x 0).isLt
    rw [ValueKit.rect_emb_unit_val, ValueKit.rect_emb_unit_val]
    show (k0_pay2 (F := Ideal) i x2 x : Elt Ideal .f32) = win i x2 x3 x4 (0 + (x 0 : Fin 16)) (0 + (x 1 : Fin 1024))
    unfold k0_pay2 win
    rw [if_pos (by omega)]
    dsimp only
    rw [shapeCast_self]
    refine congrArg (fun z => (x2 z * keepP i : EReal)) (idx_eq (a := 16) (b := 1024) x _ _ (by omega) (by omega))

/-- A load of 32 rows of the window. -/
theorem win_at (p q : ℕ) (inb) (r : Fin 32) (l : Fin 128) :
    arg23.view.readCov (kernelRun0_A.sl.HS0_3 c i arg3 harg3 arg4 harg4 arg5 harg5 x2 x3 x4) (Rect.unit (s := S288x1024) ![p, q] ![32, 128] inb).toLoadRect (ix2 (n0 := 32) (n1 := 128) r l)
      = win i x2 x3 x4 (r + p) (l + q) := by
  rw [View.readCov_eq_canon']
  refine (canon_win c i arg3 harg3 arg4 harg4 arg5 harg5 x2 x3 x4 _).trans ?_
  exact congrArg₂ (win i x2 x3 x4) (by show p + 1 * (r : ℕ) = r + p; omega) (by show q + 1 * (l : ℕ) = l + q; omega)

/-- A shifted copy of 128 columns of the window. -/
theorem copy_at (p q : ℕ) (inb) (h) (k : S1x1x280x128.Idx) :
    shapeCast S1x1x280x128 (arg23.view.readCov (kernelRun0_A.sl.HS0_3 c i arg3 harg3 arg4 harg4 arg5 harg5 x2 x3 x4)
        (Rect.unit (s := S288x1024) ![p, q] S280x128.size inb).toLoadRect) h k
      = win i x2 x3 x4 ((k 2 : ℕ) + p) ((k 3 : ℕ) + q) := by
  rw [View.readCov_eq_canon']
  refine (addaxes_at _ h k).trans ((canon_win c i arg3 harg3 arg4 harg4 arg5 harg5 x2 x3 x4 _).trans ?_)
  exact congrArg₂ (win i x2 x3 x4) (by show p + 1 * (k 2 : ℕ) = k 2 + p; omega) (by show q + 1 * (k 3 : ℕ) = k 3 + q; omega)

end

/-- Seven copies stored, in one of the two buffers: what the buffer holds then. -/
theorem shift_canon (W : ℕ → ℕ → EReal) (b o : ℕ) (hb : b < 2)
    (inb6 inb5 inb4 inb3 inb2 inb1 inb0) (f6 f5 f4 f3 f2 f1 f0 : FVec Ideal S1x1x280x128 .f32) (L : List (View.Piece (Elt Ideal) S2x7x280x128 .f32))
    (h6 : ∀ k : S1x1x280x128.Idx, f6 k = W ((k 2 : ℕ) + 7) ((k 3 : ℕ) + o))
    (h5 : ∀ k : S1x1x280x128.Idx, f5 k = W ((k 2 : ℕ) + 6) ((k 3 : ℕ) + o))
    (h4 : ∀ k : S1x1x280x128.Idx, f4 k = W ((k 2 : ℕ) + 5) ((k 3 : ℕ) + o))
    (h3 : ∀ k : S1x1x280x128.Idx, f3 k = W ((k 2 : ℕ) + 4) ((k 3 : ℕ) + o))
    (h2 : ∀ k : S1x1x280x128.Idx, f2 k = W ((k 2 : ℕ) + 3) ((k 3 : ℕ) + o))
    (h1 : ∀ k : S1x1x280x128.Idx, f1 k = W ((k 2 : ℕ) + 2) ((k 3 : ℕ) + o))
    (h0 : ∀ k : S1x1x280x128.Idx, f0 k = W ((k 2 : ℕ) + 1) ((k 3 : ℕ) + o))
    (s : Fin 7) (p : Fin 280) (l : Fin 128) :
    View.canon ((⟨Rect.unit (s := S2x7x280x128) ![b, 6, 0, 0] S1x1x280x128.size inb6, f6⟩ : View.Piece (Elt Ideal) S2x7x280x128 .f32) :: (⟨Rect.unit (s := S2x7x280x128) ![b, 5, 0, 0] S1x1x280x128.size inb5, f5⟩ : View.Piece (Elt Ideal) S2x7x280x128 .f32) :: (⟨Rect.unit (s := S2x7x280x128) ![b, 4, 0, 0] S1x1x280x128.size inb4, f4⟩ : View.Piece (Elt Ideal) S2x7x280x128 .f32) :: (⟨Rect.unit (s := S2x7x280x128) ![b, 3, 0, 0] S1x1x280x128.size inb3, f3⟩ : View.Piece (Elt Ideal) S2x7x280x128 .f32) :: (⟨Rect.unit (s := S2x7x280x128) ![b, 2, 0, 0] S1x1x280x128.size inb2, f2⟩ : View.Piece (Elt Ideal) S2x7x280x128 .f32) :: (⟨Rect.unit (s := S2x7x280x128) ![b, 1, 0, 0] S1x1x280x128.size inb1, f1⟩ : View.Piece (Elt Ideal) S2x7x280x128 .f32) :: (⟨Rect.unit (s := S2x7x280x128) ![b, 0, 0, 0] S1x1x280x128.size inb0, f0⟩ : View.Piece (Elt Ideal) S2x7x280x128 .f32) :: L) (ix4 (⟨b, hb⟩ : Fin 2) s p l)
      = W (p + (s + 1)) (l + o) := by
  have e : ∀ (k : ℕ) (inb) (f : FVec Ideal S1x1x280x128 .f32) (_ : ∀ z : S1x1x280x128.Idx, f z = W ((z 2 : ℕ) + (k + 1)) ((z 3 : ℕ) + o)) (x : S1x1x280x128.Idx),
      f x = (fun y : S2x7x280x128.Idx => (W ((y 2 : ℕ) + ((y 1 : ℕ) + 1)) ((y 3 : ℕ) + o) : Elt Ideal .f32))
        ((Rect.unit (s := S2x7x280x128) ![b, k, 0, 0] S1x1x280x128.size inb).emb x) := fun k inb f hf x => by
    have h1 : (x 1 : ℕ) < 1 := (x 1).isLt
    dsimp only
    rw [ValueKit.rect_emb_unit_val, ValueKit.rect_emb_unit_val, ValueKit.rect_emb_unit_val, hf x]
    refine congrArg₂ W ?_ ?_
    · show (x 2 : ℕ) + (k + 1) = 0 + (x 2 : ℕ) + (k + (x 1 : ℕ) + 1)
      omega
    · show (x 3 : ℕ) + o = 0 + (x 3 : ℕ) + o
      omega
  have g : ∀ (k : ℕ) (hk : k < 7) (inb), (s : ℕ) = k → (ix4 (⟨b, hb⟩ : Fin 2) s p l : S2x7x280x128.Idx) ∈ (Rect.unit (s := S2x7x280x128) ![b, k, 0, 0] S1x1x280x128.size inb).set := fun k hk inb hs => by
    have hx := mem_emb (Rect.unit (s := S2x7x280x128) ![b, k, 0, 0] S1x1x280x128.size inb) (ix4 (0 : Fin 1) (0 : Fin 1) p l)
    refine (congrArg (· ∈ _) (funext fun a => Fin.ext ?_)).mp hx
    rw [ValueKit.rect_emb_unit_val]
    match a with
    | 0 => rfl
    | 1 => exact hs.symm
    | 2 => exact Nat.zero_add _
    | 3 => exact Nat.zero_add _
  refine View.canon_append_of_pieces (Val := Elt Ideal) (e := .f32) (fun y : S2x7x280x128.Idx => (W ((y 2 : ℕ) + ((y 1 : ℕ) + 1)) ((y 3 : ℕ) + o) : Elt Ideal .f32)) L
    [⟨Rect.unit (s := S2x7x280x128) ![b, 6, 0, 0] S1x1x280x128.size inb6, f6⟩, ⟨Rect.unit (s := S2x7x280x128) ![b, 5, 0, 0] S1x1x280x128.size inb5, f5⟩, ⟨Rect.unit (s := S2x7x280x128) ![b, 4, 0, 0] S1x1x280x128.size inb4, f4⟩, ⟨Rect.unit (s := S2x7x280x128) ![b, 3, 0, 0] S1x1x280x128.size inb3, f3⟩, ⟨Rect.unit (s := S2x7x280x128) ![b, 2, 0, 0] S1x1x280x128.size inb2, f2⟩, ⟨Rect.unit (s := S2x7x280x128) ![b, 1, 0, 0] S1x1x280x128.size inb1, f1⟩, ⟨Rect.unit (s := S2x7x280x128) ![b, 0, 0, 0] S1x1x280x128.size inb0, f0⟩] ?_ _ ?_
  · exact List.forall_mem_cons.2 ⟨e 6 inb6 f6 h6, List.forall_mem_cons.2 ⟨e 5 inb5 f5 h5, List.forall_mem_cons.2 ⟨e 4 inb4 f4 h4, List.forall_mem_cons.2 ⟨e 3 inb3 f3 h3, List.forall_mem_cons.2 ⟨e 2 inb2 f2 h2, List.forall_mem_cons.2 ⟨e 1 inb1 f1 h1, List.forall_mem_cons.2 ⟨e 0 inb0 f0 h0, fun _ h => absurd h List.not_mem_nil⟩⟩⟩⟩⟩⟩⟩
  · match s, g with
    | 0, g => exact ⟨⟨Rect.unit (s := S2x7x280x128) ![b, 0, 0, 0] S1x1x280x128.size inb0, f0⟩, by simp, g 0 (by decide) inb0 rfl⟩
    | 1, g => exact ⟨⟨Rect.unit (s := S2x7x280x128) ![b, 1, 0, 0] S1x1x280x128.size inb1, f1⟩, by simp, g 1 (by decide) inb1 rfl⟩
    | 2, g => exact ⟨⟨Rect.unit (s := S2x7x280x128) ![b, 2, 0, 0] S1x1x280x128.size inb2, f2⟩, by simp, g 2 (by decide) inb2 rfl⟩
    | 3, g => exact ⟨⟨Rect.unit (s := S2x7x280x128) ![b, 3, 0, 0] S1x1x280x128.size inb3, f3⟩, by simp, g 3 (by decide) inb3 rfl⟩
    | 4, g => exact ⟨⟨Rect.unit (s := S2x7x280x128) ![b, 4, 0, 0] S1x1x280x128.size inb4, f4⟩, by simp, g 4 (by decide) inb4 rfl⟩
    | 5, g => exact ⟨⟨Rect.unit (s := S2x7x280x128) ![b, 5, 0, 0] S1x1x280x128.size inb5, f5⟩, by simp, g 5 (by decide) inb5 rfl⟩
    | 6, g => exact ⟨⟨Rect.unit (s := S2x7x280x128) ![b, 6, 0, 0] S1x1x280x128.size inb6, f6⟩, by simp, g 6 (by decide) inb6 rfl⟩

section
variable (c : Dev nD) (i : grid0.Coords) (arg3 : Memref sig .tc .vmem S16x1024 .bf16) (harg3 : arg3.IsWhole)
  (arg4 : Memref sig .tc .vmem S256x1024 .bf16) (harg4 : arg4.IsWhole) (arg5 : Memref sig .tc .vmem S16x1024 .bf16) (harg5 : arg5.IsWhole)
  (arg13 : Memref sig .tc .vmem S31x1024 .f32) (harg13 : arg13.IsWhole) (arg14 : Memref sig .tc .vmem S1x1024 .f32) (harg14 : arg14.IsWhole)
  (arg23 : Memref sig .tc .vmem S288x1024 .f32) (arg24 : Memref sig .tc .vmem S2x7x280x128 .f32) (arg25 : Memref sig .tc .vmem S256x1024 .f32)
  (x2 : Vec Ideal S16x1024 .bf16) (x3 : Vec Ideal S256x1024 .bf16) (x4 : Vec Ideal S16x1024 .bf16)
  (x12 : Vec Ideal S31x1024 .f32) (x13 : Vec Ideal S1x1024 .f32)

/-- The shifted copies of the columns from 0. -/
theorem shift7 (s : Fin 7) (p : Fin 280) (l : Fin 128) :
    View.canon (kernelRun0_A.sl.HS1_7 c i arg3 harg3 arg4 harg4 arg5 harg5 arg23 x2 x3 x4) (ix4 (⟨0, by decide⟩ : Fin 2) s p l) = win i x2 x3 x4 (p + (s + 1)) (l + 0) := by
  unfold kernelRun0_A.sl.HS1_7
  refine shift_canon (win i x2 x3 x4) 0 0 (by decide) _ _ _ _ _ _ _ _ _ _ _ _ _ _ _ ?_ ?_ ?_ ?_ ?_ ?_ ?_ s p l
  · exact fun k => copy_at c i arg3 harg3 arg4 harg4 arg5 harg5 arg23 x2 x3 x4 7 0 _ _ k
  · exact fun k => copy_at c i arg3 harg3 arg4 harg4 arg5 harg5 arg23 x2 x3 x4 6 0 _ _ k
  · exact fun k => copy_at c i arg3 harg3 arg4 harg4 arg5 harg5 arg23 x2 x3 x4 5 0 _ _ k
  · exact fun k => copy_at c i arg3 harg3 arg4 harg4 arg5 harg5 arg23 x2 x3 x4 4 0 _ _ k
  · exact fun k => copy_at c i arg3 harg3 arg4 harg4 arg5 harg5 arg23 x2 x3 x4 3 0 _ _ k
  · exact fun k => copy_at c i arg3 harg3 arg4 harg4 arg5 harg5 arg23 x2 x3 x4 2 0 _ _ k
  · exact fun k => copy_at c i arg3 harg3 arg4 harg4 arg5 harg5 arg23 x2 x3 x4 1 0 _ _ k

/-- A load of 32 rows of them. -/
theorem shift7_at (s q : ℕ) (inb) (r : Fin 32) (l : Fin 128) :
    arg24.view.readCov (kernelRun0_A.sl.HS1_7 c i arg3 harg3 arg4 harg4 arg5 harg5 arg23 x2 x3 x4) (Rect.unit (s := S2x7x280x128) ![0, s, q, 0] ![1, 1, 32, 128] inb).toLoadRect
        (ix4 (n0 := 1) (n1 := 1) (n2 := 32) (n3 := 128) 0 0 r l)
      = win i x2 x3 x4 (r + (s + 1 + q)) (l + 0) := by
  have h1 : s + 1 ≤ 7 := inb 1
  have h2 : q + 32 ≤ 280 := inb 2
  rw [View.readCov_eq_canon']
  refine (congrArg (View.canon _) (funext fun a => Fin.ext ?_)).trans
    ((shift7 c i arg3 harg3 arg4 harg4 arg5 harg5 arg23 x2 x3 x4 ⟨s, by omega⟩ ⟨q + r, by omega⟩ l).trans (congrArg (win i x2 x3 x4 · _) (by show q + (r : ℕ) + (s + 1) = r + (s + 1 + q); omega)))
  match a with
  | 0 => rfl
  | 1 => show s + 1 * 0 = s
         omega
  | 2 => show q + 1 * (r : ℕ) = q + r
         omega
  | 3 => show 0 + 1 * (l : ℕ) = l
         omega

/-- The shifted copies of the columns from 128. -/
theorem shift14 (s : Fin 7) (p : Fin 280) (l : Fin 128) :
    View.canon (kernelRun0_A.sl.HS1_14 c i arg3 harg3 arg4 harg4 arg5 harg5 arg23 x2 x3 x4) (ix4 (⟨1, by decide⟩ : Fin 2) s p l) = win i x2 x3 x4 (p + (s + 1)) (l + 128) := by
  unfold kernelRun0_A.sl.HS1_14
  refine shift_canon (win i x2 x3 x4) 1 128 (by decide) _ _ _ _ _ _ _ _ _ _ _ _ _ _ _ ?_ ?_ ?_ ?_ ?_ ?_ ?_ s p l
  · exact fun k => copy_at c i arg3 harg3 arg4 harg4 arg5 harg5 arg23 x2 x3 x4 7 128 _ _ k
  · exact fun k => copy_at c i arg3 harg3 arg4 harg4 arg5 harg5 arg23 x2 x3 x4 6 128 _ _ k
  · exact fun k => copy_at c i arg3 harg3 arg4 harg4 arg5 harg5 arg23 x2 x3 x4 5 128 _ _ k
  · exact fun k => copy_at c i arg3 harg3 arg4 harg4 arg5 harg5 arg23 x2 x3 x4 4 128 _ _ k
  · exact fun k => copy_at c i arg3 harg3 arg4 harg4 arg5 harg5 arg23 x2 x3 x4 3 128 _ _ k
  · exact fun k => copy_at c i arg3 harg3 arg4 harg4 arg5 harg5 arg23 x2 x3 x4 2 128 _ _ k
  · exact fun k => copy_at c i arg3 harg3 arg4 harg4 arg5 harg5 arg23 x2 x3 x4 1 128 _ _ k

/-- A load of 32 rows of them. -/
theorem shift14_at (s q : ℕ) (inb) (r : Fin 32) (l : Fin 128) :
    arg24.view.readCov (kernelRun0_A.sl.HS1_14 c i arg3 harg3 arg4 harg4 arg5 harg5 arg23 x2 x3 x4) (Rect.unit (s := S2x7x280x128) ![1, s, q, 0] ![1, 1, 32, 128] inb).toLoadRect
        (ix4 (n0 := 1) (n1 := 1) (n2 := 32) (n3 := 128) 0 0 r l)
      = win i x2 x3 x4 (r + (s + 1 + q)) (l + 128) := by
  have h1 : s + 1 ≤ 7 := inb 1
  have h2 : q + 32 ≤ 280 := inb 2
  rw [View.readCov_eq_canon']
  refine (congrArg (View.canon _) (funext fun a => Fin.ext ?_)).trans
    ((shift14 c i arg3 harg3 arg4 harg4 arg5 harg5 arg23 x2 x3 x4 ⟨s, by omega⟩ ⟨q + r, by omega⟩ l).trans (congrArg (win i x2 x3 x4 · _) (by show q + (r : ℕ) + (s + 1) = r + (s + 1 + q); omega)))
  match a with
  | 0 => rfl
  | 1 => show s + 1 * 0 = s
         omega
  | 2 => show q + 1 * (r : ℕ) = q + r
         omega
  | 3 => show 0 + 1 * (l : ℕ) = l
         omega

/-- The shifted copies of the columns from 256. -/
theorem shift21 (s : Fin 7) (p : Fin 280) (l : Fin 128) :
    View.canon (kernelRun0_A.sl.HS1_21 c i arg3 harg3 arg4 harg4 arg5 harg5 arg23 x2 x3 x4) (ix4 (⟨0, by decide⟩ : Fin 2) s p l) = win i x2 x3 x4 (p + (s + 1)) (l + 256) := by
  unfold kernelRun0_A.sl.HS1_21
  refine shift_canon (win i x2 x3 x4) 0 256 (by decide) _ _ _ _ _ _ _ _ _ _ _ _ _ _ _ ?_ ?_ ?_ ?_ ?_ ?_ ?_ s p l
  · exact fun k => copy_at c i arg3 harg3 arg4 harg4 arg5 harg5 arg23 x2 x3 x4 7 256 _ _ k
  · exact fun k => copy_at c i arg3 harg3 arg4 harg4 arg5 harg5 arg23 x2 x3 x4 6 256 _ _ k
  · exact fun k => copy_at c i arg3 harg3 arg4 harg4 arg5 harg5 arg23 x2 x3 x4 5 256 _ _ k
  · exact fun k => copy_at c i arg3 harg3 arg4 harg4 arg5 harg5 arg23 x2 x3 x4 4 256 _ _ k
  · exact fun k => copy_at c i arg3 harg3 arg4 harg4 arg5 harg5 arg23 x2 x3 x4 3 256 _ _ k
  · exact fun k => copy_at c i arg3 harg3 arg4 harg4 arg5 harg5 arg23 x2 x3 x4 2 256 _ _ k
  · exact fun k => copy_at c i arg3 harg3 arg4 harg4 arg5 harg5 arg23 x2 x3 x4 1 256 _ _ k

/-- A load of 32 rows of them. -/
theorem shift21_at (s q : ℕ) (inb) (r : Fin 32) (l : Fin 128) :
    arg24.view.readCov (kernelRun0_A.sl.HS1_21 c i arg3 harg3 arg4 harg4 arg5 harg5 arg23 x2 x3 x4) (Rect.unit (s := S2x7x280x128) ![0, s, q, 0] ![1, 1, 32, 128] inb).toLoadRect
        (ix4 (n0 := 1) (n1 := 1) (n2 := 32) (n3 := 128) 0 0 r l)
      = win i x2 x3 x4 (r + (s + 1 + q)) (l + 256) := by
  have h1 : s + 1 ≤ 7 := inb 1
  have h2 : q + 32 ≤ 280 := inb 2
  rw [View.readCov_eq_canon']
  refine (congrArg (View.canon _) (funext fun a => Fin.ext ?_)).trans
    ((shift21 c i arg3 harg3 arg4 harg4 arg5 harg5 arg23 x2 x3 x4 ⟨s, by omega⟩ ⟨q + r, by omega⟩ l).trans (congrArg (win i x2 x3 x4 · _) (by show q + (r : ℕ) + (s + 1) = r + (s + 1 + q); omega)))
  match a with
  | 0 => rfl
  | 1 => show s + 1 * 0 = s
         omega
  | 2 => show q + 1 * (r : ℕ) = q + r
         omega
  | 3 => show 0 + 1 * (l : ℕ) = l
         omega

/-- The shifted copies of the columns from 384. -/
theorem shift28 (s : Fin 7) (p : Fin 280) (l : Fin 128) :
    View.canon (kernelRun0_A.sl.HS1_28 c i arg3 harg3 arg4 harg4 arg5 harg5 arg23 x2 x3 x4) (ix4 (⟨1, by decide⟩ : Fin 2) s p l) = win i x2 x3 x4 (p + (s + 1)) (l + 384) := by
  unfold kernelRun0_A.sl.HS1_28
  refine shift_canon (win i x2 x3 x4) 1 384 (by decide) _ _ _ _ _ _ _ _ _ _ _ _ _ _ _ ?_ ?_ ?_ ?_ ?_ ?_ ?_ s p l
  · exact fun k => copy_at c i arg3 harg3 arg4 harg4 arg5 harg5 arg23 x2 x3 x4 7 384 _ _ k
  · exact fun k => copy_at c i arg3 harg3 arg4 harg4 arg5 harg5 arg23 x2 x3 x4 6 384 _ _ k
  · exact fun k => copy_at c i arg3 harg3 arg4 harg4 arg5 harg5 arg23 x2 x3 x4 5 384 _ _ k
  · exact fun k => copy_at c i arg3 harg3 arg4 harg4 arg5 harg5 arg23 x2 x3 x4 4 384 _ _ k
  · exact fun k => copy_at c i arg3 harg3 arg4 harg4 arg5 harg5 arg23 x2 x3 x4 3 384 _ _ k
  · exact fun k => copy_at c i arg3 harg3 arg4 harg4 arg5 harg5 arg23 x2 x3 x4 2 384 _ _ k
  · exact fun k => copy_at c i arg3 harg3 arg4 harg4 arg5 harg5 arg23 x2 x3 x4 1 384 _ _ k

/-- A load of 32 rows of them. -/
theorem shift28_at (s q : ℕ) (inb) (r : Fin 32) (l : Fin 128) :
    arg24.view.readCov (kernelRun0_A.sl.HS1_28 c i arg3 harg3 arg4 harg4 arg5 harg5 arg23 x2 x3 x4) (Rect.unit (s := S2x7x280x128) ![1, s, q, 0] ![1, 1, 32, 128] inb).toLoadRect
        (ix4 (n0 := 1) (n1 := 1) (n2 := 32) (n3 := 128) 0 0 r l)
      = win i x2 x3 x4 (r + (s + 1 + q)) (l + 384) := by
  have h1 : s + 1 ≤ 7 := inb 1
  have h2 : q + 32 ≤ 280 := inb 2
  rw [View.readCov_eq_canon']
  refine (congrArg (View.canon _) (funext fun a => Fin.ext ?_)).trans
    ((shift28 c i arg3 harg3 arg4 harg4 arg5 harg5 arg23 x2 x3 x4 ⟨s, by omega⟩ ⟨q + r, by omega⟩ l).trans (congrArg (win i x2 x3 x4 · _) (by show q + (r : ℕ) + (s + 1) = r + (s + 1 + q); omega)))
  match a with
  | 0 => rfl
  | 1 => show s + 1 * 0 = s
         omega
  | 2 => show q + 1 * (r : ℕ) = q + r
         omega
  | 3 => show 0 + 1 * (l : ℕ) = l
         omega

/-- The shifted copies of the columns from 512. -/
theorem shift35 (s : Fin 7) (p : Fin 280) (l : Fin 128) :
    View.canon (kernelRun0_A.sl.HS1_35 c i arg3 harg3 arg4 harg4 arg5 harg5 arg23 x2 x3 x4) (ix4 (⟨0, by decide⟩ : Fin 2) s p l) = win i x2 x3 x4 (p + (s + 1)) (l + 512) := by
  unfold kernelRun0_A.sl.HS1_35 kernelRun0_A.sl.HS1_34 kernelRun0_A.sl.HS1_33 kernelRun0_A.sl.HS1_32 kernelRun0_A.sl.HS1_31
  refine shift_canon (win i x2 x3 x4) 0 512 (by decide) _ _ _ _ _ _ _ _ _ _ _ _ _ _ _ ?_ ?_ ?_ ?_ ?_ ?_ ?_ s p l
  · exact fun k => copy_at c i arg3 harg3 arg4 harg4 arg5 harg5 arg23 x2 x3 x4 7 512 _ _ k
  · exact fun k => copy_at c i arg3 harg3 arg4 harg4 arg5 harg5 arg23 x2 x3 x4 6 512 _ _ k
  · exact fun k => copy_at c i arg3 harg3 arg4 harg4 arg5 harg5 arg23 x2 x3 x4 5 512 _ _ k
  · exact fun k => copy_at c i arg3 harg3 arg4 harg4 arg5 harg5 arg23 x2 x3 x4 4 512 _ _ k
  · exact fun k => copy_at c i arg3 harg3 arg4 harg4 arg5 harg5 arg23 x2 x3 x4 3 512 _ _ k
  · exact fun k => copy_at c i arg3 harg3 arg4 harg4 arg5 harg5 arg23 x2 x3 x4 2 512 _ _ k
  · exact fun k => copy_at c i arg3 harg3 arg4 harg4 arg5 harg5 arg23 x2 x3 x4 1 512 _ _ k

/-- A load of 32 rows of them. -/
theorem shift35_at (s q : ℕ) (inb) (r : Fin 32) (l : Fin 128) :
    arg24.view.readCov (kernelRun0_A.sl.HS1_35 c i arg3 harg3 arg4 harg4 arg5 harg5 arg23 x2 x3 x4) (Rect.unit (s := S2x7x280x128) ![0, s, q, 0] ![1, 1, 32, 128] inb).toLoadRect
        (ix4 (n0 := 1) (n1 := 1) (n2 := 32) (n3 := 128) 0 0 r l)
      = win i x2 x3 x4 (r + (s + 1 + q)) (l + 512) := by
  have h1 : s + 1 ≤ 7 := inb 1
  have h2 : q + 32 ≤ 280 := inb 2
  rw [View.readCov_eq_canon']
  refine (congrArg (View.canon _) (funext fun a => Fin.ext ?_)).trans
    ((shift35 c i arg3 harg3 arg4 harg4 arg5 harg5 arg23 x2 x3 x4 ⟨s, by omega⟩ ⟨q + r, by omega⟩ l).trans (congrArg (win i x2 x3 x4 · _) (by show q + (r : ℕ) + (s + 1) = r + (s + 1 + q); omega)))
  match a with
  | 0 => rfl
  | 1 => show s + 1 * 0 = s
         omega
  | 2 => show q + 1 * (r : ℕ) = q + r
         omega
  | 3 => show 0 + 1 * (l : ℕ) = l
         omega

/-- The shifted copies of the columns from 640. -/
theorem shift42 (s : Fin 7) (p : Fin 280) (l : Fin 128) :
    View.canon (kernelRun0_A.sl.HS1_42 c i arg3 harg3 arg4 harg4 arg5 harg5 arg23 x2 x3 x4) (ix4 (⟨1, by decide⟩ : Fin 2) s p l) = win i x2 x3 x4 (p + (s + 1)) (l + 640) := by
  unfold kernelRun0_A.sl.HS1_42 kernelRun0_A.sl.HS1_41 kernelRun0_A.sl.HS1_40 kernelRun0_A.sl.HS1_39 kernelRun0_A.sl.HS1_38 kernelRun0_A.sl.HS1_37
  refine shift_canon (win i x2 x3 x4) 1 640 (by decide) _ _ _ _ _ _ _ _ _ _ _ _ _ _ _ ?_ ?_ ?_ ?_ ?_ ?_ ?_ s p l
  · exact fun k => copy_at c i arg3 harg3 arg4 harg4 arg5 harg5 arg23 x2 x3 x4 7 640 _ _ k
  · exact fun k => copy_at c i arg3 harg3 arg4 harg4 arg5 harg5 arg23 x2 x3 x4 6 640 _ _ k
  · exact fun k => copy_at c i arg3 harg3 arg4 harg4 arg5 harg5 arg23 x2 x3 x4 5 640 _ _ k
  · exact fun k => copy_at c i arg3 harg3 arg4 harg4 arg5 harg5 arg23 x2 x3 x4 4 640 _ _ k
  · exact fun k => copy_at c i arg3 harg3 arg4 harg4 arg5 harg5 arg23 x2 x3 x4 3 640 _ _ k
  · exact fun k => copy_at c i arg3 harg3 arg4 harg4 arg5 harg5 arg23 x2 x3 x4 2 640 _ _ k
  · exact fun k => copy_at c i arg3 harg3 arg4 harg4 arg5 harg5 arg23 x2 x3 x4 1 640 _ _ k

/-- A load of 32 rows of them. -/
theorem shift42_at (s q : ℕ) (inb) (r : Fin 32) (l : Fin 128) :
    arg24.view.readCov (kernelRun0_A.sl.HS1_42 c i arg3 harg3 arg4 harg4 arg5 harg5 arg23 x2 x3 x4) (Rect.unit (s := S2x7x280x128) ![1, s, q, 0] ![1, 1, 32, 128] inb).toLoadRect
        (ix4 (n0 := 1) (n1 := 1) (n2 := 32) (n3 := 128) 0 0 r l)
      = win i x2 x3 x4 (r + (s + 1 + q)) (l + 640) := by
  have h1 : s + 1 ≤ 7 := inb 1
  have h2 : q + 32 ≤ 280 := inb 2
  rw [View.readCov_eq_canon']
  refine (congrArg (View.canon _) (funext fun a => Fin.ext ?_)).trans
    ((shift42 c i arg3 harg3 arg4 harg4 arg5 harg5 arg23 x2 x3 x4 ⟨s, by omega⟩ ⟨q + r, by omega⟩ l).trans (congrArg (win i x2 x3 x4 · _) (by show q + (r : ℕ) + (s + 1) = r + (s + 1 + q); omega)))
  match a with
  | 0 => rfl
  | 1 => show s + 1 * 0 = s
         omega
  | 2 => show q + 1 * (r : ℕ) = q + r
         omega
  | 3 => show 0 + 1 * (l : ℕ) = l
         omega

/-- The shifted copies of the columns from 768. -/
theorem shift49 (s : Fin 7) (p : Fin 280) (l : Fin 128) :
    View.canon (kernelRun0_A.sl.HS1_49 c i arg3 harg3 arg4 harg4 arg5 harg5 arg23 x2 x3 x4) (ix4 (⟨0, by decide⟩ : Fin 2) s p l) = win i x2 x3 x4 (p + (s + 1)) (l + 768) := by
  unfold kernelRun0_A.sl.HS1_49 kernelRun0_A.sl.HS1_47 kernelRun0_A.sl.HS1_46 kernelRun0_A.sl.HS1_45 kernelRun0_A.sl.HS1_44 kernelRun0_A.sl.HS1_43
  refine shift_canon (win i x2 x3 x4) 0 768 (by decide) _ _ _ _ _ _ _ _ _ _ _ _ _ _ _ ?_ ?_ ?_ ?_ ?_ ?_ ?_ s p l
  · exact fun k => copy_at c i arg3 harg3 arg4 harg4 arg5 harg5 arg23 x2 x3 x4 7 768 _ _ k
  · exact fun k => copy_at c i arg3 harg3 arg4 harg4 arg5 harg5 arg23 x2 x3 x4 6 768 _ _ k
  · exact fun k => copy_at c i arg3 harg3 arg4 harg4 arg5 harg5 arg23 x2 x3 x4 5 768 _ _ k
  · exact fun k => copy_at c i arg3 harg3 arg4 harg4 arg5 harg5 arg23 x2 x3 x4 4 768 _ _ k
  · exact fun k => copy_at c i arg3 harg3 arg4 harg4 arg5 harg5 arg23 x2 x3 x4 3 768 _ _ k
  · exact fun k => copy_at c i arg3 harg3 arg4 harg4 arg5 harg5 arg23 x2 x3 x4 2 768 _ _ k
  · exact fun k => copy_at c i arg3 harg3 arg4 harg4 arg5 harg5 arg23 x2 x3 x4 1 768 _ _ k

/-- A load of 32 rows of them. -/
theorem shift49_at (s q : ℕ) (inb) (r : Fin 32) (l : Fin 128) :
    arg24.view.readCov (kernelRun0_A.sl.HS1_49 c i arg3 harg3 arg4 harg4 arg5 harg5 arg23 x2 x3 x4) (Rect.unit (s := S2x7x280x128) ![0, s, q, 0] ![1, 1, 32, 128] inb).toLoadRect
        (ix4 (n0 := 1) (n1 := 1) (n2 := 32) (n3 := 128) 0 0 r l)
      = win i x2 x3 x4 (r + (s + 1 + q)) (l + 768) := by
  have h1 : s + 1 ≤ 7 := inb 1
  have h2 : q + 32 ≤ 280 := inb 2
  rw [View.readCov_eq_canon']
  refine (congrArg (View.canon _) (funext fun a => Fin.ext ?_)).trans
    ((shift49 c i arg3 harg3 arg4 harg4 arg5 harg5 arg23 x2 x3 x4 ⟨s, by omega⟩ ⟨q + r, by omega⟩ l).trans (congrArg (win i x2 x3 x4 · _) (by show q + (r : ℕ) + (s + 1) = r + (s + 1 + q); omega)))
  match a with
  | 0 => rfl
  | 1 => show s + 1 * 0 = s
         omega
  | 2 => show q + 1 * (r : ℕ) = q + r
         omega
  | 3 => show 0 + 1 * (l : ℕ) = l
         omega

/-- The shifted copies of the columns from 896. -/
theorem shift56 (s : Fin 7) (p : Fin 280) (l : Fin 128) :
    View.canon (kernelRun0_A.sl.HS1_56 c i arg3 harg3 arg4 harg4 arg5 harg5 arg23 x2 x3 x4) (ix4 (⟨1, by decide⟩ : Fin 2) s p l) = win i x2 x3 x4 (p + (s + 1)) (l + 896) := by
  unfold kernelRun0_A.sl.HS1_56 kernelRun0_A.sl.HS1_54 kernelRun0_A.sl.HS1_53 kernelRun0_A.sl.HS1_52 kernelRun0_A.sl.HS1_51 kernelRun0_A.sl.HS1_50
  refine shift_canon (win i x2 x3 x4) 1 896 (by decide) _ _ _ _ _ _ _ _ _ _ _ _ _ _ _ ?_ ?_ ?_ ?_ ?_ ?_ ?_ s p l
  · exact fun k => copy_at c i arg3 harg3 arg4 harg4 arg5 harg5 arg23 x2 x3 x4 7 896 _ _ k
  · exact fun k => copy_at c i arg3 harg3 arg4 harg4 arg5 harg5 arg23 x2 x3 x4 6 896 _ _ k
  · exact fun k => copy_at c i arg3 harg3 arg4 harg4 arg5 harg5 arg23 x2 x3 x4 5 896 _ _ k
  · exact fun k => copy_at c i arg3 harg3 arg4 harg4 arg5 harg5 arg23 x2 x3 x4 4 896 _ _ k
  · exact fun k => copy_at c i arg3 harg3 arg4 harg4 arg5 harg5 arg23 x2 x3 x4 3 896 _ _ k
  · exact fun k => copy_at c i arg3 harg3 arg4 harg4 arg5 harg5 arg23 x2 x3 x4 2 896 _ _ k
  · exact fun k => copy_at c i arg3 harg3 arg4 harg4 arg5 harg5 arg23 x2 x3 x4 1 896 _ _ k

/-- A load of 32 rows of them. -/
theorem shift56_at (s q : ℕ) (inb) (r : Fin 32) (l : Fin 128) :
    arg24.view.readCov (kernelRun0_A.sl.HS1_56 c i arg3 harg3 arg4 harg4 arg5 harg5 arg23 x2 x3 x4) (Rect.unit (s := S2x7x280x128) ![1, s, q, 0] ![1, 1, 32, 128] inb).toLoadRect
        (ix4 (n0 := 1) (n1 := 1) (n2 := 32) (n3 := 128) 0 0 r l)
      = win i x2 x3 x4 (r + (s + 1 + q)) (l + 896) := by
  have h1 : s + 1 ≤ 7 := inb 1
  have h2 : q + 32 ≤ 280 := inb 2
  rw [View.readCov_eq_canon']
  refine (congrArg (View.canon _) (funext fun a => Fin.ext ?_)).trans
    ((shift56 c i arg3 harg3 arg4 harg4 arg5 harg5 arg23 x2 x3 x4 ⟨s, by omega⟩ ⟨q + r, by omega⟩ l).trans (congrArg (win i x2 x3 x4 · _) (by show q + (r : ℕ) + (s + 1) = r + (s + 1 + q); omega)))
  match a with
  | 0 => rfl
  | 1 => show s + 1 * 0 = s
         omega
  | 2 => show q + 1 * (r : ℕ) = q + r
         omega
  | 3 => show 0 + 1 * (l : ℕ) = l
         omega

end

end Cert.Kernel3Ideal.Merge
-- ==== Proof.Merge.Conv0.lean ====
/-
  Blocks of 32 rows of 128 columns of the convolution: each is the offset plus the sum of the 31 taps times the window's rows.
-/
module

public import proofs.«01_k».proof.Proof.Gen.Kernel3Ideal.Frame
public import proofs.«01_k».proof.Proof.Merge.Shift
public import Idealize.ShloMosaic.Lib.WholeRead
public import Idealize.ShloMosaic.Lib.Pipeline.Value
public import Idealize.ShloMosaic.Lib.Pipeline.ValueKit
public import Idealize.ShloMosaic.Lib.Pipeline.CanonAppend
public import proofs.«01_k».proof.Proof.Inproj.Block
import all proofs.«01_k».proof.Proof.Gen.Kernel3Ideal.Frame.RunA

@[expose] public section

set_option maxRecDepth 16384

noncomputable section

namespace Cert.Kernel3Ideal.Merge

open Cert.Kernel3Ideal.Gen.kernelRun0_A
open Cert.Kernel3Ideal Cert.Kernel3Ideal.Gen Cert.Inproj Cert.Merge
open Idealize.ShloMosaic hiding ix2 ix3 ix4
open Idealize.ShloMosaic.ValueIdx Idealize.ShloMosaic.TcCoe Idealize.SL.Sem
open Cert.Kernel2Ideal.Inproj (ld ld2 ld_whole2 zero2)

section
variable (c : Dev nD) (i : grid0.Coords) (arg3 : Memref sig .tc .vmem S16x1024 .bf16) (harg3 : arg3.IsWhole)
  (arg4 : Memref sig .tc .vmem S256x1024 .bf16) (harg4 : arg4.IsWhole) (arg5 : Memref sig .tc .vmem S16x1024 .bf16) (harg5 : arg5.IsWhole)
  (arg13 : Memref sig .tc .vmem S31x1024 .f32) (harg13 : arg13.IsWhole) (arg14 : Memref sig .tc .vmem S1x1024 .f32) (harg14 : arg14.IsWhole)
  (arg23 : Memref sig .tc .vmem S288x1024 .f32) (arg24 : Memref sig .tc .vmem S2x7x280x128 .f32) (arg25 : Memref sig .tc .vmem S256x1024 .f32)
  (x2 : Vec Ideal S16x1024 .bf16) (x3 : Vec Ideal S256x1024 .bf16) (x4 : Vec Ideal S16x1024 .bf16)
  (x12 : Vec Ideal S31x1024 .f32) (x13 : Vec Ideal S1x1024 .f32)

theorem piece0_0 (r : Fin 32) (l : Fin 128) :
    @Eq EReal ((k0_pay21 (sl.r_9 c i arg3 harg3 arg4 harg4 arg5 harg5 arg13 harg13 arg14 harg14 arg23 arg24 x2 x3 x4 x12 x13) (sl.r_10 c i arg3 harg3 arg4 harg4 arg5 harg5 arg23 arg24 x2 x3 x4) (tapLd arg13 harg13 x12 29 0 inb_S31x1024_S1x128_29_0) (sl.v234 c i arg3 harg3 arg4 harg4 arg5 harg5 arg23 arg24 x2 x3 x4) (tapLd arg13 harg13 x12 30 0 inb_S31x1024_S1x128_30_0) : FVec Ideal S32x128 .f32) (ix2 r l))
      (convN i x2 x3 x4 x12 x13 (r + 0) (l + 0)) := by
  refine Eq.trans ?_ (chain (offN x13 (l + 0)) (fun t => tapN x12 t (l + 0) * win i x2 x3 x4 (r + 0 + (t + 1)) (l + 0)))
  simp only [k0_pay21, sl.r_9, k0_pay19, sl.r_7, k0_pay17, sl.r_6, k0_pay16, sl.r_5, k0_pay15, sl.r_4, k0_pay14, sl.r_1, k0_pay12, sl.v57, sl.v63, sl.v69, sl.r_2, k0_pay13, sl.v75, sl.r_3, sl.v81, sl.v87, sl.v93, sl.v99, sl.v104, sl.v110, sl.v116, sl.v122, sl.v128, sl.v134, sl.v140, sl.v146, sl.v151, sl.v157, sl.v163, sl.v169, sl.v175, sl.v181, sl.v187, sl.v193, sl.r_8, k0_pay18, sl.v198, sl.v204, sl.v210, sl.v216, sl.v222, sl.r_10, k0_pay20, sl.v228, sl.v234, tapLd, mul_at, add_at, spread_at, drop_at, shapeCast_self, tap_at, off_at, win_at, shift7_at, Nat.add_assoc, Nat.reduceAdd]

theorem piece0_1 (r : Fin 32) (l : Fin 128) :
    @Eq EReal ((k0_pay32 (sl.r_20 c i arg3 harg3 arg4 harg4 arg5 harg5 arg13 harg13 arg14 harg14 arg23 arg24 x2 x3 x4 x12 x13) (sl.v411 c i arg3 harg3 arg4 harg4 arg5 harg5 arg23 arg24 x2 x3 x4) (tapLd arg13 harg13 x12 28 0 inb_S31x1024_S1x128_28_0) (sl.v417 c i arg3 harg3 arg4 harg4 arg5 harg5 arg23 arg24 x2 x3 x4) (tapLd arg13 harg13 x12 29 0 inb_S31x1024_S1x128_29_0) (sl.v423 c i arg3 harg3 arg4 harg4 arg5 harg5 arg23 arg24 x2 x3 x4) (tapLd arg13 harg13 x12 30 0 inb_S31x1024_S1x128_30_0) : FVec Ideal S32x128 .f32) (ix2 r l))
      (convN i x2 x3 x4 x12 x13 (r + 32) (l + 0)) := by
  refine Eq.trans ?_ (chain (offN x13 (l + 0)) (fun t => tapN x12 t (l + 0) * win i x2 x3 x4 (r + 32 + (t + 1)) (l + 0)))
  simp only [k0_pay32, sl.r_20, k0_pay31, sl.r_19, k0_pay30, sl.r_18, k0_pay29, sl.r_15, k0_pay26, sl.r_13, k0_pay24, sl.r_11, k0_pay22, sl.v246, sl.v252, sl.r_12, k0_pay23, sl.v258, sl.v264, sl.v270, sl.v276, sl.v282, sl.v288, sl.r_14, k0_pay25, sl.v293, sl.v299, sl.v305, sl.v311, sl.r_16, k0_pay27, sl.v317, sl.r_17, k0_pay28, sl.v323, sl.v329, sl.v335, sl.v340, sl.v346, sl.v352, sl.v358, sl.v364, sl.v370, sl.v376, sl.v382, sl.v387, sl.v393, sl.v399, sl.v405, sl.v411, sl.v417, sl.v423, tapLd, mul_at, add_at, spread_at, drop_at, shapeCast_self, tap_at, off_at, win_at, shift7_at, Nat.add_assoc, Nat.reduceAdd]

theorem piece0_2 (r : Fin 32) (l : Fin 128) :
    @Eq EReal ((k0_pay42 (sl.r_29 c i arg3 harg3 arg4 harg4 arg5 harg5 arg13 harg13 arg14 harg14 arg23 arg24 x2 x3 x4 x12 x13) (sl.v594 c i arg3 harg3 arg4 harg4 arg5 harg5 arg23 arg24 x2 x3 x4) (tapLd arg13 harg13 x12 27 0 inb_S31x1024_S1x128_27_0) (sl.v600 c i arg3 harg3 arg4 harg4 arg5 harg5 arg23 arg24 x2 x3 x4) (tapLd arg13 harg13 x12 28 0 inb_S31x1024_S1x128_28_0) (sl.v606 c i arg3 harg3 arg4 harg4 arg5 harg5 arg23 arg24 x2 x3 x4) (tapLd arg13 harg13 x12 29 0 inb_S31x1024_S1x128_29_0) (sl.v612 c i arg3 harg3 arg4 harg4 arg5 harg5 arg23 arg24 x2 x3 x4) (tapLd arg13 harg13 x12 30 0 inb_S31x1024_S1x128_30_0) : FVec Ideal S32x128 .f32) (ix2 r l))
      (convN i x2 x3 x4 x12 x13 (r + 64) (l + 0)) := by
  refine Eq.trans ?_ (chain (offN x13 (l + 0)) (fun t => tapN x12 t (l + 0) * win i x2 x3 x4 (r + 64 + (t + 1)) (l + 0)))
  simp only [k0_pay42, sl.r_29, k0_pay41, sl.r_27, k0_pay39, sl.r_25, k0_pay37, sl.r_23, k0_pay35, sl.r_22, k0_pay34, sl.r_21, k0_pay33, sl.v435, sl.v441, sl.v447, sl.v453, sl.v459, sl.v465, sl.v471, sl.v477, sl.v482, sl.v488, sl.v494, sl.r_24, k0_pay36, sl.v500, sl.v506, sl.v512, sl.v518, sl.v524, sl.r_26, k0_pay38, sl.v529, sl.v535, sl.v541, sl.v547, sl.v553, sl.r_28, k0_pay40, sl.v559, sl.v565, sl.v571, sl.v576, sl.v582, sl.v588, sl.v594, sl.v600, sl.v606, sl.v612, tapLd, mul_at, add_at, spread_at, drop_at, shapeCast_self, tap_at, off_at, win_at, shift7_at, Nat.add_assoc, Nat.reduceAdd]

theorem piece0_3 (r : Fin 32) (l : Fin 128) :
    @Eq EReal ((k0_pay52 (sl.r_40 c i arg3 harg3 arg4 harg4 arg5 harg5 arg13 harg13 arg14 harg14 arg23 arg24 x2 x3 x4 x12 x13) : FVec Ideal S32x128 .f32) (ix2 r l))
      (convN i x2 x3 x4 x12 x13 (r + 96) (l + 0)) := by
  refine Eq.trans ?_ (chain (offN x13 (l + 0)) (fun t => tapN x12 t (l + 0) * win i x2 x3 x4 (r + 96 + (t + 1)) (l + 0)))
  simp only [k0_pay52, sl.r_40, k0_pay51, sl.r_39, k0_pay50, sl.r_36, k0_pay48, sl.r_34, k0_pay47, sl.r_32, k0_pay45, sl.r_31, k0_pay44, sl.r_30, k0_pay43, sl.v624, sl.v630, sl.v636, sl.v642, sl.v648, sl.v654, sl.v660, sl.v666, sl.v671, sl.v677, sl.r_33, k0_pay46, sl.v683, sl.v689, sl.v695, sl.v701, sl.v707, sl.v713, sl.r_35, sl.v718, sl.v724, sl.v730, sl.v736, sl.r_37, k0_pay49, sl.v742, sl.r_38, sl.v748, sl.v754, sl.v760, sl.v765, sl.v771, sl.v777, sl.v783, sl.v789, sl.v795, sl.v801, tapLd, mul_at, add_at, spread_at, drop_at, shapeCast_self, tap_at, off_at, win_at, shift7_at, Nat.add_assoc, Nat.reduceAdd]

theorem piece0_4 (r : Fin 32) (l : Fin 128) :
    @Eq EReal ((k0_pay64 (sl.r_49 c i arg3 harg3 arg4 harg4 arg5 harg5 arg13 harg13 arg14 harg14 arg23 arg24 x2 x3 x4 x12 x13) (sl.r_50 c i arg3 harg3 arg4 harg4 arg5 harg5 arg23 arg24 x2 x3 x4) (sl.r_51 c arg13 harg13 x12) (sl.v990 c i arg3 harg3 arg4 harg4 arg5 harg5 arg23 arg24 x2 x3 x4) (tapLd arg13 harg13 x12 30 0 inb_S31x1024_S1x128_30_0) : FVec Ideal S32x128 .f32) (ix2 r l))
      (convN i x2 x3 x4 x12 x13 (r + 128) (l + 0)) := by
  refine Eq.trans ?_ (chain (offN x13 (l + 0)) (fun t => tapN x12 t (l + 0) * win i x2 x3 x4 (r + 128 + (t + 1)) (l + 0)))
  simp only [k0_pay64, sl.r_49, k0_pay61, sl.r_46, k0_pay58, sl.r_44, k0_pay56, sl.r_43, k0_pay55, sl.r_42, k0_pay54, sl.r_41, k0_pay53, sl.v813, sl.v819, sl.v825, sl.v831, sl.v837, sl.v843, sl.v849, sl.v855, sl.v860, sl.v866, sl.v872, sl.v878, sl.v884, sl.v890, sl.v896, sl.v902, sl.v907, sl.v913, sl.v919, sl.r_45, k0_pay57, sl.v925, sl.v931, sl.v937, sl.v943, sl.v949, sl.r_47, k0_pay59, sl.v954, sl.r_48, k0_pay60, sl.v960, sl.v966, sl.v972, sl.v978, sl.r_50, k0_pay62, sl.v984, sl.r_51, k0_pay63, sl.v990, tapLd, mul_at, add_at, spread_at, drop_at, shapeCast_self, tap_at, off_at, win_at, shift7_at, Nat.add_assoc, Nat.reduceAdd]

theorem piece0_5 (r : Fin 32) (l : Fin 128) :
    @Eq EReal ((k0_pay73 (sl.r_58 c i arg3 harg3 arg4 harg4 arg5 harg5 arg13 harg13 arg14 harg14 arg23 arg24 x2 x3 x4 x12 x13) (sl.r_59 c i arg3 harg3 arg4 harg4 arg5 harg5 arg23 arg24 x2 x3 x4) (tapLd arg13 harg13 x12 28 0 inb_S31x1024_S1x128_28_0) (sl.v1173 c i arg3 harg3 arg4 harg4 arg5 harg5 arg23 arg24 x2 x3 x4) (tapLd arg13 harg13 x12 29 0 inb_S31x1024_S1x128_29_0) (sl.v1179 c i arg3 harg3 arg4 harg4 arg5 harg5 arg23 arg24 x2 x3 x4) (tapLd arg13 harg13 x12 30 0 inb_S31x1024_S1x128_30_0) : FVec Ideal S32x128 .f32) (ix2 r l))
      (convN i x2 x3 x4 x12 x13 (r + 160) (l + 0)) := by
  refine Eq.trans ?_ (chain (offN x13 (l + 0)) (fun t => tapN x12 t (l + 0) * win i x2 x3 x4 (r + 160 + (t + 1)) (l + 0)))
  simp only [k0_pay73, sl.r_58, k0_pay71, sl.r_57, k0_pay70, sl.r_56, k0_pay69, sl.r_55, k0_pay68, sl.r_54, k0_pay67, sl.r_52, k0_pay65, sl.v1002, sl.v1008, sl.r_53, k0_pay66, sl.v1014, sl.v1020, sl.v1026, sl.v1032, sl.v1038, sl.v1044, sl.v1049, sl.v1055, sl.v1061, sl.v1067, sl.v1073, sl.v1079, sl.v1085, sl.v1091, sl.v1096, sl.v1102, sl.v1108, sl.v1114, sl.v1120, sl.v1126, sl.v1132, sl.v1138, sl.v1143, sl.v1149, sl.v1155, sl.v1161, sl.r_59, k0_pay72, sl.v1167, sl.v1173, sl.v1179, tapLd, mul_at, add_at, spread_at, drop_at, shapeCast_self, tap_at, off_at, win_at, shift7_at, Nat.add_assoc, Nat.reduceAdd]

theorem piece0_6 (r : Fin 32) (l : Fin 128) :
    @Eq EReal ((k0_pay83 (sl.r_69 c i arg3 harg3 arg4 harg4 arg5 harg5 arg13 harg13 arg14 harg14 arg23 arg24 x2 x3 x4 x12 x13) (sl.r_70 c i arg3 harg3 arg4 harg4 arg5 harg5 arg23 arg24 x2 x3 x4) (tapLd arg13 harg13 x12 27 0 inb_S31x1024_S1x128_27_0) (sl.v1356 c i arg3 harg3 arg4 harg4 arg5 harg5 arg23 arg24 x2 x3 x4) (tapLd arg13 harg13 x12 28 0 inb_S31x1024_S1x128_28_0) (sl.v1362 c i arg3 harg3 arg4 harg4 arg5 harg5 arg23 arg24 x2 x3 x4) (tapLd arg13 harg13 x12 29 0 inb_S31x1024_S1x128_29_0) (sl.v1368 c i arg3 harg3 arg4 harg4 arg5 harg5 arg23 arg24 x2 x3 x4) (tapLd arg13 harg13 x12 30 0 inb_S31x1024_S1x128_30_0) : FVec Ideal S32x128 .f32) (ix2 r l))
      (convN i x2 x3 x4 x12 x13 (r + 192) (l + 0)) := by
  refine Eq.trans ?_ (chain (offN x13 (l + 0)) (fun t => tapN x12 t (l + 0) * win i x2 x3 x4 (r + 192 + (t + 1)) (l + 0)))
  simp only [k0_pay83, sl.r_69, k0_pay81, sl.r_68, k0_pay80, sl.r_67, k0_pay79, sl.r_66, k0_pay78, sl.r_63, k0_pay76, sl.r_60, k0_pay74, sl.v1191, sl.r_61, k0_pay75, sl.v1197, sl.r_62, sl.v1203, sl.v1209, sl.v1215, sl.v1221, sl.r_64, k0_pay77, sl.v1227, sl.r_65, sl.v1233, sl.v1238, sl.v1244, sl.v1250, sl.v1256, sl.v1262, sl.v1268, sl.v1274, sl.v1280, sl.v1285, sl.v1291, sl.v1297, sl.v1303, sl.v1309, sl.v1315, sl.v1321, sl.v1327, sl.v1332, sl.v1338, sl.v1344, sl.r_70, k0_pay82, sl.v1350, sl.v1356, sl.v1362, sl.v1368, tapLd, mul_at, add_at, spread_at, drop_at, shapeCast_self, tap_at, off_at, win_at, shift7_at, Nat.add_assoc, Nat.reduceAdd]

theorem piece0_7 (r : Fin 32) (l : Fin 128) :
    @Eq EReal ((sl.v1565 c i arg3 harg3 arg4 harg4 arg5 harg5 arg13 harg13 arg14 harg14 arg23 arg24 x2 x3 x4 x12 x13 : FVec Ideal S32x128 .f32) (ix2 r l))
      (convN i x2 x3 x4 x12 x13 (r + 224) (l + 0)) := by
  refine Eq.trans ?_ (chain (offN x13 (l + 0)) (fun t => tapN x12 t (l + 0) * win i x2 x3 x4 (r + 224 + (t + 1)) (l + 0)))
  simp only [sl.v1565, sl.r_81, k0_pay94, sl.r_80, k0_pay93, sl.r_79, k0_pay92, sl.r_78, k0_pay91, sl.r_75, k0_pay88, sl.r_73, k0_pay86, sl.r_71, k0_pay84, sl.r_72, k0_pay85, sl.v1380, sl.v1386, sl.v1392, sl.v1398, sl.v1404, sl.r_74, k0_pay87, sl.v1410, sl.v1416, sl.v1422, sl.v1427, sl.v1433, sl.r_76, k0_pay89, sl.v1439, sl.r_77, k0_pay90, sl.v1445, sl.v1451, sl.v1457, sl.v1463, sl.v1469, sl.v1474, sl.v1480, sl.v1486, sl.v1492, sl.v1498, sl.v1504, sl.v1510, sl.v1516, sl.v1521, sl.v1527, sl.v1533, sl.v1539, sl.v1545, sl.v1551, sl.v1557, tapLd, mul_at, add_at, spread_at, drop_at, shapeCast_self, tap_at, off_at, win_at, shift7_at, Nat.add_assoc, Nat.reduceAdd]

end

end Cert.Kernel3Ideal.Merge
-- ==== Proof.Merge.Conv1.lean ====
/-
  Blocks of 32 rows of 128 columns of the convolution: each is the offset plus the sum of the 31 taps times the window's rows.
-/
module

public import proofs.«01_k».proof.Proof.Gen.Kernel3Ideal.Frame
public import proofs.«01_k».proof.Proof.Merge.Shift
public import Idealize.ShloMosaic.Lib.WholeRead
public import Idealize.ShloMosaic.Lib.Pipeline.Value
public import Idealize.ShloMosaic.Lib.Pipeline.ValueKit
public import Idealize.ShloMosaic.Lib.Pipeline.CanonAppend
public import proofs.«01_k».proof.Proof.Inproj.Block
import all proofs.«01_k».proof.Proof.Gen.Kernel3Ideal.Frame.RunA

@[expose] public section

set_option maxRecDepth 16384

noncomputable section

namespace Cert.Kernel3Ideal.Merge

open Cert.Kernel3Ideal.Gen.kernelRun0_A
open Cert.Kernel3Ideal Cert.Kernel3Ideal.Gen Cert.Inproj Cert.Merge
open Idealize.ShloMosaic hiding ix2 ix3 ix4
open Idealize.ShloMosaic.ValueIdx Idealize.ShloMosaic.TcCoe Idealize.SL.Sem
open Cert.Kernel2Ideal.Inproj (ld ld2 ld_whole2 zero2)

section
variable (c : Dev nD) (i : grid0.Coords) (arg3 : Memref sig .tc .vmem S16x1024 .bf16) (harg3 : arg3.IsWhole)
  (arg4 : Memref sig .tc .vmem S256x1024 .bf16) (harg4 : arg4.IsWhole) (arg5 : Memref sig .tc .vmem S16x1024 .bf16) (harg5 : arg5.IsWhole)
  (arg13 : Memref sig .tc .vmem S31x1024 .f32) (harg13 : arg13.IsWhole) (arg14 : Memref sig .tc .vmem S1x1024 .f32) (harg14 : arg14.IsWhole)
  (arg23 : Memref sig .tc .vmem S288x1024 .f32) (arg24 : Memref sig .tc .vmem S2x7x280x128 .f32) (arg25 : Memref sig .tc .vmem S256x1024 .f32)
  (x2 : Vec Ideal S16x1024 .bf16) (x3 : Vec Ideal S256x1024 .bf16) (x4 : Vec Ideal S16x1024 .bf16)
  (x12 : Vec Ideal S31x1024 .f32) (x13 : Vec Ideal S1x1024 .f32)

theorem piece1_0 (r : Fin 32) (l : Fin 128) :
    @Eq EReal ((k0_pay111 (sl.r_89 c i arg3 harg3 arg4 harg4 arg5 harg5 arg13 harg13 arg14 harg14 arg23 arg24 x2 x3 x4 x12 x13) (sl.r_90 c i arg3 harg3 arg4 harg4 arg5 harg5 arg23 arg24 x2 x3 x4) (sl.r_91 c arg13 harg13 x12) (sl.v1768 c i arg3 harg3 arg4 harg4 arg5 harg5 arg23 arg24 x2 x3 x4) (tapLd arg13 harg13 x12 29 128 inb_S31x1024_S1x128_29_128) (sl.v1774 c i arg3 harg3 arg4 harg4 arg5 harg5 arg23 arg24 x2 x3 x4) (tapLd arg13 harg13 x12 30 128 inb_S31x1024_S1x128_30_128) : FVec Ideal S32x128 .f32) (ix2 r l))
      (convN i x2 x3 x4 x12 x13 (r + 0) (l + 128)) := by
  refine Eq.trans ?_ (chain (offN x13 (l + 128)) (fun t => tapN x12 t (l + 128) * win i x2 x3 x4 (r + 0 + (t + 1)) (l + 128)))
  simp only [k0_pay111, sl.r_89, k0_pay109, sl.r_87, k0_pay108, sl.r_85, k0_pay106, sl.r_84, k0_pay105, sl.r_83, k0_pay104, sl.r_82, k0_pay103, sl.v1597, sl.v1603, sl.v1609, sl.v1615, sl.v1621, sl.v1627, sl.v1633, sl.v1639, sl.v1644, sl.v1650, sl.v1656, sl.v1662, sl.v1668, sl.v1674, sl.v1680, sl.v1686, sl.v1691, sl.v1697, sl.r_86, k0_pay107, sl.v1703, sl.v1709, sl.v1715, sl.v1721, sl.v1727, sl.v1733, sl.r_88, sl.v1738, sl.v1744, sl.v1750, sl.v1756, sl.r_90, k0_pay110, sl.v1762, sl.r_91, sl.v1768, sl.v1774, tapLd, mul_at, add_at, spread_at, drop_at, shapeCast_self, tap_at, off_at, win_at, shift14_at, Nat.add_assoc, Nat.reduceAdd]

theorem piece1_1 (r : Fin 32) (l : Fin 128) :
    @Eq EReal ((k0_pay123 (sl.r_101 c i arg3 harg3 arg4 harg4 arg5 harg5 arg13 harg13 arg14 harg14 arg23 arg24 x2 x3 x4 x12 x13) (sl.r_102 c i arg3 harg3 arg4 harg4 arg5 harg5 arg23 arg24 x2 x3 x4) (tapLd arg13 harg13 x12 27 128 inb_S31x1024_S1x128_27_128) (sl.v1951 c i arg3 harg3 arg4 harg4 arg5 harg5 arg23 arg24 x2 x3 x4) (tapLd arg13 harg13 x12 28 128 inb_S31x1024_S1x128_28_128) (sl.v1957 c i arg3 harg3 arg4 harg4 arg5 harg5 arg23 arg24 x2 x3 x4) (tapLd arg13 harg13 x12 29 128 inb_S31x1024_S1x128_29_128) (sl.v1963 c i arg3 harg3 arg4 harg4 arg5 harg5 arg23 arg24 x2 x3 x4) (tapLd arg13 harg13 x12 30 128 inb_S31x1024_S1x128_30_128) : FVec Ideal S32x128 .f32) (ix2 r l))
      (convN i x2 x3 x4 x12 x13 (r + 32) (l + 128)) := by
  refine Eq.trans ?_ (chain (offN x13 (l + 128)) (fun t => tapN x12 t (l + 128) * win i x2 x3 x4 (r + 32 + (t + 1)) (l + 128)))
  simp only [k0_pay123, sl.r_101, k0_pay121, sl.r_100, k0_pay120, sl.r_99, k0_pay119, sl.r_98, k0_pay118, sl.r_95, k0_pay115, sl.r_92, k0_pay112, sl.v1786, sl.r_93, k0_pay113, sl.v1792, sl.r_94, k0_pay114, sl.v1798, sl.v1804, sl.v1810, sl.v1816, sl.r_96, k0_pay116, sl.v1822, sl.r_97, k0_pay117, sl.v1828, sl.v1833, sl.v1839, sl.v1845, sl.v1851, sl.v1857, sl.v1863, sl.v1869, sl.v1875, sl.v1880, sl.v1886, sl.v1892, sl.v1898, sl.v1904, sl.v1910, sl.v1916, sl.v1922, sl.v1927, sl.v1933, sl.v1939, sl.r_102, k0_pay122, sl.v1945, sl.v1951, sl.v1957, sl.v1963, tapLd, mul_at, add_at, spread_at, drop_at, shapeCast_self, tap_at, off_at, win_at, shift14_at, Nat.add_assoc, Nat.reduceAdd]

theorem piece1_2 (r : Fin 32) (l : Fin 128) :
    @Eq EReal ((sl.r_112 c i arg3 harg3 arg4 harg4 arg5 harg5 arg13 harg13 arg14 harg14 arg23 arg24 x2 x3 x4 x12 x13 : FVec Ideal S32x128 .f32) (ix2 r l))
      (convN i x2 x3 x4 x12 x13 (r + 64) (l + 128)) := by
  refine Eq.trans ?_ (chain (offN x13 (l + 128)) (fun t => tapN x12 t (l + 128) * win i x2 x3 x4 (r + 64 + (t + 1)) (l + 128)))
  simp only [sl.r_112, k0_pay133, sl.r_111, k0_pay132, sl.r_110, k0_pay131, sl.r_109, k0_pay130, sl.r_107, k0_pay128, sl.r_105, k0_pay126, sl.r_103, k0_pay124, sl.r_104, k0_pay125, sl.v1975, sl.v1981, sl.v1987, sl.v1993, sl.v1999, sl.r_106, k0_pay127, sl.v2005, sl.v2011, sl.v2017, sl.v2022, sl.v2028, sl.r_108, k0_pay129, sl.v2034, sl.v2040, sl.v2046, sl.v2052, sl.v2058, sl.v2064, sl.v2069, sl.v2075, sl.v2081, sl.v2087, sl.v2093, sl.v2099, sl.v2105, sl.v2111, sl.v2116, sl.v2122, sl.v2128, sl.v2134, sl.v2140, sl.v2146, sl.v2152, tapLd, mul_at, add_at, spread_at, drop_at, shapeCast_self, tap_at, off_at, win_at, shift14_at, Nat.add_assoc, Nat.reduceAdd]

theorem piece1_3 (r : Fin 32) (l : Fin 128) :
    @Eq EReal ((k0_pay143 (sl.r_123 c i arg3 harg3 arg4 harg4 arg5 harg5 arg13 harg13 arg14 harg14 arg23 arg24 x2 x3 x4 x12 x13) (sl.v2341 c i arg3 harg3 arg4 harg4 arg5 harg5 arg23 arg24 x2 x3 x4) (tapLd arg13 harg13 x12 30 128 inb_S31x1024_S1x128_30_128) : FVec Ideal S32x128 .f32) (ix2 r l))
      (convN i x2 x3 x4 x12 x13 (r + 96) (l + 128)) := by
  refine Eq.trans ?_ (chain (offN x13 (l + 128)) (fun t => tapN x12 t (l + 128) * win i x2 x3 x4 (r + 96 + (t + 1)) (l + 128)))
  simp only [k0_pay143, sl.r_123, k0_pay142, sl.r_122, k0_pay141, sl.r_121, k0_pay140, sl.r_118, k0_pay138, sl.r_115, k0_pay136, sl.r_113, k0_pay134, sl.v2164, sl.v2170, sl.v2176, sl.v2182, sl.r_114, k0_pay135, sl.v2188, sl.v2194, sl.v2200, sl.v2206, sl.v2211, sl.r_116, k0_pay137, sl.v2217, sl.r_117, sl.v2223, sl.v2229, sl.v2235, sl.v2241, sl.r_119, k0_pay139, sl.v2247, sl.r_120, sl.v2253, sl.v2258, sl.v2264, sl.v2270, sl.v2276, sl.v2282, sl.v2288, sl.v2294, sl.v2300, sl.v2305, sl.v2311, sl.v2317, sl.v2323, sl.v2329, sl.v2335, sl.v2341, tapLd, mul_at, add_at, spread_at, drop_at, shapeCast_self, tap_at, off_at, win_at, shift14_at, Nat.add_assoc, Nat.reduceAdd]

theorem piece1_4 (r : Fin 32) (l : Fin 128) :
    @Eq EReal ((k0_pay154 (sl.r_133 c i arg3 harg3 arg4 harg4 arg5 harg5 arg13 harg13 arg14 harg14 arg23 arg24 x2 x3 x4 x12 x13) (sl.v2524 c i arg3 harg3 arg4 harg4 arg5 harg5 arg23 arg24 x2 x3 x4) (tapLd arg13 harg13 x12 29 128 inb_S31x1024_S1x128_29_128) (sl.v2530 c i arg3 harg3 arg4 harg4 arg5 harg5 arg23 arg24 x2 x3 x4) (tapLd arg13 harg13 x12 30 128 inb_S31x1024_S1x128_30_128) : FVec Ideal S32x128 .f32) (ix2 r l))
      (convN i x2 x3 x4 x12 x13 (r + 128) (l + 128)) := by
  refine Eq.trans ?_ (chain (offN x13 (l + 128)) (fun t => tapN x12 t (l + 128) * win i x2 x3 x4 (r + 128 + (t + 1)) (l + 128)))
  simp only [k0_pay154, sl.r_133, k0_pay153, sl.r_132, k0_pay152, sl.r_129, k0_pay149, sl.r_127, k0_pay147, sl.r_125, k0_pay145, sl.r_124, k0_pay144, sl.v2353, sl.v2359, sl.v2365, sl.v2371, sl.v2377, sl.v2383, sl.v2389, sl.v2395, sl.r_126, k0_pay146, sl.v2400, sl.v2406, sl.v2412, sl.v2418, sl.v2424, sl.r_128, k0_pay148, sl.v2430, sl.v2436, sl.v2442, sl.v2447, sl.v2453, sl.r_130, k0_pay150, sl.v2459, sl.r_131, k0_pay151, sl.v2465, sl.v2471, sl.v2477, sl.v2483, sl.v2489, sl.v2494, sl.v2500, sl.v2506, sl.v2512, sl.v2518, sl.v2524, sl.v2530, tapLd, mul_at, add_at, spread_at, drop_at, shapeCast_self, tap_at, off_at, win_at, shift14_at, Nat.add_assoc, Nat.reduceAdd]

theorem piece1_5 (r : Fin 32) (l : Fin 128) :
    @Eq EReal ((k0_pay164 (sl.r_141 c i arg3 harg3 arg4 harg4 arg5 harg5 arg13 harg13 arg14 harg14 arg23 arg24 x2 x3 x4 x12 x13) (sl.r_142 c i arg3 harg3 arg4 harg4 arg5 harg5 arg13 harg13 arg23 arg24 x2 x3 x4 x12) (sl.v2707 c i arg3 harg3 arg4 harg4 arg5 harg5 arg23 arg24 x2 x3 x4) (tapLd arg13 harg13 x12 28 128 inb_S31x1024_S1x128_28_128) (sl.v2713 c i arg3 harg3 arg4 harg4 arg5 harg5 arg23 arg24 x2 x3 x4) (tapLd arg13 harg13 x12 29 128 inb_S31x1024_S1x128_29_128) (sl.v2719 c i arg3 harg3 arg4 harg4 arg5 harg5 arg23 arg24 x2 x3 x4) (tapLd arg13 harg13 x12 30 128 inb_S31x1024_S1x128_30_128) : FVec Ideal S32x128 .f32) (ix2 r l))
      (convN i x2 x3 x4 x12 x13 (r + 160) (l + 128)) := by
  refine Eq.trans ?_ (chain (offN x13 (l + 128)) (fun t => tapN x12 t (l + 128) * win i x2 x3 x4 (r + 160 + (t + 1)) (l + 128)))
  simp only [k0_pay164, sl.r_141, k0_pay162, sl.r_139, k0_pay160, sl.r_137, k0_pay158, sl.r_136, k0_pay157, sl.r_135, k0_pay156, sl.r_134, k0_pay155, sl.v2542, sl.v2548, sl.v2554, sl.v2560, sl.v2566, sl.v2572, sl.v2578, sl.v2584, sl.v2589, sl.v2595, sl.v2601, sl.v2607, sl.v2613, sl.v2619, sl.v2625, sl.v2631, sl.v2636, sl.r_138, k0_pay159, sl.v2642, sl.v2648, sl.v2654, sl.v2660, sl.v2666, sl.r_140, k0_pay161, sl.v2672, sl.v2678, sl.v2683, sl.v2689, sl.v2695, sl.r_142, k0_pay163, sl.v2701, sl.v2707, sl.v2713, sl.v2719, tapLd, mul_at, add_at, spread_at, drop_at, shapeCast_self, tap_at, off_at, win_at, shift14_at, Nat.add_assoc, Nat.reduceAdd]

theorem piece1_6 (r : Fin 32) (l : Fin 128) :
    @Eq EReal ((k0_pay174 (sl.r_150 c i arg3 harg3 arg4 harg4 arg5 harg5 arg13 harg13 arg14 harg14 arg23 arg24 x2 x3 x4 x12 x13) (sl.r_151 c i arg3 harg3 arg4 harg4 arg5 harg5 arg23 arg24 x2 x3 x4) (sl.r_152 c arg13 harg13 x12) (sl.v2890 c i arg3 harg3 arg4 harg4 arg5 harg5 arg23 arg24 x2 x3 x4) (tapLd arg13 harg13 x12 27 128 inb_S31x1024_S1x128_27_128) (sl.v2896 c i arg3 harg3 arg4 harg4 arg5 harg5 arg23 arg24 x2 x3 x4) (tapLd arg13 harg13 x12 28 128 inb_S31x1024_S1x128_28_128) (sl.v2902 c i arg3 harg3 arg4 harg4 arg5 harg5 arg23 arg24 x2 x3 x4) (tapLd arg13 harg13 x12 29 128 inb_S31x1024_S1x128_29_128) (sl.v2908 c i arg3 harg3 arg4 harg4 arg5 harg5 arg23 arg24 x2 x3 x4) (tapLd arg13 harg13 x12 30 128 inb_S31x1024_S1x128_30_128) : FVec Ideal S32x128 .f32) (ix2 r l))
      (convN i x2 x3 x4 x12 x13 (r + 192) (l + 128)) := by
  refine Eq.trans ?_ (chain (offN x13 (l + 128)) (fun t => tapN x12 t (l + 128) * win i x2 x3 x4 (r + 192 + (t + 1)) (l + 128)))
  simp only [k0_pay174, sl.r_150, k0_pay172, sl.r_148, k0_pay170, sl.r_146, k0_pay168, sl.r_145, k0_pay167, sl.r_144, k0_pay166, sl.r_143, k0_pay165, sl.v2731, sl.v2737, sl.v2743, sl.v2749, sl.v2755, sl.v2761, sl.v2767, sl.v2773, sl.v2778, sl.v2784, sl.v2790, sl.v2796, sl.v2802, sl.v2808, sl.v2814, sl.v2820, sl.r_147, k0_pay169, sl.v2825, sl.v2831, sl.v2837, sl.v2843, sl.v2849, sl.r_149, k0_pay171, sl.v2855, sl.v2861, sl.v2867, sl.v2872, sl.v2878, sl.r_151, k0_pay173, sl.v2884, sl.r_152, sl.v2890, sl.v2896, sl.v2902, sl.v2908, tapLd, mul_at, add_at, spread_at, drop_at, shapeCast_self, tap_at, off_at, win_at, shift14_at, Nat.add_assoc, Nat.reduceAdd]

theorem piece1_7 (r : Fin 32) (l : Fin 128) :
    @Eq EReal ((k0_pay185 (sl.r_162 c i arg3 harg3 arg4 harg4 arg5 harg5 arg13 harg13 arg14 harg14 arg23 arg24 x2 x3 x4 x12 x13) (sl.r_163 c i arg3 harg3 arg4 harg4 arg5 harg5 arg23 arg24 x2 x3 x4) (tapLd arg13 harg13 x12 30 128 inb_S31x1024_S1x128_30_128) : FVec Ideal S32x128 .f32) (ix2 r l))
      (convN i x2 x3 x4 x12 x13 (r + 224) (l + 128)) := by
  refine Eq.trans ?_ (chain (offN x13 (l + 128)) (fun t => tapN x12 t (l + 128) * win i x2 x3 x4 (r + 224 + (t + 1)) (l + 128)))
  simp only [k0_pay185, sl.r_162, k0_pay183, sl.r_160, k0_pay181, sl.r_159, k0_pay180, sl.r_158, k0_pay179, sl.r_157, k0_pay178, sl.r_154, k0_pay175, sl.r_153, sl.v2920, sl.v2926, sl.v2932, sl.v2938, sl.r_155, k0_pay176, sl.v2944, sl.r_156, k0_pay177, sl.v2950, sl.v2956, sl.v2962, sl.v2967, sl.v2973, sl.v2979, sl.v2985, sl.v2991, sl.v2997, sl.v3003, sl.v3009, sl.v3014, sl.v3020, sl.v3026, sl.v3032, sl.v3038, sl.v3044, sl.v3050, sl.v3056, sl.v3061, sl.r_161, k0_pay182, sl.v3067, sl.v3073, sl.v3079, sl.v3085, sl.v3091, sl.r_163, k0_pay184, sl.v3097, tapLd, mul_at, add_at, spread_at, drop_at, shapeCast_self, tap_at, off_at, win_at, shift14_at, Nat.add_assoc, Nat.reduceAdd]

end

end Cert.Kernel3Ideal.Merge
-- ==== Proof.Merge.Conv2.lean ====
/-
  Blocks of 32 rows of 128 columns of the convolution: each is the offset plus the sum of the 31 taps times the window's rows.
-/
module

public import proofs.«01_k».proof.Proof.Gen.Kernel3Ideal.Frame
public import proofs.«01_k».proof.Proof.Merge.Shift
public import Idealize.ShloMosaic.Lib.WholeRead
public import Idealize.ShloMosaic.Lib.Pipeline.Value
public import Idealize.ShloMosaic.Lib.Pipeline.ValueKit
public import Idealize.ShloMosaic.Lib.Pipeline.CanonAppend
public import proofs.«01_k».proof.Proof.Inproj.Block
import all proofs.«01_k».proof.Proof.Gen.Kernel3Ideal.Frame.RunA

@[expose] public section

set_option maxRecDepth 16384

noncomputable section

namespace Cert.Kernel3Ideal.Merge

open Cert.Kernel3Ideal.Gen.kernelRun0_A
open Cert.Kernel3Ideal Cert.Kernel3Ideal.Gen Cert.Inproj Cert.Merge
open Idealize.ShloMosaic hiding ix2 ix3 ix4
open Idealize.ShloMosaic.ValueIdx Idealize.ShloMosaic.TcCoe Idealize.SL.Sem
open Cert.Kernel2Ideal.Inproj (ld ld2 ld_whole2 zero2)

section
variable (c : Dev nD) (i : grid0.Coords) (arg3 : Memref sig .tc .vmem S16x1024 .bf16) (harg3 : arg3.IsWhole)
  (arg4 : Memref sig .tc .vmem S256x1024 .bf16) (harg4 : arg4.IsWhole) (arg5 : Memref sig .tc .vmem S16x1024 .bf16) (harg5 : arg5.IsWhole)
  (arg13 : Memref sig .tc .vmem S31x1024 .f32) (harg13 : arg13.IsWhole) (arg14 : Memref sig .tc .vmem S1x1024 .f32) (harg14 : arg14.IsWhole)
  (arg23 : Memref sig .tc .vmem S288x1024 .f32) (arg24 : Memref sig .tc .vmem S2x7x280x128 .f32) (arg25 : Memref sig .tc .vmem S256x1024 .f32)
  (x2 : Vec Ideal S16x1024 .bf16) (x3 : Vec Ideal S256x1024 .bf16) (x4 : Vec Ideal S16x1024 .bf16)
  (x12 : Vec Ideal S31x1024 .f32) (x13 : Vec Ideal S1x1024 .f32)

theorem piece2_0 (r : Fin 32) (l : Fin 128) :
    @Eq EReal ((k0_pay202 (sl.r_174 c i arg3 harg3 arg4 harg4 arg5 harg5 arg13 harg13 arg14 harg14 arg23 arg24 x2 x3 x4 x12 x13) (sl.v3302 c i arg3 harg3 arg4 harg4 arg5 harg5 arg23 arg24 x2 x3 x4) (tapLd arg13 harg13 x12 28 256 inb_S31x1024_S1x128_28_256) (sl.v3308 c i arg3 harg3 arg4 harg4 arg5 harg5 arg23 arg24 x2 x3 x4) (tapLd arg13 harg13 x12 29 256 inb_S31x1024_S1x128_29_256) (sl.v3314 c i arg3 harg3 arg4 harg4 arg5 harg5 arg23 arg24 x2 x3 x4) (tapLd arg13 harg13 x12 30 256 inb_S31x1024_S1x128_30_256) : FVec Ideal S32x128 .f32) (ix2 r l))
      (convN i x2 x3 x4 x12 x13 (r + 0) (l + 256)) := by
  refine Eq.trans ?_ (chain (offN x13 (l + 256)) (fun t => tapN x12 t (l + 256) * win i x2 x3 x4 (r + 0 + (t + 1)) (l + 256)))
  simp only [k0_pay202, sl.r_174, k0_pay201, sl.r_171, k0_pay199, sl.r_168, k0_pay197, sl.r_166, k0_pay195, sl.r_165, k0_pay194, sl.r_164, k0_pay193, sl.v3137, sl.v3143, sl.v3149, sl.v3155, sl.v3161, sl.v3167, sl.v3173, sl.v3179, sl.v3184, sl.v3190, sl.v3196, sl.v3202, sl.r_167, k0_pay196, sl.v3208, sl.v3214, sl.v3220, sl.v3226, sl.v3231, sl.r_169, k0_pay198, sl.v3237, sl.r_170, sl.v3243, sl.v3249, sl.v3255, sl.v3261, sl.r_172, k0_pay200, sl.v3267, sl.r_173, sl.v3273, sl.v3278, sl.v3284, sl.v3290, sl.v3296, sl.v3302, sl.v3308, sl.v3314, tapLd, mul_at, add_at, spread_at, drop_at, shapeCast_self, tap_at, off_at, win_at, shift21_at, Nat.add_assoc, Nat.reduceAdd]

theorem piece2_1 (r : Fin 32) (l : Fin 128) :
    @Eq EReal ((k0_pay213 (sl.r_182 c i arg3 harg3 arg4 harg4 arg5 harg5 arg13 harg13 arg14 harg14 arg23 arg24 x2 x3 x4 x12 x13) (sl.r_183 c i arg3 harg3 arg4 harg4 arg5 harg5 arg23 arg24 x2 x3 x4) (sl.r_184 c arg13 harg13 x12) (sl.v3485 c i arg3 harg3 arg4 harg4 arg5 harg5 arg23 arg24 x2 x3 x4) (tapLd arg13 harg13 x12 27 256 inb_S31x1024_S1x128_27_256) (sl.v3491 c i arg3 harg3 arg4 harg4 arg5 harg5 arg23 arg24 x2 x3 x4) (tapLd arg13 harg13 x12 28 256 inb_S31x1024_S1x128_28_256) (sl.v3497 c i arg3 harg3 arg4 harg4 arg5 harg5 arg23 arg24 x2 x3 x4) (tapLd arg13 harg13 x12 29 256 inb_S31x1024_S1x128_29_256) (sl.v3503 c i arg3 harg3 arg4 harg4 arg5 harg5 arg23 arg24 x2 x3 x4) (tapLd arg13 harg13 x12 30 256 inb_S31x1024_S1x128_30_256) : FVec Ideal S32x128 .f32) (ix2 r l))
      (convN i x2 x3 x4 x12 x13 (r + 32) (l + 256)) := by
  refine Eq.trans ?_ (chain (offN x13 (l + 256)) (fun t => tapN x12 t (l + 256) * win i x2 x3 x4 (r + 32 + (t + 1)) (l + 256)))
  simp only [k0_pay213, sl.r_182, k0_pay210, sl.r_180, k0_pay208, sl.r_178, k0_pay206, sl.r_177, k0_pay205, sl.r_176, k0_pay204, sl.r_175, k0_pay203, sl.v3326, sl.v3332, sl.v3338, sl.v3344, sl.v3350, sl.v3356, sl.v3362, sl.v3368, sl.v3373, sl.v3379, sl.v3385, sl.v3391, sl.v3397, sl.v3403, sl.v3409, sl.v3415, sl.r_179, k0_pay207, sl.v3420, sl.v3426, sl.v3432, sl.v3438, sl.v3444, sl.r_181, k0_pay209, sl.v3450, sl.v3456, sl.v3462, sl.v3467, sl.v3473, sl.r_183, k0_pay211, sl.v3479, sl.r_184, k0_pay212, sl.v3485, sl.v3491, sl.v3497, sl.v3503, tapLd, mul_at, add_at, spread_at, drop_at, shapeCast_self, tap_at, off_at, win_at, shift21_at, Nat.add_assoc, Nat.reduceAdd]

theorem piece2_2 (r : Fin 32) (l : Fin 128) :
    @Eq EReal ((k0_pay224 (sl.r_193 c i arg3 harg3 arg4 harg4 arg5 harg5 arg13 harg13 arg14 harg14 arg23 arg24 x2 x3 x4 x12 x13) (sl.r_194 c i arg3 harg3 arg4 harg4 arg5 harg5 arg23 arg24 x2 x3 x4) (tapLd arg13 harg13 x12 30 256 inb_S31x1024_S1x128_30_256) : FVec Ideal S32x128 .f32) (ix2 r l))
      (convN i x2 x3 x4 x12 x13 (r + 64) (l + 256)) := by
  refine Eq.trans ?_ (chain (offN x13 (l + 256)) (fun t => tapN x12 t (l + 256) * win i x2 x3 x4 (r + 64 + (t + 1)) (l + 256)))
  simp only [k0_pay224, sl.r_193, k0_pay222, sl.r_191, k0_pay220, sl.r_190, k0_pay219, sl.r_189, k0_pay218, sl.r_188, k0_pay217, sl.r_186, k0_pay215, sl.r_185, k0_pay214, sl.v3515, sl.v3521, sl.v3527, sl.v3533, sl.r_187, k0_pay216, sl.v3539, sl.v3545, sl.v3551, sl.v3557, sl.v3562, sl.v3568, sl.v3574, sl.v3580, sl.v3586, sl.v3592, sl.v3598, sl.v3604, sl.v3609, sl.v3615, sl.v3621, sl.v3627, sl.v3633, sl.v3639, sl.v3645, sl.v3651, sl.v3656, sl.r_192, k0_pay221, sl.v3662, sl.v3668, sl.v3674, sl.v3680, sl.v3686, sl.r_194, k0_pay223, sl.v3692, tapLd, mul_at, add_at, spread_at, drop_at, shapeCast_self, tap_at, off_at, win_at, shift21_at, Nat.add_assoc, Nat.reduceAdd]

theorem piece2_3 (r : Fin 32) (l : Fin 128) :
    @Eq EReal ((k0_pay234 (sl.r_203 c i arg3 harg3 arg4 harg4 arg5 harg5 arg13 harg13 arg14 harg14 arg23 arg24 x2 x3 x4 x12 x13) (sl.r_204 c i arg3 harg3 arg4 harg4 arg5 harg5 arg23 arg24 x2 x3 x4) (tapLd arg13 harg13 x12 29 256 inb_S31x1024_S1x128_29_256) (sl.v3881 c i arg3 harg3 arg4 harg4 arg5 harg5 arg23 arg24 x2 x3 x4) (tapLd arg13 harg13 x12 30 256 inb_S31x1024_S1x128_30_256) : FVec Ideal S32x128 .f32) (ix2 r l))
      (convN i x2 x3 x4 x12 x13 (r + 96) (l + 256)) := by
  refine Eq.trans ?_ (chain (offN x13 (l + 256)) (fun t => tapN x12 t (l + 256) * win i x2 x3 x4 (r + 96 + (t + 1)) (l + 256)))
  simp only [k0_pay234, sl.r_203, k0_pay232, sl.r_201, k0_pay230, sl.r_200, k0_pay229, sl.r_199, k0_pay228, sl.r_198, k0_pay227, sl.r_195, k0_pay225, sl.v3704, sl.v3710, sl.v3716, sl.r_196, k0_pay226, sl.v3722, sl.r_197, sl.v3728, sl.v3734, sl.v3740, sl.v3746, sl.v3751, sl.v3757, sl.v3763, sl.v3769, sl.v3775, sl.v3781, sl.v3787, sl.v3793, sl.v3798, sl.v3804, sl.v3810, sl.v3816, sl.v3822, sl.v3828, sl.v3834, sl.v3840, sl.r_202, k0_pay231, sl.v3845, sl.v3851, sl.v3857, sl.v3863, sl.v3869, sl.r_204, k0_pay233, sl.v3875, sl.v3881, tapLd, mul_at, add_at, spread_at, drop_at, shapeCast_self, tap_at, off_at, win_at, shift21_at, Nat.add_assoc, Nat.reduceAdd]

theorem piece2_4 (r : Fin 32) (l : Fin 128) :
    @Eq EReal ((k0_pay245 (sl.r_214 c i arg3 harg3 arg4 harg4 arg5 harg5 arg13 harg13 arg14 harg14 arg23 arg24 x2 x3 x4 x12 x13) (sl.v4058 c i arg3 harg3 arg4 harg4 arg5 harg5 arg23 arg24 x2 x3 x4) (tapLd arg13 harg13 x12 28 256 inb_S31x1024_S1x128_28_256) (sl.v4064 c i arg3 harg3 arg4 harg4 arg5 harg5 arg23 arg24 x2 x3 x4) (tapLd arg13 harg13 x12 29 256 inb_S31x1024_S1x128_29_256) (sl.v4070 c i arg3 harg3 arg4 harg4 arg5 harg5 arg23 arg24 x2 x3 x4) (tapLd arg13 harg13 x12 30 256 inb_S31x1024_S1x128_30_256) : FVec Ideal S32x128 .f32) (ix2 r l))
      (convN i x2 x3 x4 x12 x13 (r + 128) (l + 256)) := by
  refine Eq.trans ?_ (chain (offN x13 (l + 256)) (fun t => tapN x12 t (l + 256) * win i x2 x3 x4 (r + 128 + (t + 1)) (l + 256)))
  simp only [k0_pay245, sl.r_214, k0_pay244, sl.r_213, k0_pay243, sl.r_212, k0_pay242, sl.r_209, k0_pay239, sl.r_207, k0_pay237, sl.r_205, k0_pay235, sl.v3893, sl.v3899, sl.r_206, k0_pay236, sl.v3905, sl.v3911, sl.v3917, sl.v3923, sl.v3929, sl.v3935, sl.r_208, k0_pay238, sl.v3940, sl.v3946, sl.v3952, sl.v3958, sl.r_210, k0_pay240, sl.v3964, sl.r_211, k0_pay241, sl.v3970, sl.v3976, sl.v3982, sl.v3987, sl.v3993, sl.v3999, sl.v4005, sl.v4011, sl.v4017, sl.v4023, sl.v4029, sl.v4034, sl.v4040, sl.v4046, sl.v4052, sl.v4058, sl.v4064, sl.v4070, tapLd, mul_at, add_at, spread_at, drop_at, shapeCast_self, tap_at, off_at, win_at, shift21_at, Nat.add_assoc, Nat.reduceAdd]

theorem piece2_5 (r : Fin 32) (l : Fin 128) :
    @Eq EReal ((k0_pay255 (sl.r_223 c i arg3 harg3 arg4 harg4 arg5 harg5 arg13 harg13 arg14 harg14 arg23 arg24 x2 x3 x4 x12 x13) (sl.v4241 c i arg3 harg3 arg4 harg4 arg5 harg5 arg23 arg24 x2 x3 x4) (tapLd arg13 harg13 x12 27 256 inb_S31x1024_S1x128_27_256) (sl.v4247 c i arg3 harg3 arg4 harg4 arg5 harg5 arg23 arg24 x2 x3 x4) (tapLd arg13 harg13 x12 28 256 inb_S31x1024_S1x128_28_256) (sl.v4253 c i arg3 harg3 arg4 harg4 arg5 harg5 arg23 arg24 x2 x3 x4) (tapLd arg13 harg13 x12 29 256 inb_S31x1024_S1x128_29_256) (sl.v4259 c i arg3 harg3 arg4 harg4 arg5 harg5 arg23 arg24 x2 x3 x4) (tapLd arg13 harg13 x12 30 256 inb_S31x1024_S1x128_30_256) : FVec Ideal S32x128 .f32) (ix2 r l))
      (convN i x2 x3 x4 x12 x13 (r + 160) (l + 256)) := by
  refine Eq.trans ?_ (chain (offN x13 (l + 256)) (fun t => tapN x12 t (l + 256) * win i x2 x3 x4 (r + 160 + (t + 1)) (l + 256)))
  simp only [k0_pay255, sl.r_223, k0_pay254, sl.r_221, k0_pay252, sl.r_219, k0_pay250, sl.r_217, k0_pay248, sl.r_216, k0_pay247, sl.r_215, k0_pay246, sl.v4082, sl.v4088, sl.v4094, sl.v4100, sl.v4106, sl.v4112, sl.v4118, sl.v4124, sl.v4129, sl.v4135, sl.v4141, sl.r_218, k0_pay249, sl.v4147, sl.v4153, sl.v4159, sl.v4165, sl.v4171, sl.r_220, k0_pay251, sl.v4176, sl.v4182, sl.v4188, sl.v4194, sl.v4200, sl.r_222, k0_pay253, sl.v4206, sl.v4212, sl.v4218, sl.v4223, sl.v4229, sl.v4235, sl.v4241, sl.v4247, sl.v4253, sl.v4259, tapLd, mul_at, add_at, spread_at, drop_at, shapeCast_self, tap_at, off_at, win_at, shift21_at, Nat.add_assoc, Nat.reduceAdd]

theorem piece2_6 (r : Fin 32) (l : Fin 128) :
    @Eq EReal ((k0_pay265 (sl.r_234 c i arg3 harg3 arg4 harg4 arg5 harg5 arg13 harg13 arg14 harg14 arg23 arg24 x2 x3 x4 x12 x13) : FVec Ideal S32x128 .f32) (ix2 r l))
      (convN i x2 x3 x4 x12 x13 (r + 192) (l + 256)) := by
  refine Eq.trans ?_ (chain (offN x13 (l + 256)) (fun t => tapN x12 t (l + 256) * win i x2 x3 x4 (r + 192 + (t + 1)) (l + 256)))
  simp only [k0_pay265, sl.r_234, k0_pay264, sl.r_233, k0_pay263, sl.r_230, k0_pay261, sl.r_228, k0_pay260, sl.r_226, k0_pay258, sl.r_225, k0_pay257, sl.r_224, k0_pay256, sl.v4271, sl.v4277, sl.v4283, sl.v4289, sl.v4295, sl.v4301, sl.v4307, sl.v4313, sl.v4318, sl.v4324, sl.r_227, k0_pay259, sl.v4330, sl.v4336, sl.v4342, sl.v4348, sl.v4354, sl.v4360, sl.r_229, sl.v4365, sl.v4371, sl.v4377, sl.v4383, sl.r_231, k0_pay262, sl.v4389, sl.r_232, sl.v4395, sl.v4401, sl.v4407, sl.v4412, sl.v4418, sl.v4424, sl.v4430, sl.v4436, sl.v4442, sl.v4448, tapLd, mul_at, add_at, spread_at, drop_at, shapeCast_self, tap_at, off_at, win_at, shift21_at, Nat.add_assoc, Nat.reduceAdd]

theorem piece2_7 (r : Fin 32) (l : Fin 128) :
    @Eq EReal ((k0_pay277 (sl.r_243 c i arg3 harg3 arg4 harg4 arg5 harg5 arg13 harg13 arg14 harg14 arg23 arg24 x2 x3 x4 x12 x13) (sl.r_244 c i arg3 harg3 arg4 harg4 arg5 harg5 arg23 arg24 x2 x3 x4) (sl.r_245 c arg13 harg13 x12) (sl.v4637 c i arg3 harg3 arg4 harg4 arg5 harg5 arg23 arg24 x2 x3 x4) (tapLd arg13 harg13 x12 30 256 inb_S31x1024_S1x128_30_256) : FVec Ideal S32x128 .f32) (ix2 r l))
      (convN i x2 x3 x4 x12 x13 (r + 224) (l + 256)) := by
  refine Eq.trans ?_ (chain (offN x13 (l + 256)) (fun t => tapN x12 t (l + 256) * win i x2 x3 x4 (r + 224 + (t + 1)) (l + 256)))
  simp only [k0_pay277, sl.r_243, k0_pay274, sl.r_240, k0_pay271, sl.r_238, k0_pay269, sl.r_237, k0_pay268, sl.r_236, k0_pay267, sl.r_235, k0_pay266, sl.v4460, sl.v4466, sl.v4472, sl.v4478, sl.v4484, sl.v4490, sl.v4496, sl.v4502, sl.v4507, sl.v4513, sl.v4519, sl.v4525, sl.v4531, sl.v4537, sl.v4543, sl.v4549, sl.v4554, sl.v4560, sl.v4566, sl.r_239, k0_pay270, sl.v4572, sl.v4578, sl.v4584, sl.v4590, sl.v4596, sl.r_241, k0_pay272, sl.v4601, sl.r_242, k0_pay273, sl.v4607, sl.v4613, sl.v4619, sl.v4625, sl.r_244, k0_pay275, sl.v4631, sl.r_245, k0_pay276, sl.v4637, tapLd, mul_at, add_at, spread_at, drop_at, shapeCast_self, tap_at, off_at, win_at, shift21_at, Nat.add_assoc, Nat.reduceAdd]

end

end Cert.Kernel3Ideal.Merge
-- ==== Proof.Merge.Conv3.lean ====
/-
  Blocks of 32 rows of 128 columns of the convolution: each is the offset plus the sum of the 31 taps times the window's rows.
-/
module

public import proofs.«01_k».proof.Proof.Gen.Kernel3Ideal.Frame
public import proofs.«01_k».proof.Proof.Merge.Shift
public import Idealize.ShloMosaic.Lib.WholeRead
public import Idealize.ShloMosaic.Lib.Pipeline.Value
public import Idealize.ShloMosaic.Lib.Pipeline.ValueKit
public import Idealize.ShloMosaic.Lib.Pipeline.CanonAppend
public import proofs.«01_k».proof.Proof.Inproj.Block
import all proofs.«01_k».proof.Proof.Gen.Kernel3Ideal.Frame.RunA

@[expose] public section

set_option maxRecDepth 16384

noncomputable section

namespace Cert.Kernel3Ideal.Merge

open Cert.Kernel3Ideal.Gen.kernelRun0_A
open Cert.Kernel3Ideal Cert.Kernel3Ideal.Gen Cert.Inproj Cert.Merge
open Idealize.ShloMosaic hiding ix2 ix3 ix4
open Idealize.ShloMosaic.ValueIdx Idealize.ShloMosaic.TcCoe Idealize.SL.Sem
open Cert.Kernel2Ideal.Inproj (ld ld2 ld_whole2 zero2)

section
variable (c : Dev nD) (i : grid0.Coords) (arg3 : Memref sig .tc .vmem S16x1024 .bf16) (harg3 : arg3.IsWhole)
  (arg4 : Memref sig .tc .vmem S256x1024 .bf16) (harg4 : arg4.IsWhole) (arg5 : Memref sig .tc .vmem S16x1024 .bf16) (harg5 : arg5.IsWhole)
  (arg13 : Memref sig .tc .vmem S31x1024 .f32) (harg13 : arg13.IsWhole) (arg14 : Memref sig .tc .vmem S1x1024 .f32) (harg14 : arg14.IsWhole)
  (arg23 : Memref sig .tc .vmem S288x1024 .f32) (arg24 : Memref sig .tc .vmem S2x7x280x128 .f32) (arg25 : Memref sig .tc .vmem S256x1024 .f32)
  (x2 : Vec Ideal S16x1024 .bf16) (x3 : Vec Ideal S256x1024 .bf16) (x4 : Vec Ideal S16x1024 .bf16)
  (x12 : Vec Ideal S31x1024 .f32) (x13 : Vec Ideal S1x1024 .f32)

theorem piece3_0 (r : Fin 32) (l : Fin 128) :
    @Eq EReal ((k0_pay294 (sl.r_255 c i arg3 harg3 arg4 harg4 arg5 harg5 arg13 harg13 arg14 harg14 arg23 arg24 x2 x3 x4 x12 x13) (sl.v4836 c i arg3 harg3 arg4 harg4 arg5 harg5 arg23 arg24 x2 x3 x4) (tapLd arg13 harg13 x12 27 384 inb_S31x1024_S1x128_27_384) (sl.v4842 c i arg3 harg3 arg4 harg4 arg5 harg5 arg23 arg24 x2 x3 x4) (tapLd arg13 harg13 x12 28 384 inb_S31x1024_S1x128_28_384) (sl.v4848 c i arg3 harg3 arg4 harg4 arg5 harg5 arg23 arg24 x2 x3 x4) (tapLd arg13 harg13 x12 29 384 inb_S31x1024_S1x128_29_384) (sl.v4854 c i arg3 harg3 arg4 harg4 arg5 harg5 arg23 arg24 x2 x3 x4) (tapLd arg13 harg13 x12 30 384 inb_S31x1024_S1x128_30_384) : FVec Ideal S32x128 .f32) (ix2 r l))
      (convN i x2 x3 x4 x12 x13 (r + 0) (l + 384)) := by
  refine Eq.trans ?_ (chain (offN x13 (l + 384)) (fun t => tapN x12 t (l + 384) * win i x2 x3 x4 (r + 0 + (t + 1)) (l + 384)))
  simp only [k0_pay294, sl.r_255, k0_pay293, sl.r_254, k0_pay292, sl.r_253, k0_pay291, sl.r_250, k0_pay289, sl.r_248, k0_pay287, sl.r_246, k0_pay285, sl.v4677, sl.r_247, k0_pay286, sl.v4683, sl.v4689, sl.v4695, sl.v4701, sl.v4707, sl.r_249, k0_pay288, sl.v4713, sl.v4719, sl.v4724, sl.v4730, sl.v4736, sl.r_251, k0_pay290, sl.v4742, sl.r_252, sl.v4748, sl.v4754, sl.v4760, sl.v4766, sl.v4771, sl.v4777, sl.v4783, sl.v4789, sl.v4795, sl.v4801, sl.v4807, sl.v4813, sl.v4818, sl.v4824, sl.v4830, sl.v4836, sl.v4842, sl.v4848, sl.v4854, tapLd, mul_at, add_at, spread_at, drop_at, shapeCast_self, tap_at, off_at, win_at, shift28_at, Nat.add_assoc, Nat.reduceAdd]

theorem piece3_1 (r : Fin 32) (l : Fin 128) :
    @Eq EReal ((k0_pay306 (sl.r_266 c i arg3 harg3 arg4 harg4 arg5 harg5 arg13 harg13 arg14 harg14 arg23 arg24 x2 x3 x4 x12 x13) : FVec Ideal S32x128 .f32) (ix2 r l))
      (convN i x2 x3 x4 x12 x13 (r + 32) (l + 384)) := by
  refine Eq.trans ?_ (chain (offN x13 (l + 384)) (fun t => tapN x12 t (l + 384) * win i x2 x3 x4 (r + 32 + (t + 1)) (l + 384)))
  simp only [k0_pay306, sl.r_266, k0_pay305, sl.r_265, k0_pay304, sl.r_262, k0_pay301, sl.r_260, k0_pay299, sl.r_258, k0_pay297, sl.r_257, k0_pay296, sl.r_256, k0_pay295, sl.v4866, sl.v4872, sl.v4878, sl.v4884, sl.v4890, sl.v4896, sl.v4902, sl.v4908, sl.v4913, sl.v4919, sl.r_259, k0_pay298, sl.v4925, sl.v4931, sl.v4937, sl.v4943, sl.v4949, sl.v4955, sl.r_261, k0_pay300, sl.v4960, sl.v4966, sl.v4972, sl.v4978, sl.r_263, k0_pay302, sl.v4984, sl.r_264, k0_pay303, sl.v4990, sl.v4996, sl.v5002, sl.v5007, sl.v5013, sl.v5019, sl.v5025, sl.v5031, sl.v5037, sl.v5043, tapLd, mul_at, add_at, spread_at, drop_at, shapeCast_self, tap_at, off_at, win_at, shift28_at, Nat.add_assoc, Nat.reduceAdd]

theorem piece3_2 (r : Fin 32) (l : Fin 128) :
    @Eq EReal ((k0_pay316 (sl.r_274 c i arg3 harg3 arg4 harg4 arg5 harg5 arg13 harg13 arg14 harg14 arg23 arg24 x2 x3 x4 x12 x13) (sl.r_275 c i arg3 harg3 arg4 harg4 arg5 harg5 arg13 harg13 arg23 arg24 x2 x3 x4 x12) (sl.v5232 c i arg3 harg3 arg4 harg4 arg5 harg5 arg23 arg24 x2 x3 x4) (tapLd arg13 harg13 x12 30 384 inb_S31x1024_S1x128_30_384) : FVec Ideal S32x128 .f32) (ix2 r l))
      (convN i x2 x3 x4 x12 x13 (r + 64) (l + 384)) := by
  refine Eq.trans ?_ (chain (offN x13 (l + 384)) (fun t => tapN x12 t (l + 384) * win i x2 x3 x4 (r + 64 + (t + 1)) (l + 384)))
  simp only [k0_pay316, sl.r_274, k0_pay314, sl.r_272, k0_pay312, sl.r_270, k0_pay310, sl.r_269, k0_pay309, sl.r_268, k0_pay308, sl.r_267, k0_pay307, sl.v5055, sl.v5061, sl.v5067, sl.v5073, sl.v5079, sl.v5085, sl.v5091, sl.v5097, sl.v5102, sl.v5108, sl.v5114, sl.v5120, sl.v5126, sl.v5132, sl.v5138, sl.v5144, sl.v5149, sl.v5155, sl.v5161, sl.r_271, k0_pay311, sl.v5167, sl.v5173, sl.v5179, sl.v5185, sl.v5191, sl.r_273, k0_pay313, sl.v5196, sl.v5202, sl.v5208, sl.v5214, sl.v5220, sl.r_275, k0_pay315, sl.v5226, sl.v5232, tapLd, mul_at, add_at, spread_at, drop_at, shapeCast_self, tap_at, off_at, win_at, shift28_at, Nat.add_assoc, Nat.reduceAdd]

theorem piece3_3 (r : Fin 32) (l : Fin 128) :
    @Eq EReal ((k0_pay325 (sl.r_283 c i arg3 harg3 arg4 harg4 arg5 harg5 arg13 harg13 arg14 harg14 arg23 arg24 x2 x3 x4 x12 x13) (sl.r_284 c i arg3 harg3 arg4 harg4 arg5 harg5 arg23 arg24 x2 x3 x4) (sl.r_285 c arg13 harg13 x12) (sl.v5415 c i arg3 harg3 arg4 harg4 arg5 harg5 arg23 arg24 x2 x3 x4) (tapLd arg13 harg13 x12 29 384 inb_S31x1024_S1x128_29_384) (sl.v5421 c i arg3 harg3 arg4 harg4 arg5 harg5 arg23 arg24 x2 x3 x4) (tapLd arg13 harg13 x12 30 384 inb_S31x1024_S1x128_30_384) : FVec Ideal S32x128 .f32) (ix2 r l))
      (convN i x2 x3 x4 x12 x13 (r + 96) (l + 384)) := by
  refine Eq.trans ?_ (chain (offN x13 (l + 384)) (fun t => tapN x12 t (l + 384) * win i x2 x3 x4 (r + 96 + (t + 1)) (l + 384)))
  simp only [k0_pay325, sl.r_283, k0_pay323, sl.r_281, k0_pay322, sl.r_279, k0_pay320, sl.r_278, k0_pay319, sl.r_277, k0_pay318, sl.r_276, k0_pay317, sl.v5244, sl.v5250, sl.v5256, sl.v5262, sl.v5268, sl.v5274, sl.v5280, sl.v5286, sl.v5291, sl.v5297, sl.v5303, sl.v5309, sl.v5315, sl.v5321, sl.v5327, sl.v5333, sl.v5338, sl.v5344, sl.r_280, k0_pay321, sl.v5350, sl.v5356, sl.v5362, sl.v5368, sl.v5374, sl.v5380, sl.r_282, sl.v5385, sl.v5391, sl.v5397, sl.v5403, sl.r_284, k0_pay324, sl.v5409, sl.r_285, sl.v5415, sl.v5421, tapLd, mul_at, add_at, spread_at, drop_at, shapeCast_self, tap_at, off_at, win_at, shift28_at, Nat.add_assoc, Nat.reduceAdd]

theorem piece3_4 (r : Fin 32) (l : Fin 128) :
    @Eq EReal ((k0_pay337 (sl.r_295 c i arg3 harg3 arg4 harg4 arg5 harg5 arg13 harg13 arg14 harg14 arg23 arg24 x2 x3 x4 x12 x13) (sl.r_296 c i arg3 harg3 arg4 harg4 arg5 harg5 arg23 arg24 x2 x3 x4) (tapLd arg13 harg13 x12 27 384 inb_S31x1024_S1x128_27_384) (sl.v5598 c i arg3 harg3 arg4 harg4 arg5 harg5 arg23 arg24 x2 x3 x4) (tapLd arg13 harg13 x12 28 384 inb_S31x1024_S1x128_28_384) (sl.v5604 c i arg3 harg3 arg4 harg4 arg5 harg5 arg23 arg24 x2 x3 x4) (tapLd arg13 harg13 x12 29 384 inb_S31x1024_S1x128_29_384) (sl.v5610 c i arg3 harg3 arg4 harg4 arg5 harg5 arg23 arg24 x2 x3 x4) (tapLd arg13 harg13 x12 30 384 inb_S31x1024_S1x128_30_384) : FVec Ideal S32x128 .f32) (ix2 r l))
      (convN i x2 x3 x4 x12 x13 (r + 128) (l + 384)) := by
  refine Eq.trans ?_ (chain (offN x13 (l + 384)) (fun t => tapN x12 t (l + 384) * win i x2 x3 x4 (r + 128 + (t + 1)) (l + 384)))
  simp only [k0_pay337, sl.r_295, k0_pay335, sl.r_294, k0_pay334, sl.r_293, k0_pay333, sl.r_292, k0_pay332, sl.r_289, k0_pay329, sl.r_286, k0_pay326, sl.v5433, sl.r_287, k0_pay327, sl.v5439, sl.r_288, k0_pay328, sl.v5445, sl.v5451, sl.v5457, sl.v5463, sl.r_290, k0_pay330, sl.v5469, sl.r_291, k0_pay331, sl.v5475, sl.v5480, sl.v5486, sl.v5492, sl.v5498, sl.v5504, sl.v5510, sl.v5516, sl.v5522, sl.v5527, sl.v5533, sl.v5539, sl.v5545, sl.v5551, sl.v5557, sl.v5563, sl.v5569, sl.v5574, sl.v5580, sl.v5586, sl.r_296, k0_pay336, sl.v5592, sl.v5598, sl.v5604, sl.v5610, tapLd, mul_at, add_at, spread_at, drop_at, shapeCast_self, tap_at, off_at, win_at, shift28_at, Nat.add_assoc, Nat.reduceAdd]

theorem piece3_5 (r : Fin 32) (l : Fin 128) :
    @Eq EReal ((sl.r_306 c i arg3 harg3 arg4 harg4 arg5 harg5 arg13 harg13 arg14 harg14 arg23 arg24 x2 x3 x4 x12 x13 : FVec Ideal S32x128 .f32) (ix2 r l))
      (convN i x2 x3 x4 x12 x13 (r + 160) (l + 384)) := by
  refine Eq.trans ?_ (chain (offN x13 (l + 384)) (fun t => tapN x12 t (l + 384) * win i x2 x3 x4 (r + 160 + (t + 1)) (l + 384)))
  simp only [sl.r_306, k0_pay347, sl.r_305, k0_pay346, sl.r_304, k0_pay345, sl.r_303, k0_pay344, sl.r_301, k0_pay342, sl.r_299, k0_pay340, sl.r_297, k0_pay338, sl.r_298, k0_pay339, sl.v5622, sl.v5628, sl.v5634, sl.v5640, sl.v5646, sl.r_300, k0_pay341, sl.v5652, sl.v5658, sl.v5664, sl.v5669, sl.v5675, sl.r_302, k0_pay343, sl.v5681, sl.v5687, sl.v5693, sl.v5699, sl.v5705, sl.v5711, sl.v5716, sl.v5722, sl.v5728, sl.v5734, sl.v5740, sl.v5746, sl.v5752, sl.v5758, sl.v5763, sl.v5769, sl.v5775, sl.v5781, sl.v5787, sl.v5793, sl.v5799, tapLd, mul_at, add_at, spread_at, drop_at, shapeCast_self, tap_at, off_at, win_at, shift28_at, Nat.add_assoc, Nat.reduceAdd]

theorem piece3_6 (r : Fin 32) (l : Fin 128) :
    @Eq EReal ((k0_pay357 (sl.r_317 c i arg3 harg3 arg4 harg4 arg5 harg5 arg13 harg13 arg14 harg14 arg23 arg24 x2 x3 x4 x12 x13) (sl.v5988 c i arg3 harg3 arg4 harg4 arg5 harg5 arg23 arg24 x2 x3 x4) (tapLd arg13 harg13 x12 30 384 inb_S31x1024_S1x128_30_384) : FVec Ideal S32x128 .f32) (ix2 r l))
      (convN i x2 x3 x4 x12 x13 (r + 192) (l + 384)) := by
  refine Eq.trans ?_ (chain (offN x13 (l + 384)) (fun t => tapN x12 t (l + 384) * win i x2 x3 x4 (r + 192 + (t + 1)) (l + 384)))
  simp only [k0_pay357, sl.r_317, k0_pay356, sl.r_316, k0_pay355, sl.r_315, k0_pay354, sl.r_312, k0_pay352, sl.r_309, k0_pay350, sl.r_307, k0_pay348, sl.v5811, sl.v5817, sl.v5823, sl.v5829, sl.r_308, k0_pay349, sl.v5835, sl.v5841, sl.v5847, sl.v5853, sl.v5858, sl.r_310, k0_pay351, sl.v5864, sl.r_311, sl.v5870, sl.v5876, sl.v5882, sl.v5888, sl.r_313, k0_pay353, sl.v5894, sl.r_314, sl.v5900, sl.v5905, sl.v5911, sl.v5917, sl.v5923, sl.v5929, sl.v5935, sl.v5941, sl.v5947, sl.v5952, sl.v5958, sl.v5964, sl.v5970, sl.v5976, sl.v5982, sl.v5988, tapLd, mul_at, add_at, spread_at, drop_at, shapeCast_self, tap_at, off_at, win_at, shift28_at, Nat.add_assoc, Nat.reduceAdd]

theorem piece3_7 (r : Fin 32) (l : Fin 128) :
    @Eq EReal ((k0_pay368 (sl.r_327 c i arg3 harg3 arg4 harg4 arg5 harg5 arg13 harg13 arg14 harg14 arg23 arg24 x2 x3 x4 x12 x13) (sl.v6171 c i arg3 harg3 arg4 harg4 arg5 harg5 arg23 arg24 x2 x3 x4) (tapLd arg13 harg13 x12 29 384 inb_S31x1024_S1x128_29_384) (sl.v6177 c i arg3 harg3 arg4 harg4 arg5 harg5 arg23 arg24 x2 x3 x4) (tapLd arg13 harg13 x12 30 384 inb_S31x1024_S1x128_30_384) : FVec Ideal S32x128 .f32) (ix2 r l))
      (convN i x2 x3 x4 x12 x13 (r + 224) (l + 384)) := by
  refine Eq.trans ?_ (chain (offN x13 (l + 384)) (fun t => tapN x12 t (l + 384) * win i x2 x3 x4 (r + 224 + (t + 1)) (l + 384)))
  simp only [k0_pay368, sl.r_327, k0_pay367, sl.r_326, k0_pay366, sl.r_323, k0_pay363, sl.r_321, k0_pay361, sl.r_319, k0_pay359, sl.r_318, k0_pay358, sl.v6000, sl.v6006, sl.v6012, sl.v6018, sl.v6024, sl.v6030, sl.v6036, sl.v6042, sl.r_320, k0_pay360, sl.v6047, sl.v6053, sl.v6059, sl.v6065, sl.v6071, sl.r_322, k0_pay362, sl.v6077, sl.v6083, sl.v6089, sl.v6094, sl.v6100, sl.r_324, k0_pay364, sl.v6106, sl.r_325, k0_pay365, sl.v6112, sl.v6118, sl.v6124, sl.v6130, sl.v6136, sl.v6141, sl.v6147, sl.v6153, sl.v6159, sl.v6165, sl.v6171, sl.v6177, tapLd, mul_at, add_at, spread_at, drop_at, shapeCast_self, tap_at, off_at, win_at, shift28_at, Nat.add_assoc, Nat.reduceAdd]

end

end Cert.Kernel3Ideal.Merge
-- ==== Proof.Merge.Conv4.lean ====
/-
  Blocks of 32 rows of 128 columns of the convolution: each is the offset plus the sum of the 31 taps times the window's rows.
-/
module

public import proofs.«01_k».proof.Proof.Gen.Kernel3Ideal.Frame
public import proofs.«01_k».proof.Proof.Merge.Shift
public import Idealize.ShloMosaic.Lib.WholeRead
public import Idealize.ShloMosaic.Lib.Pipeline.Value
public import Idealize.ShloMosaic.Lib.Pipeline.ValueKit
public import Idealize.ShloMosaic.Lib.Pipeline.CanonAppend
public import proofs.«01_k».proof.Proof.Inproj.Block
import all proofs.«01_k».proof.Proof.Gen.Kernel3Ideal.Frame.RunA

@[expose] public section

set_option maxRecDepth 16384

noncomputable section

namespace Cert.Kernel3Ideal.Merge

open Cert.Kernel3Ideal.Gen.kernelRun0_A
open Cert.Kernel3Ideal Cert.Kernel3Ideal.Gen Cert.Inproj Cert.Merge
open Idealize.ShloMosaic hiding ix2 ix3 ix4
open Idealize.ShloMosaic.ValueIdx Idealize.ShloMosaic.TcCoe Idealize.SL.Sem
open Cert.Kernel2Ideal.Inproj (ld ld2 ld_whole2 zero2)

section
variable (c : Dev nD) (i : grid0.Coords) (arg3 : Memref sig .tc .vmem S16x1024 .bf16) (harg3 : arg3.IsWhole)
  (arg4 : Memref sig .tc .vmem S256x1024 .bf16) (harg4 : arg4.IsWhole) (arg5 : Memref sig .tc .vmem S16x1024 .bf16) (harg5 : arg5.IsWhole)
  (arg13 : Memref sig .tc .vmem S31x1024 .f32) (harg13 : arg13.IsWhole) (arg14 : Memref sig .tc .vmem S1x1024 .f32) (harg14 : arg14.IsWhole)
  (arg23 : Memref sig .tc .vmem S288x1024 .f32) (arg24 : Memref sig .tc .vmem S2x7x280x128 .f32) (arg25 : Memref sig .tc .vmem S256x1024 .f32)
  (x2 : Vec Ideal S16x1024 .bf16) (x3 : Vec Ideal S256x1024 .bf16) (x4 : Vec Ideal S16x1024 .bf16)
  (x12 : Vec Ideal S31x1024 .f32) (x13 : Vec Ideal S1x1024 .f32)

theorem piece4_0 (r : Fin 32) (l : Fin 128) :
    @Eq EReal ((k0_pay385 (sl.r_335 c i arg3 harg3 arg4 harg4 arg5 harg5 arg13 harg13 arg14 harg14 arg23 arg24 x2 x3 x4 x12 x13) (sl.r_336 c i arg3 harg3 arg4 harg4 arg5 harg5 arg23 arg24 x2 x3 x4) (tapLd arg13 harg13 x12 26 512 inb_S31x1024_S1x128_26_512) (sl.v6376 c i arg3 harg3 arg4 harg4 arg5 harg5 arg23 arg24 x2 x3 x4) (tapLd arg13 harg13 x12 27 512 inb_S31x1024_S1x128_27_512) (sl.v6382 c i arg3 harg3 arg4 harg4 arg5 harg5 arg23 arg24 x2 x3 x4) (tapLd arg13 harg13 x12 28 512 inb_S31x1024_S1x128_28_512) (sl.v6388 c i arg3 harg3 arg4 harg4 arg5 harg5 arg23 arg24 x2 x3 x4) (tapLd arg13 harg13 x12 29 512 inb_S31x1024_S1x128_29_512) (sl.v6394 c i arg3 harg3 arg4 harg4 arg5 harg5 arg23 arg24 x2 x3 x4) (tapLd arg13 harg13 x12 30 512 inb_S31x1024_S1x128_30_512) : FVec Ideal S32x128 .f32) (ix2 r l))
      (convN i x2 x3 x4 x12 x13 (r + 0) (l + 512)) := by
  refine Eq.trans ?_ (chain (offN x13 (l + 512)) (fun t => tapN x12 t (l + 512) * win i x2 x3 x4 (r + 0 + (t + 1)) (l + 512)))
  simp only [k0_pay385, sl.r_335, k0_pay383, sl.r_334, k0_pay382, sl.r_333, k0_pay381, sl.r_332, k0_pay380, sl.r_329, k0_pay378, sl.v6216, sl.v6215, sl.v6218, sl.v6217, sl.r_328, sl.v6223, sl.v6229, sl.v6235, sl.v6241, sl.r_330, k0_pay379, sl.v6247, sl.r_331, sl.v6253, sl.v6259, sl.v6264, sl.v6270, sl.v6276, sl.v6282, sl.v6288, sl.v6294, sl.v6300, sl.v6306, sl.v6311, sl.v6317, sl.v6323, sl.v6329, sl.v6335, sl.v6341, sl.v6347, sl.v6353, sl.v6358, sl.v6364, sl.r_336, k0_pay384, sl.v6370, sl.v6376, sl.v6382, sl.v6388, sl.v6394, tapLd, mul_at, add_at, spread_at, drop_at, shapeCast_self, tap_at, off_at, win_at, shift35_at, Nat.add_assoc, Nat.reduceAdd]

theorem piece4_1 (r : Fin 32) (l : Fin 128) :
    @Eq EReal ((k0_pay397 (sl.r_347 c i arg3 harg3 arg4 harg4 arg5 harg5 arg13 harg13 arg14 harg14 arg23 arg24 x2 x3 x4 x12 x13) (sl.v6583 c i arg3 harg3 arg4 harg4 arg5 harg5 arg23 arg24 x2 x3 x4) (tapLd arg13 harg13 x12 30 512 inb_S31x1024_S1x128_30_512) : FVec Ideal S32x128 .f32) (ix2 r l))
      (convN i x2 x3 x4 x12 x13 (r + 32) (l + 512)) := by
  refine Eq.trans ?_ (chain (offN x13 (l + 512)) (fun t => tapN x12 t (l + 512) * win i x2 x3 x4 (r + 32 + (t + 1)) (l + 512)))
  simp only [k0_pay397, sl.r_347, k0_pay396, sl.r_346, k0_pay395, sl.r_345, k0_pay394, sl.r_342, k0_pay391, sl.r_339, k0_pay388, sl.r_337, k0_pay386, sl.v6406, sl.v6412, sl.v6418, sl.v6424, sl.r_338, k0_pay387, sl.v6430, sl.v6436, sl.v6442, sl.v6448, sl.v6453, sl.r_340, k0_pay389, sl.v6459, sl.r_341, k0_pay390, sl.v6465, sl.v6471, sl.v6477, sl.v6483, sl.r_343, k0_pay392, sl.v6489, sl.r_344, k0_pay393, sl.v6495, sl.v6500, sl.v6506, sl.v6512, sl.v6518, sl.v6524, sl.v6530, sl.v6536, sl.v6542, sl.v6547, sl.v6553, sl.v6559, sl.v6565, sl.v6571, sl.v6577, sl.v6583, tapLd, mul_at, add_at, spread_at, drop_at, shapeCast_self, tap_at, off_at, win_at, shift35_at, Nat.add_assoc, Nat.reduceAdd]

theorem piece4_2 (r : Fin 32) (l : Fin 128) :
    @Eq EReal ((k0_pay407 (sl.r_356 c i arg3 harg3 arg4 harg4 arg5 harg5 arg13 harg13 arg14 harg14 arg23 arg24 x2 x3 x4 x12 x13) (sl.v6766 c i arg3 harg3 arg4 harg4 arg5 harg5 arg23 arg24 x2 x3 x4) (tapLd arg13 harg13 x12 29 512 inb_S31x1024_S1x128_29_512) (sl.v6772 c i arg3 harg3 arg4 harg4 arg5 harg5 arg23 arg24 x2 x3 x4) (tapLd arg13 harg13 x12 30 512 inb_S31x1024_S1x128_30_512) : FVec Ideal S32x128 .f32) (ix2 r l))
      (convN i x2 x3 x4 x12 x13 (r + 64) (l + 512)) := by
  refine Eq.trans ?_ (chain (offN x13 (l + 512)) (fun t => tapN x12 t (l + 512) * win i x2 x3 x4 (r + 64 + (t + 1)) (l + 512)))
  simp only [k0_pay407, sl.r_356, k0_pay406, sl.r_355, k0_pay405, sl.r_353, k0_pay403, sl.r_351, k0_pay401, sl.r_349, k0_pay399, sl.r_348, k0_pay398, sl.v6595, sl.v6601, sl.v6607, sl.v6613, sl.v6619, sl.v6625, sl.v6631, sl.v6637, sl.r_350, k0_pay400, sl.v6642, sl.v6648, sl.v6654, sl.v6660, sl.v6666, sl.r_352, k0_pay402, sl.v6672, sl.v6678, sl.v6684, sl.v6689, sl.v6695, sl.r_354, k0_pay404, sl.v6701, sl.v6707, sl.v6713, sl.v6719, sl.v6725, sl.v6731, sl.v6736, sl.v6742, sl.v6748, sl.v6754, sl.v6760, sl.v6766, sl.v6772, tapLd, mul_at, add_at, spread_at, drop_at, shapeCast_self, tap_at, off_at, win_at, shift35_at, Nat.add_assoc, Nat.reduceAdd]

theorem piece4_3 (r : Fin 32) (l : Fin 128) :
    @Eq EReal ((k0_pay417 (sl.r_367 c i arg3 harg3 arg4 harg4 arg5 harg5 arg13 harg13 arg14 harg14 arg23 arg24 x2 x3 x4 x12 x13) (sl.v6949 c i arg3 harg3 arg4 harg4 arg5 harg5 arg23 arg24 x2 x3 x4) (tapLd arg13 harg13 x12 28 512 inb_S31x1024_S1x128_28_512) (sl.v6955 c i arg3 harg3 arg4 harg4 arg5 harg5 arg23 arg24 x2 x3 x4) (tapLd arg13 harg13 x12 29 512 inb_S31x1024_S1x128_29_512) (sl.v6961 c i arg3 harg3 arg4 harg4 arg5 harg5 arg23 arg24 x2 x3 x4) (tapLd arg13 harg13 x12 30 512 inb_S31x1024_S1x128_30_512) : FVec Ideal S32x128 .f32) (ix2 r l))
      (convN i x2 x3 x4 x12 x13 (r + 96) (l + 512)) := by
  refine Eq.trans ?_ (chain (offN x13 (l + 512)) (fun t => tapN x12 t (l + 512) * win i x2 x3 x4 (r + 96 + (t + 1)) (l + 512)))
  simp only [k0_pay417, sl.r_367, k0_pay416, sl.r_364, k0_pay414, sl.r_361, k0_pay412, sl.r_359, k0_pay410, sl.r_358, k0_pay409, sl.r_357, k0_pay408, sl.v6784, sl.v6790, sl.v6796, sl.v6802, sl.v6808, sl.v6814, sl.v6820, sl.v6826, sl.v6831, sl.v6837, sl.v6843, sl.v6849, sl.r_360, k0_pay411, sl.v6855, sl.v6861, sl.v6867, sl.v6873, sl.v6878, sl.r_362, k0_pay413, sl.v6884, sl.r_363, sl.v6890, sl.v6896, sl.v6902, sl.v6908, sl.r_365, k0_pay415, sl.v6914, sl.r_366, sl.v6920, sl.v6925, sl.v6931, sl.v6937, sl.v6943, sl.v6949, sl.v6955, sl.v6961, tapLd, mul_at, add_at, spread_at, drop_at, shapeCast_self, tap_at, off_at, win_at, shift35_at, Nat.add_assoc, Nat.reduceAdd]

theorem piece4_4 (r : Fin 32) (l : Fin 128) :
    @Eq EReal ((k0_pay428 (sl.r_375 c i arg3 harg3 arg4 harg4 arg5 harg5 arg13 harg13 arg14 harg14 arg23 arg24 x2 x3 x4 x12 x13) (sl.r_376 c i arg3 harg3 arg4 harg4 arg5 harg5 arg23 arg24 x2 x3 x4) (sl.r_377 c arg13 harg13 x12) (sl.v7132 c i arg3 harg3 arg4 harg4 arg5 harg5 arg23 arg24 x2 x3 x4) (tapLd arg13 harg13 x12 27 512 inb_S31x1024_S1x128_27_512) (sl.v7138 c i arg3 harg3 arg4 harg4 arg5 harg5 arg23 arg24 x2 x3 x4) (tapLd arg13 harg13 x12 28 512 inb_S31x1024_S1x128_28_512) (sl.v7144 c i arg3 harg3 arg4 harg4 arg5 harg5 arg23 arg24 x2 x3 x4) (tapLd arg13 harg13 x12 29 512 inb_S31x1024_S1x128_29_512) (sl.v7150 c i arg3 harg3 arg4 harg4 arg5 harg5 arg23 arg24 x2 x3 x4) (tapLd arg13 harg13 x12 30 512 inb_S31x1024_S1x128_30_512) : FVec Ideal S32x128 .f32) (ix2 r l))
      (convN i x2 x3 x4 x12 x13 (r + 128) (l + 512)) := by
  refine Eq.trans ?_ (chain (offN x13 (l + 512)) (fun t => tapN x12 t (l + 512) * win i x2 x3 x4 (r + 128 + (t + 1)) (l + 512)))
  simp only [k0_pay428, sl.r_375, k0_pay425, sl.r_373, k0_pay423, sl.r_371, k0_pay421, sl.r_370, k0_pay420, sl.r_369, k0_pay419, sl.r_368, k0_pay418, sl.v6973, sl.v6979, sl.v6985, sl.v6991, sl.v6997, sl.v7003, sl.v7009, sl.v7015, sl.v7020, sl.v7026, sl.v7032, sl.v7038, sl.v7044, sl.v7050, sl.v7056, sl.v7062, sl.r_372, k0_pay422, sl.v7067, sl.v7073, sl.v7079, sl.v7085, sl.v7091, sl.r_374, k0_pay424, sl.v7097, sl.v7103, sl.v7109, sl.v7114, sl.v7120, sl.r_376, k0_pay426, sl.v7126, sl.r_377, k0_pay427, sl.v7132, sl.v7138, sl.v7144, sl.v7150, tapLd, mul_at, add_at, spread_at, drop_at, shapeCast_self, tap_at, off_at, win_at, shift35_at, Nat.add_assoc, Nat.reduceAdd]

theorem piece4_5 (r : Fin 32) (l : Fin 128) :
    @Eq EReal ((k0_pay439 (sl.r_386 c i arg3 harg3 arg4 harg4 arg5 harg5 arg13 harg13 arg14 harg14 arg23 arg24 x2 x3 x4 x12 x13) (sl.r_387 c i arg3 harg3 arg4 harg4 arg5 harg5 arg23 arg24 x2 x3 x4) (tapLd arg13 harg13 x12 30 512 inb_S31x1024_S1x128_30_512) : FVec Ideal S32x128 .f32) (ix2 r l))
      (convN i x2 x3 x4 x12 x13 (r + 160) (l + 512)) := by
  refine Eq.trans ?_ (chain (offN x13 (l + 512)) (fun t => tapN x12 t (l + 512) * win i x2 x3 x4 (r + 160 + (t + 1)) (l + 512)))
  simp only [k0_pay439, sl.r_386, k0_pay437, sl.r_384, k0_pay435, sl.r_383, k0_pay434, sl.r_382, k0_pay433, sl.r_381, k0_pay432, sl.r_379, k0_pay430, sl.r_378, k0_pay429, sl.v7162, sl.v7168, sl.v7174, sl.v7180, sl.r_380, k0_pay431, sl.v7186, sl.v7192, sl.v7198, sl.v7204, sl.v7209, sl.v7215, sl.v7221, sl.v7227, sl.v7233, sl.v7239, sl.v7245, sl.v7251, sl.v7256, sl.v7262, sl.v7268, sl.v7274, sl.v7280, sl.v7286, sl.v7292, sl.v7298, sl.v7303, sl.r_385, k0_pay436, sl.v7309, sl.v7315, sl.v7321, sl.v7327, sl.v7333, sl.r_387, k0_pay438, sl.v7339, tapLd, mul_at, add_at, spread_at, drop_at, shapeCast_self, tap_at, off_at, win_at, shift35_at, Nat.add_assoc, Nat.reduceAdd]

theorem piece4_6 (r : Fin 32) (l : Fin 128) :
    @Eq EReal ((k0_pay449 (sl.r_396 c i arg3 harg3 arg4 harg4 arg5 harg5 arg13 harg13 arg14 harg14 arg23 arg24 x2 x3 x4 x12 x13) (sl.r_397 c i arg3 harg3 arg4 harg4 arg5 harg5 arg23 arg24 x2 x3 x4) (tapLd arg13 harg13 x12 29 512 inb_S31x1024_S1x128_29_512) (sl.v7528 c i arg3 harg3 arg4 harg4 arg5 harg5 arg23 arg24 x2 x3 x4) (tapLd arg13 harg13 x12 30 512 inb_S31x1024_S1x128_30_512) : FVec Ideal S32x128 .f32) (ix2 r l))
      (convN i x2 x3 x4 x12 x13 (r + 192) (l + 512)) := by
  refine Eq.trans ?_ (chain (offN x13 (l + 512)) (fun t => tapN x12 t (l + 512) * win i x2 x3 x4 (r + 192 + (t + 1)) (l + 512)))
  simp only [k0_pay449, sl.r_396, k0_pay447, sl.r_394, k0_pay445, sl.r_393, k0_pay444, sl.r_392, k0_pay443, sl.r_391, k0_pay442, sl.r_388, k0_pay440, sl.v7351, sl.v7357, sl.v7363, sl.r_389, k0_pay441, sl.v7369, sl.r_390, sl.v7375, sl.v7381, sl.v7387, sl.v7393, sl.v7398, sl.v7404, sl.v7410, sl.v7416, sl.v7422, sl.v7428, sl.v7434, sl.v7440, sl.v7445, sl.v7451, sl.v7457, sl.v7463, sl.v7469, sl.v7475, sl.v7481, sl.v7487, sl.r_395, k0_pay446, sl.v7492, sl.v7498, sl.v7504, sl.v7510, sl.v7516, sl.r_397, k0_pay448, sl.v7522, sl.v7528, tapLd, mul_at, add_at, spread_at, drop_at, shapeCast_self, tap_at, off_at, win_at, shift35_at, Nat.add_assoc, Nat.reduceAdd]

theorem piece4_7 (r : Fin 32) (l : Fin 128) :
    @Eq EReal ((k0_pay460 (sl.r_407 c i arg3 harg3 arg4 harg4 arg5 harg5 arg13 harg13 arg14 harg14 arg23 arg24 x2 x3 x4 x12 x13) (sl.v7705 c i arg3 harg3 arg4 harg4 arg5 harg5 arg23 arg24 x2 x3 x4) (tapLd arg13 harg13 x12 28 512 inb_S31x1024_S1x128_28_512) (sl.v7711 c i arg3 harg3 arg4 harg4 arg5 harg5 arg23 arg24 x2 x3 x4) (tapLd arg13 harg13 x12 29 512 inb_S31x1024_S1x128_29_512) (sl.v7717 c i arg3 harg3 arg4 harg4 arg5 harg5 arg23 arg24 x2 x3 x4) (tapLd arg13 harg13 x12 30 512 inb_S31x1024_S1x128_30_512) : FVec Ideal S32x128 .f32) (ix2 r l))
      (convN i x2 x3 x4 x12 x13 (r + 224) (l + 512)) := by
  refine Eq.trans ?_ (chain (offN x13 (l + 512)) (fun t => tapN x12 t (l + 512) * win i x2 x3 x4 (r + 224 + (t + 1)) (l + 512)))
  simp only [k0_pay460, sl.r_407, k0_pay459, sl.r_406, k0_pay458, sl.r_405, k0_pay457, sl.r_402, k0_pay454, sl.r_400, k0_pay452, sl.r_398, k0_pay450, sl.v7540, sl.v7546, sl.r_399, k0_pay451, sl.v7552, sl.v7558, sl.v7564, sl.v7570, sl.v7576, sl.v7582, sl.r_401, k0_pay453, sl.v7587, sl.v7593, sl.v7599, sl.v7605, sl.r_403, k0_pay455, sl.v7611, sl.r_404, k0_pay456, sl.v7617, sl.v7623, sl.v7629, sl.v7634, sl.v7640, sl.v7646, sl.v7652, sl.v7658, sl.v7664, sl.v7670, sl.v7676, sl.v7681, sl.v7687, sl.v7693, sl.v7699, sl.v7705, sl.v7711, sl.v7717, tapLd, mul_at, add_at, spread_at, drop_at, shapeCast_self, tap_at, off_at, win_at, shift35_at, Nat.add_assoc, Nat.reduceAdd]

end

end Cert.Kernel3Ideal.Merge
-- ==== Proof.Merge.Conv5.lean ====
/-
  Blocks of 32 rows of 128 columns of the convolution: each is the offset plus the sum of the 31 taps times the window's rows.
-/
module

public import proofs.«01_k».proof.Proof.Gen.Kernel3Ideal.Frame
public import proofs.«01_k».proof.Proof.Merge.Shift
public import Idealize.ShloMosaic.Lib.WholeRead
public import Idealize.ShloMosaic.Lib.Pipeline.Value
public import Idealize.ShloMosaic.Lib.Pipeline.ValueKit
public import Idealize.ShloMosaic.Lib.Pipeline.CanonAppend
public import proofs.«01_k».proof.Proof.Inproj.Block
import all proofs.«01_k».proof.Proof.Gen.Kernel3Ideal.Frame.RunA

@[expose] public section

set_option maxRecDepth 16384

noncomputable section

namespace Cert.Kernel3Ideal.Merge

open Cert.Kernel3Ideal.Gen.kernelRun0_A
open Cert.Kernel3Ideal Cert.Kernel3Ideal.Gen Cert.Inproj Cert.Merge
open Idealize.ShloMosaic hiding ix2 ix3 ix4
open Idealize.ShloMosaic.ValueIdx Idealize.ShloMosaic.TcCoe Idealize.SL.Sem
open Cert.Kernel2Ideal.Inproj (ld ld2 ld_whole2 zero2)

section
variable (c : Dev nD) (i : grid0.Coords) (arg3 : Memref sig .tc .vmem S16x1024 .bf16) (harg3 : arg3.IsWhole)
  (arg4 : Memref sig .tc .vmem S256x1024 .bf16) (harg4 : arg4.IsWhole) (arg5 : Memref sig .tc .vmem S16x1024 .bf16) (harg5 : arg5.IsWhole)
  (arg13 : Memref sig .tc .vmem S31x1024 .f32) (harg13 : arg13.IsWhole) (arg14 : Memref sig .tc .vmem S1x1024 .f32) (harg14 : arg14.IsWhole)
  (arg23 : Memref sig .tc .vmem S288x1024 .f32) (arg24 : Memref sig .tc .vmem S2x7x280x128 .f32) (arg25 : Memref sig .tc .vmem S256x1024 .f32)
  (x2 : Vec Ideal S16x1024 .bf16) (x3 : Vec Ideal S256x1024 .bf16) (x4 : Vec Ideal S16x1024 .bf16)
  (x12 : Vec Ideal S31x1024 .f32) (x13 : Vec Ideal S1x1024 .f32)

theorem piece5_0 (r : Fin 32) (l : Fin 128) :
    @Eq EReal ((k0_pay478 (sl.r_416 c i arg3 harg3 arg4 harg4 arg5 harg5 arg13 harg13 arg14 harg14 arg23 arg24 x2 x3 x4 x12 x13) (sl.r_417 c i arg3 harg3 arg4 harg4 arg5 harg5 arg23 arg24 x2 x3 x4) (sl.r_418 c arg13 harg13 x12) : FVec Ideal S32x128 .f32) (ix2 r l))
      (convN i x2 x3 x4 x12 x13 (r + 0) (l + 640)) := by
  refine Eq.trans ?_ (chain (offN x13 (l + 640)) (fun t => tapN x12 t (l + 640) * win i x2 x3 x4 (r + 0 + (t + 1)) (l + 640)))
  simp only [k0_pay478, sl.r_416, k0_pay476, sl.r_413, k0_pay474, sl.r_411, k0_pay472, sl.r_410, k0_pay471, sl.r_409, k0_pay470, sl.r_408, k0_pay469, sl.v7756, sl.v7755, sl.v7757, sl.v7763, sl.v7769, sl.v7775, sl.v7781, sl.v7787, sl.v7793, sl.v7799, sl.v7804, sl.v7810, sl.v7816, sl.v7822, sl.v7828, sl.v7834, sl.v7840, sl.v7846, sl.v7851, sl.v7857, sl.v7863, sl.v7869, sl.r_412, k0_pay473, sl.v7875, sl.v7881, sl.v7887, sl.v7893, sl.v7898, sl.r_414, k0_pay475, sl.v7904, sl.r_415, sl.v7910, sl.v7916, sl.v7922, sl.v7928, sl.r_417, k0_pay477, sl.v7934, sl.r_418, tapLd, mul_at, add_at, spread_at, drop_at, shapeCast_self, tap_at, off_at, win_at, shift42_at, Nat.add_assoc, Nat.reduceAdd]

theorem piece5_1 (r : Fin 32) (l : Fin 128) :
    @Eq EReal ((k0_pay489 (sl.r_427 c i arg3 harg3 arg4 harg4 arg5 harg5 arg13 harg13 arg14 harg14 arg23 arg24 x2 x3 x4 x12 x13) (sl.r_428 c i arg3 harg3 arg4 harg4 arg5 harg5 arg23 arg24 x2 x3 x4) (tapLd arg13 harg13 x12 29 640 inb_S31x1024_S1x128_29_640) (sl.v8123 c i arg3 harg3 arg4 harg4 arg5 harg5 arg23 arg24 x2 x3 x4) (tapLd arg13 harg13 x12 30 640 inb_S31x1024_S1x128_30_640) : FVec Ideal S32x128 .f32) (ix2 r l))
      (convN i x2 x3 x4 x12 x13 (r + 32) (l + 640)) := by
  refine Eq.trans ?_ (chain (offN x13 (l + 640)) (fun t => tapN x12 t (l + 640) * win i x2 x3 x4 (r + 32 + (t + 1)) (l + 640)))
  simp only [k0_pay489, sl.r_427, k0_pay487, sl.r_425, k0_pay485, sl.r_424, k0_pay484, sl.r_423, k0_pay483, sl.r_422, k0_pay482, sl.r_419, k0_pay479, sl.v7946, sl.v7952, sl.v7958, sl.r_420, k0_pay480, sl.v7964, sl.r_421, k0_pay481, sl.v7970, sl.v7976, sl.v7982, sl.v7988, sl.v7993, sl.v7999, sl.v8005, sl.v8011, sl.v8017, sl.v8023, sl.v8029, sl.v8035, sl.v8040, sl.v8046, sl.v8052, sl.v8058, sl.v8064, sl.v8070, sl.v8076, sl.v8082, sl.r_426, k0_pay486, sl.v8087, sl.v8093, sl.v8099, sl.v8105, sl.v8111, sl.r_428, k0_pay488, sl.v8117, sl.v8123, tapLd, mul_at, add_at, spread_at, drop_at, shapeCast_self, tap_at, off_at, win_at, shift42_at, Nat.add_assoc, Nat.reduceAdd]

theorem piece5_2 (r : Fin 32) (l : Fin 128) :
    @Eq EReal ((k0_pay499 (sl.r_437 c i arg3 harg3 arg4 harg4 arg5 harg5 arg13 harg13 arg14 harg14 arg23 arg24 x2 x3 x4 x12 x13) (sl.v8300 c i arg3 harg3 arg4 harg4 arg5 harg5 arg23 arg24 x2 x3 x4) (tapLd arg13 harg13 x12 28 640 inb_S31x1024_S1x128_28_640) (sl.v8306 c i arg3 harg3 arg4 harg4 arg5 harg5 arg23 arg24 x2 x3 x4) (tapLd arg13 harg13 x12 29 640 inb_S31x1024_S1x128_29_640) (sl.v8312 c i arg3 harg3 arg4 harg4 arg5 harg5 arg23 arg24 x2 x3 x4) (tapLd arg13 harg13 x12 30 640 inb_S31x1024_S1x128_30_640) : FVec Ideal S32x128 .f32) (ix2 r l))
      (convN i x2 x3 x4 x12 x13 (r + 64) (l + 640)) := by
  refine Eq.trans ?_ (chain (offN x13 (l + 640)) (fun t => tapN x12 t (l + 640) * win i x2 x3 x4 (r + 64 + (t + 1)) (l + 640)))
  simp only [k0_pay499, sl.r_437, k0_pay498, sl.r_436, k0_pay497, sl.r_435, k0_pay496, sl.r_433, k0_pay494, sl.r_431, k0_pay492, sl.r_429, k0_pay490, sl.v8135, sl.v8141, sl.r_430, k0_pay491, sl.v8147, sl.v8153, sl.v8159, sl.v8165, sl.v8171, sl.r_432, k0_pay493, sl.v8177, sl.v8182, sl.v8188, sl.v8194, sl.v8200, sl.r_434, k0_pay495, sl.v8206, sl.v8212, sl.v8218, sl.v8224, sl.v8229, sl.v8235, sl.v8241, sl.v8247, sl.v8253, sl.v8259, sl.v8265, sl.v8271, sl.v8276, sl.v8282, sl.v8288, sl.v8294, sl.v8300, sl.v8306, sl.v8312, tapLd, mul_at, add_at, spread_at, drop_at, shapeCast_self, tap_at, off_at, win_at, shift42_at, Nat.add_assoc, Nat.reduceAdd]

theorem piece5_3 (r : Fin 32) (l : Fin 128) :
    @Eq EReal ((k0_pay509 (sl.r_447 c i arg3 harg3 arg4 harg4 arg5 harg5 arg13 harg13 arg14 harg14 arg23 arg24 x2 x3 x4 x12 x13) (sl.v8483 c i arg3 harg3 arg4 harg4 arg5 harg5 arg23 arg24 x2 x3 x4) (tapLd arg13 harg13 x12 27 640 inb_S31x1024_S1x128_27_640) (sl.v8489 c i arg3 harg3 arg4 harg4 arg5 harg5 arg23 arg24 x2 x3 x4) (tapLd arg13 harg13 x12 28 640 inb_S31x1024_S1x128_28_640) (sl.v8495 c i arg3 harg3 arg4 harg4 arg5 harg5 arg23 arg24 x2 x3 x4) (tapLd arg13 harg13 x12 29 640 inb_S31x1024_S1x128_29_640) (sl.v8501 c i arg3 harg3 arg4 harg4 arg5 harg5 arg23 arg24 x2 x3 x4) (tapLd arg13 harg13 x12 30 640 inb_S31x1024_S1x128_30_640) : FVec Ideal S32x128 .f32) (ix2 r l))
      (convN i x2 x3 x4 x12 x13 (r + 96) (l + 640)) := by
  refine Eq.trans ?_ (chain (offN x13 (l + 640)) (fun t => tapN x12 t (l + 640) * win i x2 x3 x4 (r + 96 + (t + 1)) (l + 640)))
  simp only [k0_pay509, sl.r_447, k0_pay508, sl.r_446, k0_pay507, sl.r_445, k0_pay506, sl.r_442, k0_pay504, sl.r_440, k0_pay502, sl.r_438, k0_pay500, sl.v8324, sl.r_439, k0_pay501, sl.v8330, sl.v8336, sl.v8342, sl.v8348, sl.v8354, sl.r_441, k0_pay503, sl.v8360, sl.v8366, sl.v8371, sl.v8377, sl.v8383, sl.r_443, k0_pay505, sl.v8389, sl.r_444, sl.v8395, sl.v8401, sl.v8407, sl.v8413, sl.v8418, sl.v8424, sl.v8430, sl.v8436, sl.v8442, sl.v8448, sl.v8454, sl.v8460, sl.v8465, sl.v8471, sl.v8477, sl.v8483, sl.v8489, sl.v8495, sl.v8501, tapLd, mul_at, add_at, spread_at, drop_at, shapeCast_self, tap_at, off_at, win_at, shift42_at, Nat.add_assoc, Nat.reduceAdd]

theorem piece5_4 (r : Fin 32) (l : Fin 128) :
    @Eq EReal ((k0_pay521 (sl.r_458 c i arg3 harg3 arg4 harg4 arg5 harg5 arg13 harg13 arg14 harg14 arg23 arg24 x2 x3 x4 x12 x13) : FVec Ideal S32x128 .f32) (ix2 r l))
      (convN i x2 x3 x4 x12 x13 (r + 128) (l + 640)) := by
  refine Eq.trans ?_ (chain (offN x13 (l + 640)) (fun t => tapN x12 t (l + 640) * win i x2 x3 x4 (r + 128 + (t + 1)) (l + 640)))
  simp only [k0_pay521, sl.r_458, k0_pay520, sl.r_457, k0_pay519, sl.r_454, k0_pay516, sl.r_452, k0_pay514, sl.r_450, k0_pay512, sl.r_449, k0_pay511, sl.r_448, k0_pay510, sl.v8513, sl.v8519, sl.v8525, sl.v8531, sl.v8537, sl.v8543, sl.v8549, sl.v8555, sl.v8560, sl.v8566, sl.r_451, k0_pay513, sl.v8572, sl.v8578, sl.v8584, sl.v8590, sl.v8596, sl.v8602, sl.r_453, k0_pay515, sl.v8607, sl.v8613, sl.v8619, sl.v8625, sl.r_455, k0_pay517, sl.v8631, sl.r_456, k0_pay518, sl.v8637, sl.v8643, sl.v8649, sl.v8654, sl.v8660, sl.v8666, sl.v8672, sl.v8678, sl.v8684, sl.v8690, tapLd, mul_at, add_at, spread_at, drop_at, shapeCast_self, tap_at, off_at, win_at, shift42_at, Nat.add_assoc, Nat.reduceAdd]

theorem piece5_5 (r : Fin 32) (l : Fin 128) :
    @Eq EReal ((k0_pay531 (sl.r_466 c i arg3 harg3 arg4 harg4 arg5 harg5 arg13 harg13 arg14 harg14 arg23 arg24 x2 x3 x4 x12 x13) (sl.r_467 c i arg3 harg3 arg4 harg4 arg5 harg5 arg13 harg13 arg23 arg24 x2 x3 x4 x12) (sl.v8879 c i arg3 harg3 arg4 harg4 arg5 harg5 arg23 arg24 x2 x3 x4) (tapLd arg13 harg13 x12 30 640 inb_S31x1024_S1x128_30_640) : FVec Ideal S32x128 .f32) (ix2 r l))
      (convN i x2 x3 x4 x12 x13 (r + 160) (l + 640)) := by
  refine Eq.trans ?_ (chain (offN x13 (l + 640)) (fun t => tapN x12 t (l + 640) * win i x2 x3 x4 (r + 160 + (t + 1)) (l + 640)))
  simp only [k0_pay531, sl.r_466, k0_pay529, sl.r_464, k0_pay527, sl.r_462, k0_pay525, sl.r_461, k0_pay524, sl.r_460, k0_pay523, sl.r_459, k0_pay522, sl.v8702, sl.v8708, sl.v8714, sl.v8720, sl.v8726, sl.v8732, sl.v8738, sl.v8744, sl.v8749, sl.v8755, sl.v8761, sl.v8767, sl.v8773, sl.v8779, sl.v8785, sl.v8791, sl.v8796, sl.v8802, sl.v8808, sl.r_463, k0_pay526, sl.v8814, sl.v8820, sl.v8826, sl.v8832, sl.v8838, sl.r_465, k0_pay528, sl.v8843, sl.v8849, sl.v8855, sl.v8861, sl.v8867, sl.r_467, k0_pay530, sl.v8873, sl.v8879, tapLd, mul_at, add_at, spread_at, drop_at, shapeCast_self, tap_at, off_at, win_at, shift42_at, Nat.add_assoc, Nat.reduceAdd]

theorem piece5_6 (r : Fin 32) (l : Fin 128) :
    @Eq EReal ((k0_pay540 (sl.r_475 c i arg3 harg3 arg4 harg4 arg5 harg5 arg13 harg13 arg14 harg14 arg23 arg24 x2 x3 x4 x12 x13) (sl.r_476 c i arg3 harg3 arg4 harg4 arg5 harg5 arg23 arg24 x2 x3 x4) (sl.r_477 c arg13 harg13 x12) (sl.v9062 c i arg3 harg3 arg4 harg4 arg5 harg5 arg23 arg24 x2 x3 x4) (tapLd arg13 harg13 x12 29 640 inb_S31x1024_S1x128_29_640) (sl.v9068 c i arg3 harg3 arg4 harg4 arg5 harg5 arg23 arg24 x2 x3 x4) (tapLd arg13 harg13 x12 30 640 inb_S31x1024_S1x128_30_640) : FVec Ideal S32x128 .f32) (ix2 r l))
      (convN i x2 x3 x4 x12 x13 (r + 192) (l + 640)) := by
  refine Eq.trans ?_ (chain (offN x13 (l + 640)) (fun t => tapN x12 t (l + 640) * win i x2 x3 x4 (r + 192 + (t + 1)) (l + 640)))
  simp only [k0_pay540, sl.r_475, k0_pay538, sl.r_473, k0_pay537, sl.r_471, k0_pay535, sl.r_470, k0_pay534, sl.r_469, k0_pay533, sl.r_468, k0_pay532, sl.v8891, sl.v8897, sl.v8903, sl.v8909, sl.v8915, sl.v8921, sl.v8927, sl.v8933, sl.v8938, sl.v8944, sl.v8950, sl.v8956, sl.v8962, sl.v8968, sl.v8974, sl.v8980, sl.v8985, sl.v8991, sl.r_472, k0_pay536, sl.v8997, sl.v9003, sl.v9009, sl.v9015, sl.v9021, sl.v9027, sl.r_474, sl.v9032, sl.v9038, sl.v9044, sl.v9050, sl.r_476, k0_pay539, sl.v9056, sl.r_477, sl.v9062, sl.v9068, tapLd, mul_at, add_at, spread_at, drop_at, shapeCast_self, tap_at, off_at, win_at, shift42_at, Nat.add_assoc, Nat.reduceAdd]

theorem piece5_7 (r : Fin 32) (l : Fin 128) :
    @Eq EReal ((k0_pay552 (sl.r_487 c i arg3 harg3 arg4 harg4 arg5 harg5 arg13 harg13 arg14 harg14 arg23 arg24 x2 x3 x4 x12 x13) (sl.r_488 c i arg3 harg3 arg4 harg4 arg5 harg5 arg23 arg24 x2 x3 x4) (tapLd arg13 harg13 x12 27 640 inb_S31x1024_S1x128_27_640) (sl.v9245 c i arg3 harg3 arg4 harg4 arg5 harg5 arg23 arg24 x2 x3 x4) (tapLd arg13 harg13 x12 28 640 inb_S31x1024_S1x128_28_640) (sl.v9251 c i arg3 harg3 arg4 harg4 arg5 harg5 arg23 arg24 x2 x3 x4) (tapLd arg13 harg13 x12 29 640 inb_S31x1024_S1x128_29_640) (sl.v9257 c i arg3 harg3 arg4 harg4 arg5 harg5 arg23 arg24 x2 x3 x4) (tapLd arg13 harg13 x12 30 640 inb_S31x1024_S1x128_30_640) : FVec Ideal S32x128 .f32) (ix2 r l))
      (convN i x2 x3 x4 x12 x13 (r + 224) (l + 640)) := by
  refine Eq.trans ?_ (chain (offN x13 (l + 640)) (fun t => tapN x12 t (l + 640) * win i x2 x3 x4 (r + 224 + (t + 1)) (l + 640)))
  simp only [k0_pay552, sl.r_487, k0_pay550, sl.r_486, k0_pay549, sl.r_485, k0_pay548, sl.r_484, k0_pay547, sl.r_481, k0_pay544, sl.r_478, k0_pay541, sl.v9080, sl.r_479, k0_pay542, sl.v9086, sl.r_480, k0_pay543, sl.v9092, sl.v9098, sl.v9104, sl.v9110, sl.r_482, k0_pay545, sl.v9116, sl.r_483, k0_pay546, sl.v9122, sl.v9127, sl.v9133, sl.v9139, sl.v9145, sl.v9151, sl.v9157, sl.v9163, sl.v9169, sl.v9174, sl.v9180, sl.v9186, sl.v9192, sl.v9198, sl.v9204, sl.v9210, sl.v9216, sl.v9221, sl.v9227, sl.v9233, sl.r_488, k0_pay551, sl.v9239, sl.v9245, sl.v9251, sl.v9257, tapLd, mul_at, add_at, spread_at, drop_at, shapeCast_self, tap_at, off_at, win_at, shift42_at, Nat.add_assoc, Nat.reduceAdd]

end

end Cert.Kernel3Ideal.Merge
-- ==== Proof.Merge.Conv6.lean ====
/-
  Blocks of 32 rows of 128 columns of the convolution: each is the offset plus the sum of the 31 taps times the window's rows.
-/
module

public import proofs.«01_k».proof.Proof.Gen.Kernel3Ideal.Frame
public import proofs.«01_k».proof.Proof.Merge.Shift
public import Idealize.ShloMosaic.Lib.WholeRead
public import Idealize.ShloMosaic.Lib.Pipeline.Value
public import Idealize.ShloMosaic.Lib.Pipeline.ValueKit
public import Idealize.ShloMosaic.Lib.Pipeline.CanonAppend
public import proofs.«01_k».proof.Proof.Inproj.Block
import all proofs.«01_k».proof.Proof.Gen.Kernel3Ideal.Frame.RunA

@[expose] public section

set_option maxRecDepth 16384

noncomputable section

namespace Cert.Kernel3Ideal.Merge

open Cert.Kernel3Ideal.Gen.kernelRun0_A
open Cert.Kernel3Ideal Cert.Kernel3Ideal.Gen Cert.Inproj Cert.Merge
open Idealize.ShloMosaic hiding ix2 ix3 ix4
open Idealize.ShloMosaic.ValueIdx Idealize.ShloMosaic.TcCoe Idealize.SL.Sem
open Cert.Kernel2Ideal.Inproj (ld ld2 ld_whole2 zero2)

section
variable (c : Dev nD) (i : grid0.Coords) (arg3 : Memref sig .tc .vmem S16x1024 .bf16) (harg3 : arg3.IsWhole)
  (arg4 : Memref sig .tc .vmem S256x1024 .bf16) (harg4 : arg4.IsWhole) (arg5 : Memref sig .tc .vmem S16x1024 .bf16) (harg5 : arg5.IsWhole)
  (arg13 : Memref sig .tc .vmem S31x1024 .f32) (harg13 : arg13.IsWhole) (arg14 : Memref sig .tc .vmem S1x1024 .f32) (harg14 : arg14.IsWhole)
  (arg23 : Memref sig .tc .vmem S288x1024 .f32) (arg24 : Memref sig .tc .vmem S2x7x280x128 .f32) (arg25 : Memref sig .tc .vmem S256x1024 .f32)
  (x2 : Vec Ideal S16x1024 .bf16) (x3 : Vec Ideal S256x1024 .bf16) (x4 : Vec Ideal S16x1024 .bf16)
  (x12 : Vec Ideal S31x1024 .f32) (x13 : Vec Ideal S1x1024 .f32)

theorem piece6_0 (r : Fin 32) (l : Fin 128) :
    @Eq EReal ((k0_pay569 (sl.r_498 c i arg3 harg3 arg4 harg4 arg5 harg5 arg13 harg13 arg14 harg14 arg23 arg24 x2 x3 x4 x12 x13) (sl.v9474 c i arg3 harg3 arg4 harg4 arg5 harg5 arg23 arg24 x2 x3 x4) (tapLd arg13 harg13 x12 30 768 inb_S31x1024_S1x128_30_768) : FVec Ideal S32x128 .f32) (ix2 r l))
      (convN i x2 x3 x4 x12 x13 (r + 0) (l + 768)) := by
  refine Eq.trans ?_ (chain (offN x13 (l + 768)) (fun t => tapN x12 t (l + 768) * win i x2 x3 x4 (r + 0 + (t + 1)) (l + 768)))
  simp only [k0_pay569, sl.r_498, k0_pay568, sl.r_497, k0_pay567, sl.r_494, k0_pay565, sl.r_492, k0_pay563, sl.r_490, k0_pay561, sl.r_489, k0_pay560, sl.v9297, sl.v9303, sl.v9309, sl.v9315, sl.v9321, sl.v9327, sl.v9333, sl.v9339, sl.v9344, sl.r_491, k0_pay562, sl.v9350, sl.v9356, sl.v9362, sl.v9368, sl.v9374, sl.r_493, k0_pay564, sl.v9380, sl.v9386, sl.v9391, sl.v9397, sl.v9403, sl.r_495, k0_pay566, sl.v9409, sl.r_496, sl.v9415, sl.v9421, sl.v9427, sl.v9433, sl.v9438, sl.v9444, sl.v9450, sl.v9456, sl.v9462, sl.v9468, sl.v9474, tapLd, mul_at, add_at, spread_at, drop_at, shapeCast_self, tap_at, off_at, win_at, shift49_at, Nat.add_assoc, Nat.reduceAdd]

theorem piece6_1 (r : Fin 32) (l : Fin 128) :
    @Eq EReal ((k0_pay580 (sl.r_506 c i arg3 harg3 arg4 harg4 arg5 harg5 arg13 harg13 arg14 harg14 arg23 arg24 x2 x3 x4 x12 x13) (sl.r_507 c i arg3 harg3 arg4 harg4 arg5 harg5 arg23 arg24 x2 x3 x4) (sl.r_508 c arg13 harg13 x12) (sl.v9657 c i arg3 harg3 arg4 harg4 arg5 harg5 arg23 arg24 x2 x3 x4) (tapLd arg13 harg13 x12 29 768 inb_S31x1024_S1x128_29_768) (sl.v9663 c i arg3 harg3 arg4 harg4 arg5 harg5 arg23 arg24 x2 x3 x4) (tapLd arg13 harg13 x12 30 768 inb_S31x1024_S1x128_30_768) : FVec Ideal S32x128 .f32) (ix2 r l))
      (convN i x2 x3 x4 x12 x13 (r + 32) (l + 768)) := by
  refine Eq.trans ?_ (chain (offN x13 (l + 768)) (fun t => tapN x12 t (l + 768) * win i x2 x3 x4 (r + 32 + (t + 1)) (l + 768)))
  simp only [k0_pay580, sl.r_506, k0_pay577, sl.r_504, k0_pay575, sl.r_502, k0_pay573, sl.r_501, k0_pay572, sl.r_500, k0_pay571, sl.r_499, k0_pay570, sl.v9486, sl.v9492, sl.v9498, sl.v9504, sl.v9510, sl.v9516, sl.v9522, sl.v9528, sl.v9533, sl.v9539, sl.v9545, sl.v9551, sl.v9557, sl.v9563, sl.v9569, sl.v9575, sl.v9580, sl.v9586, sl.r_503, k0_pay574, sl.v9592, sl.v9598, sl.v9604, sl.v9610, sl.v9616, sl.v9622, sl.r_505, k0_pay576, sl.v9627, sl.v9633, sl.v9639, sl.v9645, sl.r_507, k0_pay578, sl.v9651, sl.r_508, k0_pay579, sl.v9657, sl.v9663, tapLd, mul_at, add_at, spread_at, drop_at, shapeCast_self, tap_at, off_at, win_at, shift49_at, Nat.add_assoc, Nat.reduceAdd]

theorem piece6_2 (r : Fin 32) (l : Fin 128) :
    @Eq EReal ((k0_pay590 (sl.r_516 c i arg3 harg3 arg4 harg4 arg5 harg5 arg13 harg13 arg14 harg14 arg23 arg24 x2 x3 x4 x12 x13) (sl.r_517 c i arg3 harg3 arg4 harg4 arg5 harg5 arg23 arg24 x2 x3 x4) (tapLd arg13 harg13 x12 27 768 inb_S31x1024_S1x128_27_768) (sl.v9840 c i arg3 harg3 arg4 harg4 arg5 harg5 arg23 arg24 x2 x3 x4) (tapLd arg13 harg13 x12 28 768 inb_S31x1024_S1x128_28_768) (sl.v9846 c i arg3 harg3 arg4 harg4 arg5 harg5 arg23 arg24 x2 x3 x4) (tapLd arg13 harg13 x12 29 768 inb_S31x1024_S1x128_29_768) (sl.v9852 c i arg3 harg3 arg4 harg4 arg5 harg5 arg23 arg24 x2 x3 x4) (tapLd arg13 harg13 x12 30 768 inb_S31x1024_S1x128_30_768) : FVec Ideal S32x128 .f32) (ix2 r l))
      (convN i x2 x3 x4 x12 x13 (r + 64) (l + 768)) := by
  refine Eq.trans ?_ (chain (offN x13 (l + 768)) (fun t => tapN x12 t (l + 768) * win i x2 x3 x4 (r + 64 + (t + 1)) (l + 768)))
  simp only [k0_pay590, sl.r_516, k0_pay588, sl.r_515, k0_pay587, sl.r_514, k0_pay586, sl.r_513, k0_pay585, sl.r_511, k0_pay583, sl.r_509, k0_pay581, sl.v9675, sl.r_510, k0_pay582, sl.v9681, sl.v9687, sl.v9693, sl.v9699, sl.v9705, sl.r_512, k0_pay584, sl.v9711, sl.v9717, sl.v9722, sl.v9728, sl.v9734, sl.v9740, sl.v9746, sl.v9752, sl.v9758, sl.v9764, sl.v9769, sl.v9775, sl.v9781, sl.v9787, sl.v9793, sl.v9799, sl.v9805, sl.v9811, sl.v9816, sl.v9822, sl.v9828, sl.r_517, k0_pay589, sl.v9834, sl.v9840, sl.v9846, sl.v9852, tapLd, mul_at, add_at, spread_at, drop_at, shapeCast_self, tap_at, off_at, win_at, shift49_at, Nat.add_assoc, Nat.reduceAdd]

theorem piece6_3 (r : Fin 32) (l : Fin 128) :
    @Eq EReal ((k0_pay600 (sl.r_527 c i arg3 harg3 arg4 harg4 arg5 harg5 arg13 harg13 arg14 harg14 arg23 arg24 x2 x3 x4 x12 x13) (sl.r_528 c i arg3 harg3 arg4 harg4 arg5 harg5 arg23 arg24 x2 x3 x4) (tapLd arg13 harg13 x12 26 768 inb_S31x1024_S1x128_26_768) (sl.v10023 c i arg3 harg3 arg4 harg4 arg5 harg5 arg23 arg24 x2 x3 x4) (tapLd arg13 harg13 x12 27 768 inb_S31x1024_S1x128_27_768) (sl.v10029 c i arg3 harg3 arg4 harg4 arg5 harg5 arg23 arg24 x2 x3 x4) (tapLd arg13 harg13 x12 28 768 inb_S31x1024_S1x128_28_768) (sl.v10035 c i arg3 harg3 arg4 harg4 arg5 harg5 arg23 arg24 x2 x3 x4) (tapLd arg13 harg13 x12 29 768 inb_S31x1024_S1x128_29_768) (sl.v10041 c i arg3 harg3 arg4 harg4 arg5 harg5 arg23 arg24 x2 x3 x4) (tapLd arg13 harg13 x12 30 768 inb_S31x1024_S1x128_30_768) : FVec Ideal S32x128 .f32) (ix2 r l))
      (convN i x2 x3 x4 x12 x13 (r + 96) (l + 768)) := by
  refine Eq.trans ?_ (chain (offN x13 (l + 768)) (fun t => tapN x12 t (l + 768) * win i x2 x3 x4 (r + 96 + (t + 1)) (l + 768)))
  simp only [k0_pay600, sl.r_527, k0_pay598, sl.r_526, k0_pay597, sl.r_525, k0_pay596, sl.r_524, k0_pay595, sl.r_521, k0_pay593, sl.r_518, k0_pay591, sl.r_519, k0_pay592, sl.v9864, sl.r_520, sl.v9870, sl.v9876, sl.v9882, sl.v9888, sl.r_522, k0_pay594, sl.v9894, sl.r_523, sl.v9900, sl.v9906, sl.v9911, sl.v9917, sl.v9923, sl.v9929, sl.v9935, sl.v9941, sl.v9947, sl.v9953, sl.v9958, sl.v9964, sl.v9970, sl.v9976, sl.v9982, sl.v9988, sl.v9994, sl.v10000, sl.v10005, sl.v10011, sl.r_528, k0_pay599, sl.v10017, sl.v10023, sl.v10029, sl.v10035, sl.v10041, tapLd, mul_at, add_at, spread_at, drop_at, shapeCast_self, tap_at, off_at, win_at, shift49_at, Nat.add_assoc, Nat.reduceAdd]

theorem piece6_4 (r : Fin 32) (l : Fin 128) :
    @Eq EReal ((k0_pay612 (sl.r_539 c i arg3 harg3 arg4 harg4 arg5 harg5 arg13 harg13 arg14 harg14 arg23 arg24 x2 x3 x4 x12 x13) (sl.v10230 c i arg3 harg3 arg4 harg4 arg5 harg5 arg23 arg24 x2 x3 x4) (tapLd arg13 harg13 x12 30 768 inb_S31x1024_S1x128_30_768) : FVec Ideal S32x128 .f32) (ix2 r l))
      (convN i x2 x3 x4 x12 x13 (r + 128) (l + 768)) := by
  refine Eq.trans ?_ (chain (offN x13 (l + 768)) (fun t => tapN x12 t (l + 768) * win i x2 x3 x4 (r + 128 + (t + 1)) (l + 768)))
  simp only [k0_pay612, sl.r_539, k0_pay611, sl.r_538, k0_pay610, sl.r_537, k0_pay609, sl.r_534, k0_pay606, sl.r_531, k0_pay603, sl.r_529, k0_pay601, sl.v10053, sl.v10059, sl.v10065, sl.v10071, sl.r_530, k0_pay602, sl.v10077, sl.v10083, sl.v10089, sl.v10095, sl.v10100, sl.r_532, k0_pay604, sl.v10106, sl.r_533, k0_pay605, sl.v10112, sl.v10118, sl.v10124, sl.v10130, sl.r_535, k0_pay607, sl.v10136, sl.r_536, k0_pay608, sl.v10142, sl.v10147, sl.v10153, sl.v10159, sl.v10165, sl.v10171, sl.v10177, sl.v10183, sl.v10189, sl.v10194, sl.v10200, sl.v10206, sl.v10212, sl.v10218, sl.v10224, sl.v10230, tapLd, mul_at, add_at, spread_at, drop_at, shapeCast_self, tap_at, off_at, win_at, shift49_at, Nat.add_assoc, Nat.reduceAdd]

theorem piece6_5 (r : Fin 32) (l : Fin 128) :
    @Eq EReal ((k0_pay622 (sl.r_548 c i arg3 harg3 arg4 harg4 arg5 harg5 arg13 harg13 arg14 harg14 arg23 arg24 x2 x3 x4 x12 x13) (sl.v10413 c i arg3 harg3 arg4 harg4 arg5 harg5 arg23 arg24 x2 x3 x4) (tapLd arg13 harg13 x12 29 768 inb_S31x1024_S1x128_29_768) (sl.v10419 c i arg3 harg3 arg4 harg4 arg5 harg5 arg23 arg24 x2 x3 x4) (tapLd arg13 harg13 x12 30 768 inb_S31x1024_S1x128_30_768) : FVec Ideal S32x128 .f32) (ix2 r l))
      (convN i x2 x3 x4 x12 x13 (r + 160) (l + 768)) := by
  refine Eq.trans ?_ (chain (offN x13 (l + 768)) (fun t => tapN x12 t (l + 768) * win i x2 x3 x4 (r + 160 + (t + 1)) (l + 768)))
  simp only [k0_pay622, sl.r_548, k0_pay621, sl.r_547, k0_pay620, sl.r_545, k0_pay618, sl.r_543, k0_pay616, sl.r_541, k0_pay614, sl.r_540, k0_pay613, sl.v10242, sl.v10248, sl.v10254, sl.v10260, sl.v10266, sl.v10272, sl.v10278, sl.v10284, sl.r_542, k0_pay615, sl.v10289, sl.v10295, sl.v10301, sl.v10307, sl.v10313, sl.r_544, k0_pay617, sl.v10319, sl.v10325, sl.v10331, sl.v10336, sl.v10342, sl.r_546, k0_pay619, sl.v10348, sl.v10354, sl.v10360, sl.v10366, sl.v10372, sl.v10378, sl.v10383, sl.v10389, sl.v10395, sl.v10401, sl.v10407, sl.v10413, sl.v10419, tapLd, mul_at, add_at, spread_at, drop_at, shapeCast_self, tap_at, off_at, win_at, shift49_at, Nat.add_assoc, Nat.reduceAdd]

theorem piece6_6 (r : Fin 32) (l : Fin 128) :
    @Eq EReal ((k0_pay632 (sl.r_559 c i arg3 harg3 arg4 harg4 arg5 harg5 arg13 harg13 arg14 harg14 arg23 arg24 x2 x3 x4 x12 x13) (sl.v10596 c i arg3 harg3 arg4 harg4 arg5 harg5 arg23 arg24 x2 x3 x4) (tapLd arg13 harg13 x12 28 768 inb_S31x1024_S1x128_28_768) (sl.v10602 c i arg3 harg3 arg4 harg4 arg5 harg5 arg23 arg24 x2 x3 x4) (tapLd arg13 harg13 x12 29 768 inb_S31x1024_S1x128_29_768) (sl.v10608 c i arg3 harg3 arg4 harg4 arg5 harg5 arg23 arg24 x2 x3 x4) (tapLd arg13 harg13 x12 30 768 inb_S31x1024_S1x128_30_768) : FVec Ideal S32x128 .f32) (ix2 r l))
      (convN i x2 x3 x4 x12 x13 (r + 192) (l + 768)) := by
  refine Eq.trans ?_ (chain (offN x13 (l + 768)) (fun t => tapN x12 t (l + 768) * win i x2 x3 x4 (r + 192 + (t + 1)) (l + 768)))
  simp only [k0_pay632, sl.r_559, k0_pay631, sl.r_556, k0_pay629, sl.r_553, k0_pay627, sl.r_551, k0_pay625, sl.r_550, k0_pay624, sl.r_549, k0_pay623, sl.v10431, sl.v10437, sl.v10443, sl.v10449, sl.v10455, sl.v10461, sl.v10467, sl.v10473, sl.v10478, sl.v10484, sl.v10490, sl.v10496, sl.r_552, k0_pay626, sl.v10502, sl.v10508, sl.v10514, sl.v10520, sl.v10525, sl.r_554, k0_pay628, sl.v10531, sl.r_555, sl.v10537, sl.v10543, sl.v10549, sl.v10555, sl.r_557, k0_pay630, sl.v10561, sl.r_558, sl.v10567, sl.v10572, sl.v10578, sl.v10584, sl.v10590, sl.v10596, sl.v10602, sl.v10608, tapLd, mul_at, add_at, spread_at, drop_at, shapeCast_self, tap_at, off_at, win_at, shift49_at, Nat.add_assoc, Nat.reduceAdd]

theorem piece6_7 (r : Fin 32) (l : Fin 128) :
    @Eq EReal ((k0_pay643 (sl.r_567 c i arg3 harg3 arg4 harg4 arg5 harg5 arg13 harg13 arg14 harg14 arg23 arg24 x2 x3 x4 x12 x13) (sl.r_568 c i arg3 harg3 arg4 harg4 arg5 harg5 arg23 arg24 x2 x3 x4) (sl.r_569 c arg13 harg13 x12) (sl.v10779 c i arg3 harg3 arg4 harg4 arg5 harg5 arg23 arg24 x2 x3 x4) (tapLd arg13 harg13 x12 27 768 inb_S31x1024_S1x128_27_768) (sl.v10785 c i arg3 harg3 arg4 harg4 arg5 harg5 arg23 arg24 x2 x3 x4) (tapLd arg13 harg13 x12 28 768 inb_S31x1024_S1x128_28_768) (sl.v10791 c i arg3 harg3 arg4 harg4 arg5 harg5 arg23 arg24 x2 x3 x4) (tapLd arg13 harg13 x12 29 768 inb_S31x1024_S1x128_29_768) (sl.v10797 c i arg3 harg3 arg4 harg4 arg5 harg5 arg23 arg24 x2 x3 x4) (tapLd arg13 harg13 x12 30 768 inb_S31x1024_S1x128_30_768) : FVec Ideal S32x128 .f32) (ix2 r l))
      (convN i x2 x3 x4 x12 x13 (r + 224) (l + 768)) := by
  refine Eq.trans ?_ (chain (offN x13 (l + 768)) (fun t => tapN x12 t (l + 768) * win i x2 x3 x4 (r + 224 + (t + 1)) (l + 768)))
  simp only [k0_pay643, sl.r_567, k0_pay640, sl.r_565, k0_pay638, sl.r_563, k0_pay636, sl.r_562, k0_pay635, sl.r_561, k0_pay634, sl.r_560, k0_pay633, sl.v10620, sl.v10626, sl.v10632, sl.v10638, sl.v10644, sl.v10650, sl.v10656, sl.v10662, sl.v10667, sl.v10673, sl.v10679, sl.v10685, sl.v10691, sl.v10697, sl.v10703, sl.v10709, sl.r_564, k0_pay637, sl.v10714, sl.v10720, sl.v10726, sl.v10732, sl.v10738, sl.r_566, k0_pay639, sl.v10744, sl.v10750, sl.v10756, sl.v10761, sl.v10767, sl.r_568, k0_pay641, sl.v10773, sl.r_569, k0_pay642, sl.v10779, sl.v10785, sl.v10791, sl.v10797, tapLd, mul_at, add_at, spread_at, drop_at, shapeCast_self, tap_at, off_at, win_at, shift49_at, Nat.add_assoc, Nat.reduceAdd]

end

end Cert.Kernel3Ideal.Merge
-- ==== Proof.Merge.Conv7.lean ====
/-
  Blocks of 32 rows of 128 columns of the convolution: each is the offset plus the sum of the 31 taps times the window's rows.
-/
module

public import proofs.«01_k».proof.Proof.Gen.Kernel3Ideal.Frame
public import proofs.«01_k».proof.Proof.Merge.Shift
public import Idealize.ShloMosaic.Lib.WholeRead
public import Idealize.ShloMosaic.Lib.Pipeline.Value
public import Idealize.ShloMosaic.Lib.Pipeline.ValueKit
public import Idealize.ShloMosaic.Lib.Pipeline.CanonAppend
public import proofs.«01_k».proof.Proof.Inproj.Block
import all proofs.«01_k».proof.Proof.Gen.Kernel3Ideal.Frame.RunA

@[expose] public section

set_option maxRecDepth 16384

noncomputable section

namespace Cert.Kernel3Ideal.Merge

open Cert.Kernel3Ideal.Gen.kernelRun0_A
open Cert.Kernel3Ideal Cert.Kernel3Ideal.Gen Cert.Inproj Cert.Merge
open Idealize.ShloMosaic hiding ix2 ix3 ix4
open Idealize.ShloMosaic.ValueIdx Idealize.ShloMosaic.TcCoe Idealize.SL.Sem
open Cert.Kernel2Ideal.Inproj (ld ld2 ld_whole2 zero2)

section
variable (c : Dev nD) (i : grid0.Coords) (arg3 : Memref sig .tc .vmem S16x1024 .bf16) (harg3 : arg3.IsWhole)
  (arg4 : Memref sig .tc .vmem S256x1024 .bf16) (harg4 : arg4.IsWhole) (arg5 : Memref sig .tc .vmem S16x1024 .bf16) (harg5 : arg5.IsWhole)
  (arg13 : Memref sig .tc .vmem S31x1024 .f32) (harg13 : arg13.IsWhole) (arg14 : Memref sig .tc .vmem S1x1024 .f32) (harg14 : arg14.IsWhole)
  (arg23 : Memref sig .tc .vmem S288x1024 .f32) (arg24 : Memref sig .tc .vmem S2x7x280x128 .f32) (arg25 : Memref sig .tc .vmem S256x1024 .f32)
  (x2 : Vec Ideal S16x1024 .bf16) (x3 : Vec Ideal S256x1024 .bf16) (x4 : Vec Ideal S16x1024 .bf16)
  (x12 : Vec Ideal S31x1024 .f32) (x13 : Vec Ideal S1x1024 .f32)

theorem piece7_0 (r : Fin 32) (l : Fin 128) :
    @Eq EReal ((k0_pay660 (sl.r_580 c i arg3 harg3 arg4 harg4 arg5 harg5 arg13 harg13 arg14 harg14 arg23 arg24 x2 x3 x4 x12 x13) (sl.v11008 c i arg3 harg3 arg4 harg4 arg5 harg5 arg23 arg24 x2 x3 x4) (tapLd arg13 harg13 x12 29 896 inb_S31x1024_S1x128_29_896) (sl.v11014 c i arg3 harg3 arg4 harg4 arg5 harg5 arg23 arg24 x2 x3 x4) (tapLd arg13 harg13 x12 30 896 inb_S31x1024_S1x128_30_896) : FVec Ideal S32x128 .f32) (ix2 r l))
      (convN i x2 x3 x4 x12 x13 (r + 0) (l + 896)) := by
  refine Eq.trans ?_ (chain (offN x13 (l + 896)) (fun t => tapN x12 t (l + 896) * win i x2 x3 x4 (r + 0 + (t + 1)) (l + 896)))
  simp only [k0_pay660, sl.r_580, k0_pay659, sl.r_579, k0_pay658, sl.r_578, k0_pay657, sl.r_575, k0_pay655, sl.r_572, k0_pay653, sl.r_570, k0_pay651, sl.v10837, sl.v10843, sl.v10849, sl.r_571, k0_pay652, sl.v10855, sl.v10861, sl.v10867, sl.v10873, sl.v10879, sl.r_573, k0_pay654, sl.v10884, sl.r_574, sl.v10890, sl.v10896, sl.v10902, sl.v10908, sl.r_576, k0_pay656, sl.v10914, sl.r_577, sl.v10920, sl.v10926, sl.v10931, sl.v10937, sl.v10943, sl.v10949, sl.v10955, sl.v10961, sl.v10967, sl.v10973, sl.v10978, sl.v10984, sl.v10990, sl.v10996, sl.v11002, sl.v11008, sl.v11014, tapLd, mul_at, add_at, spread_at, drop_at, shapeCast_self, tap_at, off_at, win_at, shift56_at, Nat.add_assoc, Nat.reduceAdd]

theorem piece7_1 (r : Fin 32) (l : Fin 128) :
    @Eq EReal ((k0_pay672 (sl.r_591 c i arg3 harg3 arg4 harg4 arg5 harg5 arg13 harg13 arg14 harg14 arg23 arg24 x2 x3 x4 x12 x13) (sl.v11191 c i arg3 harg3 arg4 harg4 arg5 harg5 arg23 arg24 x2 x3 x4) (tapLd arg13 harg13 x12 28 896 inb_S31x1024_S1x128_28_896) (sl.v11197 c i arg3 harg3 arg4 harg4 arg5 harg5 arg23 arg24 x2 x3 x4) (tapLd arg13 harg13 x12 29 896 inb_S31x1024_S1x128_29_896) (sl.v11203 c i arg3 harg3 arg4 harg4 arg5 harg5 arg23 arg24 x2 x3 x4) (tapLd arg13 harg13 x12 30 896 inb_S31x1024_S1x128_30_896) : FVec Ideal S32x128 .f32) (ix2 r l))
      (convN i x2 x3 x4 x12 x13 (r + 32) (l + 896)) := by
  refine Eq.trans ?_ (chain (offN x13 (l + 896)) (fun t => tapN x12 t (l + 896) * win i x2 x3 x4 (r + 32 + (t + 1)) (l + 896)))
  simp only [k0_pay672, sl.r_591, k0_pay671, sl.r_588, k0_pay668, sl.r_585, k0_pay665, sl.r_583, k0_pay663, sl.r_582, k0_pay662, sl.r_581, k0_pay661, sl.v11026, sl.v11032, sl.v11038, sl.v11044, sl.v11050, sl.v11056, sl.v11062, sl.v11068, sl.v11073, sl.v11079, sl.v11085, sl.v11091, sl.r_584, k0_pay664, sl.v11097, sl.v11103, sl.v11109, sl.v11115, sl.v11120, sl.r_586, k0_pay666, sl.v11126, sl.r_587, k0_pay667, sl.v11132, sl.v11138, sl.v11144, sl.v11150, sl.r_589, k0_pay669, sl.v11156, sl.r_590, k0_pay670, sl.v11162, sl.v11167, sl.v11173, sl.v11179, sl.v11185, sl.v11191, sl.v11197, sl.v11203, tapLd, mul_at, add_at, spread_at, drop_at, shapeCast_self, tap_at, off_at, win_at, shift56_at, Nat.add_assoc, Nat.reduceAdd]

theorem piece7_2 (r : Fin 32) (l : Fin 128) :
    @Eq EReal ((k0_pay682 (sl.r_599 c i arg3 harg3 arg4 harg4 arg5 harg5 arg13 harg13 arg14 harg14 arg23 arg24 x2 x3 x4 x12 x13) (sl.r_600 c i arg3 harg3 arg4 harg4 arg5 harg5 arg13 harg13 arg23 arg24 x2 x3 x4 x12) (sl.v11374 c i arg3 harg3 arg4 harg4 arg5 harg5 arg23 arg24 x2 x3 x4) (tapLd arg13 harg13 x12 27 896 inb_S31x1024_S1x128_27_896) (sl.v11380 c i arg3 harg3 arg4 harg4 arg5 harg5 arg23 arg24 x2 x3 x4) (tapLd arg13 harg13 x12 28 896 inb_S31x1024_S1x128_28_896) (sl.v11386 c i arg3 harg3 arg4 harg4 arg5 harg5 arg23 arg24 x2 x3 x4) (tapLd arg13 harg13 x12 29 896 inb_S31x1024_S1x128_29_896) (sl.v11392 c i arg3 harg3 arg4 harg4 arg5 harg5 arg23 arg24 x2 x3 x4) (tapLd arg13 harg13 x12 30 896 inb_S31x1024_S1x128_30_896) : FVec Ideal S32x128 .f32) (ix2 r l))
      (convN i x2 x3 x4 x12 x13 (r + 64) (l + 896)) := by
  refine Eq.trans ?_ (chain (offN x13 (l + 896)) (fun t => tapN x12 t (l + 896) * win i x2 x3 x4 (r + 64 + (t + 1)) (l + 896)))
  simp only [k0_pay682, sl.r_599, k0_pay680, sl.r_597, k0_pay678, sl.r_595, k0_pay676, sl.r_594, k0_pay675, sl.r_593, k0_pay674, sl.r_592, k0_pay673, sl.v11215, sl.v11221, sl.v11227, sl.v11233, sl.v11239, sl.v11245, sl.v11251, sl.v11257, sl.v11262, sl.v11268, sl.v11274, sl.v11280, sl.v11286, sl.v11292, sl.v11298, sl.v11304, sl.r_596, k0_pay677, sl.v11309, sl.v11315, sl.v11321, sl.v11327, sl.v11333, sl.r_598, k0_pay679, sl.v11339, sl.v11345, sl.v11351, sl.v11356, sl.v11362, sl.r_600, k0_pay681, sl.v11368, sl.v11374, sl.v11380, sl.v11386, sl.v11392, tapLd, mul_at, add_at, spread_at, drop_at, shapeCast_self, tap_at, off_at, win_at, shift56_at, Nat.add_assoc, Nat.reduceAdd]

theorem piece7_3 (r : Fin 32) (l : Fin 128) :
    @Eq EReal ((k0_pay693 (sl.r_610 c i arg3 harg3 arg4 harg4 arg5 harg5 arg13 harg13 arg14 harg14 arg23 arg24 x2 x3 x4 x12 x13) (sl.r_611 c i arg3 harg3 arg4 harg4 arg5 harg5 arg23 arg24 x2 x3 x4) (sl.r_612 c arg13 harg13 x12) : FVec Ideal S32x128 .f32) (ix2 r l))
      (convN i x2 x3 x4 x12 x13 (r + 96) (l + 896)) := by
  refine Eq.trans ?_ (chain (offN x13 (l + 896)) (fun t => tapN x12 t (l + 896) * win i x2 x3 x4 (r + 96 + (t + 1)) (l + 896)))
  simp only [k0_pay693, sl.r_610, k0_pay691, sl.r_607, k0_pay689, sl.r_605, k0_pay687, sl.r_604, k0_pay686, sl.r_603, k0_pay685, sl.r_602, k0_pay684, sl.r_601, k0_pay683, sl.v11404, sl.v11410, sl.v11416, sl.v11422, sl.v11428, sl.v11434, sl.v11440, sl.v11446, sl.v11451, sl.v11457, sl.v11463, sl.v11469, sl.v11475, sl.v11481, sl.v11487, sl.v11493, sl.v11498, sl.v11504, sl.v11510, sl.v11516, sl.r_606, k0_pay688, sl.v11522, sl.v11528, sl.v11534, sl.v11540, sl.v11545, sl.r_608, k0_pay690, sl.v11551, sl.r_609, sl.v11557, sl.v11563, sl.v11569, sl.v11575, sl.r_611, k0_pay692, sl.v11581, sl.r_612, tapLd, mul_at, add_at, spread_at, drop_at, shapeCast_self, tap_at, off_at, win_at, shift56_at, Nat.add_assoc, Nat.reduceAdd]

theorem piece7_4 (r : Fin 32) (l : Fin 128) :
    @Eq EReal ((k0_pay704 (sl.r_621 c i arg3 harg3 arg4 harg4 arg5 harg5 arg13 harg13 arg14 harg14 arg23 arg24 x2 x3 x4 x12 x13) (sl.r_622 c i arg3 harg3 arg4 harg4 arg5 harg5 arg23 arg24 x2 x3 x4) (tapLd arg13 harg13 x12 29 896 inb_S31x1024_S1x128_29_896) (sl.v11770 c i arg3 harg3 arg4 harg4 arg5 harg5 arg23 arg24 x2 x3 x4) (tapLd arg13 harg13 x12 30 896 inb_S31x1024_S1x128_30_896) : FVec Ideal S32x128 .f32) (ix2 r l))
      (convN i x2 x3 x4 x12 x13 (r + 128) (l + 896)) := by
  refine Eq.trans ?_ (chain (offN x13 (l + 896)) (fun t => tapN x12 t (l + 896) * win i x2 x3 x4 (r + 128 + (t + 1)) (l + 896)))
  simp only [k0_pay704, sl.r_621, k0_pay702, sl.r_619, k0_pay700, sl.r_618, k0_pay699, sl.r_617, k0_pay698, sl.r_616, k0_pay697, sl.r_613, k0_pay694, sl.v11593, sl.v11599, sl.v11605, sl.r_614, k0_pay695, sl.v11611, sl.r_615, k0_pay696, sl.v11617, sl.v11623, sl.v11629, sl.v11635, sl.v11640, sl.v11646, sl.v11652, sl.v11658, sl.v11664, sl.v11670, sl.v11676, sl.v11682, sl.v11687, sl.v11693, sl.v11699, sl.v11705, sl.v11711, sl.v11717, sl.v11723, sl.v11729, sl.r_620, k0_pay701, sl.v11734, sl.v11740, sl.v11746, sl.v11752, sl.v11758, sl.r_622, k0_pay703, sl.v11764, sl.v11770, tapLd, mul_at, add_at, spread_at, drop_at, shapeCast_self, tap_at, off_at, win_at, shift56_at, Nat.add_assoc, Nat.reduceAdd]

theorem piece7_5 (r : Fin 32) (l : Fin 128) :
    @Eq EReal ((k0_pay714 (sl.r_631 c i arg3 harg3 arg4 harg4 arg5 harg5 arg13 harg13 arg14 harg14 arg23 arg24 x2 x3 x4 x12 x13) (sl.v11947 c i arg3 harg3 arg4 harg4 arg5 harg5 arg23 arg24 x2 x3 x4) (tapLd arg13 harg13 x12 28 896 inb_S31x1024_S1x128_28_896) (sl.v11953 c i arg3 harg3 arg4 harg4 arg5 harg5 arg23 arg24 x2 x3 x4) (tapLd arg13 harg13 x12 29 896 inb_S31x1024_S1x128_29_896) (sl.v11959 c i arg3 harg3 arg4 harg4 arg5 harg5 arg23 arg24 x2 x3 x4) (tapLd arg13 harg13 x12 30 896 inb_S31x1024_S1x128_30_896) : FVec Ideal S32x128 .f32) (ix2 r l))
      (convN i x2 x3 x4 x12 x13 (r + 160) (l + 896)) := by
  refine Eq.trans ?_ (chain (offN x13 (l + 896)) (fun t => tapN x12 t (l + 896) * win i x2 x3 x4 (r + 160 + (t + 1)) (l + 896)))
  simp only [k0_pay714, sl.r_631, k0_pay713, sl.r_630, k0_pay712, sl.r_629, k0_pay711, sl.r_627, k0_pay709, sl.r_625, k0_pay707, sl.r_623, k0_pay705, sl.v11782, sl.v11788, sl.r_624, k0_pay706, sl.v11794, sl.v11800, sl.v11806, sl.v11812, sl.v11818, sl.r_626, k0_pay708, sl.v11824, sl.v11829, sl.v11835, sl.v11841, sl.v11847, sl.r_628, k0_pay710, sl.v11853, sl.v11859, sl.v11865, sl.v11871, sl.v11876, sl.v11882, sl.v11888, sl.v11894, sl.v11900, sl.v11906, sl.v11912, sl.v11918, sl.v11923, sl.v11929, sl.v11935, sl.v11941, sl.v11947, sl.v11953, sl.v11959, tapLd, mul_at, add_at, spread_at, drop_at, shapeCast_self, tap_at, off_at, win_at, shift56_at, Nat.add_assoc, Nat.reduceAdd]

theorem piece7_6 (r : Fin 32) (l : Fin 128) :
    @Eq EReal ((k0_pay724 (sl.r_641 c i arg3 harg3 arg4 harg4 arg5 harg5 arg13 harg13 arg14 harg14 arg23 arg24 x2 x3 x4 x12 x13) (sl.v12130 c i arg3 harg3 arg4 harg4 arg5 harg5 arg23 arg24 x2 x3 x4) (tapLd arg13 harg13 x12 27 896 inb_S31x1024_S1x128_27_896) (sl.v12136 c i arg3 harg3 arg4 harg4 arg5 harg5 arg23 arg24 x2 x3 x4) (tapLd arg13 harg13 x12 28 896 inb_S31x1024_S1x128_28_896) (sl.v12142 c i arg3 harg3 arg4 harg4 arg5 harg5 arg23 arg24 x2 x3 x4) (tapLd arg13 harg13 x12 29 896 inb_S31x1024_S1x128_29_896) (sl.v12148 c i arg3 harg3 arg4 harg4 arg5 harg5 arg23 arg24 x2 x3 x4) (tapLd arg13 harg13 x12 30 896 inb_S31x1024_S1x128_30_896) : FVec Ideal S32x128 .f32) (ix2 r l))
      (convN i x2 x3 x4 x12 x13 (r + 192) (l + 896)) := by
  refine Eq.trans ?_ (chain (offN x13 (l + 896)) (fun t => tapN x12 t (l + 896) * win i x2 x3 x4 (r + 192 + (t + 1)) (l + 896)))
  simp only [k0_pay724, sl.r_641, k0_pay723, sl.r_640, k0_pay722, sl.r_639, k0_pay721, sl.r_636, k0_pay719, sl.r_634, k0_pay717, sl.r_632, k0_pay715, sl.v11971, sl.r_633, k0_pay716, sl.v11977, sl.v11983, sl.v11989, sl.v11995, sl.v12001, sl.r_635, k0_pay718, sl.v12007, sl.v12013, sl.v12018, sl.v12024, sl.v12030, sl.r_637, k0_pay720, sl.v12036, sl.r_638, sl.v12042, sl.v12048, sl.v12054, sl.v12060, sl.v12065, sl.v12071, sl.v12077, sl.v12083, sl.v12089, sl.v12095, sl.v12101, sl.v12107, sl.v12112, sl.v12118, sl.v12124, sl.v12130, sl.v12136, sl.v12142, sl.v12148, tapLd, mul_at, add_at, spread_at, drop_at, shapeCast_self, tap_at, off_at, win_at, shift56_at, Nat.add_assoc, Nat.reduceAdd]

theorem piece7_7 (r : Fin 32) (l : Fin 128) :
    @Eq EReal ((k0_pay736 (sl.r_652 c i arg3 harg3 arg4 harg4 arg5 harg5 arg13 harg13 arg14 harg14 arg23 arg24 x2 x3 x4 x12 x13) : FVec Ideal S32x128 .f32) (ix2 r l))
      (convN i x2 x3 x4 x12 x13 (r + 224) (l + 896)) := by
  refine Eq.trans ?_ (chain (offN x13 (l + 896)) (fun t => tapN x12 t (l + 896) * win i x2 x3 x4 (r + 224 + (t + 1)) (l + 896)))
  simp only [k0_pay736, sl.r_652, k0_pay735, sl.r_651, k0_pay734, sl.r_648, k0_pay731, sl.r_646, k0_pay729, sl.r_644, k0_pay727, sl.r_643, k0_pay726, sl.r_642, k0_pay725, sl.v12160, sl.v12166, sl.v12172, sl.v12178, sl.v12184, sl.v12190, sl.v12196, sl.v12202, sl.v12207, sl.v12213, sl.r_645, k0_pay728, sl.v12219, sl.v12225, sl.v12231, sl.v12237, sl.v12243, sl.v12249, sl.r_647, k0_pay730, sl.v12254, sl.v12260, sl.v12266, sl.v12272, sl.r_649, k0_pay732, sl.v12278, sl.r_650, k0_pay733, sl.v12284, sl.v12290, sl.v12296, sl.v12301, sl.v12307, sl.v12313, sl.v12319, sl.v12325, sl.v12331, sl.v12337, tapLd, mul_at, add_at, spread_at, drop_at, shapeCast_self, tap_at, off_at, win_at, shift56_at, Nat.add_assoc, Nat.reduceAdd]

end

end Cert.Kernel3Ideal.Merge
-- ==== Proof.Merge.Conv.lean ====
/-
  The buffer of the convolution after its 64 blocks are stored: row by row and channel by channel the offset plus the sum of the 31 taps
  times the window's rows.
-/
module

public import proofs.«01_k».proof.Proof.Gen.Kernel3Ideal.Frame
public import proofs.«01_k».proof.Proof.Merge.Conv0
public import proofs.«01_k».proof.Proof.Merge.Conv1
public import proofs.«01_k».proof.Proof.Merge.Conv2
public import proofs.«01_k».proof.Proof.Merge.Conv3
public import proofs.«01_k».proof.Proof.Merge.Conv4
public import proofs.«01_k».proof.Proof.Merge.Conv5
public import proofs.«01_k».proof.Proof.Merge.Conv6
public import proofs.«01_k».proof.Proof.Merge.Conv7
public import Idealize.ShloMosaic.Lib.WholeRead
public import Idealize.ShloMosaic.Lib.Pipeline.Value
public import Idealize.ShloMosaic.Lib.Pipeline.ValueKit
public import Idealize.ShloMosaic.Lib.Pipeline.CanonAppend
public import proofs.«01_k».proof.Proof.Inproj.Block
import all proofs.«01_k».proof.Proof.Gen.Kernel3Ideal.Frame.RunA

@[expose] public section

set_option maxRecDepth 16384

noncomputable section

namespace Cert.Kernel3Ideal.Merge

open Cert.Kernel3Ideal.Gen.kernelRun0_A
open Cert.Kernel3Ideal Cert.Kernel3Ideal.Gen Cert.Inproj Cert.Merge
open Idealize.ShloMosaic hiding ix2 ix3 ix4
open Idealize.ShloMosaic.ValueIdx Idealize.ShloMosaic.TcCoe Idealize.SL.Sem
open Cert.Kernel2Ideal.Inproj (ld ld2 ld_whole2 zero2)

section
variable (c : Dev nD) (i : grid0.Coords) (arg3 : Memref sig .tc .vmem S16x1024 .bf16) (harg3 : arg3.IsWhole)
  (arg4 : Memref sig .tc .vmem S256x1024 .bf16) (harg4 : arg4.IsWhole) (arg5 : Memref sig .tc .vmem S16x1024 .bf16) (harg5 : arg5.IsWhole)
  (arg13 : Memref sig .tc .vmem S31x1024 .f32) (harg13 : arg13.IsWhole) (arg14 : Memref sig .tc .vmem S1x1024 .f32) (harg14 : arg14.IsWhole)
  (arg23 : Memref sig .tc .vmem S288x1024 .f32) (arg24 : Memref sig .tc .vmem S2x7x280x128 .f32) (arg25 : Memref sig .tc .vmem S256x1024 .f32)
  (x2 : Vec Ideal S16x1024 .bf16) (x3 : Vec Ideal S256x1024 .bf16) (x4 : Vec Ideal S16x1024 .bf16)
  (x12 : Vec Ideal S31x1024 .f32) (x13 : Vec Ideal S1x1024 .f32)

/-- A block of the convolution, at its place in the buffer. -/
theorem lift (R O : ℕ) (inb) (f : FVec Ideal S32x128 .f32)
    (hf : ∀ (r : Fin 32) (l : Fin 128), @Eq EReal (f (ix2 r l)) (convN i x2 x3 x4 x12 x13 (r + R) (l + O))) (x : S32x128.Idx) :
    f x = (fun y : S256x1024.Idx => (convN i x2 x3 x4 x12 x13 (y 0) (y 1) : Elt Ideal .f32)) ((Rect.unit (s := S256x1024) ![R, O] S32x128.size inb).emb x) := by
  dsimp only
  rw [ValueKit.rect_emb_unit_val, ValueKit.rect_emb_unit_val, ValueIdx.eq_ix2 (n0 := 32) (n1 := 128) x]
  refine (hf _ _).trans (congrArg₂ (convN i x2 x3 x4 x12 x13) ?_ ?_)
  · show ((x 0 : Fin 32) : ℕ) + R = R + (x 0 : Fin 32)
    omega
  · show ((x 1 : Fin 128) : ℕ) + O = O + (x 1 : Fin 128)
    omega

/-- The convolution's buffer. -/
theorem conv_canon (y : S256x1024.Idx) :
    @Eq (Elt Ideal .f32) (View.canon (sl.HS2_64 (F := Ideal) c i arg3 harg3 arg4 harg4 arg5 harg5 arg13 harg13 arg14 harg14 arg23 arg24 x2 x3 x4 x12 x13) y) (convN i x2 x3 x4 x12 x13 (y 0) (y 1)) := by
  unfold sl.HS2_64
  refine View.canon_apply_of_pieces (Val := Elt Ideal) (e := .f32) (fun y : S256x1024.Idx => (convN i x2 x3 x4 x12 x13 (y 0) (y 1) : Elt Ideal .f32)) _ ?_ y
    (View.cover_of_tiledBy _ ![32, 128] (by sl_kernel_rfl) y)
  refine List.forall_mem_cons.2 ⟨fun x => lift i x2 x3 x4 x12 x13 224 896 inb_S256x1024_S32x128_224_896 _ (piece7_7 c i arg3 harg3 arg4 harg4 arg5 harg5 arg13 harg13 arg14 harg14 arg23 arg24 x2 x3 x4 x12 x13) x, ?_⟩
  refine List.forall_mem_cons.2 ⟨fun x => lift i x2 x3 x4 x12 x13 192 896 inb_S256x1024_S32x128_192_896 _ (piece7_6 c i arg3 harg3 arg4 harg4 arg5 harg5 arg13 harg13 arg14 harg14 arg23 arg24 x2 x3 x4 x12 x13) x, ?_⟩
  refine List.forall_mem_cons.2 ⟨fun x => lift i x2 x3 x4 x12 x13 160 896 inb_S256x1024_S32x128_160_896 _ (piece7_5 c i arg3 harg3 arg4 harg4 arg5 harg5 arg13 harg13 arg14 harg14 arg23 arg24 x2 x3 x4 x12 x13) x, ?_⟩
  refine List.forall_mem_cons.2 ⟨fun x => lift i x2 x3 x4 x12 x13 128 896 inb_S256x1024_S32x128_128_896 _ (piece7_4 c i arg3 harg3 arg4 harg4 arg5 harg5 arg13 harg13 arg14 harg14 arg23 arg24 x2 x3 x4 x12 x13) x, ?_⟩
  refine List.forall_mem_cons.2 ⟨fun x => lift i x2 x3 x4 x12 x13 96 896 inb_S256x1024_S32x128_96_896 _ (piece7_3 c i arg3 harg3 arg4 harg4 arg5 harg5 arg13 harg13 arg14 harg14 arg23 arg24 x2 x3 x4 x12 x13) x, ?_⟩
  refine List.forall_mem_cons.2 ⟨fun x => lift i x2 x3 x4 x12 x13 64 896 inb_S256x1024_S32x128_64_896 _ (piece7_2 c i arg3 harg3 arg4 harg4 arg5 harg5 arg13 harg13 arg14 harg14 arg23 arg24 x2 x3 x4 x12 x13) x, ?_⟩
  refine List.forall_mem_cons.2 ⟨fun x => lift i x2 x3 x4 x12 x13 32 896 inb_S256x1024_S32x128_32_896 _ (piece7_1 c i arg3 harg3 arg4 harg4 arg5 harg5 arg13 harg13 arg14 harg14 arg23 arg24 x2 x3 x4 x12 x13) x, ?_⟩
  refine List.forall_mem_cons.2 ⟨fun x => lift i x2 x3 x4 x12 x13 0 896 inb_S256x1024_S32x128_0_896 _ (piece7_0 c i arg3 harg3 arg4 harg4 arg5 harg5 arg13 harg13 arg14 harg14 arg23 arg24 x2 x3 x4 x12 x13) x, ?_⟩
  refine List.forall_mem_cons.2 ⟨fun x => lift i x2 x3 x4 x12 x13 224 768 inb_S256x1024_S32x128_224_768 _ (piece6_7 c i arg3 harg3 arg4 harg4 arg5 harg5 arg13 harg13 arg14 harg14 arg23 arg24 x2 x3 x4 x12 x13) x, ?_⟩
  refine List.forall_mem_cons.2 ⟨fun x => lift i x2 x3 x4 x12 x13 192 768 inb_S256x1024_S32x128_192_768 _ (piece6_6 c i arg3 harg3 arg4 harg4 arg5 harg5 arg13 harg13 arg14 harg14 arg23 arg24 x2 x3 x4 x12 x13) x, ?_⟩
  refine List.forall_mem_cons.2 ⟨fun x => lift i x2 x3 x4 x12 x13 160 768 inb_S256x1024_S32x128_160_768 _ (piece6_5 c i arg3 harg3 arg4 harg4 arg5 harg5 arg13 harg13 arg14 harg14 arg23 arg24 x2 x3 x4 x12 x13) x, ?_⟩
  refine List.forall_mem_cons.2 ⟨fun x => lift i x2 x3 x4 x12 x13 128 768 inb_S256x1024_S32x128_128_768 _ (piece6_4 c i arg3 harg3 arg4 harg4 arg5 harg5 arg13 harg13 arg14 harg14 arg23 arg24 x2 x3 x4 x12 x13) x, ?_⟩
  refine List.forall_mem_cons.2 ⟨fun x => lift i x2 x3 x4 x12 x13 96 768 inb_S256x1024_S32x128_96_768 _ (piece6_3 c i arg3 harg3 arg4 harg4 arg5 harg5 arg13 harg13 arg14 harg14 arg23 arg24 x2 x3 x4 x12 x13) x, ?_⟩
  refine List.forall_mem_cons.2 ⟨fun x => lift i x2 x3 x4 x12 x13 64 768 inb_S256x1024_S32x128_64_768 _ (piece6_2 c i arg3 harg3 arg4 harg4 arg5 harg5 arg13 harg13 arg14 harg14 arg23 arg24 x2 x3 x4 x12 x13) x, ?_⟩
  refine List.forall_mem_cons.2 ⟨fun x => lift i x2 x3 x4 x12 x13 32 768 inb_S256x1024_S32x128_32_768 _ (piece6_1 c i arg3 harg3 arg4 harg4 arg5 harg5 arg13 harg13 arg14 harg14 arg23 arg24 x2 x3 x4 x12 x13) x, ?_⟩
  refine List.forall_mem_cons.2 ⟨fun x => lift i x2 x3 x4 x12 x13 0 768 inb_S256x1024_S32x128_0_768 _ (piece6_0 c i arg3 harg3 arg4 harg4 arg5 harg5 arg13 harg13 arg14 harg14 arg23 arg24 x2 x3 x4 x12 x13) x, ?_⟩
  refine List.forall_mem_cons.2 ⟨fun x => lift i x2 x3 x4 x12 x13 224 640 inb_S256x1024_S32x128_224_640 _ (piece5_7 c i arg3 harg3 arg4 harg4 arg5 harg5 arg13 harg13 arg14 harg14 arg23 arg24 x2 x3 x4 x12 x13) x, ?_⟩
  refine List.forall_mem_cons.2 ⟨fun x => lift i x2 x3 x4 x12 x13 192 640 inb_S256x1024_S32x128_192_640 _ (piece5_6 c i arg3 harg3 arg4 harg4 arg5 harg5 arg13 harg13 arg14 harg14 arg23 arg24 x2 x3 x4 x12 x13) x, ?_⟩
  refine List.forall_mem_cons.2 ⟨fun x => lift i x2 x3 x4 x12 x13 160 640 inb_S256x1024_S32x128_160_640 _ (piece5_5 c i arg3 harg3 arg4 harg4 arg5 harg5 arg13 harg13 arg14 harg14 arg23 arg24 x2 x3 x4 x12 x13) x, ?_⟩
  refine List.forall_mem_cons.2 ⟨fun x => lift i x2 x3 x4 x12 x13 128 640 inb_S256x1024_S32x128_128_640 _ (piece5_4 c i arg3 harg3 arg4 harg4 arg5 harg5 arg13 harg13 arg14 harg14 arg23 arg24 x2 x3 x4 x12 x13) x, ?_⟩
  refine List.forall_mem_cons.2 ⟨fun x => lift i x2 x3 x4 x12 x13 96 640 inb_S256x1024_S32x128_96_640 _ (piece5_3 c i arg3 harg3 arg4 harg4 arg5 harg5 arg13 harg13 arg14 harg14 arg23 arg24 x2 x3 x4 x12 x13) x, ?_⟩
  refine List.forall_mem_cons.2 ⟨fun x => lift i x2 x3 x4 x12 x13 64 640 inb_S256x1024_S32x128_64_640 _ (piece5_2 c i arg3 harg3 arg4 harg4 arg5 harg5 arg13 harg13 arg14 harg14 arg23 arg24 x2 x3 x4 x12 x13) x, ?_⟩
  refine List.forall_mem_cons.2 ⟨fun x => lift i x2 x3 x4 x12 x13 32 640 inb_S256x1024_S32x128_32_640 _ (piece5_1 c i arg3 harg3 arg4 harg4 arg5 harg5 arg13 harg13 arg14 harg14 arg23 arg24 x2 x3 x4 x12 x13) x, ?_⟩
  refine List.forall_mem_cons.2 ⟨fun x => lift i x2 x3 x4 x12 x13 0 640 inb_S256x1024_S32x128_0_640 _ (piece5_0 c i arg3 harg3 arg4 harg4 arg5 harg5 arg13 harg13 arg14 harg14 arg23 arg24 x2 x3 x4 x12 x13) x, ?_⟩
  refine List.forall_mem_cons.2 ⟨fun x => lift i x2 x3 x4 x12 x13 224 512 inb_S256x1024_S32x128_224_512 _ (piece4_7 c i arg3 harg3 arg4 harg4 arg5 harg5 arg13 harg13 arg14 harg14 arg23 arg24 x2 x3 x4 x12 x13) x, ?_⟩
  refine List.forall_mem_cons.2 ⟨fun x => lift i x2 x3 x4 x12 x13 192 512 inb_S256x1024_S32x128_192_512 _ (piece4_6 c i arg3 harg3 arg4 harg4 arg5 harg5 arg13 harg13 arg14 harg14 arg23 arg24 x2 x3 x4 x12 x13) x, ?_⟩
  refine List.forall_mem_cons.2 ⟨fun x => lift i x2 x3 x4 x12 x13 160 512 inb_S256x1024_S32x128_160_512 _ (piece4_5 c i arg3 harg3 arg4 harg4 arg5 harg5 arg13 harg13 arg14 harg14 arg23 arg24 x2 x3 x4 x12 x13) x, ?_⟩
  refine List.forall_mem_cons.2 ⟨fun x => lift i x2 x3 x4 x12 x13 128 512 inb_S256x1024_S32x128_128_512 _ (piece4_4 c i arg3 harg3 arg4 harg4 arg5 harg5 arg13 harg13 arg14 harg14 arg23 arg24 x2 x3 x4 x12 x13) x, ?_⟩
  refine List.forall_mem_cons.2 ⟨fun x => lift i x2 x3 x4 x12 x13 96 512 inb_S256x1024_S32x128_96_512 _ (piece4_3 c i arg3 harg3 arg4 harg4 arg5 harg5 arg13 harg13 arg14 harg14 arg23 arg24 x2 x3 x4 x12 x13) x, ?_⟩
  refine List.forall_mem_cons.2 ⟨fun x => lift i x2 x3 x4 x12 x13 64 512 inb_S256x1024_S32x128_64_512 _ (piece4_2 c i arg3 harg3 arg4 harg4 arg5 harg5 arg13 harg13 arg14 harg14 arg23 arg24 x2 x3 x4 x12 x13) x, ?_⟩
  refine List.forall_mem_cons.2 ⟨fun x => lift i x2 x3 x4 x12 x13 32 512 inb_S256x1024_S32x128_32_512 _ (piece4_1 c i arg3 harg3 arg4 harg4 arg5 harg5 arg13 harg13 arg14 harg14 arg23 arg24 x2 x3 x4 x12 x13) x, ?_⟩
  refine List.forall_mem_cons.2 ⟨fun x => lift i x2 x3 x4 x12 x13 0 512 inb_S256x1024_S32x128_0_512 _ (piece4_0 c i arg3 harg3 arg4 harg4 arg5 harg5 arg13 harg13 arg14 harg14 arg23 arg24 x2 x3 x4 x12 x13) x, ?_⟩
  refine List.forall_mem_cons.2 ⟨fun x => lift i x2 x3 x4 x12 x13 224 384 inb_S256x1024_S32x128_224_384 _ (piece3_7 c i arg3 harg3 arg4 harg4 arg5 harg5 arg13 harg13 arg14 harg14 arg23 arg24 x2 x3 x4 x12 x13) x, ?_⟩
  refine List.forall_mem_cons.2 ⟨fun x => lift i x2 x3 x4 x12 x13 192 384 inb_S256x1024_S32x128_192_384 _ (piece3_6 c i arg3 harg3 arg4 harg4 arg5 harg5 arg13 harg13 arg14 harg14 arg23 arg24 x2 x3 x4 x12 x13) x, ?_⟩
  refine List.forall_mem_cons.2 ⟨fun x => lift i x2 x3 x4 x12 x13 160 384 inb_S256x1024_S32x128_160_384 _ (piece3_5 c i arg3 harg3 arg4 harg4 arg5 harg5 arg13 harg13 arg14 harg14 arg23 arg24 x2 x3 x4 x12 x13) x, ?_⟩
  refine List.forall_mem_cons.2 ⟨fun x => lift i x2 x3 x4 x12 x13 128 384 inb_S256x1024_S32x128_128_384 _ (piece3_4 c i arg3 harg3 arg4 harg4 arg5 harg5 arg13 harg13 arg14 harg14 arg23 arg24 x2 x3 x4 x12 x13) x, ?_⟩
  refine List.forall_mem_cons.2 ⟨fun x => lift i x2 x3 x4 x12 x13 96 384 inb_S256x1024_S32x128_96_384 _ (piece3_3 c i arg3 harg3 arg4 harg4 arg5 harg5 arg13 harg13 arg14 harg14 arg23 arg24 x2 x3 x4 x12 x13) x, ?_⟩
  refine List.forall_mem_cons.2 ⟨fun x => lift i x2 x3 x4 x12 x13 64 384 inb_S256x1024_S32x128_64_384 _ (piece3_2 c i arg3 harg3 arg4 harg4 arg5 harg5 arg13 harg13 arg14 harg14 arg23 arg24 x2 x3 x4 x12 x13) x, ?_⟩
  refine List.forall_mem_cons.2 ⟨fun x => lift i x2 x3 x4 x12 x13 32 384 inb_S256x1024_S32x128_32_384 _ (piece3_1 c i arg3 harg3 arg4 harg4 arg5 harg5 arg13 harg13 arg14 harg14 arg23 arg24 x2 x3 x4 x12 x13) x, ?_⟩
  refine List.forall_mem_cons.2 ⟨fun x => lift i x2 x3 x4 x12 x13 0 384 inb_S256x1024_S32x128_0_384 _ (piece3_0 c i arg3 harg3 arg4 harg4 arg5 harg5 arg13 harg13 arg14 harg14 arg23 arg24 x2 x3 x4 x12 x13) x, ?_⟩
  refine List.forall_mem_cons.2 ⟨fun x => lift i x2 x3 x4 x12 x13 224 256 inb_S256x1024_S32x128_224_256 _ (piece2_7 c i arg3 harg3 arg4 harg4 arg5 harg5 arg13 harg13 arg14 harg14 arg23 arg24 x2 x3 x4 x12 x13) x, ?_⟩
  refine List.forall_mem_cons.2 ⟨fun x => lift i x2 x3 x4 x12 x13 192 256 inb_S256x1024_S32x128_192_256 _ (piece2_6 c i arg3 harg3 arg4 harg4 arg5 harg5 arg13 harg13 arg14 harg14 arg23 arg24 x2 x3 x4 x12 x13) x, ?_⟩
  refine List.forall_mem_cons.2 ⟨fun x => lift i x2 x3 x4 x12 x13 160 256 inb_S256x1024_S32x128_160_256 _ (piece2_5 c i arg3 harg3 arg4 harg4 arg5 harg5 arg13 harg13 arg14 harg14 arg23 arg24 x2 x3 x4 x12 x13) x, ?_⟩
  refine List.forall_mem_cons.2 ⟨fun x => lift i x2 x3 x4 x12 x13 128 256 inb_S256x1024_S32x128_128_256 _ (piece2_4 c i arg3 harg3 arg4 harg4 arg5 harg5 arg13 harg13 arg14 harg14 arg23 arg24 x2 x3 x4 x12 x13) x, ?_⟩
  refine List.forall_mem_cons.2 ⟨fun x => lift i x2 x3 x4 x12 x13 96 256 inb_S256x1024_S32x128_96_256 _ (piece2_3 c i arg3 harg3 arg4 harg4 arg5 harg5 arg13 harg13 arg14 harg14 arg23 arg24 x2 x3 x4 x12 x13) x, ?_⟩
  refine List.forall_mem_cons.2 ⟨fun x => lift i x2 x3 x4 x12 x13 64 256 inb_S256x1024_S32x128_64_256 _ (piece2_2 c i arg3 harg3 arg4 harg4 arg5 harg5 arg13 harg13 arg14 harg14 arg23 arg24 x2 x3 x4 x12 x13) x, ?_⟩
  refine List.forall_mem_cons.2 ⟨fun x => lift i x2 x3 x4 x12 x13 32 256 inb_S256x1024_S32x128_32_256 _ (piece2_1 c i arg3 harg3 arg4 harg4 arg5 harg5 arg13 harg13 arg14 harg14 arg23 arg24 x2 x3 x4 x12 x13) x, ?_⟩
  refine List.forall_mem_cons.2 ⟨fun x => lift i x2 x3 x4 x12 x13 0 256 inb_S256x1024_S32x128_0_256 _ (piece2_0 c i arg3 harg3 arg4 harg4 arg5 harg5 arg13 harg13 arg14 harg14 arg23 arg24 x2 x3 x4 x12 x13) x, ?_⟩
  refine List.forall_mem_cons.2 ⟨fun x => lift i x2 x3 x4 x12 x13 224 128 inb_S256x1024_S32x128_224_128 _ (piece1_7 c i arg3 harg3 arg4 harg4 arg5 harg5 arg13 harg13 arg14 harg14 arg23 arg24 x2 x3 x4 x12 x13) x, ?_⟩
  refine List.forall_mem_cons.2 ⟨fun x => lift i x2 x3 x4 x12 x13 192 128 inb_S256x1024_S32x128_192_128 _ (piece1_6 c i arg3 harg3 arg4 harg4 arg5 harg5 arg13 harg13 arg14 harg14 arg23 arg24 x2 x3 x4 x12 x13) x, ?_⟩
  refine List.forall_mem_cons.2 ⟨fun x => lift i x2 x3 x4 x12 x13 160 128 inb_S256x1024_S32x128_160_128 _ (piece1_5 c i arg3 harg3 arg4 harg4 arg5 harg5 arg13 harg13 arg14 harg14 arg23 arg24 x2 x3 x4 x12 x13) x, ?_⟩
  refine List.forall_mem_cons.2 ⟨fun x => lift i x2 x3 x4 x12 x13 128 128 inb_S256x1024_S32x128_128_128 _ (piece1_4 c i arg3 harg3 arg4 harg4 arg5 harg5 arg13 harg13 arg14 harg14 arg23 arg24 x2 x3 x4 x12 x13) x, ?_⟩
  refine List.forall_mem_cons.2 ⟨fun x => lift i x2 x3 x4 x12 x13 96 128 inb_S256x1024_S32x128_96_128 _ (piece1_3 c i arg3 harg3 arg4 harg4 arg5 harg5 arg13 harg13 arg14 harg14 arg23 arg24 x2 x3 x4 x12 x13) x, ?_⟩
  refine List.forall_mem_cons.2 ⟨fun x => lift i x2 x3 x4 x12 x13 64 128 inb_S256x1024_S32x128_64_128 _ (piece1_2 c i arg3 harg3 arg4 harg4 arg5 harg5 arg13 harg13 arg14 harg14 arg23 arg24 x2 x3 x4 x12 x13) x, ?_⟩
  refine List.forall_mem_cons.2 ⟨fun x => lift i x2 x3 x4 x12 x13 32 128 inb_S256x1024_S32x128_32_128 _ (piece1_1 c i arg3 harg3 arg4 harg4 arg5 harg5 arg13 harg13 arg14 harg14 arg23 arg24 x2 x3 x4 x12 x13) x, ?_⟩
  refine List.forall_mem_cons.2 ⟨fun x => lift i x2 x3 x4 x12 x13 0 128 inb_S256x1024_S32x128_0_128 _ (piece1_0 c i arg3 harg3 arg4 harg4 arg5 harg5 arg13 harg13 arg14 harg14 arg23 arg24 x2 x3 x4 x12 x13) x, ?_⟩
  refine List.forall_mem_cons.2 ⟨fun x => lift i x2 x3 x4 x12 x13 224 0 inb_S256x1024_S32x128_224_0 _ (piece0_7 c i arg3 harg3 arg4 harg4 arg5 harg5 arg13 harg13 arg14 harg14 arg23 arg24 x2 x3 x4 x12 x13) x, ?_⟩
  refine List.forall_mem_cons.2 ⟨fun x => lift i x2 x3 x4 x12 x13 192 0 inb_S256x1024_S32x128_192_0 _ (piece0_6 c i arg3 harg3 arg4 harg4 arg5 harg5 arg13 harg13 arg14 harg14 arg23 arg24 x2 x3 x4 x12 x13) x, ?_⟩
  refine List.forall_mem_cons.2 ⟨fun x => lift i x2 x3 x4 x12 x13 160 0 inb_S256x1024_S32x128_160_0 _ (piece0_5 c i arg3 harg3 arg4 harg4 arg5 harg5 arg13 harg13 arg14 harg14 arg23 arg24 x2 x3 x4 x12 x13) x, ?_⟩
  refine List.forall_mem_cons.2 ⟨fun x => lift i x2 x3 x4 x12 x13 128 0 inb_S256x1024_S32x128_128_0 _ (piece0_4 c i arg3 harg3 arg4 harg4 arg5 harg5 arg13 harg13 arg14 harg14 arg23 arg24 x2 x3 x4 x12 x13) x, ?_⟩
  refine List.forall_mem_cons.2 ⟨fun x => lift i x2 x3 x4 x12 x13 96 0 inb_S256x1024_S32x128_96_0 _ (piece0_3 c i arg3 harg3 arg4 harg4 arg5 harg5 arg13 harg13 arg14 harg14 arg23 arg24 x2 x3 x4 x12 x13) x, ?_⟩
  refine List.forall_mem_cons.2 ⟨fun x => lift i x2 x3 x4 x12 x13 64 0 inb_S256x1024_S32x128_64_0 _ (piece0_2 c i arg3 harg3 arg4 harg4 arg5 harg5 arg13 harg13 arg14 harg14 arg23 arg24 x2 x3 x4 x12 x13) x, ?_⟩
  refine List.forall_mem_cons.2 ⟨fun x => lift i x2 x3 x4 x12 x13 32 0 inb_S256x1024_S32x128_32_0 _ (piece0_1 c i arg3 harg3 arg4 harg4 arg5 harg5 arg13 harg13 arg14 harg14 arg23 arg24 x2 x3 x4 x12 x13) x, ?_⟩
  refine List.forall_mem_cons.2 ⟨fun x => lift i x2 x3 x4 x12 x13 0 0 inb_S256x1024_S32x128_0_0 _ (piece0_0 c i arg3 harg3 arg4 harg4 arg5 harg5 arg13 harg13 arg14 harg14 arg23 arg24 x2 x3 x4 x12 x13) x, ?_⟩
  exact fun _ h => absurd h List.not_mem_nil

/-- The load of the whole of it. -/
theorem conv_load (r : Fin 256) (j : Fin 1024) :
    @Eq (Elt Ideal .f32) (sl.v12346 (F := Ideal) c i arg3 harg3 arg4 harg4 arg5 harg5 arg13 harg13 arg14 harg14 arg23 arg24 arg25 x2 x3 x4 x12 x13 (ix2 (n0 := 256) (n1 := 1024) r j)) (convN i x2 x3 x4 x12 x13 r j) := by
  unfold sl.v12346
  rw [View.readCov_eq_canon']
  refine (conv_canon c i arg3 harg3 arg4 harg4 arg5 harg5 arg13 harg13 arg14 harg14 arg23 arg24 x2 x3 x4 x12 x13 _).trans (congrArg₂ (convN i x2 x3 x4 x12 x13) ?_ ?_)
  · show 0 + 1 * (r : ℕ) = r
    omega
  · show 0 + 1 * (j : ℕ) = j
    omega

end

end Cert.Kernel3Ideal.Merge
-- ==== Proof.Merge.Block.lean ====
/-
  What a point of the merge's grid stores: row by row the function `second` of its blocks, with the convolution's row.
-/
module

public import proofs.«01_k».proof.Proof.Merge.Conv
import all proofs.«01_k».proof.Proof.Gen.Kernel3Ideal.Frame.RunA

@[expose] public section

set_option maxRecDepth 65536
set_option pp.maxSteps 3000

noncomputable section

namespace Cert.Kernel3Ideal.Merge

open Cert.Kernel3Ideal.Gen.kernelRun0_A
open Cert.Kernel3Ideal Cert.Kernel3Ideal.Gen Cert.Inproj Cert.Merge
open Cert.Kernel2Ideal.Inproj (ld ld2 ld_whole2 zero2)
open Idealize.ShloMosaic hiding ix2 ix3 ix4
open Idealize.ShloMosaic.ValueIdx Idealize.ShloMosaic.TcCoe Idealize.SL.Sem

variable (m : (ℓ : Loc nD τ sig) → Buf (Elt Ideal) ℓ) (c : Dev nD) (t : Fin cfg0.N)

/-- A row of the modulation as a point loads it. -/
def modB (o : ℕ) (ho : o + 1024 ≤ 6144) : Fin 1024 → EReal := fun j => (iblk m c 8 t : Vec Ideal S8x6144 .f32) (ix2 0 ⟨o + j, by omega⟩)

theorem mod_ld (o : ℕ) (ho : o + 1024 ≤ 6144) (inb) :
    row (e := .f32) (ld (iblk m c 8 t : Vec Ideal S8x6144 .f32) (Rect.unit (s := S8x6144) ![0, o] ![1, 1024] inb).toLoadRect) 0 = modB m c t o ho :=
  funext fun j => ld2 (a := 8) (b := 6144) (a' := 1) (b' := 1024) (iblk m c 8 t) 0 o inb 0 j (by decide) (by omega)

theorem out_apply (r : Fin 256) (j : Fin 1024) : @Eq EReal (outsAt0 m c t (ix2 r j)) (second (iblk m c 19 t) (iblk m c 20 t) (row (e := .f32) (iblk m c 10 t) 0)
    (row (e := .f32) (iblk m c 11 t) 0) (modB m c t 3072 (by decide)) (modB m c t 4096 (by decide)) (modB m c t 5120 (by decide))
    (first (iblk m c 16 t) (iblk m c 17 t) (iblk m c 18 t) (row (e := .f32) (iblk m c 14 t) 0) (row (e := .f32) (iblk m c 15 t) 0) (row (e := .f32) (iblk m c 9 t) 0)
      (modB m c t 2048 (by decide)) (row (e := .f32) (iblk m c 0 t) r) (row (e := .bf16) (iblk m c 1 t) r) (row (e := .bf16) (iblk m c 5 t) r)
      (row (e := .bf16) (iblk m c 6 t) r) (row (e := .bf16) (iblk m c 7 t) r)
      (fun q => convN (grid0.coords t) (iblk m c 2 t) (iblk m c 3 t) (iblk m c 4 t) (iblk m c 12 t) (iblk m c 13 t) r q)) j) := by
  unfold outsAt0 out0_A_21
  dsimp only
  rw [View.read_writes_eq_canon _ _ _ (cover0_A_21 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  rw [View.canon_unit_zero (S := S256x1024) zero2]
  unfold sl.r_655 sl.r_656 sl.r_657 sl.r sl.r_653 sl.r_654
  simp only [readAt_eq, ld_whole2]
  refine (pay741_apply _ _ _ _ _ _ _ _ _ _ _ _ _ _ _ _ r j).trans ?_
  rw [mod_ld m c t 3072 (by decide), mod_ld m c t 4096 (by decide), mod_ld m c t 5120 (by decide)]
  refine congrArg (fun f => second _ _ _ _ _ _ _ f j) (funext fun k => ?_)
  refine (pay739_apply _ _ _ _ _ _ _ _ _ _ _ _ _ r k).trans ?_
  rw [mod_ld m c t 2048 (by decide)]
  exact congrArg (fun y => first _ _ _ _ _ _ _ _ _ _ _ _ y k) (funext fun q => conv_load _ _ _ _ _ _ _ _ _ _ _ _ _ _ _ _ _ _ _ _ r q)

end Cert.Kernel3Ideal.Merge
-- ==== Proof.Merge.Reads.lean ====
/-
  What a point of the merge's grid reads of its arguments: point `i` its 256 tokens' rows, the 16 rows of the convolution's input
  before and after them (at the ends the first or last 16 rows, times zero), and all of the rest.
-/
module

public import proofs.«01_k».proof.Proof.Merge.Block
public import proofs.«01_k».proof.Proof.Value.Pre
public import Idealize.ShloMosaic.Lib.Pipeline.ValueKit

@[expose] public section

set_option maxRecDepth 16384

noncomputable section

namespace Cert.Kernel3Ideal.Merge

open Cert.Kernel3Ideal Cert.Kernel3Ideal.Gen Cert.Inproj Cert.Merge
open Idealize.ShloMosaic hiding ix2 ix3 ix4
open Idealize.ShloMosaic.ValueIdx Idealize.ShloMosaic.TcCoe Idealize.SL.Sem

variable (m : (ℓ : Loc nD τ sig) → Buf (Elt Ideal) ℓ)

/-- The block of tokens of a point. -/
def iOf (t : Fin cfg0.N) : Fin 64 := grid0.coords t 0

theorem index0 : ∀ t : Fin cfg0.N, win0_0.index t = ![(iOf t).val, 0] := (by decide +kernel : ∀ t : Fin grid0.N, _)
theorem index1 : ∀ t : Fin cfg0.N, win0_1.index t = ![(iOf t).val, 0] := (by decide +kernel : ∀ t : Fin grid0.N, _)
theorem index3 : ∀ t : Fin cfg0.N, win0_3.index t = ![(iOf t).val, 0] := (by decide +kernel : ∀ t : Fin grid0.N, _)
theorem index5 : ∀ t : Fin cfg0.N, win0_5.index t = ![(iOf t).val, 0] := (by decide +kernel : ∀ t : Fin grid0.N, _)
theorem index6 : ∀ t : Fin cfg0.N, win0_6.index t = ![(iOf t).val, 0] := (by decide +kernel : ∀ t : Fin grid0.N, _)
theorem index7 : ∀ t : Fin cfg0.N, win0_7.index t = ![(iOf t).val, 0] := (by decide +kernel : ∀ t : Fin grid0.N, _)
theorem index2 : ∀ t : Fin cfg0.N, win0_2.index t = ![16 * (iOf t).val - 1, 0] := (by decide +kernel : ∀ t : Fin grid0.N, _)
theorem index4 : ∀ t : Fin cfg0.N, win0_4.index t = ![min (16 * (iOf t).val + 16) 1023, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![0, 0] := (by decide +kernel : ∀ t : Fin grid0.N, _)
theorem index12 : ∀ t : Fin cfg0.N, win0_12.index t = ![0, 0] := (by decide +kernel : ∀ t : Fin grid0.N, _)
theorem index13 : ∀ t : Fin cfg0.N, win0_13.index t = ![0, 0] := (by decide +kernel : ∀ t : Fin grid0.N, _)
theorem index14 : ∀ t : Fin cfg0.N, win0_14.index t = ![0, 0] := (by decide +kernel : ∀ t : Fin grid0.N, _)
theorem index15 : ∀ t : Fin cfg0.N, win0_15.index t = ![0, 0] := (by decide +kernel : ∀ t : Fin grid0.N, _)
theorem index16 : ∀ t : Fin cfg0.N, win0_16.index t = ![0, 0] := (by decide +kernel : ∀ t : Fin grid0.N, _)
theorem index17 : ∀ t : Fin cfg0.N, win0_17.index t = ![0, 0] := (by decide +kernel : ∀ t : Fin grid0.N, _)
theorem index18 : ∀ t : Fin cfg0.N, win0_18.index t = ![0, 0] := (by decide +kernel : ∀ t : Fin grid0.N, _)
theorem index19 : ∀ t : Fin cfg0.N, win0_19.index t = ![0, 0] := (by decide +kernel : ∀ t : Fin grid0.N, _)
theorem index20 : ∀ t : Fin cfg0.N, win0_20.index t = ![0, 0] := (by decide +kernel : ∀ t : Fin grid0.N, _)

theorem blk0 (c : Dev nD) (t : Fin cfg0.N) (r : Fin 256) (k : Fin 1024) :
    iblk m c 0 t (ix2 r k) = m ((c : Thread nD τ).loc main_arg0) (ix2 ⟨256 * iOf t + r, by omega⟩ k) := by
  refine Eq.trans ?_ (congrFun (V_main_arg0 m c) _)
  refine congrArg (V m c main_arg0) (funext fun a => Fin.ext ?_)
  refine (win0_0.rect_emb_val t (ix2 r k) a).trans ?_
  rw [index0]
  match a with
  | 0 => show (iOf t).val * 256 + r = 256 * iOf t + r
         omega
  | 1 => show 0 * 1024 + k = (k : ℕ)
         omega

theorem blk1 (c : Dev nD) (t : Fin cfg0.N) (r : Fin 256) (k : Fin 1024) :
    iblk m c 1 t (ix2 r k) = m ((c : Thread nD τ).loc main_arg1) (ix2 ⟨256 * iOf t + r, by omega⟩ k) := by
  refine Eq.trans ?_ (congrFun (V_main_arg1 m c) _)
  refine congrArg (V m c main_arg1) (funext fun a => Fin.ext ?_)
  refine (win0_1.rect_emb_val t (ix2 r k) a).trans ?_
  rw [index1]
  match a with
  | 0 => show (iOf t).val * 256 + r = 256 * iOf t + r
         omega
  | 1 => show 0 * 1024 + k = (k : ℕ)
         omega

theorem blk3 (c : Dev nD) (t : Fin cfg0.N) (r : Fin 256) (k : Fin 1024) :
    iblk m c 3 t (ix2 r k) = m ((c : Thread nD τ).loc main_arg2) (ix2 ⟨256 * iOf t + r, by omega⟩ k) := by
  refine Eq.trans ?_ (congrFun (V_main_arg2 m c) _)
  refine congrArg (V m c main_arg2) (funext fun a => Fin.ext ?_)
  refine (win0_3.rect_emb_val t (ix2 r k) a).trans ?_
  rw [index3]
  match a with
  | 0 => show (iOf t).val * 256 + r = 256 * iOf t + r
         omega
  | 1 => show 0 * 1024 + k = (k : ℕ)
         omega

theorem blk5 (c : Dev nD) (t : Fin cfg0.N) (r : Fin 256) (k : Fin 1024) :
    iblk m c 5 t (ix2 r k) = m ((c : Thread nD τ).loc main_arg3) (ix2 ⟨256 * iOf t + r, by omega⟩ k) := by
  refine Eq.trans ?_ (congrFun (V_main_arg3 m c) _)
  refine congrArg (V m c main_arg3) (funext fun a => Fin.ext ?_)
  refine (win0_5.rect_emb_val t (ix2 r k) a).trans ?_
  rw [index5]
  match a with
  | 0 => show (iOf t).val * 256 + r = 256 * iOf t + r
         omega
  | 1 => show 0 * 1024 + k = (k : ℕ)
         omega

theorem blk6 (c : Dev nD) (t : Fin cfg0.N) (r : Fin 256) (k : Fin 1024) :
    iblk m c 6 t (ix2 r k) = m ((c : Thread nD τ).loc main_arg4) (ix2 ⟨256 * iOf t + r, by omega⟩ k) := by
  refine Eq.trans ?_ (congrFun (V_main_arg4 m c) _)
  refine congrArg (V m c main_arg4) (funext fun a => Fin.ext ?_)
  refine (win0_6.rect_emb_val t (ix2 r k) a).trans ?_
  rw [index6]
  match a with
  | 0 => show (iOf t).val * 256 + r = 256 * iOf t + r
         omega
  | 1 => show 0 * 1024 + k = (k : ℕ)
         omega

theorem blk7 (c : Dev nD) (t : Fin cfg0.N) (r : Fin 256) (k : Fin 1024) :
    iblk m c 7 t (ix2 r k) = m ((c : Thread nD τ).loc main_arg5) (ix2 ⟨256 * iOf t + r, by omega⟩ k) := by
  refine Eq.trans ?_ (congrFun (V_main_arg5 m c) _)
  refine congrArg (V m c main_arg5) (funext fun a => Fin.ext ?_)
  refine (win0_7.rect_emb_val t (ix2 r k) a).trans ?_
  rw [index7]
  match a with
  | 0 => show (iOf t).val * 256 + r = 256 * iOf t + r
         omega
  | 1 => show 0 * 1024 + k = (k : ℕ)
         omega

theorem blk2 (c : Dev nD) (t : Fin cfg0.N) (h : 0 < (iOf t).val) (r : Fin 16) (k : Fin 1024) :
    iblk m c 2 t (ix2 r k) = m ((c : Thread nD τ).loc main_arg2) (ix2 ⟨256 * iOf t - 16 + r, by omega⟩ k) := by
  refine Eq.trans ?_ (congrFun (V_main_arg2 m c) _)
  refine congrArg (V m c main_arg2) (funext fun a => Fin.ext ?_)
  refine (win0_2.rect_emb_val t (ix2 r k) a).trans ?_
  rw [index2]
  match a with
  | 0 => show (16 * (iOf t).val - 1) * 16 + r = 256 * iOf t - 16 + r
         omega
  | 1 => show 0 * 1024 + k = (k : ℕ)
         omega

theorem blk4 (c : Dev nD) (t : Fin cfg0.N) (h : (iOf t).val < 63) (r : Fin 16) (k : Fin 1024) :
    iblk m c 4 t (ix2 r k) = m ((c : Thread nD τ).loc main_arg2) (ix2 ⟨256 * iOf t + 256 + r, by omega⟩ k) := by
  refine Eq.trans ?_ (congrFun (V_main_arg2 m c) _)
  refine congrArg (V m c main_arg2) (funext fun a => Fin.ext ?_)
  refine (win0_4.rect_emb_val t (ix2 r k) a).trans ?_
  rw [index4]
  match a with
  | 0 => show min (16 * (iOf t).val + 16) 1023 * 16 + r = 256 * iOf t + 256 + r
         omega
  | 1 => show 0 * 1024 + k = (k : ℕ)
         omega

theorem blk8 (c : Dev nD) (t : Fin cfg0.N) : iblk m c 8 t = m ((c : Thread nD τ).loc main_arg6) := by
  refine Eq.trans ?_ (V_main_arg6 m c)
  funext x
  refine congrArg (V m c main_arg6) (funext fun a => Fin.ext ?_)
  refine (win0_8.rect_emb_val t x a).trans ?_
  rw [index8]
  match a with
  | 0 => show 0 * 8 + (x 0).val = (x 0).val
         omega
  | 1 => show 0 * 6144 + (x 1).val = (x 1).val
         omega

theorem blk9 (c : Dev nD) (t : Fin cfg0.N) : iblk m c 9 t = m ((c : Thread nD τ).loc main_arg7) := by
  refine Eq.trans ?_ (V_main_arg7 m c)
  funext x
  refine congrArg (V m c main_arg7) (funext fun a => Fin.ext ?_)
  refine (win0_9.rect_emb_val t x a).trans ?_
  rw [index9]
  match a with
  | 0 => show 0 * 1 + (x 0).val = (x 0).val
         omega
  | 1 => show 0 * 1024 + (x 1).val = (x 1).val
         omega

theorem blk10 (c : Dev nD) (t : Fin cfg0.N) : iblk m c 10 t = m ((c : Thread nD τ).loc main_arg8) := by
  refine Eq.trans ?_ (V_main_arg8 m c)
  funext x
  refine congrArg (V m c main_arg8) (funext fun a => Fin.ext ?_)
  refine (win0_10.rect_emb_val t x a).trans ?_
  rw [index10]
  match a with
  | 0 => show 0 * 1 + (x 0).val = (x 0).val
         omega
  | 1 => show 0 * 1024 + (x 1).val = (x 1).val
         omega

theorem blk11 (c : Dev nD) (t : Fin cfg0.N) : iblk m c 11 t = m ((c : Thread nD τ).loc main_arg9) := by
  refine Eq.trans ?_ (V_main_arg9 m c)
  funext x
  refine congrArg (V m c main_arg9) (funext fun a => Fin.ext ?_)
  refine (win0_11.rect_emb_val t x a).trans ?_
  rw [index11]
  match a with
  | 0 => show 0 * 1 + (x 0).val = (x 0).val
         omega
  | 1 => show 0 * 1024 + (x 1).val = (x 1).val
         omega

theorem blk12 (c : Dev nD) (t : Fin cfg0.N) : iblk m c 12 t = m ((c : Thread nD τ).loc main_arg10) := by
  refine Eq.trans ?_ (V_main_arg10 m c)
  funext x
  refine congrArg (V m c main_arg10) (funext fun a => Fin.ext ?_)
  refine (win0_12.rect_emb_val t x a).trans ?_
  rw [index12]
  match a with
  | 0 => show 0 * 31 + (x 0).val = (x 0).val
         omega
  | 1 => show 0 * 1024 + (x 1).val = (x 1).val
         omega

theorem blk13 (c : Dev nD) (t : Fin cfg0.N) : iblk m c 13 t = m ((c : Thread nD τ).loc main_arg11) := by
  refine Eq.trans ?_ (V_main_arg11 m c)
  funext x
  refine congrArg (V m c main_arg11) (funext fun a => Fin.ext ?_)
  refine (win0_13.rect_emb_val t x a).trans ?_
  rw [index13]
  match a with
  | 0 => show 0 * 1 + (x 0).val = (x 0).val
         omega
  | 1 => show 0 * 1024 + (x 1).val = (x 1).val
         omega

theorem blk14 (c : Dev nD) (t : Fin cfg0.N) : iblk m c 14 t = m ((c : Thread nD τ).loc main_arg12) := by
  refine Eq.trans ?_ (V_main_arg12 m c)
  funext x
  refine congrArg (V m c main_arg12) (funext fun a => Fin.ext ?_)
  refine (win0_14.rect_emb_val t x a).trans ?_
  rw [index14]
  match a with
  | 0 => show 0 * 1 + (x 0).val = (x 0).val
         omega
  | 1 => show 0 * 1024 + (x 1).val = (x 1).val
         omega

theorem blk15 (c : Dev nD) (t : Fin cfg0.N) : iblk m c 15 t = m ((c : Thread nD τ).loc main_arg13) := by
  refine Eq.trans ?_ (V_main_arg13 m c)
  funext x
  refine congrArg (V m c main_arg13) (funext fun a => Fin.ext ?_)
  refine (win0_15.rect_emb_val t x a).trans ?_
  rw [index15]
  match a with
  | 0 => show 0 * 1 + (x 0).val = (x 0).val
         omega
  | 1 => show 0 * 1024 + (x 1).val = (x 1).val
         omega

theorem blk16 (c : Dev nD) (t : Fin cfg0.N) : iblk m c 16 t = m ((c : Thread nD τ).loc main_arg14) := by
  refine Eq.trans ?_ (V_main_arg14 m c)
  funext x
  refine congrArg (V m c main_arg14) (funext fun a => Fin.ext ?_)
  refine (win0_16.rect_emb_val t x a).trans ?_
  rw [index16]
  match a with
  | 0 => show 0 * 1024 + (x 0).val = (x 0).val
         omega
  | 1 => show 0 * 1024 + (x 1).val = (x 1).val
         omega

theorem blk17 (c : Dev nD) (t : Fin cfg0.N) : iblk m c 17 t = m ((c : Thread nD τ).loc main_arg15) := by
  refine Eq.trans ?_ (V_main_arg15 m c)
  funext x
  refine congrArg (V m c main_arg15) (funext fun a => Fin.ext ?_)
  refine (win0_17.rect_emb_val t x a).trans ?_
  rw [index17]
  match a with
  | 0 => show 0 * 1024 + (x 0).val = (x 0).val
         omega
  | 1 => show 0 * 1024 + (x 1).val = (x 1).val
         omega

theorem blk18 (c : Dev nD) (t : Fin cfg0.N) : iblk m c 18 t = m ((c : Thread nD τ).loc main_arg16) := by
  refine Eq.trans ?_ (V_main_arg16 m c)
  funext x
  refine congrArg (V m c main_arg16) (funext fun a => Fin.ext ?_)
  refine (win0_18.rect_emb_val t x a).trans ?_
  rw [index18]
  match a with
  | 0 => show 0 * 1024 + (x 0).val = (x 0).val
         omega
  | 1 => show 0 * 1024 + (x 1).val = (x 1).val
         omega

theorem blk19 (c : Dev nD) (t : Fin cfg0.N) : iblk m c 19 t = m ((c : Thread nD τ).loc main_arg17) := by
  refine Eq.trans ?_ (V_main_arg17 m c)
  funext x
  refine congrArg (V m c main_arg17) (funext fun a => Fin.ext ?_)
  refine (win0_19.rect_emb_val t x a).trans ?_
  rw [index19]
  match a with
  | 0 => show 0 * 1024 + (x 0).val = (x 0).val
         omega
  | 1 => show 0 * 4096 + (x 1).val = (x 1).val
         omega

theorem blk20 (c : Dev nD) (t : Fin cfg0.N) : iblk m c 20 t = m ((c : Thread nD τ).loc main_arg18) := by
  refine Eq.trans ?_ (V_main_arg18 m c)
  funext x
  refine congrArg (V m c main_arg18) (funext fun a => Fin.ext ?_)
  refine (win0_20.rect_emb_val t x a).trans ?_
  rw [index20]
  match a with
  | 0 => show 0 * 4096 + (x 0).val = (x 0).val
         omega
  | 1 => show 0 * 1024 + (x 1).val = (x 1).val
         omega

theorem sgt_eq : ∀ a : Fin 64, Scalar.cmpi .sgt (BitVec.ofNat 32 a.val) 0#32 = if 0 < a.val then 1#1 else 0#1 := by decide +kernel

theorem slt_eq : ∀ a : Fin 64, Scalar.cmpi .slt (BitVec.ofNat 32 a.val) 63#32 = if a.val < 63 then 1#1 else 0#1 := by decide +kernel

theorem sel_one (x y : EReal) : Scalar.select 1#1 x y = x := rfl

theorem sel_zero (x y : EReal) : Scalar.select 0#1 x y = y := rfl

theorem keepP_eq (t : Fin cfg0.N) : keepP (grid0.coords t) = if 0 < (iOf t).val then 1 else 0 := by
  unfold keepP
  show Scalar.select (Scalar.cmpi .sgt (BitVec.ofNat 32 (iOf t).val) 0#32) (Ideal.ofBits .f32 0x3F800000#32 : EReal) (Ideal.ofBits .f32 0x00000000#32) = _
  rw [sgt_eq, Cert.KernelIdeal.Flash.ofBits_one, Ideal.ofBits_zero_f32]
  by_cases h : 0 < (iOf t).val
  · rw [if_pos h, if_pos h, sel_one]
  · rw [if_neg h, if_neg h, sel_zero]

theorem keepN_eq (t : Fin cfg0.N) : keepN (grid0.coords t) = if (iOf t).val < 63 then 1 else 0 := by
  unfold keepN
  show Scalar.select (Scalar.cmpi .slt (BitVec.ofNat 32 (iOf t).val) 63#32) (Ideal.ofBits .f32 0x3F800000#32 : EReal) (Ideal.ofBits .f32 0x00000000#32) = _
  rw [slt_eq, Cert.KernelIdeal.Flash.ofBits_one, Ideal.ofBits_zero_f32]
  by_cases h : (iOf t).val < 63
  · rw [if_pos h, if_pos h, sel_one]
  · rw [if_neg h, if_neg h, sel_zero]

/-- The convolution's input. -/
abbrev glu (c : Dev nD) : Vec Ideal S16384x1024 .bf16 := m ((c : Thread nD τ).loc main_arg2)

/-- A row of the window is a row of the padded input. -/
theorem win_eq (c : Dev nD) (t : Fin cfg0.N) (p : ℕ) (h0 : p < 287) (q : Fin 1024) :
    win (grid0.coords t) (iblk m c 2 t) (iblk m c 3 t) (iblk m c 4 t) (p + 1) q = padded (glu m c) (256 * iOf t + p) q := by
  have hi := (iOf t).isLt
  unfold win padded
  rw [ofNat_eq q q.val rfl, keepP_eq, keepN_eq]
  by_cases h1 : p + 1 < 16
  · rw [if_pos h1]
    by_cases h : 0 < (iOf t).val
    · rw [if_pos h, mul_one, blk2 m c t h, dif_pos (by omega)]
      refine congrArg (fun a => glu m c (ix2 a q)) (Fin.ext ?_)
      show 256 * (iOf t).val - 16 + (p + 1) % 16 = 256 * (iOf t).val + p - 15
      omega
    · rw [if_neg h, mul_zero, dif_neg (by omega)]
  · rw [if_neg h1]
    by_cases h2 : p + 1 < 272
    · rw [if_pos h2, blk3 m c t, dif_pos (by omega)]
      refine congrArg (fun a => glu m c (ix2 a q)) (Fin.ext ?_)
      show 256 * (iOf t).val + (p + 1 - 16) % 256 = 256 * (iOf t).val + p - 15
      omega
    · rw [if_neg h2]
      by_cases h : (iOf t).val < 63
      · rw [if_pos h, mul_one, blk4 m c t h, dif_pos (by omega)]
        refine congrArg (fun a => glu m c (ix2 a q)) (Fin.ext ?_)
        show 256 * (iOf t).val + 256 + (p + 1 - 272) % 16 = 256 * (iOf t).val + p - 15
        omega
      · rw [if_neg h, mul_zero, dif_neg (by omega)]

/-- The convolution of a point's row. -/
theorem convN_eq (c : Dev nD) (t : Fin cfg0.N) (r : Fin 256) (q : Fin 1024) :
    convN (grid0.coords t) (iblk m c 2 t) (iblk m c 3 t) (iblk m c 4 t) (iblk m c 12 t) (iblk m c 13 t) r q
      = conv (wt (m ((c : Thread nD τ).loc main_arg10)) q) (fun k => padded (glu m c) (256 * iOf t + r + k) q)
        ((m ((c : Thread nD τ).loc main_arg11) : Vec Ideal S1x1024 .f32) (ix2 0 q)) := by
  unfold convN conv tapN offN wt
  rw [ofNat_eq q q.val rfl, blk12, blk13]
  refine congrArg (fun x : EReal => x + _) (Finset.sum_congr rfl fun k hk => ?_)
  have hk := Finset.mem_range.mp hk
  refine congrArg (fun x : EReal => _ * x) ?_
  rw [← Nat.add_assoc (r : ℕ) k 1, win_eq m c t (r + k) (by omega) q, ← Nat.add_assoc]

end Cert.Kernel3Ideal.Merge
-- ==== Proof.Merge.Ref.lean ====
/-
  The reference's last steps, element by element: the convolution of a channel as a filter on the padded rows (`conv_eq`), the token
  after the mixing (`first_eq`) and after the MLP (`second_eq`).
-/
module

public import proofs.«01_k».proof.Proof.Gen.Reference3Ideal.Read
public import proofs.«01_k».proof.Proof.Merge.Rows
public import Idealize.ShloMosaic.Lib.KernelVsHost

@[expose] public section

set_option maxRecDepth 16384

noncomputable section

namespace Cert.Reference3Ideal.Merge

open Cert.Reference3Ideal Cert.Reference3Ideal.Gen Cert.Reference3Ideal.Read
open Idealize.ShloMosaic Idealize.ShloMosaic.ValueIdx
open Cert.Inproj (rms sigm)
open Cert.Merge

/-- An index of a matrix is the pair of its coordinates. -/
theorem of2 {a b : ℕ} (i : Shape.Idx ⟨2, ![a, b]⟩) : i = ix2 (i 0) (i 1) := funext fun x => match x with
  | ⟨0, _⟩ => rfl
  | ⟨1, _⟩ => rfl

/-- A sum from the literal zero. -/
theorem zsum (x : EReal) : (FloatOps.ofBits (F := Ideal) .f32 0x00000000#32 : EReal) + x = x := by
  show Ideal.ofBits .f32 0x00000000#32 + x = x
  rw [Ideal.ofBits_zero_f32, zero_add]

/-- Two pairs with the same numbers are the same index. -/
theorem same2 {a b : ℕ} (i k : Shape.Idx ⟨2, ![a, b]⟩) (h0 : (i 0 : ℕ) = k 0) (h1 : (i 1 : ℕ) = k 1) : i = k := funext fun x => match x with
  | ⟨0, _⟩ => Fin.ext h0
  | ⟨1, _⟩ => Fin.ext h1

/-- The padded array at an index. -/
theorem pad_eq (x2 : Vec Ideal S16384x1024 .bf16) (i : S16414x1024.Idx) : val_main_v5 (F := Ideal) x2 i = padded x2 (i 0) (i 1) := by
  unfold val_main_v5 padded
  by_cases h : 15 ≤ (i 0 : ℕ) ∧ (i 0 : ℕ) < 16399
  · rw [dif_pos h]
    exact pad_apply_of_inside _ _ _ _ _ _ _ i (ix2 ⟨(i 0 : ℕ) - 15, by omega⟩ (i 1)) (fun a => match a with
      | ⟨0, _⟩ => by show (i 0 : ℕ) = 15 + ((i 0 : ℕ) - 15) * (0 + 1); omega
      | ⟨1, _⟩ => by show (i 1 : ℕ) = 0 + (i 1 : ℕ) * (0 + 1); omega)
  · rw [dif_neg h]
    refine (pad_apply_of_not_inside _ _ _ _ _ _ _ i 0 ?_).trans ?_
    · show ¬(15 ≤ (i 0 : ℕ) ∧ ((i 0 : ℕ) - 15) % (0 + 1) = 0 ∧ ((i 0 : ℕ) - 15) / (0 + 1) < 16384)
      rw [Nat.div_one]
      omega
    · show (((0#32 : BitVec 32).toInt : ℝ) : EReal) = 0
      simp

theorem tap0 (x2 : Vec Ideal S16384x1024 .bf16) (x10 : Vec Ideal S31x1024 .f32) (T : Fin 16384) (j : Fin 1024) :
    val_main_v11 (F := Ideal) x2 x10 (ix2 T j) = wt x10 j 0 * padded x2 (T + 0) j := by
  rw [val_main_v11_apply, val_main_v10_apply, val_main_v9_apply, val_main_v7_apply, val_main_v6_apply, val_main_v8_apply, pad_eq]
  exact congrArg₂ (fun a b : EReal => a * b) (congrArg x10 (same2 _ _ rfl (Nat.mod_eq_of_lt j.isLt)))
    (congrArg (fun p => padded x2 p j) (rfl))

theorem tap1 (x2 : Vec Ideal S16384x1024 .bf16) (x10 : Vec Ideal S31x1024 .f32) (T : Fin 16384) (j : Fin 1024) :
    val_main_v19 (F := Ideal) x2 x10 (ix2 T j) = wt x10 j 1 * padded x2 (T + 1) j := by
  rw [val_main_v19_apply, val_main_v18_apply, val_main_v17_apply, val_main_v15_apply, val_main_v14_apply, val_main_v16_apply, pad_eq]
  exact congrArg₂ (fun a b : EReal => a * b) (congrArg x10 (same2 _ _ rfl (Nat.mod_eq_of_lt j.isLt)))
    (congrArg (fun p => padded x2 p j) (Nat.add_comm 1 T))

theorem tap2 (x2 : Vec Ideal S16384x1024 .bf16) (x10 : Vec Ideal S31x1024 .f32) (T : Fin 16384) (j : Fin 1024) :
    val_main_v26 (F := Ideal) x2 x10 (ix2 T j) = wt x10 j 2 * padded x2 (T + 2) j := by
  rw [val_main_v26_apply, val_main_v25_apply, val_main_v24_apply, val_main_v22_apply, val_main_v21_apply, val_main_v23_apply, pad_eq]
  exact congrArg₂ (fun a b : EReal => a * b) (congrArg x10 (same2 _ _ rfl (Nat.mod_eq_of_lt j.isLt)))
    (congrArg (fun p => padded x2 p j) (Nat.add_comm 2 T))

theorem tap3 (x2 : Vec Ideal S16384x1024 .bf16) (x10 : Vec Ideal S31x1024 .f32) (T : Fin 16384) (j : Fin 1024) :
    val_main_v33 (F := Ideal) x2 x10 (ix2 T j) = wt x10 j 3 * padded x2 (T + 3) j := by
  rw [val_main_v33_apply, val_main_v32_apply, val_main_v31_apply, val_main_v29_apply, val_main_v28_apply, val_main_v30_apply, pad_eq]
  exact congrArg₂ (fun a b : EReal => a * b) (congrArg x10 (same2 _ _ rfl (Nat.mod_eq_of_lt j.isLt)))
    (congrArg (fun p => padded x2 p j) (Nat.add_comm 3 T))

theorem tap4 (x2 : Vec Ideal S16384x1024 .bf16) (x10 : Vec Ideal S31x1024 .f32) (T : Fin 16384) (j : Fin 1024) :
    val_main_v40 (F := Ideal) x2 x10 (ix2 T j) = wt x10 j 4 * padded x2 (T + 4) j := by
  rw [val_main_v40_apply, val_main_v39_apply, val_main_v38_apply, val_main_v36_apply, val_main_v35_apply, val_main_v37_apply, pad_eq]
  exact congrArg₂ (fun a b : EReal => a * b) (congrArg x10 (same2 _ _ rfl (Nat.mod_eq_of_lt j.isLt)))
    (congrArg (fun p => padded x2 p j) (Nat.add_comm 4 T))

theorem tap5 (x2 : Vec Ideal S16384x1024 .bf16) (x10 : Vec Ideal S31x1024 .f32) (T : Fin 16384) (j : Fin 1024) :
    val_main_v47 (F := Ideal) x2 x10 (ix2 T j) = wt x10 j 5 * padded x2 (T + 5) j := by
  rw [val_main_v47_apply, val_main_v46_apply, val_main_v45_apply, val_main_v43_apply, val_main_v42_apply, val_main_v44_apply, pad_eq]
  exact congrArg₂ (fun a b : EReal => a * b) (congrArg x10 (same2 _ _ rfl (Nat.mod_eq_of_lt j.isLt)))
    (congrArg (fun p => padded x2 p j) (Nat.add_comm 5 T))

theorem tap6 (x2 : Vec Ideal S16384x1024 .bf16) (x10 : Vec Ideal S31x1024 .f32) (T : Fin 16384) (j : Fin 1024) :
    val_main_v54 (F := Ideal) x2 x10 (ix2 T j) = wt x10 j 6 * padded x2 (T + 6) j := by
  rw [val_main_v54_apply, val_main_v53_apply, val_main_v52_apply, val_main_v50_apply, val_main_v49_apply, val_main_v51_apply, pad_eq]
  exact congrArg₂ (fun a b : EReal => a * b) (congrArg x10 (same2 _ _ rfl (Nat.mod_eq_of_lt j.isLt)))
    (congrArg (fun p => padded x2 p j) (Nat.add_comm 6 T))

theorem tap7 (x2 : Vec Ideal S16384x1024 .bf16) (x10 : Vec Ideal S31x1024 .f32) (T : Fin 16384) (j : Fin 1024) :
    val_main_v61 (F := Ideal) x2 x10 (ix2 T j) = wt x10 j 7 * padded x2 (T + 7) j := by
  rw [val_main_v61_apply, val_main_v60_apply, val_main_v59_apply, val_main_v57_apply, val_main_v56_apply, val_main_v58_apply, pad_eq]
  exact congrArg₂ (fun a b : EReal => a * b) (congrArg x10 (same2 _ _ rfl (Nat.mod_eq_of_lt j.isLt)))
    (congrArg (fun p => padded x2 p j) (Nat.add_comm 7 T))

theorem tap8 (x2 : Vec Ideal S16384x1024 .bf16) (x10 : Vec Ideal S31x1024 .f32) (T : Fin 16384) (j : Fin 1024) :
    val_main_v68 (F := Ideal) x2 x10 (ix2 T j) = wt x10 j 8 * padded x2 (T + 8) j := by
  rw [val_main_v68_apply, val_main_v67_apply, val_main_v66_apply, val_main_v64_apply, val_main_v63_apply, val_main_v65_apply, pad_eq]
  exact congrArg₂ (fun a b : EReal => a * b) (congrArg x10 (same2 _ _ rfl (Nat.mod_eq_of_lt j.isLt)))
    (congrArg (fun p => padded x2 p j) (Nat.add_comm 8 T))

theorem tap9 (x2 : Vec Ideal S16384x1024 .bf16) (x10 : Vec Ideal S31x1024 .f32) (T : Fin 16384) (j : Fin 1024) :
    val_main_v75 (F := Ideal) x2 x10 (ix2 T j) = wt x10 j 9 * padded x2 (T + 9) j := by
  rw [val_main_v75_apply, val_main_v74_apply, val_main_v73_apply, val_main_v71_apply, val_main_v70_apply, val_main_v72_apply, pad_eq]
  exact congrArg₂ (fun a b : EReal => a * b) (congrArg x10 (same2 _ _ rfl (Nat.mod_eq_of_lt j.isLt)))
    (congrArg (fun p => padded x2 p j) (Nat.add_comm 9 T))

theorem tap10 (x2 : Vec Ideal S16384x1024 .bf16) (x10 : Vec Ideal S31x1024 .f32) (T : Fin 16384) (j : Fin 1024) :
    val_main_v82 (F := Ideal) x2 x10 (ix2 T j) = wt x10 j 10 * padded x2 (T + 10) j := by
  rw [val_main_v82_apply, val_main_v81_apply, val_main_v80_apply, val_main_v78_apply, val_main_v77_apply, val_main_v79_apply, pad_eq]
  exact congrArg₂ (fun a b : EReal => a * b) (congrArg x10 (same2 _ _ rfl (Nat.mod_eq_of_lt j.isLt)))
    (congrArg (fun p => padded x2 p j) (Nat.add_comm 10 T))

theorem tap11 (x2 : Vec Ideal S16384x1024 .bf16) (x10 : Vec Ideal S31x1024 .f32) (T : Fin 16384) (j : Fin 1024) :
    val_main_v89 (F := Ideal) x2 x10 (ix2 T j) = wt x10 j 11 * padded x2 (T + 11) j := by
  rw [val_main_v89_apply, val_main_v88_apply, val_main_v87_apply, val_main_v85_apply, val_main_v84_apply, val_main_v86_apply, pad_eq]
  exact congrArg₂ (fun a b : EReal => a * b) (congrArg x10 (same2 _ _ rfl (Nat.mod_eq_of_lt j.isLt)))
    (congrArg (fun p => padded x2 p j) (Nat.add_comm 11 T))

theorem tap12 (x2 : Vec Ideal S16384x1024 .bf16) (x10 : Vec Ideal S31x1024 .f32) (T : Fin 16384) (j : Fin 1024) :
    val_main_v96 (F := Ideal) x2 x10 (ix2 T j) = wt x10 j 12 * padded x2 (T + 12) j := by
  rw [val_main_v96_apply, val_main_v95_apply, val_main_v94_apply, val_main_v92_apply, val_main_v91_apply, val_main_v93_apply, pad_eq]
  exact congrArg₂ (fun a b : EReal => a * b) (congrArg x10 (same2 _ _ rfl (Nat.mod_eq_of_lt j.isLt)))
    (congrArg (fun p => padded x2 p j) (Nat.add_comm 12 T))

theorem tap13 (x2 : Vec Ideal S16384x1024 .bf16) (x10 : Vec Ideal S31x1024 .f32) (T : Fin 16384) (j : Fin 1024) :
    val_main_v103 (F := Ideal) x2 x10 (ix2 T j) = wt x10 j 13 * padded x2 (T + 13) j := by
  rw [val_main_v103_apply, val_main_v102_apply, val_main_v101_apply, val_main_v99_apply, val_main_v98_apply, val_main_v100_apply, pad_eq]
  exact congrArg₂ (fun a b : EReal => a * b) (congrArg x10 (same2 _ _ rfl (Nat.mod_eq_of_lt j.isLt)))
    (congrArg (fun p => padded x2 p j) (Nat.add_comm 13 T))

theorem tap14 (x2 : Vec Ideal S16384x1024 .bf16) (x10 : Vec Ideal S31x1024 .f32) (T : Fin 16384) (j : Fin 1024) :
    val_main_v110 (F := Ideal) x2 x10 (ix2 T j) = wt x10 j 14 * padded x2 (T + 14) j := by
  rw [val_main_v110_apply, val_main_v109_apply, val_main_v108_apply, val_main_v106_apply, val_main_v105_apply, val_main_v107_apply, pad_eq]
  exact congrArg₂ (fun a b : EReal => a * b) (congrArg x10 (same2 _ _ rfl (Nat.mod_eq_of_lt j.isLt)))
    (congrArg (fun p => padded x2 p j) (Nat.add_comm 14 T))

theorem tap15 (x2 : Vec Ideal S16384x1024 .bf16) (x10 : Vec Ideal S31x1024 .f32) (T : Fin 16384) (j : Fin 1024) :
    val_main_v117 (F := Ideal) x2 x10 (ix2 T j) = wt x10 j 15 * padded x2 (T + 15) j := by
  rw [val_main_v117_apply, val_main_v116_apply, val_main_v115_apply, val_main_v113_apply, val_main_v112_apply, val_main_v114_apply, pad_eq]
  exact congrArg₂ (fun a b : EReal => a * b) (congrArg x10 (same2 _ _ rfl (Nat.mod_eq_of_lt j.isLt)))
    (congrArg (fun p => padded x2 p j) (Nat.add_comm 15 T))

theorem tap16 (x2 : Vec Ideal S16384x1024 .bf16) (x10 : Vec Ideal S31x1024 .f32) (T : Fin 16384) (j : Fin 1024) :
    val_main_v124 (F := Ideal) x2 x10 (ix2 T j) = wt x10 j 16 * padded x2 (T + 16) j := by
  rw [val_main_v124_apply, val_main_v123_apply, val_main_v122_apply, val_main_v120_apply, val_main_v119_apply, val_main_v121_apply, pad_eq]
  exact congrArg₂ (fun a b : EReal => a * b) (congrArg x10 (same2 _ _ rfl (Nat.mod_eq_of_lt j.isLt)))
    (congrArg (fun p => padded x2 p j) (Nat.add_comm 16 T))

theorem tap17 (x2 : Vec Ideal S16384x1024 .bf16) (x10 : Vec Ideal S31x1024 .f32) (T : Fin 16384) (j : Fin 1024) :
    val_main_v131 (F := Ideal) x2 x10 (ix2 T j) = wt x10 j 17 * padded x2 (T + 17) j := by
  rw [val_main_v131_apply, val_main_v130_apply, val_main_v129_apply, val_main_v127_apply, val_main_v126_apply, val_main_v128_apply, pad_eq]
  exact congrArg₂ (fun a b : EReal => a * b) (congrArg x10 (same2 _ _ rfl (Nat.mod_eq_of_lt j.isLt)))
    (congrArg (fun p => padded x2 p j) (Nat.add_comm 17 T))

theorem tap18 (x2 : Vec Ideal S16384x1024 .bf16) (x10 : Vec Ideal S31x1024 .f32) (T : Fin 16384) (j : Fin 1024) :
    val_main_v138 (F := Ideal) x2 x10 (ix2 T j) = wt x10 j 18 * padded x2 (T + 18) j := by
  rw [val_main_v138_apply, val_main_v137_apply, val_main_v136_apply, val_main_v134_apply, val_main_v133_apply, val_main_v135_apply, pad_eq]
  exact congrArg₂ (fun a b : EReal => a * b) (congrArg x10 (same2 _ _ rfl (Nat.mod_eq_of_lt j.isLt)))
    (congrArg (fun p => padded x2 p j) (Nat.add_comm 18 T))

theorem tap19 (x2 : Vec Ideal S16384x1024 .bf16) (x10 : Vec Ideal S31x1024 .f32) (T : Fin 16384) (j : Fin 1024) :
    val_main_v145 (F := Ideal) x2 x10 (ix2 T j) = wt x10 j 19 * padded x2 (T + 19) j := by
  rw [val_main_v145_apply, val_main_v144_apply, val_main_v143_apply, val_main_v141_apply, val_main_v140_apply, val_main_v142_apply, pad_eq]
  exact congrArg₂ (fun a b : EReal => a * b) (congrArg x10 (same2 _ _ rfl (Nat.mod_eq_of_lt j.isLt)))
    (congrArg (fun p => padded x2 p j) (Nat.add_comm 19 T))

theorem tap20 (x2 : Vec Ideal S16384x1024 .bf16) (x10 : Vec Ideal S31x1024 .f32) (T : Fin 16384) (j : Fin 1024) :
    val_main_v152 (F := Ideal) x2 x10 (ix2 T j) = wt x10 j 20 * padded x2 (T + 20) j := by
  rw [val_main_v152_apply, val_main_v151_apply, val_main_v150_apply, val_main_v148_apply, val_main_v147_apply, val_main_v149_apply, pad_eq]
  exact congrArg₂ (fun a b : EReal => a * b) (congrArg x10 (same2 _ _ rfl (Nat.mod_eq_of_lt j.isLt)))
    (congrArg (fun p => padded x2 p j) (Nat.add_comm 20 T))

theorem tap21 (x2 : Vec Ideal S16384x1024 .bf16) (x10 : Vec Ideal S31x1024 .f32) (T : Fin 16384) (j : Fin 1024) :
    val_main_v159 (F := Ideal) x2 x10 (ix2 T j) = wt x10 j 21 * padded x2 (T + 21) j := by
  rw [val_main_v159_apply, val_main_v158_apply, val_main_v157_apply, val_main_v155_apply, val_main_v154_apply, val_main_v156_apply, pad_eq]
  exact congrArg₂ (fun a b : EReal => a * b) (congrArg x10 (same2 _ _ rfl (Nat.mod_eq_of_lt j.isLt)))
    (congrArg (fun p => padded x2 p j) (Nat.add_comm 21 T))

theorem tap22 (x2 : Vec Ideal S16384x1024 .bf16) (x10 : Vec Ideal S31x1024 .f32) (T : Fin 16384) (j : Fin 1024) :
    val_main_v166 (F := Ideal) x2 x10 (ix2 T j) = wt x10 j 22 * padded x2 (T + 22) j := by
  rw [val_main_v166_apply, val_main_v165_apply, val_main_v164_apply, val_main_v162_apply, val_main_v161_apply, val_main_v163_apply, pad_eq]
  exact congrArg₂ (fun a b : EReal => a * b) (congrArg x10 (same2 _ _ rfl (Nat.mod_eq_of_lt j.isLt)))
    (congrArg (fun p => padded x2 p j) (Nat.add_comm 22 T))

theorem tap23 (x2 : Vec Ideal S16384x1024 .bf16) (x10 : Vec Ideal S31x1024 .f32) (T : Fin 16384) (j : Fin 1024) :
    val_main_v173 (F := Ideal) x2 x10 (ix2 T j) = wt x10 j 23 * padded x2 (T + 23) j := by
  rw [val_main_v173_apply, val_main_v172_apply, val_main_v171_apply, val_main_v169_apply, val_main_v168_apply, val_main_v170_apply, pad_eq]
  exact congrArg₂ (fun a b : EReal => a * b) (congrArg x10 (same2 _ _ rfl (Nat.mod_eq_of_lt j.isLt)))
    (congrArg (fun p => padded x2 p j) (Nat.add_comm 23 T))

theorem tap24 (x2 : Vec Ideal S16384x1024 .bf16) (x10 : Vec Ideal S31x1024 .f32) (T : Fin 16384) (j : Fin 1024) :
    val_main_v180 (F := Ideal) x2 x10 (ix2 T j) = wt x10 j 24 * padded x2 (T + 24) j := by
  rw [val_main_v180_apply, val_main_v179_apply, val_main_v178_apply, val_main_v176_apply, val_main_v175_apply, val_main_v177_apply, pad_eq]
  exact congrArg₂ (fun a b : EReal => a * b) (congrArg x10 (same2 _ _ rfl (Nat.mod_eq_of_lt j.isLt)))
    (congrArg (fun p => padded x2 p j) (Nat.add_comm 24 T))

theorem tap25 (x2 : Vec Ideal S16384x1024 .bf16) (x10 : Vec Ideal S31x1024 .f32) (T : Fin 16384) (j : Fin 1024) :
    val_main_v187 (F := Ideal) x2 x10 (ix2 T j) = wt x10 j 25 * padded x2 (T + 25) j := by
  rw [val_main_v187_apply, val_main_v186_apply, val_main_v185_apply, val_main_v183_apply, val_main_v182_apply, val_main_v184_apply, pad_eq]
  exact congrArg₂ (fun a b : EReal => a * b) (congrArg x10 (same2 _ _ rfl (Nat.mod_eq_of_lt j.isLt)))
    (congrArg (fun p => padded x2 p j) (Nat.add_comm 25 T))

theorem tap26 (x2 : Vec Ideal S16384x1024 .bf16) (x10 : Vec Ideal S31x1024 .f32) (T : Fin 16384) (j : Fin 1024) :
    val_main_v194 (F := Ideal) x2 x10 (ix2 T j) = wt x10 j 26 * padded x2 (T + 26) j := by
  rw [val_main_v194_apply, val_main_v193_apply, val_main_v192_apply, val_main_v190_apply, val_main_v189_apply, val_main_v191_apply, pad_eq]
  exact congrArg₂ (fun a b : EReal => a * b) (congrArg x10 (same2 _ _ rfl (Nat.mod_eq_of_lt j.isLt)))
    (congrArg (fun p => padded x2 p j) (Nat.add_comm 26 T))

theorem tap27 (x2 : Vec Ideal S16384x1024 .bf16) (x10 : Vec Ideal S31x1024 .f32) (T : Fin 16384) (j : Fin 1024) :
    val_main_v201 (F := Ideal) x2 x10 (ix2 T j) = wt x10 j 27 * padded x2 (T + 27) j := by
  rw [val_main_v201_apply, val_main_v200_apply, val_main_v199_apply, val_main_v197_apply, val_main_v196_apply, val_main_v198_apply, pad_eq]
  exact congrArg₂ (fun a b : EReal => a * b) (congrArg x10 (same2 _ _ rfl (Nat.mod_eq_of_lt j.isLt)))
    (congrArg (fun p => padded x2 p j) (Nat.add_comm 27 T))

theorem tap28 (x2 : Vec Ideal S16384x1024 .bf16) (x10 : Vec Ideal S31x1024 .f32) (T : Fin 16384) (j : Fin 1024) :
    val_main_v208 (F := Ideal) x2 x10 (ix2 T j) = wt x10 j 28 * padded x2 (T + 28) j := by
  rw [val_main_v208_apply, val_main_v207_apply, val_main_v206_apply, val_main_v204_apply, val_main_v203_apply, val_main_v205_apply, pad_eq]
  exact congrArg₂ (fun a b : EReal => a * b) (congrArg x10 (same2 _ _ rfl (Nat.mod_eq_of_lt j.isLt)))
    (congrArg (fun p => padded x2 p j) (Nat.add_comm 28 T))

theorem tap29 (x2 : Vec Ideal S16384x1024 .bf16) (x10 : Vec Ideal S31x1024 .f32) (T : Fin 16384) (j : Fin 1024) :
    val_main_v215 (F := Ideal) x2 x10 (ix2 T j) = wt x10 j 29 * padded x2 (T + 29) j := by
  rw [val_main_v215_apply, val_main_v214_apply, val_main_v213_apply, val_main_v211_apply, val_main_v210_apply, val_main_v212_apply, pad_eq]
  exact congrArg₂ (fun a b : EReal => a * b) (congrArg x10 (same2 _ _ rfl (Nat.mod_eq_of_lt j.isLt)))
    (congrArg (fun p => padded x2 p j) (Nat.add_comm 29 T))

theorem tap30 (x2 : Vec Ideal S16384x1024 .bf16) (x10 : Vec Ideal S31x1024 .f32) (T : Fin 16384) (j : Fin 1024) :
    val_main_v222 (F := Ideal) x2 x10 (ix2 T j) = wt x10 j 30 * padded x2 (T + 30) j := by
  rw [val_main_v222_apply, val_main_v221_apply, val_main_v220_apply, val_main_v218_apply, val_main_v217_apply, val_main_v219_apply, pad_eq]
  exact congrArg₂ (fun a b : EReal => a * b) (congrArg x10 (same2 _ _ rfl (Nat.mod_eq_of_lt j.isLt)))
    (congrArg (fun p => padded x2 p j) (Nat.add_comm 30 T))

/-- The convolution of a channel at a token. -/
theorem conv_eq (x2 : Vec Ideal S16384x1024 .bf16) (x10 : Vec Ideal S31x1024 .f32) (x11 : Vec Ideal S1x1024 .f32) (T : Fin 16384) (j : Fin 1024) :
    val_main_v225 (F := Ideal) x2 x10 x11 (ix2 T j) = conv (wt x10 j) (fun t => padded x2 (T + t) j) (x11 (ix2 0 j)) := by
  have i224 : idx_main_v224 (ix2 T j) = ix2 0 j := of2 _
  unfold conv
  simp only [Finset.sum_range_succ, Finset.sum_range_zero]
  rw [val_main_v225_apply, val_main_v223_apply, tap30, val_main_v216_apply, tap29, val_main_v209_apply, tap28, val_main_v202_apply, tap27, val_main_v195_apply, tap26, val_main_v188_apply, tap25, val_main_v181_apply, tap24, val_main_v174_apply, tap23, val_main_v167_apply, tap22, val_main_v160_apply, tap21, val_main_v153_apply, tap20, val_main_v146_apply, tap19, val_main_v139_apply, tap18, val_main_v132_apply, tap17, val_main_v125_apply, tap16, val_main_v118_apply, tap15, val_main_v111_apply, tap14, val_main_v104_apply, tap13, val_main_v97_apply, tap12, val_main_v90_apply, tap11, val_main_v83_apply, tap10, val_main_v76_apply, tap9, val_main_v69_apply, tap8, val_main_v62_apply, tap7, val_main_v55_apply, tap6, val_main_v48_apply, tap5, val_main_v41_apply, tap4, val_main_v34_apply, tap3, val_main_v27_apply, tap2, val_main_v20_apply, tap1, val_main_v13_apply, val_main_v12_apply, val_main_cst_apply, tap0, val_main_v224_apply, i224]
  rw [zero_add]
  simp only [show ∀ a b : EReal, FloatOps.addf (F := Ideal) (φ := .f32) a b = a + b from fun _ _ => rfl, zsum]

section
variable (x0 : Vec Ideal S16384x1024 .f32) (x1 x2 x3 x4 x5 : Vec Ideal S16384x1024 .bf16) (x6 : Vec Ideal S8x6144 .f32) (x7 x8 x9 : Vec Ideal S1x1024 .f32)
  (x10 : Vec Ideal S31x1024 .f32) (x11 x12 x13 : Vec Ideal S1x1024 .f32) (x14 x15 x16 : Vec Ideal S1024x1024 .bf16) (x17 : Vec Ideal S1024x4096 .bf16)
  (x18 : Vec Ideal S4096x1024 .bf16)

/-- The convolution's row of a token. -/
def convRow (T : Fin 16384) (j : Fin 1024) : EReal := conv (wt x10 j) (fun t => padded x2 (T + t) j) (x11 (ix2 0 j))

theorem norm_eq (T : Fin 16384) (j : Fin 1024) : val_main_v247 (F := Ideal) x2 x10 x11 x12 x13 (ix2 T j)
    = lnorm (convRow x2 x10 x11 T) (row x12 0) (row x13 0) j := by
  have i230 : ∀ k, idx_main_v230 (ix2 T k) = ix2 T 0 := fun k => of2 _
  have i237 : ∀ k, idx_main_v237 (ix2 T k) = ix2 T 0 := fun k => of2 _
  have i226 : ∀ k, idx_main_v226 (idx_main_v227 (ix2 T 0)) k = ix2 T k := fun k => of2 _
  have i233 : ∀ k, idx_main_v233 (idx_main_v234 (idx_main_v242 (ix2 T j))) k = ix2 T k := fun k => of2 _
  have i244 : idx_main_v244 (ix2 T j) = ix2 0 j := of2 _
  have i246 : idx_main_v246 (ix2 T j) = ix2 0 j := of2 _
  simp only [val_main_v247_apply, val_main_v246_apply, val_main_v245_apply, val_main_v244_apply, val_main_v243_apply, val_main_v242_apply,
    val_main_v241_apply, val_main_v240_apply, val_main_v239_apply, val_main_v238_apply, val_main_v237_apply, val_main_v236_apply, val_main_v235_apply,
    val_main_v234_apply, val_main_v233_apply, val_main_v232_apply, val_main_v231_apply, val_main_v230_apply, i233, i230, i237, val_main_v229_apply, val_main_v228_apply,
    val_main_v227_apply, val_main_v226_apply, val_main_cst_0_apply, val_main_cst_1_apply, val_main_cst_2_apply, val_main_cst_3_apply,
    val_main_cst_4_apply, i226, i244, i246, zsum, conv_eq]
  rfl

theorem c_eq (T : Fin 16384) (j : Fin 1024) : val_main_v250 (F := Ideal) x2 x10 x11 x12 x13 x15 (ix2 T j)
    = times (fun l => swish (lnorm (convRow x2 x10 x11 T) (row x12 0) (row x13 0) l)) x15 j := by
  rw [val_main_v250_apply]
  refine Finset.sum_congr rfl fun k _ => ?_
  rw [show lidx_main_v250 (ix2 T j) k = ix2 T k from of2 _, show ridx_main_v250 (ix2 T j) k = ix2 k j from of2 _]
  simp only [val_main_v249_apply, val_main_v248_apply, val_main_call1_v5_apply, val_main_call1_v4_apply, val_main_call1_v3_apply, val_main_call1_v2_apply,
    val_main_call1_v1_apply, val_main_call1_v0_apply, val_main_call1_cst_apply, val_main_call1_cst_0_apply, norm_eq]
  rfl

theorem a_eq (T : Fin 16384) (j : Fin 1024) : val_main_v253 (F := Ideal) x1 x14 (ix2 T j) = times (row x1 T) x14 j := by
  rw [val_main_v253_apply]
  refine Finset.sum_congr rfl fun k _ => ?_
  rw [show lidx_main_v253 (ix2 T j) k = ix2 T k from of2 _, show ridx_main_v253 (ix2 T j) k = ix2 k j from of2 _]
  rfl

theorem mix_eq (T : Fin 16384) (j : Fin 1024) : val_main_v262 (F := Ideal) x1 x2 x3 x4 x5 x10 x11 x12 x13 x14 x15 x16 (ix2 T j)
    = times (fun k => x4 (ix2 T k) * times (row x1 T) x14 k + x3 (ix2 T k)
        + x5 (ix2 T k) * times (fun l => swish (lnorm (convRow x2 x10 x11 T) (row x12 0) (row x13 0) l)) x15 k) x16 j := by
  rw [val_main_v262_apply]
  refine Finset.sum_congr rfl fun k _ => ?_
  rw [show lidx_main_v262 (ix2 T j) k = ix2 T k from of2 _, show ridx_main_v262 (ix2 T j) k = ix2 k j from of2 _]
  simp only [val_main_v261_apply, val_main_v260_apply, val_main_v259_apply, val_main_v258_apply, val_main_v257_apply, val_main_v256_apply,
    val_main_v255_apply, val_main_v254_apply, a_eq, c_eq]
  rfl

/-- A row of the modulation's table, 1024 columns from `o`. -/
abbrev modRow (o : ℕ) (ho : o + 1024 ≤ 6144) (j : Fin 1024) : EReal := x6 (ix2 0 ⟨o + j, by omega⟩)

/-- The token after the mixing. -/
theorem first_eq (T : Fin 16384) (j : Fin 1024) : val_main_v277 (F := Ideal) x0 x1 x2 x3 x4 x5 x6 x7 x10 x11 x12 x13 x14 x15 x16 (ix2 T j)
    = first x14 x15 x16 (row x12 0) (row x13 0) (row x7 0) (modRow x6 2048 (by decide)) (row x0 T) (row x1 T) (row x3 T) (row x4 T) (row x5 T)
        (convRow x2 x10 x11 T) j := by
  have i264 : ∀ k, idx_main_v264 (idx_main_v265 (idx_main_v271 (ix2 T j))) k = ix2 T k := fun k => of2 _
  have i273 : idx_main_v273 (ix2 T j) = ix2 0 j := of2 _
  have i0 : idx_main_v0 (idx_main_v275 (ix2 T j)) = ix2 0 ⟨2048 + j, by omega⟩ := of2 _
  simp only [val_main_v277_apply, val_main_v276_apply, val_main_v275_apply, val_main_v274_apply, val_main_v273_apply, val_main_v272_apply,
    val_main_v271_apply, val_main_v270_apply, val_main_v269_apply, val_main_v268_apply, val_main_v267_apply, val_main_v266_apply, val_main_v265_apply,
    val_main_v264_apply, val_main_v263_apply, val_main_cst_5_apply, val_main_cst_6_apply, val_main_cst_7_apply, val_main_v0_apply, i264, i273, i0, zsum, mix_eq]
  rfl

/-- The token after the MLP. -/
theorem second_eq (T : Fin 16384) (j : Fin 1024) : val_main_v316 (F := Ideal) x0 x1 x2 x3 x4 x5 x6 x7 x8 x9 x10 x11 x12 x13 x14 x15 x16 x17 x18 (ix2 T j)
    = second x17 x18 (row x8 0) (row x9 0) (modRow x6 3072 (by decide)) (modRow x6 4096 (by decide)) (modRow x6 5120 (by decide))
        (first x14 x15 x16 (row x12 0) (row x13 0) (row x7 0) (modRow x6 2048 (by decide)) (row x0 T) (row x1 T) (row x3 T) (row x4 T) (row x5 T)
          (convRow x2 x10 x11 T)) j := by
  have i279 : ∀ k l, idx_main_v279 (idx_main_v280 (idx_main_v286 (ix2 T l))) k = ix2 T k := fun k l => of2 _
  have i288 : ∀ l, idx_main_v288 (ix2 T l) = ix2 0 l := fun l => of2 _
  have i2 : ∀ l : Fin 1024, idx_main_v2 (idx_main_v292 (ix2 T l)) = ix2 0 ⟨4096 + l, by omega⟩ := fun l => of2 _
  have i1 : ∀ l : Fin 1024, idx_main_v1 (idx_main_v294 (ix2 T l)) = ix2 0 ⟨3072 + l, by omega⟩ := fun l => of2 _
  have i303 : ∀ k, idx_main_v303 (idx_main_v304 (idx_main_v310 (ix2 T j))) k = ix2 T k := fun k => of2 _
  have i312 : idx_main_v312 (ix2 T j) = ix2 0 j := of2 _
  have i3 : idx_main_v3 (idx_main_v314 (ix2 T j)) = ix2 0 ⟨5120 + j, by omega⟩ := of2 _
  have l301 : ∀ k l, lidx_main_v301 (ix2 T l) k = ix2 T k := fun k l => of2 _
  have r301 : ∀ k l, ridx_main_v301 (ix2 T l) k = ix2 k l := fun k l => of2 _
  have l297 : ∀ k l, lidx_main_v297 (ix2 T l) k = ix2 T k := fun k l => of2 _
  have r297 : ∀ k l, ridx_main_v297 (ix2 T l) k = ix2 k l := fun k l => of2 _
  simp only [val_main_v316_apply, val_main_v315_apply, val_main_v314_apply, val_main_v313_apply, val_main_v312_apply, val_main_v311_apply, val_main_v310_apply, val_main_v309_apply, val_main_v308_apply, val_main_v307_apply, val_main_v306_apply, val_main_v305_apply, val_main_v304_apply, val_main_v303_apply, val_main_v302_apply, val_main_v301_apply, val_main_v300_apply, val_main_v299_apply, val_main_v298_apply, val_main_v297_apply, val_main_v296_apply, val_main_v295_apply, val_main_v294_apply, val_main_v293_apply, val_main_v292_apply, val_main_v291_apply, val_main_v290_apply, val_main_v289_apply, val_main_v288_apply, val_main_v287_apply, val_main_v286_apply, val_main_v285_apply, val_main_v284_apply, val_main_v283_apply, val_main_v282_apply, val_main_v281_apply, val_main_v280_apply, val_main_v279_apply, val_main_v278_apply, val_main_cst_8_apply, val_main_cst_9_apply, val_main_cst_10_apply, val_main_cst_11_apply, val_main_cst_12_apply, val_main_cst_13_apply, val_main_cst_14_apply,
    val_main_call2_v0_apply, val_main_call2_cst_apply, val_main_v1_apply, val_main_v2_apply, val_main_v3_apply, i279, i288, i2, i1, i303, i312, i3,
    l301, r301, l297, r297, zsum, first_eq]
  rfl

end

end Cert.Reference3Ideal.Merge
-- ==== Proof.Merge.Array.lean ====
/-
  The merge's result array is the reference's function of its arguments.

  Point `i` of the grid writes tokens `256i … 256i+255` of the result, which over the grid cover it; what it writes there is the
  reference's value at those tokens.
-/
module

public import proofs.«01_k».proof.Proof.Merge.Reads
public import proofs.«01_k».proof.Proof.Merge.Ref
public import proofs.«01_k».proof.Proof.Gen.Kernel3Ideal.Value

@[expose] public section

set_option maxRecDepth 16384

noncomputable section

namespace Cert.Kernel3Ideal.Merge

open Cert.Kernel3Ideal Cert.Kernel3Ideal.Gen Cert.Inproj Cert.Merge
open Idealize.ShloMosaic hiding ix2 ix3 ix4
open Idealize.ShloMosaic.ValueIdx Idealize.ShloMosaic.TcCoe Idealize.SL.Sem
open Cert.Reference3Ideal.Merge (modRow convRow second_eq)

variable (m : (ℓ : Loc nD τ sig) → Buf (Elt Ideal) ℓ) (ρ : Dev nD → PrngReg)

theorem index21 : ∀ t : Fin cfg0.N, win0_21.index t = ![(iOf t).val, 0] := (by decide +kernel : ∀ t : Fin grid0.N, _)

/-- The reference's result, of the kernel's arguments. -/
abbrev target (c : Dev nD) : Buf (Elt Ideal) ((c : Thread nD τ).loc main_v0) :=
  Cert.Reference3Ideal.Read.val_main_v316 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))

theorem modB_eq (c : Dev nD) (t : Fin cfg0.N) (o : ℕ) (ho : o + 1024 ≤ 6144) :
    modB m c t o ho = modRow (m ((c : Thread nD τ).loc main_arg6)) o ho := by
  unfold modB modRow
  rw [blk8]

/-- The result of a point. -/
theorem point (c : Dev nD) (t : Fin cfg0.N) (r : Fin 256) (j : Fin 1024) :
    outsAt0 m c t (ix2 r j) = target m c (ix2 ⟨256 * iOf t + r, by omega⟩ j) := by
  refine (out_apply m c t r j).trans (Eq.trans ?_ (second_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) ⟨256 * iOf t + r, by omega⟩ j).symm)
  rw [modB_eq, modB_eq, modB_eq, modB_eq, blk19, blk20, blk10, blk11, blk16, blk17, blk18, blk14, blk15, blk9]
  have e0 : row (e := .f32) (iblk m c 0 t) r = row (e := .f32) (m ((c : Thread nD τ).loc main_arg0) : Vec Ideal S16384x1024 .f32) ⟨256 * iOf t + r, by omega⟩ := funext fun k => blk0 m c t r k
  have e1 : row (e := .bf16) (iblk m c 1 t) r = row (e := .bf16) (m ((c : Thread nD τ).loc main_arg1) : Vec Ideal S16384x1024 .bf16) ⟨256 * iOf t + r, by omega⟩ := funext fun k => blk1 m c t r k
  have e5 : row (e := .bf16) (iblk m c 5 t) r = row (e := .bf16) (m ((c : Thread nD τ).loc main_arg3) : Vec Ideal S16384x1024 .bf16) ⟨256 * iOf t + r, by omega⟩ := funext fun k => blk5 m c t r k
  have e6 : row (e := .bf16) (iblk m c 6 t) r = row (e := .bf16) (m ((c : Thread nD τ).loc main_arg4) : Vec Ideal S16384x1024 .bf16) ⟨256 * iOf t + r, by omega⟩ := funext fun k => blk6 m c t r k
  have e7 : row (e := .bf16) (iblk m c 7 t) r = row (e := .bf16) (m ((c : Thread nD τ).loc main_arg5) : Vec Ideal S16384x1024 .bf16) ⟨256 * iOf t + r, by omega⟩ := funext fun k => blk7 m c t r k
  have ec : (fun q : Fin 1024 => convN (grid0.coords t) (iblk m c 2 t) (iblk m c 3 t) (iblk m c 4 t) (iblk m c 12 t) (iblk m c 13 t) r q)
      = convRow (m ((c : Thread nD τ).loc main_arg2)) (m ((c : Thread nD τ).loc main_arg10)) (m ((c : Thread nD τ).loc main_arg11)) ⟨256 * iOf t + r, by omega⟩ :=
    funext fun q => convN_eq m c t r q
  rw [e0, e1, e5, e6, e7, ec]

/-- The result after the run. -/
theorem final (c : Dev nD) : (dats m 0 c).arrAt 21 cfg0.N = target m c := by
  refine (dats m 0 c).arrAt_eq_of_covers 21 _ (by decide +kernel) fun t _ y => ?_
  show (dats m 0 c).after 21 t y = _
  rw [after0_21]
  refine (congrArg _ (ValueIdx.eq_ix2 (n0 := 256) (n1 := 1024) y)).trans ((point m c t (y 0) (y 1)).trans (congrArg (target m c) (funext fun a => Fin.ext ?_)))
  refine Eq.trans ?_ (win0_21.rect_emb_val t y a).symm
  rw [index21]
  match a with
  | 0 => show 256 * (iOf t).val + (y 0).val = (iOf t).val * 256 + (y 0).val
         omega
  | 1 => show (y 1).val = 0 * 1024 + (y 1).val
         omega

/-- The run: the result array holds the reference's function of the arguments, which end unchanged. -/
theorem run_value : θ_run defs (onTc (τ := τ) (main (F := Ideal))) ⟨m, fun _ => 0, ρ⟩ (fun r => ∀ c : Dev nD,
      r.2.mem ((c.tc : Thread nD τ).loc main_v0) = target m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) := by
  refine (θ_run defs _ _).mono (fun r h c => ?_) (Cert.Kernel3Ideal.Value.run_blocks m ρ)
  obtain ⟨h0, hargs⟩ := h c
  exact ⟨h0.trans (final m c), hargs⟩

end Cert.Kernel3Ideal.Merge
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference
public import proofs.«01_k».proof.Proof.Gen.Reference.Run
public import proofs.«01_k».proof.Proof.Gen.Kernel2
public import proofs.«01_k».proof.Proof.Gen.Kernel2.Skeleton
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference2
public import proofs.«01_k».proof.Proof.Gen.Reference2.Run
public import proofs.«01_k».proof.Proof.Gen.Kernel3
public import proofs.«01_k».proof.Proof.Gen.Kernel3.Skeleton
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Reference3
public import proofs.«01_k».proof.Proof.Gen.Reference3.Run
public import proofs.«01_k».proof.Proof.Gen.Pre_finite_scores
public import proofs.«01_k».proof.Proof.Ideal.Frame
public import proofs.«01_k».proof.Proof.Word.Frame
public import proofs.«01_k».proof.Proof.Value.Pre
public import proofs.«01_k».proof.Proof.Inproj.Array
public import proofs.«01_k».proof.Proof.Merge.Array
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference over the extended reals runs, ends with every semaphore at zero and leaves its arguments as they were. -/
theorem frame_reference_ideal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same under the precondition. -/
theorem frame_reference_ideal_pre : Cert.quiescent_ReferenceIdeal_pre_finite_scores := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The reference over machine words runs, ends with every semaphore at zero and leaves its arguments as they were. -/
theorem frame_reference : Cert.quiescent_Reference := fun m ρ _ =>
  (θ_run Cert.Reference.defs _ _).mono
    (fun r h => ⟨fun c => (h c).2, Idealize.ShloMosaic.sem_eq_zero_of_no_sems (by decide) r.2⟩)
    (Cert.Reference.Value.run (F := Bits) m ρ)

/-- The kernel's result is the reference's, element by element, over the extended reals. -/
theorem equal : Cert.algebraic_KernelIdeal_ReferenceIdeal_pre_finite_scores := by
  intro m ρ m' ρ' hpre hagree
  refine ⟨_, Cert.KernelIdeal.Flash.run_value m ρ (Cert.KernelIdeal.Flash.args_of_pre m hpre), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq]
  obtain ⟨e0, e1, e2, e3, e4⟩ := hagree c
  rw [e0, e1, e2, e3, e4]

/-- The second program's reference over the extended reals runs, ends with every semaphore at zero and leaves its arguments as they
    were. -/
theorem frame_reference2_ideal : Cert.quiescent_Reference2Ideal := fun m ρ _ =>
  (θ_run Cert.Reference2Ideal.defs _ _).mono
    (fun r h => ⟨fun c => (h c).2.2.2.2.2.2.2, Idealize.ShloMosaic.sem_eq_zero_of_no_sems (by decide) r.2⟩)
    (Cert.Reference2Ideal.Value.run (F := Ideal) m ρ)

/-- The same over machine words. -/
theorem frame_reference2 : Cert.quiescent_Reference2 := fun m ρ _ =>
  (θ_run Cert.Reference2.defs _ _).mono
    (fun r h => ⟨fun c => (h c).2.2.2.2.2.2.2, Idealize.ShloMosaic.sem_eq_zero_of_no_sems (by decide) r.2⟩)
    (Cert.Reference2.Value.run (F := Bits) m ρ)

/-- The queries' scale: the kernel's literal is the word nearest `1/√128 · 1/log 2`. -/
theorem preserves2 : Cert.preserves_Kernel2_Kernel2Ideal :=
  IdealRules.named_const.statement Cert.Kernel2Ideal.κ "q_scale" .f32 0x3E0293EE#32 (((Real.sqrt 128)⁻¹ * (Real.log 2)⁻¹ : ℝ) : EReal) rfl

/-- The second program's seven results are its reference's, element by element, over the extended reals. -/
theorem equal2 : Cert.algebraic_Kernel2Ideal_Reference2Ideal := by
  intro m ρ m' ρ' _ hagree
  refine ⟨_, _, _, _, _, _, _, Cert.Kernel2Ideal.Inproj.run_value m ρ, ?_⟩
  refine (θ_run Cert.Reference2Ideal.defs _ _).mono (fun _ h c => ?_) (Cert.Reference2Ideal.Value.run (F := Ideal) m' ρ')
  obtain ⟨e0, e1, e2, e3, e4, e5, e6, e7, e8, e9, e10, e11⟩ := hagree c
  obtain ⟨h0, h1, h2, h3, h4, h5, h6, hargs⟩ := h c
  refine ⟨h0.trans ?_, h1.trans ?_, h2.trans ?_, h3.trans ?_, h4.trans ?_, h5.trans ?_, h6.trans ?_, hargs⟩
  · refine (Cert.Reference2Ideal.Read.val_main_v168_eq _).trans ?_
    show Cert.Reference2Ideal.Read.val_main_v168 (F := Ideal)
        (m' ((c.tc : Thread Cert.Reference2Ideal.nD Cert.Reference2Ideal.τ).loc Cert.Reference2Ideal.main_arg0))
        (m' ((c.tc : Thread Cert.Reference2Ideal.nD Cert.Reference2Ideal.τ).loc Cert.Reference2Ideal.main_arg1))
        (m' ((c.tc : Thread Cert.Reference2Ideal.nD Cert.Reference2Ideal.τ).loc Cert.Reference2Ideal.main_arg2))
        (m' ((c.tc : Thread Cert.Reference2Ideal.nD Cert.Reference2Ideal.τ).loc Cert.Reference2Ideal.main_arg3))
        (m' ((c.tc : Thread Cert.Reference2Ideal.nD Cert.Reference2Ideal.τ).loc Cert.Reference2Ideal.main_arg4))
        (m' ((c.tc : Thread Cert.Reference2Ideal.nD Cert.Reference2Ideal.τ).loc Cert.Reference2Ideal.main_arg6))
        (m' ((c.tc : Thread Cert.Reference2Ideal.nD Cert.Reference2Ideal.τ).loc Cert.Reference2Ideal.main_arg7)) = _
    rw [e0, e1, e2, e3, e4, e6, e7]
  · refine (Cert.Reference2Ideal.Read.val_main_v169_eq _).trans ?_
    show Cert.Reference2Ideal.Read.val_main_v169 (F := Ideal)
        (m' ((c.tc : Thread Cert.Reference2Ideal.nD Cert.Reference2Ideal.τ).loc Cert.Reference2Ideal.main_arg0))
        (m' ((c.tc : Thread Cert.Reference2Ideal.nD Cert.Reference2Ideal.τ).loc Cert.Reference2Ideal.main_arg1))
        (m' ((c.tc : Thread Cert.Reference2Ideal.nD Cert.Reference2Ideal.τ).loc Cert.Reference2Ideal.main_arg2))
        (m' ((c.tc : Thread Cert.Reference2Ideal.nD Cert.Reference2Ideal.τ).loc Cert.Reference2Ideal.main_arg3))
        (m' ((c.tc : Thread Cert.Reference2Ideal.nD Cert.Reference2Ideal.τ).loc Cert.Reference2Ideal.main_arg5))
        (m' ((c.tc : Thread Cert.Reference2Ideal.nD Cert.Reference2Ideal.τ).loc Cert.Reference2Ideal.main_arg6))
        (m' ((c.tc : Thread Cert.Reference2Ideal.nD Cert.Reference2Ideal.τ).loc Cert.Reference2Ideal.main_arg7)) = _
    rw [e0, e1, e2, e3, e5, e6, e7]
  · refine (Cert.Reference2Ideal.Read.val_main_v170_eq _).trans ?_
    show Cert.Reference2Ideal.Read.val_main_v170 (F := Ideal)
        (m' ((c.tc : Thread Cert.Reference2Ideal.nD Cert.Reference2Ideal.τ).loc Cert.Reference2Ideal.main_arg0))
        (m' ((c.tc : Thread Cert.Reference2Ideal.nD Cert.Reference2Ideal.τ).loc Cert.Reference2Ideal.main_arg1))
        (m' ((c.tc : Thread Cert.Reference2Ideal.nD Cert.Reference2Ideal.τ).loc Cert.Reference2Ideal.main_arg2))
        (m' ((c.tc : Thread Cert.Reference2Ideal.nD Cert.Reference2Ideal.τ).loc Cert.Reference2Ideal.main_arg3)) = _
    rw [e0, e1, e2, e3]
  · refine (Cert.Reference2Ideal.Read.val_main_v171_eq _).trans ?_
    show Cert.Reference2Ideal.Read.val_main_v171 (F := Ideal)
        (m' ((c.tc : Thread Cert.Reference2Ideal.nD Cert.Reference2Ideal.τ).loc Cert.Reference2Ideal.main_arg0))
        (m' ((c.tc : Thread Cert.Reference2Ideal.nD Cert.Reference2Ideal.τ).loc Cert.Reference2Ideal.main_arg1))
        (m' ((c.tc : Thread Cert.Reference2Ideal.nD Cert.Reference2Ideal.τ).loc Cert.Reference2Ideal.main_arg2))
        (m' ((c.tc : Thread Cert.Reference2Ideal.nD Cert.Reference2Ideal.τ).loc Cert.Reference2Ideal.main_arg3)) = _
    rw [e0, e1, e2, e3]
  · refine (Cert.Reference2Ideal.Read.val_main_v172_eq _).trans ?_
    show Cert.Reference2Ideal.Read.val_main_v172 (F := Ideal)
        (m' ((c.tc : Thread Cert.Reference2Ideal.nD Cert.Reference2Ideal.τ).loc Cert.Reference2Ideal.main_arg0))
        (m' ((c.tc : Thread Cert.Reference2Ideal.nD Cert.Reference2Ideal.τ).loc Cert.Reference2Ideal.main_arg1))
        (m' ((c.tc : Thread Cert.Reference2Ideal.nD Cert.Reference2Ideal.τ).loc Cert.Reference2Ideal.main_arg2))
        (m' ((c.tc : Thread Cert.Reference2Ideal.nD Cert.Reference2Ideal.τ).loc Cert.Reference2Ideal.main_arg3))
        (m' ((c.tc : Thread Cert.Reference2Ideal.nD Cert.Reference2Ideal.τ).loc Cert.Reference2Ideal.main_arg8))
        (m' ((c.tc : Thread Cert.Reference2Ideal.nD Cert.Reference2Ideal.τ).loc Cert.Reference2Ideal.main_arg9))
        (m' ((c.tc : Thread Cert.Reference2Ideal.nD Cert.Reference2Ideal.τ).loc Cert.Reference2Ideal.main_arg10))
        (m' ((c.tc : Thread Cert.Reference2Ideal.nD Cert.Reference2Ideal.τ).loc Cert.Reference2Ideal.main_arg11)) = _
    rw [e0, e1, e2, e3, e8, e9, e10, e11]
  · refine (Cert.Reference2Ideal.Read.val_main_v173_eq _).trans ?_
    show Cert.Reference2Ideal.Read.val_main_v173 (F := Ideal)
        (m' ((c.tc : Thread Cert.Reference2Ideal.nD Cert.Reference2Ideal.τ).loc Cert.Reference2Ideal.main_arg0))
        (m' ((c.tc : Thread Cert.Reference2Ideal.nD Cert.Reference2Ideal.τ).loc Cert.Reference2Ideal.main_arg1))
        (m' ((c.tc : Thread Cert.Reference2Ideal.nD Cert.Reference2Ideal.τ).loc Cert.Reference2Ideal.main_arg2))
        (m' ((c.tc : Thread Cert.Reference2Ideal.nD Cert.Reference2Ideal.τ).loc Cert.Reference2Ideal.main_arg3)) = _
    rw [e0, e1, e2, e3]
  · refine (Cert.Reference2Ideal.Read.val_main_v174_eq _).trans ?_
    show Cert.Reference2Ideal.Read.val_main_v174 (F := Ideal)
        (m' ((c.tc : Thread Cert.Reference2Ideal.nD Cert.Reference2Ideal.τ).loc Cert.Reference2Ideal.main_arg0))
        (m' ((c.tc : Thread Cert.Reference2Ideal.nD Cert.Reference2Ideal.τ).loc Cert.Reference2Ideal.main_arg1))
        (m' ((c.tc : Thread Cert.Reference2Ideal.nD Cert.Reference2Ideal.τ).loc Cert.Reference2Ideal.main_arg2))
        (m' ((c.tc : Thread Cert.Reference2Ideal.nD Cert.Reference2Ideal.τ).loc Cert.Reference2Ideal.main_arg3)) = _
    rw [e0, e1, e2, e3]

/-- The third program's reference over the extended reals runs, ends with every semaphore at zero and leaves its arguments as they
    were. -/
theorem frame_reference3_ideal : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The same over machine words. -/
theorem frame_reference3 : Cert.quiescent_Reference3 := fun m ρ _ =>
  (θ_run Cert.Reference3.defs _ _).mono
    (fun r h => ⟨fun c => (h c).2, Idealize.ShloMosaic.sem_eq_zero_of_no_sems (by decide) r.2⟩)
    (Cert.Reference3.Value.run (F := Bits) m ρ)

/-- The third program's result is its reference's, element by element, over the extended reals. -/
theorem equal3 : Cert.algebraic_Kernel3Ideal_Reference3Ideal := by
  intro m ρ m' ρ' _ hagree
  refine ⟨_, Cert.Kernel3Ideal.Merge.run_value m ρ, ?_⟩
  refine (θ_run Cert.Reference3Ideal.defs _ _).mono (fun _ h c => ?_) (Cert.Reference3Ideal.Value.run (F := Ideal) m' ρ')
  obtain ⟨e0, e1, e2, e3, e4, e5, e6, e7, e8, e9, e10, e11, e12, e13, e14, e15, e16, e17, e18⟩ := hagree c
  obtain ⟨h0, hargs⟩ := h c
  refine ⟨h0.trans ?_, hargs⟩
  refine (Cert.Reference3Ideal.Read.val_main_v316_eq _).trans ?_
  show Cert.Reference3Ideal.Read.val_main_v316 (F := Ideal)
        (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2))
        (m' ((c.tc : Thread Cert.Reference3Ideal.nD Cert.Reference3Ideal.τ).loc Cert.Reference3Ideal.main_arg3))
        (m' ((c.tc : Thread Cert.Reference3Ideal.nD Cert.Reference3Ideal.τ).loc Cert.Reference3Ideal.main_arg4))
        (m' ((c.tc : Thread Cert.Reference3Ideal.nD Cert.Reference3Ideal.τ).loc Cert.Reference3Ideal.main_arg5))
        (m' ((c.tc : Thread Cert.Reference3Ideal.nD Cert.Reference3Ideal.τ).loc Cert.Reference3Ideal.main_arg6))
        (m' ((c.tc : Thread Cert.Reference3Ideal.nD Cert.Reference3Ideal.τ).loc Cert.Reference3Ideal.main_arg7))
        (m' ((c.tc : Thread Cert.Reference3Ideal.nD Cert.Reference3Ideal.τ).loc Cert.Reference3Ideal.main_arg8))
        (m' ((c.tc : Thread Cert.Reference3Ideal.nD Cert.Reference3Ideal.τ).loc Cert.Reference3Ideal.main_arg9))
        (m' ((c.tc : Thread Cert.Reference3Ideal.nD Cert.Reference3Ideal.τ).loc Cert.Reference3Ideal.main_arg10))
        (m' ((c.tc : Thread Cert.Reference3Ideal.nD Cert.Reference3Ideal.τ).loc Cert.Reference3Ideal.main_arg11))
        (m' ((c.tc : Thread Cert.Reference3Ideal.nD Cert.Reference3Ideal.τ).loc Cert.Reference3Ideal.main_arg12))
        (m' ((c.tc : Thread Cert.Reference3Ideal.nD Cert.Reference3Ideal.τ).loc Cert.Reference3Ideal.main_arg13))
        (m' ((c.tc : Thread Cert.Reference3Ideal.nD Cert.Reference3Ideal.τ).loc Cert.Reference3Ideal.main_arg14))
        (m' ((c.tc : Thread Cert.Reference3Ideal.nD Cert.Reference3Ideal.τ).loc Cert.Reference3Ideal.main_arg15))
        (m' ((c.tc : Thread Cert.Reference3Ideal.nD Cert.Reference3Ideal.τ).loc Cert.Reference3Ideal.main_arg16))
        (m' ((c.tc : Thread Cert.Reference3Ideal.nD Cert.Reference3Ideal.τ).loc Cert.Reference3Ideal.main_arg17))
        (m' ((c.tc : Thread Cert.Reference3Ideal.nD Cert.Reference3Ideal.τ).loc Cert.Reference3Ideal.main_arg18)) = _
  rw [e0, e1, e2, e3, e4, e5, e6, e7, e8, e9, e10, e11, e12, e13, e14, e15, e16, e17, e18]

/-- Every claim of the certificate. -/
theorem claim : Cert.Claim := ⟨Cert.Kernel.Gen.facts, Cert.KernelIdeal.Gen.facts, Cert.ReferenceIdeal.Gen.facts, Cert.Reference.Gen.facts,
  Cert.Kernel2.Gen.facts, Cert.Kernel2Ideal.Gen.facts, Cert.Reference2Ideal.Gen.facts, Cert.Reference2.Gen.facts,
  Cert.Kernel3.Gen.facts, Cert.Kernel3Ideal.Gen.facts, Cert.Reference3Ideal.Gen.facts, Cert.Reference3.Gen.facts, Cert.Pre_finite_scores.Gen.facts,
  fun m ρ _ => Cert.Kernel.Flash.frame m ρ, fun m ρ _ => Cert.KernelIdeal.Flash.frame m ρ, fun m ρ _ => Cert.KernelIdeal.Flash.frame m ρ,
  frame_reference_ideal, frame_reference_ideal_pre, frame_reference,
  fun m ρ _ => Cert.Kernel2.Gen.frame m ρ, fun m ρ _ => Cert.Kernel2Ideal.Gen.frame m ρ, frame_reference2_ideal, frame_reference2,
  fun m ρ _ => Cert.Kernel3.Gen.frame m ρ, fun m ρ _ => Cert.Kernel3Ideal.Gen.frame m ρ, frame_reference3_ideal, frame_reference3,
  trivial, trivial, equal, preserves2, trivial, equal2, trivial, trivial, equal3⟩

end Cert.Proof

end
